-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_router [hPre_finite_router : Cert.Pre_finite_router.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_router.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_finite_router.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.1 = (fun _ => 1#1)
    ∧ (Cert.Pre_finite_router.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.1 = (fun _ => 1#1)
    ∧ (Cert.Pre_finite_router.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_router [hPre_finite_router : Cert.Pre_finite_router.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_router.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_finite_router.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.1 = (fun _ => 1#1)
    ∧ (Cert.Pre_finite_router.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.1 = (fun _ => 1#1)
    ∧ (Cert.Pre_finite_router.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite_router [hKernel3Ideal : Cert.Kernel3Ideal.Facts] [hPre_finite_router : Cert.Pre_finite_router.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_router m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite_router [hReference3Ideal : Cert.Reference3Ideal.Facts] [hPre_finite_router : Cert.Pre_finite_router.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_router m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v105) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  IdealRules.named_const.Statement Cert.Kernel3Ideal.κ "mask" .f32 0xF149F2CA#32 ⊥

def algebraic_Kernel3Ideal_Reference3Ideal_pre_finite_router [hKernel3Ideal : Cert.Kernel3Ideal.Facts] [hReference3Ideal : Cert.Reference3Ideal.Facts] [hPre_finite_router : Cert.Pre_finite_router.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_router m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v375) = v0 c
          ∧ r.2.mem ((c.tc : Thread Cert.Reference3Ideal.nD Cert.Reference3Ideal.τ).loc Cert.Reference3Ideal.main_v376) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_logits : Cert.Pre_finite_logits.Facts) (hPre_finite_router : Cert.Pre_finite_router.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_router (hKernel3Ideal := hKernel3Ideal) (hPre_finite_router := hPre_finite_router)
    ∧ quiescent_Reference3Ideal (hReference3Ideal := hReference3Ideal)
    ∧ quiescent_Reference3Ideal_pre_finite_router (hReference3Ideal := hReference3Ideal) (hPre_finite_router := hPre_finite_router)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_router (hKernel3Ideal := hKernel3Ideal) (hReference3Ideal := hReference3Ideal) (hPre_finite_router := hPre_finite_router)
-- ==== Pre_finite_logits.lean ====
abbrev S16384x512 : Shape := ⟨2, ![16384, 512]⟩
abbrev S16384x128 : Shape := ⟨2, ![16384, 128]⟩
abbrev S2x512x2x64 : Shape := ⟨4, ![2, 512, 2, 64]⟩
abbrev S8 : Shape := ⟨1, ![8]⟩
abbrev S_ : Shape := ⟨0, ![]⟩

class Facts : Prop where
  bcast_S_S16384x512 : S_.BroadcastsInDim S16384x512 (![] : Fin 0 → Fin S16384x512.rank)
  bcast_S_S16384x128 : S_.BroadcastsInDim S16384x128 (![] : Fin 0 → Fin S16384x128.rank)
  bcast_S_S2x512x2x64 : S_.BroadcastsInDim S2x512x2x64 (![] : Fin 0 → Fin S2x512x2x64.rank)
  bcast_S_S8 : S_.BroadcastsInDim S8 (![] : Fin 0 → Fin S8.rank)

variable [Facts]

def fn {F : FTy → Type} [FloatOps F] (main_arg0 : FVec F S16384x512 .f32) (main_arg1 : FVec F S16384x128 .f32) (main_arg2 : FVec F S16384x128 .f32) (main_arg3 : FVec F S2x512x2x64 .f32) (main_arg4 : FVec F S2x512x2x64 .f32) (main_arg5 : FVec F S8 .f32) : IVec S16384x512 1 × IVec S16384x128 1 × IVec S2x512x2x64 1 × IVec S8 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x128 .f32 := Host.absf main_arg1
  let main_cst_0 : FVec F S_ .f32 := constant S_ .f32 0x7F800000#32
  let main_v4 : FVec F S16384x128 .f32 := broadcastInDim S16384x128 ![] bcast_S_S16384x128 main_cst_0
  let main_v5 : IVec S16384x128 1 := cmpf .olt main_v3 main_v4
  let main_v6 : FVec F S2x512x2x64 .f32 := Host.absf main_arg3
  let main_cst_1 : FVec F S_ .f32 := constant S_ .f32 0x7F800000#32
  let main_v7 : FVec F S2x512x2x64 .f32 := broadcastInDim S2x512x2x64 ![] bcast_S_S2x512x2x64 main_cst_1
  let main_v8 : IVec S2x512x2x64 1 := cmpf .olt main_v6 main_v7
  let main_v9 : FVec F S8 .f32 := Host.absf main_arg5
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  (main_v2, main_v5, main_v8, main_v11)
-- ==== Pre_finite_router.lean ====
abbrev S16384x1024 : Shape := ⟨2, ![16384, 1024]⟩
abbrev S3x6x1024 : Shape := ⟨3, ![3, 6, 1024]⟩
abbrev S1024x8 : Shape := ⟨2, ![1024, 8]⟩
abbrev S8 : Shape := ⟨1, ![8]⟩
abbrev S8x1024x1024 : Shape := ⟨3, ![8, 1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  bcast_S_S3x6x1024 : S_.BroadcastsInDim S3x6x1024 (![] : Fin 0 → Fin S3x6x1024.rank)
  bcast_S_S1024x8 : S_.BroadcastsInDim S1024x8 (![] : Fin 0 → Fin S1024x8.rank)
  bcast_S_S8 : S_.BroadcastsInDim S8 (![] : Fin 0 → Fin S8.rank)

variable [Facts]

def fn {F : FTy → Type} [FloatOps F] (main_arg0 : FVec F S16384x1024 .f32) (main_arg1 : FVec F S3x6x1024 .f32) (main_arg2 : FVec F S1024x8 .f32) (main_arg3 : FVec F S8 .f32) (main_arg4 : FVec F S8x1024x1024 .f32) (main_arg5 : FVec F S8x1024x1024 .f32) (main_arg6 : FVec F S8x1024x1024 .f32) (main_arg7 : FVec F S1024 .f32) (main_arg8 : FVec F S1024 .f32) : IVec S16384x1024 1 × IVec S3x6x1024 1 × IVec S1024x8 1 × IVec S8 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_v3 : FVec F S3x6x1024 .f32 := Host.absf main_arg1
  let main_cst_0 : FVec F S_ .f32 := constant S_ .f32 0x7F800000#32
  let main_v4 : FVec F S3x6x1024 .f32 := broadcastInDim S3x6x1024 ![] bcast_S_S3x6x1024 main_cst_0
  let main_v5 : IVec S3x6x1024 1 := cmpf .olt main_v3 main_v4
  let main_v6 : FVec F S1024x8 .f32 := Host.absf main_arg2
  let main_cst_1 : FVec F S_ .f32 := constant S_ .f32 0x7F800000#32
  let main_v7 : FVec F S1024x8 .f32 := broadcastInDim S1024x8 ![] bcast_S_S1024x8 main_cst_1
  let main_v8 : IVec S1024x8 1 := cmpf .olt main_v6 main_v7
  let main_v9 : FVec F S8 .f32 := Host.absf main_arg3
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  (main_v2, main_v5, main_v8, main_v11)
-- ==== Kernel.lean ====
abbrev S16384x512 : Shape := ⟨2, ![16384, 512]⟩
abbrev S16384x128 : Shape := ⟨2, ![16384, 128]⟩
abbrev S2x512x2x64 : Shape := ⟨4, ![2, 512, 2, 64]⟩
abbrev S8 : Shape := ⟨1, ![8]⟩
abbrev S2x512x128 : Shape := ⟨3, ![2, 512, 128]⟩
abbrev S128x512 : Shape := ⟨2, ![128, 512]⟩
abbrev S256x128 : Shape := ⟨2, ![256, 128]⟩
abbrev S128x128 : Shape := ⟨2, ![128, 128]⟩
abbrev S1x512x128 : Shape := ⟨3, ![1, 512, 128]⟩
abbrev S128x256 : Shape := ⟨2, ![128, 256]⟩
abbrev S1 : Shape := ⟨1, ![1]⟩
abbrev S128 : Shape := ⟨1, ![128]⟩
abbrev S128x1 : Shape := ⟨2, ![128, 1]⟩
abbrev S512x128 : Shape := ⟨2, ![512, 128]⟩
abbrev S896x128 : Shape := ⟨2, ![896, 128]⟩
abbrev S128x896 : Shape := ⟨2, ![128, 896]⟩

abbrev nBuf : Space → Nat
  | .hbm => 9
  | .vmem => 24
  | .smem => 1
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S2x512x2x64, .f32⟩
  | .hbm, ⟨4, _⟩ => ⟨S2x512x2x64, .f32⟩
  | .hbm, ⟨5, _⟩ => ⟨S8, .f32⟩
  | .hbm, ⟨6, _⟩ => ⟨S2x512x128, .f32⟩
  | .hbm, ⟨7, _⟩ => ⟨S2x512x128, .f32⟩
  | .hbm, ⟨8, _⟩ => ⟨S16384x512, .f32⟩
  | .local _ .vmem, ⟨0, _⟩ => ⟨S128x512, .f32⟩
  | .local _ .vmem, ⟨1, _⟩ => ⟨S128x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S1x512x128, .f32⟩
  | .local _ .vmem, ⟨19, _⟩ => ⟨S1x512x128, .f32⟩
  | .local _ .vmem, ⟨20, _⟩ => ⟨S1x512x128, .f32⟩
  | .local _ .vmem, ⟨21, _⟩ => ⟨S1x512x128, .f32⟩
  | .local _ .vmem, ⟨22, _⟩ => ⟨S128x512, .f32⟩
  | .local _ .vmem, ⟨23, _⟩ => ⟨S128x512, .f32⟩
  | .local _ .smem, ⟨0, _⟩ => ⟨S8, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg11_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![128], ![false]⟩

def k0_cond1 (i : grid0.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c64_i32_0 : BitVec 32 := 64#32
  let v3 : BitVec 1 := Scalar.cmpi .sge arg0 c64_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c31_i32 : BitVec 32 := 31#32
  let v17 : BitVec 32 := Scalar.minsi v16 c31_i32
  let c0_i32_4 : BitVec 32 := 0#32
  let c0_i32_5 : BitVec 32 := 0#32
  ![v17.toNat, c0_i32_4.toNat]

def cc0_transform_2 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c31_i32 : BitVec 32 := 31#32
  let v17 : BitVec 32 := Scalar.minsi v16 c31_i32
  let c0_i32_4 : BitVec 32 := 0#32
  let c0_i32_5 : BitVec 32 := 0#32
  ![v17.toNat, c0_i32_4.toNat]

def cc0_transform_3 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli v18 c32_i32_5
  let c64_i32_6 : BitVec 32 := 64#32
  let v20 : BitVec 32 := Scalar.addi c64_i32_6 v19
  let c64_i32_7 : BitVec 32 := 64#32
  let v21 : BitVec 32 := Scalar.subi arg0 c64_i32_7
  let c0_i32_8 : BitVec 32 := 0#32
  let v22 : BitVec 32 := Scalar.maxsi v21 c0_i32_8
  let c32_i32_9 : BitVec 32 := 32#32
  let c0_i32_10 : BitVec 32 := 0#32
  let v23 : BitVec 1 := Scalar.cmpi .eq c32_i32_9 c0_i32_10
  let c1_i32_11 : BitVec 32 := 1#32
  let v24 : BitVec 32 := Scalar.select v23 c1_i32_11 c32_i32_9
  let v25 : BitVec 32 := Scalar.remsi v22 v24
  let c0_i32_12 : BitVec 32 := 0#32
  let v26 : BitVec 1 := Scalar.cmpi .ne v25 c0_i32_12
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let v30 : BitVec 1 := Scalar.andi v29 v26
  let v31 : BitVec 32 := Scalar.addi v25 v24
  let v32 : BitVec 32 := Scalar.select v30 v31 v25
  let c1_i32_15 : BitVec 32 := 1#32
  let v33 : BitVec 32 := Scalar.subi v32 c1_i32_15
  let c0_i32_16 : BitVec 32 := 0#32
  let v34 : BitVec 32 := Scalar.maxsi v33 c0_i32_16
  let v35 : BitVec 32 := Scalar.addi v20 v34
  let c0_i32_17 : BitVec 32 := 0#32
  let c0_i32_18 : BitVec 32 := 0#32
  ![v35.toNat, c0_i32_17.toNat]

def cc0_transform_4 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c64_i32_0 : BitVec 32 := 64#32
  let v2 : BitVec 32 := Scalar.addi c64_i32_0 v1
  let c0_i32_1 : BitVec 32 := 0#32
  let c0_i32_2 : BitVec 32 := 0#32
  ![v2.toNat, c0_i32_1.toNat]

def cc0_transform_5 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli v18 c32_i32_5
  let c64_i32_6 : BitVec 32 := 64#32
  let v20 : BitVec 32 := Scalar.addi c64_i32_6 v19
  let c64_i32_7 : BitVec 32 := 64#32
  let v21 : BitVec 32 := Scalar.subi arg0 c64_i32_7
  let c0_i32_8 : BitVec 32 := 0#32
  let v22 : BitVec 32 := Scalar.maxsi v21 c0_i32_8
  let c32_i32_9 : BitVec 32 := 32#32
  let c0_i32_10 : BitVec 32 := 0#32
  let v23 : BitVec 1 := Scalar.cmpi .eq c32_i32_9 c0_i32_10
  let c1_i32_11 : BitVec 32 := 1#32
  let v24 : BitVec 32 := Scalar.select v23 c1_i32_11 c32_i32_9
  let v25 : BitVec 32 := Scalar.remsi v22 v24
  let c0_i32_12 : BitVec 32 := 0#32
  let v26 : BitVec 1 := Scalar.cmpi .ne v25 c0_i32_12
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let v30 : BitVec 1 := Scalar.andi v29 v26
  let v31 : BitVec 32 := Scalar.addi v25 v24
  let v32 : BitVec 32 := Scalar.select v30 v31 v25
  let c1_i32_15 : BitVec 32 := 1#32
  let v33 : BitVec 32 := Scalar.addi v32 c1_i32_15
  let c31_i32 : BitVec 32 := 31#32
  let v34 : BitVec 32 := Scalar.minsi v33 c31_i32
  let v35 : BitVec 32 := Scalar.addi v20 v34
  let c0_i32_16 : BitVec 32 := 0#32
  let c0_i32_17 : BitVec 32 := 0#32
  ![v35.toNat, c0_i32_16.toNat]

def cc0_transform_6 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli v18 c32_i32_5
  let c64_i32_6 : BitVec 32 := 64#32
  let v20 : BitVec 32 := Scalar.addi c64_i32_6 v19
  let c64_i32_7 : BitVec 32 := 64#32
  let v21 : BitVec 32 := Scalar.subi arg0 c64_i32_7
  let c0_i32_8 : BitVec 32 := 0#32
  let v22 : BitVec 32 := Scalar.maxsi v21 c0_i32_8
  let c32_i32_9 : BitVec 32 := 32#32
  let c0_i32_10 : BitVec 32 := 0#32
  let v23 : BitVec 1 := Scalar.cmpi .eq c32_i32_9 c0_i32_10
  let c1_i32_11 : BitVec 32 := 1#32
  let v24 : BitVec 32 := Scalar.select v23 c1_i32_11 c32_i32_9
  let v25 : BitVec 32 := Scalar.remsi v22 v24
  let c0_i32_12 : BitVec 32 := 0#32
  let v26 : BitVec 1 := Scalar.cmpi .ne v25 c0_i32_12
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let v30 : BitVec 1 := Scalar.andi v29 v26
  let v31 : BitVec 32 := Scalar.addi v25 v24
  let v32 : BitVec 32 := Scalar.select v30 v31 v25
  let c1_i32_15 : BitVec 32 := 1#32
  let v33 : BitVec 32 := Scalar.subi v32 c1_i32_15
  let c0_i32_16 : BitVec 32 := 0#32
  let v34 : BitVec 32 := Scalar.maxsi v33 c0_i32_16
  let v35 : BitVec 32 := Scalar.addi v20 v34
  let c0_i32_17 : BitVec 32 := 0#32
  let c0_i32_18 : BitVec 32 := 0#32
  ![v35.toNat, c0_i32_17.toNat]

def cc0_transform_7 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c64_i32_0 : BitVec 32 := 64#32
  let v2 : BitVec 32 := Scalar.addi c64_i32_0 v1
  let c0_i32_1 : BitVec 32 := 0#32
  let c0_i32_2 : BitVec 32 := 0#32
  ![v2.toNat, c0_i32_1.toNat]

def cc0_transform_8 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c32_i32_5 : BitVec 32 := 32#32
  let v19 : BitVec 32 := Scalar.muli v18 c32_i32_5
  let c64_i32_6 : BitVec 32 := 64#32
  let v20 : BitVec 32 := Scalar.addi c64_i32_6 v19
  let c64_i32_7 : BitVec 32 := 64#32
  let v21 : BitVec 32 := Scalar.subi arg0 c64_i32_7
  let c0_i32_8 : BitVec 32 := 0#32
  let v22 : BitVec 32 := Scalar.maxsi v21 c0_i32_8
  let c32_i32_9 : BitVec 32 := 32#32
  let c0_i32_10 : BitVec 32 := 0#32
  let v23 : BitVec 1 := Scalar.cmpi .eq c32_i32_9 c0_i32_10
  let c1_i32_11 : BitVec 32 := 1#32
  let v24 : BitVec 32 := Scalar.select v23 c1_i32_11 c32_i32_9
  let v25 : BitVec 32 := Scalar.remsi v22 v24
  let c0_i32_12 : BitVec 32 := 0#32
  let v26 : BitVec 1 := Scalar.cmpi .ne v25 c0_i32_12
  let c0_i32_13 : BitVec 32 := 0#32
  let v27 : BitVec 1 := Scalar.cmpi .slt v25 c0_i32_13
  let c0_i32_14 : BitVec 32 := 0#32
  let v28 : BitVec 1 := Scalar.cmpi .slt v24 c0_i32_14
  let v29 : BitVec 1 := Scalar.xori v27 v28
  let v30 : BitVec 1 := Scalar.andi v29 v26
  let v31 : BitVec 32 := Scalar.addi v25 v24
  let v32 : BitVec 32 := Scalar.select v30 v31 v25
  let c1_i32_15 : BitVec 32 := 1#32
  let v33 : BitVec 32 := Scalar.addi v32 c1_i32_15
  let c31_i32 : BitVec 32 := 31#32
  let v34 : BitVec 32 := Scalar.minsi v33 c31_i32
  let v35 : BitVec 32 := Scalar.addi v20 v34
  let c0_i32_16 : BitVec 32 := 0#32
  let c0_i32_17 : BitVec 32 := 0#32
  ![v35.toNat, c0_i32_16.toNat]

def cc0_transform_9 (i : grid0.Coords) : Fin 3 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_10 (i : grid0.Coords) : Fin 3 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .smem S8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S16384x512 : Shape := ⟨2, ![16384, 512]⟩
abbrev S16384x128 : Shape := ⟨2, ![16384, 128]⟩
abbrev S2x512x2x64 : Shape := ⟨4, ![2, 512, 2, 64]⟩
abbrev S8 : Shape := ⟨1, ![8]⟩
abbrev S8192x512 : Shape := ⟨2, ![8192, 512]⟩
abbrev S32x256x8x64 : Shape := ⟨4, ![32, 256, 8, 64]⟩
abbrev S2x4096x8x64 : Shape := ⟨4, ![2, 4096, 8, 64]⟩
abbrev S8192x128 : Shape := ⟨2, ![8192, 128]⟩
abbrev S32x256x2x64 : Shape := ⟨4, ![32, 256, 2, 64]⟩
abbrev S2x4096x2x64 : Shape := ⟨4, ![2, 4096, 2, 64]⟩
abbrev S32x256x2x4x64 : Shape := ⟨5, ![32, 256, 2, 4, 64]⟩
abbrev S32x2x256x256x4 : Shape := ⟨5, ![32, 2, 256, 256, 4]⟩
abbrev S32x2x4x256x256 : Shape := ⟨5, ![32, 2, 4, 256, 256]⟩
abbrev S_ : Shape := ⟨0, ![]⟩
abbrev S2x4 : Shape := ⟨2, ![2, 4]⟩
abbrev S2x4x1x1 : Shape := ⟨4, ![2, 4, 1, 1]⟩
abbrev S32x2x4x256 : Shape := ⟨4, ![32, 2, 4, 256]⟩
abbrev S32x2x4x256x1 : Shape := ⟨5, ![32, 2, 4, 256, 1]⟩
abbrev S1x2x4x1x1 : Shape := ⟨5, ![1, 2, 4, 1, 1]⟩
abbrev S32x2x64x4x256 : Shape := ⟨5, ![32, 2, 64, 4, 256]⟩
abbrev S32x256x512 : Shape := ⟨3, ![32, 256, 512]⟩
abbrev S2x4352x2x64 : Shape := ⟨4, ![2, 4352, 2, 64]⟩
abbrev S2x34x128x2x64 : Shape := ⟨5, ![2, 34, 128, 2, 64]⟩
abbrev S2x32x128x2x64 : Shape := ⟨5, ![2, 32, 128, 2, 64]⟩
abbrev S2x32x384x2x64 : Shape := ⟨5, ![2, 32, 384, 2, 64]⟩
abbrev S2x32x128x2x4x64 : Shape := ⟨6, ![2, 32, 128, 2, 4, 64]⟩
abbrev S2x32x2x384x128x4 : Shape := ⟨6, ![2, 32, 2, 384, 128, 4]⟩
abbrev S2x32x2x4x128x384 : Shape := ⟨6, ![2, 32, 2, 4, 128, 384]⟩
abbrev S2x2x512x32x128x4 : Shape := ⟨6, ![2, 2, 512, 32, 128, 4]⟩
abbrev S2x32x2x4x128x512 : Shape := ⟨6, ![2, 32, 2, 4, 128, 512]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S384 : Shape := ⟨1, ![384]⟩
abbrev S1x384 : Shape := ⟨2, ![1, 384]⟩
abbrev S32x384 : Shape := ⟨2, ![32, 384]⟩
abbrev S32x1x384 : Shape := ⟨3, ![32, 1, 384]⟩
abbrev S32x128x1 : Shape := ⟨3, ![32, 128, 1]⟩
abbrev S32x128x384 : Shape := ⟨3, ![32, 128, 384]⟩
abbrev S1x32x1x1x128x384 : Shape := ⟨6, ![1, 32, 1, 1, 128, 384]⟩
abbrev S2x32x2x4x128x896 : Shape := ⟨6, ![2, 32, 2, 4, 128, 896]⟩
abbrev S2x32x2x4x128 : Shape := ⟨5, ![2, 32, 2, 4, 128]⟩
abbrev S2x32x2x4x128x1 : Shape := ⟨6, ![2, 32, 2, 4, 128, 1]⟩
abbrev S1x1x2x4x1x1 : Shape := ⟨6, ![1, 1, 2, 4, 1, 1]⟩
abbrev S2x32x2x64x4x128 : Shape := ⟨6, ![2, 32, 2, 64, 4, 128]⟩
abbrev S2x2x64x32x4x128 : Shape := ⟨6, ![2, 2, 64, 32, 4, 128]⟩
abbrev S2x4096x512 : Shape := ⟨3, ![2, 4096, 512]⟩

abbrev nBuf : Space → Nat
  | .hbm => 152
  | .vmem => 0
  | .smem => 0
  | _ => 0

abbrev hbmTy0_0 (i : Nat) : BufTy := match i % 128 with
  | 0 => ⟨S16384x512, .f32⟩
  | 1 => ⟨S16384x128, .f32⟩
  | 2 => ⟨S16384x128, .f32⟩
  | 3 => ⟨S2x512x2x64, .f32⟩
  | 4 => ⟨S2x512x2x64, .f32⟩
  | 5 => ⟨S8, .f32⟩
  | 6 => ⟨S8192x512, .f32⟩
  | 7 => ⟨S32x256x8x64, .f32⟩
  | 8 => ⟨S8192x512, .f32⟩
  | 9 => ⟨S2x4096x8x64, .f32⟩
  | 10 => ⟨S8192x128, .f32⟩
  | 11 => ⟨S32x256x2x64, .f32⟩
  | 12 => ⟨S8192x128, .f32⟩
  | 13 => ⟨S2x4096x2x64, .f32⟩
  | 14 => ⟨S8192x128, .f32⟩
  | 15 => ⟨S32x256x2x64, .f32⟩
  | 16 => ⟨S8192x128, .f32⟩
  | 17 => ⟨S2x4096x2x64, .f32⟩
  | 18 => ⟨S32x256x2x4x64, .f32⟩
  | 19 => ⟨S32x2x256x256x4, .f32⟩
  | 20 => ⟨S32x2x4x256x256, .f32⟩
  | 21 => ⟨S_, .f32⟩
  | 22 => ⟨S32x2x4x256x256, .f32⟩
  | 23 => ⟨S32x2x4x256x256, .f32⟩
  | 24 => ⟨S2x4, .f32⟩
  | 25 => ⟨S2x4x1x1, .f32⟩
  | 26 => ⟨S_, .f32⟩
  | 27 => ⟨S32x2x4x256, .f32⟩
  | 28 => ⟨S32x2x4x256x1, .f32⟩
  | 29 => ⟨S1x2x4x1x1, .f32⟩
  | 30 => ⟨S32x2x4x256x1, .f32⟩
  | 31 => ⟨S32x2x4x256x1, .f32⟩
  | 32 => ⟨S32x2x4x256x256, .f32⟩
  | 33 => ⟨S32x2x4x256x256, .f32⟩
  | 34 => ⟨S32x2x4x256x256, .f32⟩
  | 35 => ⟨S_, .f32⟩
  | 36 => ⟨S32x2x4x256, .f32⟩
  | 37 => ⟨S32x2x4x256x1, .f32⟩
  | 38 => ⟨S1x2x4x1x1, .f32⟩
  | 39 => ⟨S32x2x4x256x1, .f32⟩
  | 40 => ⟨S32x2x4x256x1, .f32⟩
  | 41 => ⟨S32x2x4x256x1, .f32⟩
  | 42 => ⟨S32x2x4x256x1, .f32⟩
  | 43 => ⟨S32x2x4x256x256, .f32⟩
  | 44 => ⟨S32x2x4x256x256, .f32⟩
  | 45 => ⟨S32x2x64x4x256, .f32⟩
  | 46 => ⟨S32x256x2x4x64, .f32⟩
  | 47 => ⟨S32x256x512, .f32⟩
  | 48 => ⟨S_, .i32⟩
  | 49 => ⟨S_, .f32⟩
  | 50 => ⟨S2x4352x2x64, .f32⟩
  | 51 => ⟨S2x34x128x2x64, .f32⟩
  | 52 => ⟨S_, .i32⟩
  | 53 => ⟨S_, .f32⟩
  | 54 => ⟨S2x4352x2x64, .f32⟩
  | 55 => ⟨S2x34x128x2x64, .f32⟩
  | 56 => ⟨S2x32x128x2x64, .f32⟩
  | 57 => ⟨S2x32x128x2x64, .f32⟩
  | 58 => ⟨S2x32x128x2x64, .f32⟩
  | 59 => ⟨S2x32x384x2x64, .f32⟩
  | 60 => ⟨S2x32x128x2x64, .f32⟩
  | 61 => ⟨S2x32x128x2x64, .f32⟩
  | 62 => ⟨S2x32x128x2x64, .f32⟩
  | 63 => ⟨S2x32x384x2x64, .f32⟩
  | 64 => ⟨S2x32x128x2x4x64, .f32⟩
  | 65 => ⟨S2x32x2x384x128x4, .f32⟩
  | 66 => ⟨S2x32x2x4x128x384, .f32⟩
  | 67 => ⟨S_, .f32⟩
  | 68 => ⟨S2x32x2x4x128x384, .f32⟩
  | 69 => ⟨S2x32x2x4x128x384, .f32⟩
  | 70 => ⟨S2x2x512x32x128x4, .f32⟩
  | 71 => ⟨S2x32x2x4x128x512, .f32⟩
  | 72 => ⟨S_, .f32⟩
  | 73 => ⟨S2x32x2x4x128x512, .f32⟩
  | 74 => ⟨S2x32x2x4x128x512, .f32⟩
  | 75 => ⟨S32, .i32⟩
  | 76 => ⟨S32x1, .i32⟩
  | 77 => ⟨S_, .i32⟩
  | 78 => ⟨S32x1, .i32⟩
  | 79 => ⟨S32x1, .i32⟩
  | 80 => ⟨S128, .i32⟩
  | 81 => ⟨S1x128, .i32⟩
  | 82 => ⟨S32x128, .i32⟩
  | 83 => ⟨S32x128, .i32⟩
  | 84 => ⟨S32x128, .i32⟩
  | 85 => ⟨S_, .i32⟩
  | 86 => ⟨S32x1, .i32⟩
  | 87 => ⟨S32x1, .i32⟩
  | 88 => ⟨S384, .i32⟩
  | 89 => ⟨S1x384, .i32⟩
  | 90 => ⟨S32x384, .i32⟩
  | 91 => ⟨S32x384, .i32⟩
  | 92 => ⟨S32x384, .i32⟩
  | 93 => ⟨S32x1x384, .i32⟩
  | 94 => ⟨S_, .i32⟩
  | 95 => ⟨S32x1x384, .i32⟩
  | 96 => ⟨S32x1x384, .i1⟩
  | 97 => ⟨S32x1x384, .i32⟩
  | 98 => ⟨S_, .i32⟩
  | 99 => ⟨S32x1x384, .i32⟩
  | 100 => ⟨S32x1x384, .i1⟩
  | 101 => ⟨S32x1x384, .i1⟩
  | 102 => ⟨S32x128x1, .i32⟩
  | 103 => ⟨S32x1x384, .i32⟩
  | 104 => ⟨S32x128x384, .i32⟩
  | 105 => ⟨S32x128x384, .i32⟩
  | 106 => ⟨S32x128x384, .i32⟩
  | 107 => ⟨S32x128x384, .i32⟩
  | 108 => ⟨S_, .i32⟩
  | 109 => ⟨S32x128x384, .i32⟩
  | 110 => ⟨S32x128x384, .i1⟩
  | 111 => ⟨S32x128x384, .i1⟩
  | 112 => ⟨S32x128x384, .i1⟩
  | 113 => ⟨S1x32x1x1x128x384, .i1⟩
  | 114 => ⟨S_, .f32⟩
  | 115 => ⟨S_, .f32⟩
  | 116 => ⟨S2x32x2x4x128x384, .i1⟩
  | 117 => ⟨S2x32x2x4x128x384, .f32⟩
  | 118 => ⟨S2x32x2x4x128x384, .f32⟩
  | 119 => ⟨S2x32x2x4x128x896, .f32⟩
  | 120 => ⟨S2x4, .f32⟩
  | 121 => ⟨S2x4x1x1, .f32⟩
  | 122 => ⟨S_, .f32⟩
  | 123 => ⟨S2x32x2x4x128, .f32⟩
  | 124 => ⟨S2x32x2x4x128x1, .f32⟩
  | 125 => ⟨S1x1x2x4x1x1, .f32⟩
  | 126 => ⟨S2x32x2x4x128x1, .f32⟩
  | 127 => ⟨S2x32x2x4x128x1, .f32⟩
  | _ => ⟨S16384x512, .f32⟩

abbrev hbmTy0_1 (i : Nat) : BufTy := match i % 128 with
  | 0 => ⟨S2x32x2x4x128x896, .f32⟩
  | 1 => ⟨S2x32x2x4x128x896, .f32⟩
  | 2 => ⟨S2x32x2x4x128x896, .f32⟩
  | 3 => ⟨S_, .f32⟩
  | 4 => ⟨S2x32x2x4x128, .f32⟩
  | 5 => ⟨S2x32x2x4x128x1, .f32⟩
  | 6 => ⟨S1x1x2x4x1x1, .f32⟩
  | 7 => ⟨S2x32x2x4x128x1, .f32⟩
  | 8 => ⟨S2x32x2x4x128x1, .f32⟩
  | 9 => ⟨S2x32x2x4x128x1, .f32⟩
  | 10 => ⟨S2x32x2x4x128x1, .f32⟩
  | 11 => ⟨S2x32x2x4x128x896, .f32⟩
  | 12 => ⟨S2x32x2x4x128x896, .f32⟩
  | 13 => ⟨S2x32x2x4x128x384, .f32⟩
  | 14 => ⟨S2x32x2x64x4x128, .f32⟩
  | 15 => ⟨S2x32x128x2x4x64, .f32⟩
  | 16 => ⟨S2x32x2x4x128x512, .f32⟩
  | 17 => ⟨S2x2x64x32x4x128, .f32⟩
  | 18 => ⟨S2x32x128x2x4x64, .f32⟩
  | 19 => ⟨S2x32x128x2x4x64, .f32⟩
  | 20 => ⟨S2x4096x512, .f32⟩
  | 21 => ⟨S8192x512, .f32⟩
  | 22 => ⟨S8192x512, .f32⟩
  | 23 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c : Ref sig .tc := ⟨.hbm, 48, rfl⟩
abbrev main_call0_v0 : Ref sig .tc := ⟨.hbm, 49, rfl⟩
abbrev main_v39 : Ref sig .tc := ⟨.hbm, 50, rfl⟩
abbrev main_v40 : Ref sig .tc := ⟨.hbm, 51, rfl⟩
abbrev main_c_2 : Ref sig .tc := ⟨.hbm, 52, rfl⟩
abbrev main_call1_v0 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_3 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_4 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_c_5 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_c_6 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_c_7 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_c_8 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_c_9 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_10 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_cst_11 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_12 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩

abbrev nD : Nat := 1
abbrev τ : Topo := Topo.v7x

variable {F : FTy → Type} [FloatOps F]
-- ==== Kernel2.lean ====
abbrev S16384x1024 : Shape := ⟨2, ![16384, 1024]⟩
abbrev S3x6x1024 : Shape := ⟨3, ![3, 6, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S512x1024 : Shape := ⟨2, ![512, 1024]⟩
abbrev S1x6x1024 : Shape := ⟨3, ![1, 6, 1024]⟩
abbrev S6x1024 : Shape := ⟨2, ![6, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S3x6x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 1 := Scalar.cmpi .slt arg0 c16_i32
  let c16_i32_0 : BitVec 32 := 16#32
  let v1 : BitVec 32 := Scalar.subi arg0 c16_i32_0
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c8_i32 c0_i32_2
  let v9 : BitVec 32 := Scalar.extui v8
  let c0_i32_3 : BitVec 32 := 0#32
  let v10 : BitVec 1 := Scalar.cmpi .slt c8_i32 c0_i32_3
  let v11 : BitVec 32 := Scalar.extui v10
  let v12 : BitVec 32 := Scalar.subi v9 v11
  let v13 : BitVec 1 := Scalar.cmpi .ne v7 v12
  let v14 : BitVec 32 := Scalar.remsi v1 c8_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16384x1024 : Shape := ⟨2, ![16384, 1024]⟩
abbrev S3x6x1024 : Shape := ⟨3, ![3, 6, 1024]⟩
abbrev S1024x2816 : Shape := ⟨2, ![1024, 2816]⟩
abbrev S2816x1024 : Shape := ⟨2, ![2816, 1024]⟩
abbrev S1024 : Shape := ⟨1, ![1024]⟩
abbrev S3x6x1x1024 : Shape := ⟨4, ![3, 6, 1, 1024]⟩
abbrev S8192x1024 : Shape := ⟨2, ![8192, 1024]⟩
abbrev S32x256x1024 : Shape := ⟨3, ![32, 256, 1024]⟩
abbrev S1x6x1x1024 : Shape := ⟨4, ![1, 6, 1, 1024]⟩
abbrev S6x1x1024 : Shape := ⟨3, ![6, 1, 1024]⟩
abbrev S1x1x1024 : Shape := ⟨3, ![1, 1, 1024]⟩
abbrev S1x1024 : Shape := ⟨2, ![1, 1024]⟩
abbrev S_ : Shape := ⟨0, ![]⟩
abbrev S32x256x2816 : Shape := ⟨3, ![32, 256, 2816]⟩
abbrev S32x256 : Shape := ⟨2, ![32, 256]⟩
abbrev S32x256x1 : Shape := ⟨3, ![32, 256, 1]⟩
abbrev S2x4096x1024 : Shape := ⟨3, ![2, 4096, 1024]⟩
abbrev S2x6x1x1024 : Shape := ⟨4, ![2, 6, 1, 1024]⟩
abbrev S2x1x1x1024 : Shape := ⟨4, ![2, 1, 1, 1024]⟩
abbrev S2x1x1024 : Shape := ⟨3, ![2, 1, 1024]⟩
abbrev S2x4096x2816 : Shape := ⟨3, ![2, 4096, 2816]⟩
abbrev S2x4096 : Shape := ⟨2, ![2, 4096]⟩
abbrev S2x4096x1 : Shape := ⟨3, ![2, 4096, 1]⟩

abbrev nBuf : Space → Nat
  | .hbm => 143
  | .vmem => 0
  | .smem => 0
  | _ => 0

abbrev hbmTy0_0 (i : Nat) : BufTy := match i % 128 with
  | 0 => ⟨S16384x1024, .f32⟩
  | 1 => ⟨S3x6x1024, .f32⟩
  | 2 => ⟨S1024x2816, .f32⟩
  | 3 => ⟨S1024x2816, .f32⟩
  | 4 => ⟨S2816x1024, .f32⟩
  | 5 => ⟨S1024, .f32⟩
  | 6 => ⟨S1024, .f32⟩
  | 7 => ⟨S3x6x1x1024, .f32⟩
  | 8 => ⟨S8192x1024, .f32⟩
  | 9 => ⟨S32x256x1024, .f32⟩
  | 10 => ⟨S1x6x1x1024, .f32⟩
  | 11 => ⟨S6x1x1024, .f32⟩
  | 12 => ⟨S1x1x1024, .f32⟩
  | 13 => ⟨S1x1024, .f32⟩
  | 14 => ⟨S1x1x1024, .f32⟩
  | 15 => ⟨S1x1024, .f32⟩
  | 16 => ⟨S1x1x1024, .f32⟩
  | 17 => ⟨S1x1024, .f32⟩
  | 18 => ⟨S_, .f32⟩
  | 19 => ⟨S32x256x1024, .f32⟩
  | 20 => ⟨S32x256x1024, .f32⟩
  | 21 => ⟨S_, .f32⟩
  | 22 => ⟨S1x1024, .f32⟩
  | 23 => ⟨S1x1024, .f32⟩
  | 24 => ⟨S1x1x1024, .f32⟩
  | 25 => ⟨S32x256x1024, .f32⟩
  | 26 => ⟨S32x256x1024, .f32⟩
  | 27 => ⟨S1x1x1024, .f32⟩
  | 28 => ⟨S32x256x1024, .f32⟩
  | 29 => ⟨S32x256x1024, .f32⟩
  | 30 => ⟨S32x256x2816, .f32⟩
  | 31 => ⟨S32x256x2816, .f32⟩
  | 32 => ⟨S32x256x2816, .f32⟩
  | 33 => ⟨S_, .f32⟩
  | 34 => ⟨S32x256x2816, .f32⟩
  | 35 => ⟨S32x256x2816, .f32⟩
  | 36 => ⟨S_, .f32⟩
  | 37 => ⟨S32x256x2816, .f32⟩
  | 38 => ⟨S32x256x2816, .f32⟩
  | 39 => ⟨S32x256x2816, .f32⟩
  | 40 => ⟨S32x256x2816, .f32⟩
  | 41 => ⟨S32x256x2816, .f32⟩
  | 42 => ⟨S32x256x1024, .f32⟩
  | 43 => ⟨S1x1x1024, .f32⟩
  | 44 => ⟨S32x256x1024, .f32⟩
  | 45 => ⟨S32x256x1024, .f32⟩
  | 46 => ⟨S32x256x1024, .f32⟩
  | 47 => ⟨S_, .f32⟩
  | 48 => ⟨S32x256, .f32⟩
  | 49 => ⟨S32x256x1, .f32⟩
  | 50 => ⟨S_, .f32⟩
  | 51 => ⟨S32x256x1, .f32⟩
  | 52 => ⟨S32x256x1, .f32⟩
  | 53 => ⟨S32x256x1024, .f32⟩
  | 54 => ⟨S32x256x1024, .f32⟩
  | 55 => ⟨S32x256x1024, .f32⟩
  | 56 => ⟨S_, .f32⟩
  | 57 => ⟨S32x256, .f32⟩
  | 58 => ⟨S32x256x1, .f32⟩
  | 59 => ⟨S_, .f32⟩
  | 60 => ⟨S32x256x1, .f32⟩
  | 61 => ⟨S32x256x1, .f32⟩
  | 62 => ⟨S32x256x1024, .f32⟩
  | 63 => ⟨S32x256x1024, .f32⟩
  | 64 => ⟨S_, .f32⟩
  | 65 => ⟨S32x256x1, .f32⟩
  | 66 => ⟨S32x256x1, .f32⟩
  | 67 => ⟨S32x256x1, .f32⟩
  | 68 => ⟨S32x256x1024, .f32⟩
  | 69 => ⟨S32x256x1024, .f32⟩
  | 70 => ⟨S1x1x1024, .f32⟩
  | 71 => ⟨S32x256x1024, .f32⟩
  | 72 => ⟨S32x256x1024, .f32⟩
  | 73 => ⟨S1x1x1024, .f32⟩
  | 74 => ⟨S32x256x1024, .f32⟩
  | 75 => ⟨S32x256x1024, .f32⟩
  | 76 => ⟨S8192x1024, .f32⟩
  | 77 => ⟨S2x4096x1024, .f32⟩
  | 78 => ⟨S2x6x1x1024, .f32⟩
  | 79 => ⟨S2x1x1x1024, .f32⟩
  | 80 => ⟨S2x1x1024, .f32⟩
  | 81 => ⟨S2x1x1x1024, .f32⟩
  | 82 => ⟨S2x1x1024, .f32⟩
  | 83 => ⟨S2x1x1x1024, .f32⟩
  | 84 => ⟨S2x1x1024, .f32⟩
  | 85 => ⟨S_, .f32⟩
  | 86 => ⟨S2x4096x1024, .f32⟩
  | 87 => ⟨S2x4096x1024, .f32⟩
  | 88 => ⟨S_, .f32⟩
  | 89 => ⟨S2x1x1024, .f32⟩
  | 90 => ⟨S2x1x1024, .f32⟩
  | 91 => ⟨S2x4096x1024, .f32⟩
  | 92 => ⟨S2x4096x1024, .f32⟩
  | 93 => ⟨S2x4096x1024, .f32⟩
  | 94 => ⟨S2x4096x1024, .f32⟩
  | 95 => ⟨S2x4096x2816, .f32⟩
  | 96 => ⟨S2x4096x2816, .f32⟩
  | 97 => ⟨S2x4096x2816, .f32⟩
  | 98 => ⟨S_, .f32⟩
  | 99 => ⟨S2x4096x2816, .f32⟩
  | 100 => ⟨S2x4096x2816, .f32⟩
  | 101 => ⟨S_, .f32⟩
  | 102 => ⟨S2x4096x2816, .f32⟩
  | 103 => ⟨S2x4096x2816, .f32⟩
  | 104 => ⟨S2x4096x2816, .f32⟩
  | 105 => ⟨S2x4096x2816, .f32⟩
  | 106 => ⟨S2x4096x2816, .f32⟩
  | 107 => ⟨S2x4096x1024, .f32⟩
  | 108 => ⟨S2x4096x1024, .f32⟩
  | 109 => ⟨S2x4096x1024, .f32⟩
  | 110 => ⟨S2x4096x1024, .f32⟩
  | 111 => ⟨S_, .f32⟩
  | 112 => ⟨S2x4096, .f32⟩
  | 113 => ⟨S2x4096x1, .f32⟩
  | 114 => ⟨S_, .f32⟩
  | 115 => ⟨S2x4096x1, .f32⟩
  | 116 => ⟨S2x4096x1, .f32⟩
  | 117 => ⟨S2x4096x1024, .f32⟩
  | 118 => ⟨S2x4096x1024, .f32⟩
  | 119 => ⟨S2x4096x1024, .f32⟩
  | 120 => ⟨S_, .f32⟩
  | 121 => ⟨S2x4096, .f32⟩
  | 122 => ⟨S2x4096x1, .f32⟩
  | 123 => ⟨S_, .f32⟩
  | 124 => ⟨S2x4096x1, .f32⟩
  | 125 => ⟨S2x4096x1, .f32⟩
  | 126 => ⟨S2x4096x1024, .f32⟩
  | 127 => ⟨S2x4096x1024, .f32⟩
  | _ => ⟨S16384x1024, .f32⟩

abbrev hbmTy0_1 (i : Nat) : BufTy := match i % 128 with
  | 0 => ⟨S_, .f32⟩
  | 1 => ⟨S2x4096x1, .f32⟩
  | 2 => ⟨S2x4096x1, .f32⟩
  | 3 => ⟨S2x4096x1, .f32⟩
  | 4 => ⟨S2x4096x1024, .f32⟩
  | 5 => ⟨S2x4096x1024, .f32⟩
  | 6 => ⟨S1x1x1024, .f32⟩
  | 7 => ⟨S2x4096x1024, .f32⟩
  | 8 => ⟨S2x4096x1024, .f32⟩
  | 9 => ⟨S1x1x1024, .f32⟩
  | 10 => ⟨S2x4096x1024, .f32⟩
  | 11 => ⟨S2x4096x1024, .f32⟩
  | 12 => ⟨S8192x1024, .f32⟩
  | 13 => ⟨S8192x1024, .f32⟩
  | 14 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_1 : Ref sig .tc := ⟨.hbm, 47, rfl⟩
abbrev main_v30 : Ref sig .tc := ⟨.hbm, 48, rfl⟩
abbrev main_v31 : Ref sig .tc := ⟨.hbm, 49, rfl⟩
abbrev main_cst_2 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_6 : Ref sig .tc := ⟨.hbm, 85, rfl⟩
abbrev main_v63 : Ref sig .tc := ⟨.hbm, 86, rfl⟩
abbrev main_v64 : Ref sig .tc := ⟨.hbm, 87, rfl⟩
abbrev main_cst_7 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_v0 : Ref sig .tc := ⟨.hbm, 96, rfl⟩
abbrev main_call1_v1 : Ref sig .tc := ⟨.hbm, 97, rfl⟩
abbrev main_call1_cst : Ref sig .tc := ⟨.hbm, 98, rfl⟩
abbrev main_call1_v2 : Ref sig .tc := ⟨.hbm, 99, rfl⟩
abbrev main_call1_v3 : Ref sig .tc := ⟨.hbm, 100, rfl⟩
abbrev main_call1_cst_0 : Ref sig .tc := ⟨.hbm, 101, rfl⟩
abbrev main_call1_v4 : Ref sig .tc := ⟨.hbm, 102, rfl⟩
abbrev main_call1_v5 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_8 : Ref sig .tc := ⟨.hbm, 111, rfl⟩
abbrev main_v79 : Ref sig .tc := ⟨.hbm, 112, rfl⟩
abbrev main_v80 : Ref sig .tc := ⟨.hbm, 113, rfl⟩
abbrev main_cst_9 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_10 : Ref sig .tc := ⟨.hbm, 120, rfl⟩
abbrev main_v86 : Ref sig .tc := ⟨.hbm, 121, rfl⟩
abbrev main_v87 : Ref sig .tc := ⟨.hbm, 122, rfl⟩
abbrev main_cst_11 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_12 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩

abbrev nD : Nat := 1
abbrev τ : Topo := Topo.v7x

variable {F : FTy → Type} [FloatOps F]
-- ==== Kernel3.lean ====
abbrev S16384x1024 : Shape := ⟨2, ![16384, 1024]⟩
abbrev S3x6x1024 : Shape := ⟨3, ![3, 6, 1024]⟩
abbrev S1024x8 : Shape := ⟨2, ![1024, 8]⟩
abbrev S8 : Shape := ⟨1, ![8]⟩
abbrev S8x1024x1024 : Shape := ⟨3, ![8, 1024, 1024]⟩
abbrev S1024 : Shape := ⟨1, ![1024]⟩
abbrev S8x1024 : Shape := ⟨2, ![8, 1024]⟩
abbrev S8x1 : Shape := ⟨2, ![8, 1]⟩
abbrev S1x1024 : Shape := ⟨2, ![1, 1024]⟩
abbrev S8192x1024 : Shape := ⟨2, ![8192, 1024]⟩
abbrev S1024x1024 : Shape := ⟨2, ![1024, 1024]⟩
abbrev S1x6x1024 : Shape := ⟨3, ![1, 6, 1024]⟩
abbrev S1x1024x1024 : Shape := ⟨3, ![1, 1024, 1024]⟩
abbrev S6x1024 : Shape := ⟨2, ![6, 1024]⟩
abbrev S16x1024 : Shape := ⟨2, ![16, 1024]⟩
abbrev S1x1x1024 : Shape := ⟨3, ![1, 1, 1024]⟩
abbrev S1 : Shape := ⟨1, ![1]⟩
abbrev S1x1x1 : Shape := ⟨3, ![1, 1, 1]⟩
abbrev S128x1024 : Shape := ⟨2, ![128, 1024]⟩
abbrev S128 : Shape := ⟨1, ![128]⟩
abbrev S128x1 : Shape := ⟨2, ![128, 1]⟩
abbrev S1024x1 : Shape := ⟨2, ![1024, 1]⟩

abbrev nBuf : Space → Nat
  | .hbm => 18
  | .vmem => 24
  | .smem => 0
  | _ => 0

abbrev bufTy : (tb : Table) → Fin (tcTables nBuf tb) → BufTy
  | .hbm, ⟨0, _⟩ => ⟨S16384x1024, .f32⟩
  | .hbm, ⟨1, _⟩ => ⟨S3x6x1024, .f32⟩
  | .hbm, ⟨2, _⟩ => ⟨S1024x8, .f32⟩
  | .hbm, ⟨3, _⟩ => ⟨S8, .f32⟩
  | .hbm, ⟨4, _⟩ => ⟨S8x1024x1024, .f32⟩
  | .hbm, ⟨5, _⟩ => ⟨S8x1024x1024, .f32⟩
  | .hbm, ⟨6, _⟩ => ⟨S8x1024x1024, .f32⟩
  | .hbm, ⟨7, _⟩ => ⟨S1024, .f32⟩
  | .hbm, ⟨8, _⟩ => ⟨S1024, .f32⟩
  | .hbm, ⟨9, _⟩ => ⟨S8x1024, .f32⟩
  | .hbm, ⟨10, _⟩ => ⟨S8x1, .f32⟩
  | .hbm, ⟨11, _⟩ => ⟨S8x1024x1024, .bf16⟩
  | .hbm, ⟨12, _⟩ => ⟨S8x1024x1024, .bf16⟩
  | .hbm, ⟨13, _⟩ => ⟨S8x1024x1024, .bf16⟩
  | .hbm, ⟨14, _⟩ => ⟨S1x1024, .f32⟩
  | .hbm, ⟨15, _⟩ => ⟨S1x1024, .f32⟩
  | .hbm, ⟨16, _⟩ => ⟨S8192x1024, .f32⟩
  | .hbm, ⟨17, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x6x1024, .f32⟩
  | .local _ .vmem, ⟨3, _⟩ => ⟨S1x6x1024, .f32⟩
  | .local _ .vmem, ⟨4, _⟩ => ⟨S8x1024, .f32⟩
  | .local _ .vmem, ⟨5, _⟩ => ⟨S8x1, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024, .f32⟩
  | .local _ .vmem, ⟨13, _⟩ => ⟨S1x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .bf16⟩
  | .local _ .vmem, ⟨19, _⟩ => ⟨S8x1024, .f32⟩
  | .local _ .vmem, ⟨20, _⟩ => ⟨S8x1024, .f32⟩
  | .local _ .vmem, ⟨21, _⟩ => ⟨S8x1024, .f32⟩
  | .local _ .vmem, ⟨22, _⟩ => ⟨S1024x1024, .f32⟩
  | .local _ .vmem, ⟨23, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 8], ![false, false]⟩

def k0_off1 (i : grid0.Coords) : Fin 2 → Nat :=
  let arg1 : BitVec 32 := BitVec.ofNat 32 (i 1).val
  let v10 : Index := Scalar.indexCast arg1
  let c0_6 : Index := 0#32
  ![v10.toNat, 0]
@[reducible] def k0_t1_loop (v20 : BitVec 32) : Scf.Loop 32 :=
  let c0_i32_17 : BitVec 32 := 0#32
  let c128_i32 : BitVec 32 := 128#32
  let v23 : BitVec 32 := Scalar.addi v20 c128_i32
  let c1_i32 : BitVec 32 := 1#32
  let v24 : BitVec 32 := Scalar.subi v23 c1_i32
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c128_i32_9 : BitVec 32 := 128#32
  let c0_i32_12 : BitVec 32 := 0#32
  let v31 : BitVec 1 := Scalar.cmpi .sgt c128_i32_9 c0_i32_12
  let v32 : BitVec 32 := Scalar.extui v31
  let c0_i32_13 : BitVec 32 := 0#32
  let v33 : BitVec 1 := Scalar.cmpi .slt c128_i32_9 c0_i32_13
  let v34 : BitVec 32 := Scalar.extui v33
  let v35 : BitVec 32 := Scalar.subi v32 v34
  let v36 : BitVec 1 := Scalar.cmpi .ne v30 v35
  let v37 : BitVec 32 := Scalar.remsi v24 c128_i32_9
  let c0_i32_14 : BitVec 32 := 0#32
  let v38 : BitVec 1 := Scalar.cmpi .ne v37 c0_i32_14
  let v39 : BitVec 1 := Scalar.andi v36 v38
  let v25 : BitVec 32 := Scalar.divsi v24 c128_i32_9
  let c1_i32_15 : BitVec 32 := 1#32
  let v40 : BitVec 32 := Scalar.subi v25 c1_i32_15
  let v41 : BitVec 32 := Scalar.select v39 v40 v25
  let v42 : BitVec 32 := Scalar.subi v41 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let c1_i32_19 : BitVec 32 := 1#32
  ⟨c0_i32_17, v46, c1_i32_19⟩

@[reducible] def k0_t2_loop (v20 : BitVec 32) : Scf.Loop 32 :=
  let c0_i32_17 : BitVec 32 := 0#32
  let c128_i32 : BitVec 32 := 128#32
  let v23 : BitVec 32 := Scalar.addi v20 c128_i32
  let c1_i32 : BitVec 32 := 1#32
  let v24 : BitVec 32 := Scalar.subi v23 c1_i32
  let c0_i32_10 : BitVec 32 := 0#32
  let v26 : BitVec 1 := Scalar.cmpi .sgt v24 c0_i32_10
  let v27 : BitVec 32 := Scalar.extui v26
  let c0_i32_11 : BitVec 32 := 0#32
  let v28 : BitVec 1 := Scalar.cmpi .slt v24 c0_i32_11
  let v29 : BitVec 32 := Scalar.extui v28
  let v30 : BitVec 32 := Scalar.subi v27 v29
  let c128_i32_9 : BitVec 32 := 128#32
  let c0_i32_12 : BitVec 32 := 0#32
  let v31 : BitVec 1 := Scalar.cmpi .sgt c128_i32_9 c0_i32_12
  let v32 : BitVec 32 := Scalar.extui v31
  let c0_i32_13 : BitVec 32 := 0#32
  let v33 : BitVec 1 := Scalar.cmpi .slt c128_i32_9 c0_i32_13
  let v34 : BitVec 32 := Scalar.extui v33
  let v35 : BitVec 32 := Scalar.subi v32 v34
  let v36 : BitVec 1 := Scalar.cmpi .ne v30 v35
  let v37 : BitVec 32 := Scalar.remsi v24 c128_i32_9
  let c0_i32_14 : BitVec 32 := 0#32
  let v38 : BitVec 1 := Scalar.cmpi .ne v37 c0_i32_14
  let v39 : BitVec 1 := Scalar.andi v36 v38
  let v25 : BitVec 32 := Scalar.divsi v24 c128_i32_9
  let c1_i32_15 : BitVec 32 := 1#32
  let v40 : BitVec 32 := Scalar.subi v25 c1_i32_15
  let v41 : BitVec 32 := Scalar.select v39 v40 v25
  let v42 : BitVec 32 := Scalar.subi v41 c0_i32_17
  let c1_i32_18 : BitVec 32 := 1#32
  let v44 : BitVec 32 := Scalar.divsi v42 c1_i32_18
  let v45 : BitVec 32 := Scalar.muli v44 c1_i32_18
  let v46 : BitVec 32 := Scalar.addi c0_i32_17 v45
  let v43 : BitVec 32 := Scalar.addi c0_i32_17 v42
  let c1_i32_20 : BitVec 32 := 1#32
  ⟨v46, v43, c1_i32_20⟩

def k0_chk1 (v20 : BitVec 32) : Prop :=
  ((k0_t1_loop v20).OK) ∧
  ((k0_t2_loop v20).OK)
theorem k0_t1_ok : ∀ (v20 : BitVec 32) (k0_hw1 : k0_chk1 v20), (k0_t1_loop v20).OK := fun v20 k0_hw1 => k0_hw1.1
theorem k0_t2_ok : ∀ (v20 : BitVec 32) (k0_hw1 : k0_chk1 v20), (k0_t2_loop v20).OK := fun v20 k0_hw1 => k0_hw1.2

def k0_cond3 (i : grid0.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_21 : BitVec 32 := 0#32
  let v49 : BitVec 1 := Scalar.cmpi .ne v48 c0_i32_21
  v49

def k0_cond4 (i : grid0.Coords) : BitVec 1 :=
  let arg0 : BitVec 32 := BitVec.ofNat 32 (i 0).val
  let c8_i32 : BitVec 32 := 8#32
  let v82 : BitVec 1 := Scalar.cmpi .slt arg0 c8_i32
  let v83 : BitVec 32 := Scalar.extui v82
  let c0_i32_36 : BitVec 32 := 0#32
  let v84 : BitVec 1 := Scalar.cmpi .ne v83 c0_i32_36
  v84

def k0_cond5 (i : grid0.Coords) : BitVec 1 :=
  let arg0 : BitVec 32 := BitVec.ofNat 32 (i 0).val
  let c8_i32_37 : BitVec 32 := 8#32
  let v85 : BitVec 1 := Scalar.cmpi .sge arg0 c8_i32_37
  let v86 : BitVec 32 := Scalar.extui v85
  let c0_i32_38 : BitVec 32 := 0#32
  let v87 : BitVec 1 := Scalar.cmpi .ne v86 c0_i32_38
  v87

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  ![v20.toNat, c0_i32_7.toNat, c0_i32_8.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Kernel3Ideal.lean ====
variable {F : FTy → Type} [FloatOps F] [Named F]
def κ : String → Option EReal := fun
  | "mask" => some ⊥
  | _ => none
-- ==== Reference3Ideal.lean ====
abbrev S16384x1024 : Shape := ⟨2, ![16384, 1024]⟩
abbrev S3x6x1024 : Shape := ⟨3, ![3, 6, 1024]⟩
abbrev S1024x8 : Shape := ⟨2, ![1024, 8]⟩
abbrev S8 : Shape := ⟨1, ![8]⟩
abbrev S8x1024x1024 : Shape := ⟨3, ![8, 1024, 1024]⟩
abbrev S1024 : Shape := ⟨1, ![1024]⟩
abbrev S3x6x1x1024 : Shape := ⟨4, ![3, 6, 1, 1024]⟩
abbrev S8192x1024 : Shape := ⟨2, ![8192, 1024]⟩
abbrev S32x256x1024 : Shape := ⟨3, ![32, 256, 1024]⟩
abbrev S1x6x1x1024 : Shape := ⟨4, ![1, 6, 1, 1024]⟩
abbrev S6x1x1024 : Shape := ⟨3, ![6, 1, 1024]⟩
abbrev S1x1x1024 : Shape := ⟨3, ![1, 1, 1024]⟩
abbrev S1x1024 : Shape := ⟨2, ![1, 1024]⟩
abbrev S_ : Shape := ⟨0, ![]⟩
abbrev S32x256x8 : Shape := ⟨3, ![32, 256, 8]⟩
abbrev S1x1x8 : Shape := ⟨3, ![1, 1, 8]⟩
abbrev S32x256x2 : Shape := ⟨3, ![32, 256, 2]⟩
abbrev S32x256 : Shape := ⟨2, ![32, 256]⟩
abbrev S32x256x1 : Shape := ⟨3, ![32, 256, 1]⟩
abbrev S32x256x2x1 : Shape := ⟨4, ![32, 256, 2, 1]⟩
abbrev S1x1x1x8 : Shape := ⟨4, ![1, 1, 1, 8]⟩
abbrev S32x256x2x8 : Shape := ⟨4, ![32, 256, 2, 8]⟩
abbrev S1x1024x1024 : Shape := ⟨3, ![1, 1024, 1024]⟩
abbrev S1024x1024 : Shape := ⟨2, ![1024, 1024]⟩
abbrev S2x4096x1024 : Shape := ⟨3, ![2, 4096, 1024]⟩
abbrev S2x6x1x1024 : Shape := ⟨4, ![2, 6, 1, 1024]⟩
abbrev S2x1x1x1024 : Shape := ⟨4, ![2, 1, 1, 1024]⟩
abbrev S2x1x1024 : Shape := ⟨3, ![2, 1, 1024]⟩
abbrev S2x4096x8 : Shape := ⟨3, ![2, 4096, 8]⟩
abbrev S2x4096x2 : Shape := ⟨3, ![2, 4096, 2]⟩
abbrev S2x4096 : Shape := ⟨2, ![2, 4096]⟩
abbrev S2x4096x1 : Shape := ⟨3, ![2, 4096, 1]⟩
abbrev S2x4096x2x1 : Shape := ⟨4, ![2, 4096, 2, 1]⟩
abbrev S2x4096x2x8 : Shape := ⟨4, ![2, 4096, 2, 8]⟩

abbrev nBuf : Space → Nat
  | .hbm => 552
  | .vmem => 0
  | .smem => 0
  | _ => 0

abbrev hbmTy0_0 (i : Nat) : BufTy := match i % 128 with
  | 0 => ⟨S16384x1024, .f32⟩
  | 1 => ⟨S3x6x1024, .f32⟩
  | 2 => ⟨S1024x8, .f32⟩
  | 3 => ⟨S8, .f32⟩
  | 4 => ⟨S8x1024x1024, .f32⟩
  | 5 => ⟨S8x1024x1024, .f32⟩
  | 6 => ⟨S8x1024x1024, .f32⟩
  | 7 => ⟨S1024, .f32⟩
  | 8 => ⟨S1024, .f32⟩
  | 9 => ⟨S3x6x1x1024, .f32⟩
  | 10 => ⟨S8192x1024, .f32⟩
  | 11 => ⟨S32x256x1024, .f32⟩
  | 12 => ⟨S1x6x1x1024, .f32⟩
  | 13 => ⟨S6x1x1024, .f32⟩
  | 14 => ⟨S1x1x1024, .f32⟩
  | 15 => ⟨S1x1024, .f32⟩
  | 16 => ⟨S1x1x1024, .f32⟩
  | 17 => ⟨S1x1024, .f32⟩
  | 18 => ⟨S1x1x1024, .f32⟩
  | 19 => ⟨S1x1024, .f32⟩
  | 20 => ⟨S_, .f32⟩
  | 21 => ⟨S32x256x1024, .f32⟩
  | 22 => ⟨S32x256x1024, .f32⟩
  | 23 => ⟨S_, .f32⟩
  | 24 => ⟨S1x1024, .f32⟩
  | 25 => ⟨S1x1024, .f32⟩
  | 26 => ⟨S1x1x1024, .f32⟩
  | 27 => ⟨S32x256x1024, .f32⟩
  | 28 => ⟨S32x256x1024, .f32⟩
  | 29 => ⟨S1x1x1024, .f32⟩
  | 30 => ⟨S32x256x1024, .f32⟩
  | 31 => ⟨S32x256x1024, .f32⟩
  | 32 => ⟨S32x256x8, .f32⟩
  | 33 => ⟨S1x1x8, .f32⟩
  | 34 => ⟨S32x256x8, .f32⟩
  | 35 => ⟨S32x256x8, .f32⟩
  | 36 => ⟨S32x256x2, .f32⟩
  | 37 => ⟨S32x256x2, .i32⟩
  | 38 => ⟨S_, .f32⟩
  | 39 => ⟨S32x256, .f32⟩
  | 40 => ⟨S_, .f32⟩
  | 41 => ⟨S32x256, .f32⟩
  | 42 => ⟨S32x256, .f32⟩
  | 43 => ⟨S32x256x1, .f32⟩
  | 44 => ⟨S32x256x2, .f32⟩
  | 45 => ⟨S32x256x2, .f32⟩
  | 46 => ⟨S32x256x2, .f32⟩
  | 47 => ⟨S_, .f32⟩
  | 48 => ⟨S32x256, .f32⟩
  | 49 => ⟨S32x256x1, .f32⟩
  | 50 => ⟨S32x256x2, .f32⟩
  | 51 => ⟨S32x256x2, .f32⟩
  | 52 => ⟨S32x256x2x1, .i32⟩
  | 53 => ⟨S1x1x1x8, .i32⟩
  | 54 => ⟨S32x256x2x8, .i32⟩
  | 55 => ⟨S32x256x2x8, .i32⟩
  | 56 => ⟨S32x256x2x8, .i1⟩
  | 57 => ⟨S32x256x2x8, .f32⟩
  | 58 => ⟨S32x256x2x1, .f32⟩
  | 59 => ⟨S32x256x2x8, .f32⟩
  | 60 => ⟨S32x256x2x8, .f32⟩
  | 61 => ⟨S_, .f32⟩
  | 62 => ⟨S32x256x8, .f32⟩
  | 63 => ⟨S_, .f32⟩
  | 64 => ⟨S32x256x1024, .f32⟩
  | 65 => ⟨S32x256x1, .f32⟩
  | 66 => ⟨S1x1024x1024, .f32⟩
  | 67 => ⟨S1024x1024, .f32⟩
  | 68 => ⟨S1x1024x1024, .f32⟩
  | 69 => ⟨S1024x1024, .f32⟩
  | 70 => ⟨S1x1024x1024, .f32⟩
  | 71 => ⟨S1024x1024, .f32⟩
  | 72 => ⟨S32x256x1024, .f32⟩
  | 73 => ⟨S32x256x1024, .f32⟩
  | 74 => ⟨S32x256x1024, .f32⟩
  | 75 => ⟨S_, .f32⟩
  | 76 => ⟨S32x256x1024, .f32⟩
  | 77 => ⟨S32x256x1024, .f32⟩
  | 78 => ⟨S_, .f32⟩
  | 79 => ⟨S32x256x1024, .f32⟩
  | 80 => ⟨S32x256x1024, .f32⟩
  | 81 => ⟨S32x256x1024, .f32⟩
  | 82 => ⟨S32x256x1024, .f32⟩
  | 83 => ⟨S32x256x1024, .f32⟩
  | 84 => ⟨S32x256x1024, .f32⟩
  | 85 => ⟨S32x256x1024, .f32⟩
  | 86 => ⟨S32x256x1024, .f32⟩
  | 87 => ⟨S32x256x1024, .f32⟩
  | 88 => ⟨S32x256x1, .f32⟩
  | 89 => ⟨S1x1024x1024, .f32⟩
  | 90 => ⟨S1024x1024, .f32⟩
  | 91 => ⟨S1x1024x1024, .f32⟩
  | 92 => ⟨S1024x1024, .f32⟩
  | 93 => ⟨S1x1024x1024, .f32⟩
  | 94 => ⟨S1024x1024, .f32⟩
  | 95 => ⟨S32x256x1024, .f32⟩
  | 96 => ⟨S32x256x1024, .f32⟩
  | 97 => ⟨S32x256x1024, .f32⟩
  | 98 => ⟨S_, .f32⟩
  | 99 => ⟨S32x256x1024, .f32⟩
  | 100 => ⟨S32x256x1024, .f32⟩
  | 101 => ⟨S_, .f32⟩
  | 102 => ⟨S32x256x1024, .f32⟩
  | 103 => ⟨S32x256x1024, .f32⟩
  | 104 => ⟨S32x256x1024, .f32⟩
  | 105 => ⟨S32x256x1024, .f32⟩
  | 106 => ⟨S32x256x1024, .f32⟩
  | 107 => ⟨S32x256x1024, .f32⟩
  | 108 => ⟨S32x256x1024, .f32⟩
  | 109 => ⟨S32x256x1024, .f32⟩
  | 110 => ⟨S32x256x1024, .f32⟩
  | 111 => ⟨S32x256x1, .f32⟩
  | 112 => ⟨S1x1024x1024, .f32⟩
  | 113 => ⟨S1024x1024, .f32⟩
  | 114 => ⟨S1x1024x1024, .f32⟩
  | 115 => ⟨S1024x1024, .f32⟩
  | 116 => ⟨S1x1024x1024, .f32⟩
  | 117 => ⟨S1024x1024, .f32⟩
  | 118 => ⟨S32x256x1024, .f32⟩
  | 119 => ⟨S32x256x1024, .f32⟩
  | 120 => ⟨S32x256x1024, .f32⟩
  | 121 => ⟨S_, .f32⟩
  | 122 => ⟨S32x256x1024, .f32⟩
  | 123 => ⟨S32x256x1024, .f32⟩
  | 124 => ⟨S_, .f32⟩
  | 125 => ⟨S32x256x1024, .f32⟩
  | 126 => ⟨S32x256x1024, .f32⟩
  | 127 => ⟨S32x256x1024, .f32⟩
  | _ => ⟨S16384x1024, .f32⟩

abbrev hbmTy0_1 (i : Nat) : BufTy := match i % 128 with
  | 0 => ⟨S32x256x1024, .f32⟩
  | 1 => ⟨S32x256x1024, .f32⟩
  | 2 => ⟨S32x256x1024, .f32⟩
  | 3 => ⟨S32x256x1024, .f32⟩
  | 4 => ⟨S32x256x1024, .f32⟩
  | 5 => ⟨S32x256x1024, .f32⟩
  | 6 => ⟨S32x256x1, .f32⟩
  | 7 => ⟨S1x1024x1024, .f32⟩
  | 8 => ⟨S1024x1024, .f32⟩
  | 9 => ⟨S1x1024x1024, .f32⟩
  | 10 => ⟨S1024x1024, .f32⟩
  | 11 => ⟨S1x1024x1024, .f32⟩
  | 12 => ⟨S1024x1024, .f32⟩
  | 13 => ⟨S32x256x1024, .f32⟩
  | 14 => ⟨S32x256x1024, .f32⟩
  | 15 => ⟨S32x256x1024, .f32⟩
  | 16 => ⟨S_, .f32⟩
  | 17 => ⟨S32x256x1024, .f32⟩
  | 18 => ⟨S32x256x1024, .f32⟩
  | 19 => ⟨S_, .f32⟩
  | 20 => ⟨S32x256x1024, .f32⟩
  | 21 => ⟨S32x256x1024, .f32⟩
  | 22 => ⟨S32x256x1024, .f32⟩
  | 23 => ⟨S32x256x1024, .f32⟩
  | 24 => ⟨S32x256x1024, .f32⟩
  | 25 => ⟨S32x256x1024, .f32⟩
  | 26 => ⟨S32x256x1024, .f32⟩
  | 27 => ⟨S32x256x1024, .f32⟩
  | 28 => ⟨S32x256x1024, .f32⟩
  | 29 => ⟨S32x256x1, .f32⟩
  | 30 => ⟨S1x1024x1024, .f32⟩
  | 31 => ⟨S1024x1024, .f32⟩
  | 32 => ⟨S1x1024x1024, .f32⟩
  | 33 => ⟨S1024x1024, .f32⟩
  | 34 => ⟨S1x1024x1024, .f32⟩
  | 35 => ⟨S1024x1024, .f32⟩
  | 36 => ⟨S32x256x1024, .f32⟩
  | 37 => ⟨S32x256x1024, .f32⟩
  | 38 => ⟨S32x256x1024, .f32⟩
  | 39 => ⟨S_, .f32⟩
  | 40 => ⟨S32x256x1024, .f32⟩
  | 41 => ⟨S32x256x1024, .f32⟩
  | 42 => ⟨S_, .f32⟩
  | 43 => ⟨S32x256x1024, .f32⟩
  | 44 => ⟨S32x256x1024, .f32⟩
  | 45 => ⟨S32x256x1024, .f32⟩
  | 46 => ⟨S32x256x1024, .f32⟩
  | 47 => ⟨S32x256x1024, .f32⟩
  | 48 => ⟨S32x256x1024, .f32⟩
  | 49 => ⟨S32x256x1024, .f32⟩
  | 50 => ⟨S32x256x1024, .f32⟩
  | 51 => ⟨S32x256x1024, .f32⟩
  | 52 => ⟨S32x256x1, .f32⟩
  | 53 => ⟨S1x1024x1024, .f32⟩
  | 54 => ⟨S1024x1024, .f32⟩
  | 55 => ⟨S1x1024x1024, .f32⟩
  | 56 => ⟨S1024x1024, .f32⟩
  | 57 => ⟨S1x1024x1024, .f32⟩
  | 58 => ⟨S1024x1024, .f32⟩
  | 59 => ⟨S32x256x1024, .f32⟩
  | 60 => ⟨S32x256x1024, .f32⟩
  | 61 => ⟨S32x256x1024, .f32⟩
  | 62 => ⟨S_, .f32⟩
  | 63 => ⟨S32x256x1024, .f32⟩
  | 64 => ⟨S32x256x1024, .f32⟩
  | 65 => ⟨S_, .f32⟩
  | 66 => ⟨S32x256x1024, .f32⟩
  | 67 => ⟨S32x256x1024, .f32⟩
  | 68 => ⟨S32x256x1024, .f32⟩
  | 69 => ⟨S32x256x1024, .f32⟩
  | 70 => ⟨S32x256x1024, .f32⟩
  | 71 => ⟨S32x256x1024, .f32⟩
  | 72 => ⟨S32x256x1024, .f32⟩
  | 73 => ⟨S32x256x1024, .f32⟩
  | 74 => ⟨S32x256x1024, .f32⟩
  | 75 => ⟨S32x256x1, .f32⟩
  | 76 => ⟨S1x1024x1024, .f32⟩
  | 77 => ⟨S1024x1024, .f32⟩
  | 78 => ⟨S1x1024x1024, .f32⟩
  | 79 => ⟨S1024x1024, .f32⟩
  | 80 => ⟨S1x1024x1024, .f32⟩
  | 81 => ⟨S1024x1024, .f32⟩
  | 82 => ⟨S32x256x1024, .f32⟩
  | 83 => ⟨S32x256x1024, .f32⟩
  | 84 => ⟨S32x256x1024, .f32⟩
  | 85 => ⟨S_, .f32⟩
  | 86 => ⟨S32x256x1024, .f32⟩
  | 87 => ⟨S32x256x1024, .f32⟩
  | 88 => ⟨S_, .f32⟩
  | 89 => ⟨S32x256x1024, .f32⟩
  | 90 => ⟨S32x256x1024, .f32⟩
  | 91 => ⟨S32x256x1024, .f32⟩
  | 92 => ⟨S32x256x1024, .f32⟩
  | 93 => ⟨S32x256x1024, .f32⟩
  | 94 => ⟨S32x256x1024, .f32⟩
  | 95 => ⟨S32x256x1024, .f32⟩
  | 96 => ⟨S32x256x1024, .f32⟩
  | 97 => ⟨S32x256x1024, .f32⟩
  | 98 => ⟨S32x256x1, .f32⟩
  | 99 => ⟨S1x1024x1024, .f32⟩
  | 100 => ⟨S1024x1024, .f32⟩
  | 101 => ⟨S1x1024x1024, .f32⟩
  | 102 => ⟨S1024x1024, .f32⟩
  | 103 => ⟨S1x1024x1024, .f32⟩
  | 104 => ⟨S1024x1024, .f32⟩
  | 105 => ⟨S32x256x1024, .f32⟩
  | 106 => ⟨S32x256x1024, .f32⟩
  | 107 => ⟨S32x256x1024, .f32⟩
  | 108 => ⟨S_, .f32⟩
  | 109 => ⟨S32x256x1024, .f32⟩
  | 110 => ⟨S32x256x1024, .f32⟩
  | 111 => ⟨S_, .f32⟩
  | 112 => ⟨S32x256x1024, .f32⟩
  | 113 => ⟨S32x256x1024, .f32⟩
  | 114 => ⟨S32x256x1024, .f32⟩
  | 115 => ⟨S32x256x1024, .f32⟩
  | 116 => ⟨S32x256x1024, .f32⟩
  | 117 => ⟨S32x256x1024, .f32⟩
  | 118 => ⟨S32x256x1024, .f32⟩
  | 119 => ⟨S32x256x1024, .f32⟩
  | 120 => ⟨S32x256x1024, .f32⟩
  | 121 => ⟨S1x1x1024, .f32⟩
  | 122 => ⟨S32x256x1024, .f32⟩
  | 123 => ⟨S32x256x1024, .f32⟩
  | 124 => ⟨S32x256x1024, .f32⟩
  | 125 => ⟨S_, .f32⟩
  | 126 => ⟨S32x256, .f32⟩
  | 127 => ⟨S32x256x1, .f32⟩
  | _ => ⟨S16384x1024, .f32⟩

abbrev hbmTy0_2 (i : Nat) : BufTy := match i % 128 with
  | 0 => ⟨S_, .f32⟩
  | 1 => ⟨S32x256x1, .f32⟩
  | 2 => ⟨S32x256x1, .f32⟩
  | 3 => ⟨S32x256x1024, .f32⟩
  | 4 => ⟨S32x256x1024, .f32⟩
  | 5 => ⟨S32x256x1024, .f32⟩
  | 6 => ⟨S_, .f32⟩
  | 7 => ⟨S32x256, .f32⟩
  | 8 => ⟨S32x256x1, .f32⟩
  | 9 => ⟨S_, .f32⟩
  | 10 => ⟨S32x256x1, .f32⟩
  | 11 => ⟨S32x256x1, .f32⟩
  | 12 => ⟨S32x256x1024, .f32⟩
  | 13 => ⟨S32x256x1024, .f32⟩
  | 14 => ⟨S_, .f32⟩
  | 15 => ⟨S32x256x1, .f32⟩
  | 16 => ⟨S32x256x1, .f32⟩
  | 17 => ⟨S32x256x1, .f32⟩
  | 18 => ⟨S32x256x1024, .f32⟩
  | 19 => ⟨S32x256x1024, .f32⟩
  | 20 => ⟨S1x1x1024, .f32⟩
  | 21 => ⟨S32x256x1024, .f32⟩
  | 22 => ⟨S32x256x1024, .f32⟩
  | 23 => ⟨S1x1x1024, .f32⟩
  | 24 => ⟨S32x256x1024, .f32⟩
  | 25 => ⟨S32x256x1024, .f32⟩
  | 26 => ⟨S8192x1024, .f32⟩
  | 27 => ⟨S2x4096x1024, .f32⟩
  | 28 => ⟨S2x6x1x1024, .f32⟩
  | 29 => ⟨S2x1x1x1024, .f32⟩
  | 30 => ⟨S2x1x1024, .f32⟩
  | 31 => ⟨S2x1x1x1024, .f32⟩
  | 32 => ⟨S2x1x1024, .f32⟩
  | 33 => ⟨S2x1x1x1024, .f32⟩
  | 34 => ⟨S2x1x1024, .f32⟩
  | 35 => ⟨S_, .f32⟩
  | 36 => ⟨S2x4096x1024, .f32⟩
  | 37 => ⟨S2x4096x1024, .f32⟩
  | 38 => ⟨S_, .f32⟩
  | 39 => ⟨S2x1x1024, .f32⟩
  | 40 => ⟨S2x1x1024, .f32⟩
  | 41 => ⟨S2x4096x1024, .f32⟩
  | 42 => ⟨S2x4096x1024, .f32⟩
  | 43 => ⟨S2x4096x1024, .f32⟩
  | 44 => ⟨S2x4096x1024, .f32⟩
  | 45 => ⟨S2x4096x8, .f32⟩
  | 46 => ⟨S1x1x8, .f32⟩
  | 47 => ⟨S2x4096x8, .f32⟩
  | 48 => ⟨S2x4096x8, .f32⟩
  | 49 => ⟨S2x4096x2, .f32⟩
  | 50 => ⟨S2x4096x2, .i32⟩
  | 51 => ⟨S_, .f32⟩
  | 52 => ⟨S2x4096, .f32⟩
  | 53 => ⟨S_, .f32⟩
  | 54 => ⟨S2x4096, .f32⟩
  | 55 => ⟨S2x4096, .f32⟩
  | 56 => ⟨S2x4096x1, .f32⟩
  | 57 => ⟨S2x4096x2, .f32⟩
  | 58 => ⟨S2x4096x2, .f32⟩
  | 59 => ⟨S2x4096x2, .f32⟩
  | 60 => ⟨S_, .f32⟩
  | 61 => ⟨S2x4096, .f32⟩
  | 62 => ⟨S2x4096x1, .f32⟩
  | 63 => ⟨S2x4096x2, .f32⟩
  | 64 => ⟨S2x4096x2, .f32⟩
  | 65 => ⟨S2x4096x2x1, .i32⟩
  | 66 => ⟨S1x1x1x8, .i32⟩
  | 67 => ⟨S2x4096x2x8, .i32⟩
  | 68 => ⟨S2x4096x2x8, .i32⟩
  | 69 => ⟨S2x4096x2x8, .i1⟩
  | 70 => ⟨S2x4096x2x8, .f32⟩
  | 71 => ⟨S2x4096x2x1, .f32⟩
  | 72 => ⟨S2x4096x2x8, .f32⟩
  | 73 => ⟨S2x4096x2x8, .f32⟩
  | 74 => ⟨S_, .f32⟩
  | 75 => ⟨S2x4096x8, .f32⟩
  | 76 => ⟨S_, .f32⟩
  | 77 => ⟨S2x4096x1024, .f32⟩
  | 78 => ⟨S2x4096x1, .f32⟩
  | 79 => ⟨S1x1024x1024, .f32⟩
  | 80 => ⟨S1024x1024, .f32⟩
  | 81 => ⟨S1x1024x1024, .f32⟩
  | 82 => ⟨S1024x1024, .f32⟩
  | 83 => ⟨S1x1024x1024, .f32⟩
  | 84 => ⟨S1024x1024, .f32⟩
  | 85 => ⟨S2x4096x1024, .f32⟩
  | 86 => ⟨S2x4096x1024, .f32⟩
  | 87 => ⟨S2x4096x1024, .f32⟩
  | 88 => ⟨S_, .f32⟩
  | 89 => ⟨S2x4096x1024, .f32⟩
  | 90 => ⟨S2x4096x1024, .f32⟩
  | 91 => ⟨S_, .f32⟩
  | 92 => ⟨S2x4096x1024, .f32⟩
  | 93 => ⟨S2x4096x1024, .f32⟩
  | 94 => ⟨S2x4096x1024, .f32⟩
  | 95 => ⟨S2x4096x1024, .f32⟩
  | 96 => ⟨S2x4096x1024, .f32⟩
  | 97 => ⟨S2x4096x1024, .f32⟩
  | 98 => ⟨S2x4096x1024, .f32⟩
  | 99 => ⟨S2x4096x1024, .f32⟩
  | 100 => ⟨S2x4096x1024, .f32⟩
  | 101 => ⟨S2x4096x1, .f32⟩
  | 102 => ⟨S1x1024x1024, .f32⟩
  | 103 => ⟨S1024x1024, .f32⟩
  | 104 => ⟨S1x1024x1024, .f32⟩
  | 105 => ⟨S1024x1024, .f32⟩
  | 106 => ⟨S1x1024x1024, .f32⟩
  | 107 => ⟨S1024x1024, .f32⟩
  | 108 => ⟨S2x4096x1024, .f32⟩
  | 109 => ⟨S2x4096x1024, .f32⟩
  | 110 => ⟨S2x4096x1024, .f32⟩
  | 111 => ⟨S_, .f32⟩
  | 112 => ⟨S2x4096x1024, .f32⟩
  | 113 => ⟨S2x4096x1024, .f32⟩
  | 114 => ⟨S_, .f32⟩
  | 115 => ⟨S2x4096x1024, .f32⟩
  | 116 => ⟨S2x4096x1024, .f32⟩
  | 117 => ⟨S2x4096x1024, .f32⟩
  | 118 => ⟨S2x4096x1024, .f32⟩
  | 119 => ⟨S2x4096x1024, .f32⟩
  | 120 => ⟨S2x4096x1024, .f32⟩
  | 121 => ⟨S2x4096x1024, .f32⟩
  | 122 => ⟨S2x4096x1024, .f32⟩
  | 123 => ⟨S2x4096x1024, .f32⟩
  | 124 => ⟨S2x4096x1, .f32⟩
  | 125 => ⟨S1x1024x1024, .f32⟩
  | 126 => ⟨S1024x1024, .f32⟩
  | 127 => ⟨S1x1024x1024, .f32⟩
  | _ => ⟨S16384x1024, .f32⟩

abbrev hbmTy0_3 (i : Nat) : BufTy := match i % 128 with
  | 0 => ⟨S1024x1024, .f32⟩
  | 1 => ⟨S1x1024x1024, .f32⟩
  | 2 => ⟨S1024x1024, .f32⟩
  | 3 => ⟨S2x4096x1024, .f32⟩
  | 4 => ⟨S2x4096x1024, .f32⟩
  | 5 => ⟨S2x4096x1024, .f32⟩
  | 6 => ⟨S_, .f32⟩
  | 7 => ⟨S2x4096x1024, .f32⟩
  | 8 => ⟨S2x4096x1024, .f32⟩
  | 9 => ⟨S_, .f32⟩
  | 10 => ⟨S2x4096x1024, .f32⟩
  | 11 => ⟨S2x4096x1024, .f32⟩
  | 12 => ⟨S2x4096x1024, .f32⟩
  | 13 => ⟨S2x4096x1024, .f32⟩
  | 14 => ⟨S2x4096x1024, .f32⟩
  | 15 => ⟨S2x4096x1024, .f32⟩
  | 16 => ⟨S2x4096x1024, .f32⟩
  | 17 => ⟨S2x4096x1024, .f32⟩
  | 18 => ⟨S2x4096x1024, .f32⟩
  | 19 => ⟨S2x4096x1, .f32⟩
  | 20 => ⟨S1x1024x1024, .f32⟩
  | 21 => ⟨S1024x1024, .f32⟩
  | 22 => ⟨S1x1024x1024, .f32⟩
  | 23 => ⟨S1024x1024, .f32⟩
  | 24 => ⟨S1x1024x1024, .f32⟩
  | 25 => ⟨S1024x1024, .f32⟩
  | 26 => ⟨S2x4096x1024, .f32⟩
  | 27 => ⟨S2x4096x1024, .f32⟩
  | 28 => ⟨S2x4096x1024, .f32⟩
  | 29 => ⟨S_, .f32⟩
  | 30 => ⟨S2x4096x1024, .f32⟩
  | 31 => ⟨S2x4096x1024, .f32⟩
  | 32 => ⟨S_, .f32⟩
  | 33 => ⟨S2x4096x1024, .f32⟩
  | 34 => ⟨S2x4096x1024, .f32⟩
  | 35 => ⟨S2x4096x1024, .f32⟩
  | 36 => ⟨S2x4096x1024, .f32⟩
  | 37 => ⟨S2x4096x1024, .f32⟩
  | 38 => ⟨S2x4096x1024, .f32⟩
  | 39 => ⟨S2x4096x1024, .f32⟩
  | 40 => ⟨S2x4096x1024, .f32⟩
  | 41 => ⟨S2x4096x1024, .f32⟩
  | 42 => ⟨S2x4096x1, .f32⟩
  | 43 => ⟨S1x1024x1024, .f32⟩
  | 44 => ⟨S1024x1024, .f32⟩
  | 45 => ⟨S1x1024x1024, .f32⟩
  | 46 => ⟨S1024x1024, .f32⟩
  | 47 => ⟨S1x1024x1024, .f32⟩
  | 48 => ⟨S1024x1024, .f32⟩
  | 49 => ⟨S2x4096x1024, .f32⟩
  | 50 => ⟨S2x4096x1024, .f32⟩
  | 51 => ⟨S2x4096x1024, .f32⟩
  | 52 => ⟨S_, .f32⟩
  | 53 => ⟨S2x4096x1024, .f32⟩
  | 54 => ⟨S2x4096x1024, .f32⟩
  | 55 => ⟨S_, .f32⟩
  | 56 => ⟨S2x4096x1024, .f32⟩
  | 57 => ⟨S2x4096x1024, .f32⟩
  | 58 => ⟨S2x4096x1024, .f32⟩
  | 59 => ⟨S2x4096x1024, .f32⟩
  | 60 => ⟨S2x4096x1024, .f32⟩
  | 61 => ⟨S2x4096x1024, .f32⟩
  | 62 => ⟨S2x4096x1024, .f32⟩
  | 63 => ⟨S2x4096x1024, .f32⟩
  | 64 => ⟨S2x4096x1024, .f32⟩
  | 65 => ⟨S2x4096x1, .f32⟩
  | 66 => ⟨S1x1024x1024, .f32⟩
  | 67 => ⟨S1024x1024, .f32⟩
  | 68 => ⟨S1x1024x1024, .f32⟩
  | 69 => ⟨S1024x1024, .f32⟩
  | 70 => ⟨S1x1024x1024, .f32⟩
  | 71 => ⟨S1024x1024, .f32⟩
  | 72 => ⟨S2x4096x1024, .f32⟩
  | 73 => ⟨S2x4096x1024, .f32⟩
  | 74 => ⟨S2x4096x1024, .f32⟩
  | 75 => ⟨S_, .f32⟩
  | 76 => ⟨S2x4096x1024, .f32⟩
  | 77 => ⟨S2x4096x1024, .f32⟩
  | 78 => ⟨S_, .f32⟩
  | 79 => ⟨S2x4096x1024, .f32⟩
  | 80 => ⟨S2x4096x1024, .f32⟩
  | 81 => ⟨S2x4096x1024, .f32⟩
  | 82 => ⟨S2x4096x1024, .f32⟩
  | 83 => ⟨S2x4096x1024, .f32⟩
  | 84 => ⟨S2x4096x1024, .f32⟩
  | 85 => ⟨S2x4096x1024, .f32⟩
  | 86 => ⟨S2x4096x1024, .f32⟩
  | 87 => ⟨S2x4096x1024, .f32⟩
  | 88 => ⟨S2x4096x1, .f32⟩
  | 89 => ⟨S1x1024x1024, .f32⟩
  | 90 => ⟨S1024x1024, .f32⟩
  | 91 => ⟨S1x1024x1024, .f32⟩
  | 92 => ⟨S1024x1024, .f32⟩
  | 93 => ⟨S1x1024x1024, .f32⟩
  | 94 => ⟨S1024x1024, .f32⟩
  | 95 => ⟨S2x4096x1024, .f32⟩
  | 96 => ⟨S2x4096x1024, .f32⟩
  | 97 => ⟨S2x4096x1024, .f32⟩
  | 98 => ⟨S_, .f32⟩
  | 99 => ⟨S2x4096x1024, .f32⟩
  | 100 => ⟨S2x4096x1024, .f32⟩
  | 101 => ⟨S_, .f32⟩
  | 102 => ⟨S2x4096x1024, .f32⟩
  | 103 => ⟨S2x4096x1024, .f32⟩
  | 104 => ⟨S2x4096x1024, .f32⟩
  | 105 => ⟨S2x4096x1024, .f32⟩
  | 106 => ⟨S2x4096x1024, .f32⟩
  | 107 => ⟨S2x4096x1024, .f32⟩
  | 108 => ⟨S2x4096x1024, .f32⟩
  | 109 => ⟨S2x4096x1024, .f32⟩
  | 110 => ⟨S2x4096x1024, .f32⟩
  | 111 => ⟨S2x4096x1, .f32⟩
  | 112 => ⟨S1x1024x1024, .f32⟩
  | 113 => ⟨S1024x1024, .f32⟩
  | 114 => ⟨S1x1024x1024, .f32⟩
  | 115 => ⟨S1024x1024, .f32⟩
  | 116 => ⟨S1x1024x1024, .f32⟩
  | 117 => ⟨S1024x1024, .f32⟩
  | 118 => ⟨S2x4096x1024, .f32⟩
  | 119 => ⟨S2x4096x1024, .f32⟩
  | 120 => ⟨S2x4096x1024, .f32⟩
  | 121 => ⟨S_, .f32⟩
  | 122 => ⟨S2x4096x1024, .f32⟩
  | 123 => ⟨S2x4096x1024, .f32⟩
  | 124 => ⟨S_, .f32⟩
  | 125 => ⟨S2x4096x1024, .f32⟩
  | 126 => ⟨S2x4096x1024, .f32⟩
  | 127 => ⟨S2x4096x1024, .f32⟩
  | _ => ⟨S16384x1024, .f32⟩

abbrev hbmTy0_4 (i : Nat) : BufTy := match i % 128 with
  | 0 => ⟨S2x4096x1024, .f32⟩
  | 1 => ⟨S2x4096x1024, .f32⟩
  | 2 => ⟨S2x4096x1024, .f32⟩
  | 3 => ⟨S2x4096x1024, .f32⟩
  | 4 => ⟨S2x4096x1024, .f32⟩
  | 5 => ⟨S2x4096x1024, .f32⟩
  | 6 => ⟨S2x4096x1024, .f32⟩
  | 7 => ⟨S2x4096x1024, .f32⟩
  | 8 => ⟨S2x4096x1024, .f32⟩
  | 9 => ⟨S_, .f32⟩
  | 10 => ⟨S2x4096, .f32⟩
  | 11 => ⟨S2x4096x1, .f32⟩
  | 12 => ⟨S_, .f32⟩
  | 13 => ⟨S2x4096x1, .f32⟩
  | 14 => ⟨S2x4096x1, .f32⟩
  | 15 => ⟨S2x4096x1024, .f32⟩
  | 16 => ⟨S2x4096x1024, .f32⟩
  | 17 => ⟨S2x4096x1024, .f32⟩
  | 18 => ⟨S_, .f32⟩
  | 19 => ⟨S2x4096, .f32⟩
  | 20 => ⟨S2x4096x1, .f32⟩
  | 21 => ⟨S_, .f32⟩
  | 22 => ⟨S2x4096x1, .f32⟩
  | 23 => ⟨S2x4096x1, .f32⟩
  | 24 => ⟨S2x4096x1024, .f32⟩
  | 25 => ⟨S2x4096x1024, .f32⟩
  | 26 => ⟨S_, .f32⟩
  | 27 => ⟨S2x4096x1, .f32⟩
  | 28 => ⟨S2x4096x1, .f32⟩
  | 29 => ⟨S2x4096x1, .f32⟩
  | 30 => ⟨S2x4096x1024, .f32⟩
  | 31 => ⟨S2x4096x1024, .f32⟩
  | 32 => ⟨S1x1x1024, .f32⟩
  | 33 => ⟨S2x4096x1024, .f32⟩
  | 34 => ⟨S2x4096x1024, .f32⟩
  | 35 => ⟨S1x1x1024, .f32⟩
  | 36 => ⟨S2x4096x1024, .f32⟩
  | 37 => ⟨S2x4096x1024, .f32⟩
  | 38 => ⟨S8192x1024, .f32⟩
  | 39 => ⟨S8192x1024, .f32⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_values : Ref sig .tc := ⟨.hbm, 36, rfl⟩
abbrev main_indices : Ref sig .tc := ⟨.hbm, 37, rfl⟩
abbrev main_cst_1 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_v0 : Ref sig .tc := ⟨.hbm, 73, rfl⟩
abbrev main_call1_v1 : Ref sig .tc := ⟨.hbm, 74, rfl⟩
abbrev main_call1_cst : Ref sig .tc := ⟨.hbm, 75, rfl⟩
abbrev main_call1_v2 : Ref sig .tc := ⟨.hbm, 76, rfl⟩
abbrev main_call1_v3 : Ref sig .tc := ⟨.hbm, 77, rfl⟩
abbrev main_call1_cst_0 : Ref sig .tc := ⟨.hbm, 78, rfl⟩
abbrev main_call1_v4 : Ref sig .tc := ⟨.hbm, 79, rfl⟩
abbrev main_call1_v5 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call2_v0 : Ref sig .tc := ⟨.hbm, 96, rfl⟩
abbrev main_call2_v1 : Ref sig .tc := ⟨.hbm, 97, rfl⟩
abbrev main_call2_cst : Ref sig .tc := ⟨.hbm, 98, rfl⟩
abbrev main_call2_v2 : Ref sig .tc := ⟨.hbm, 99, rfl⟩
abbrev main_call2_v3 : Ref sig .tc := ⟨.hbm, 100, rfl⟩
abbrev main_call2_cst_0 : Ref sig .tc := ⟨.hbm, 101, rfl⟩
abbrev main_call2_v4 : Ref sig .tc := ⟨.hbm, 102, rfl⟩
abbrev main_call2_v5 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_call3_v0 : Ref sig .tc := ⟨.hbm, 119, rfl⟩
abbrev main_call3_v1 : Ref sig .tc := ⟨.hbm, 120, rfl⟩
abbrev main_call3_cst : Ref sig .tc := ⟨.hbm, 121, rfl⟩
abbrev main_call3_v2 : Ref sig .tc := ⟨.hbm, 122, rfl⟩
abbrev main_call3_v3 : Ref sig .tc := ⟨.hbm, 123, rfl⟩
abbrev main_call3_cst_0 : Ref sig .tc := ⟨.hbm, 124, rfl⟩
abbrev main_call3_v4 : Ref sig .tc := ⟨.hbm, 125, rfl⟩
abbrev main_call3_v5 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_call4_v0 : Ref sig .tc := ⟨.hbm, 142, rfl⟩
abbrev main_call4_v1 : Ref sig .tc := ⟨.hbm, 143, rfl⟩
abbrev main_call4_cst : Ref sig .tc := ⟨.hbm, 144, rfl⟩
abbrev main_call4_v2 : Ref sig .tc := ⟨.hbm, 145, rfl⟩
abbrev main_call4_v3 : Ref sig .tc := ⟨.hbm, 146, rfl⟩
abbrev main_call4_cst_0 : Ref sig .tc := ⟨.hbm, 147, rfl⟩
abbrev main_call4_v4 : Ref sig .tc := ⟨.hbm, 148, rfl⟩
abbrev main_call4_v5 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_call5_v0 : Ref sig .tc := ⟨.hbm, 165, rfl⟩
abbrev main_call5_v1 : Ref sig .tc := ⟨.hbm, 166, rfl⟩
abbrev main_call5_cst : Ref sig .tc := ⟨.hbm, 167, rfl⟩
abbrev main_call5_v2 : Ref sig .tc := ⟨.hbm, 168, rfl⟩
abbrev main_call5_v3 : Ref sig .tc := ⟨.hbm, 169, rfl⟩
abbrev main_call5_cst_0 : Ref sig .tc := ⟨.hbm, 170, rfl⟩
abbrev main_call5_v4 : Ref sig .tc := ⟨.hbm, 171, rfl⟩
abbrev main_call5_v5 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_v118 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_call6_v0 : Ref sig .tc := ⟨.hbm, 188, rfl⟩
abbrev main_call6_v1 : Ref sig .tc := ⟨.hbm, 189, rfl⟩
abbrev main_call6_cst : Ref sig .tc := ⟨.hbm, 190, rfl⟩
abbrev main_call6_v2 : Ref sig .tc := ⟨.hbm, 191, rfl⟩
abbrev main_call6_v3 : Ref sig .tc := ⟨.hbm, 192, rfl⟩
abbrev main_call6_cst_0 : Ref sig .tc := ⟨.hbm, 193, rfl⟩
abbrev main_call6_v4 : Ref sig .tc := ⟨.hbm, 194, rfl⟩
abbrev main_call6_v5 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_call7_v0 : Ref sig .tc := ⟨.hbm, 211, rfl⟩
abbrev main_call7_v1 : Ref sig .tc := ⟨.hbm, 212, rfl⟩
abbrev main_call7_cst : Ref sig .tc := ⟨.hbm, 213, rfl⟩
abbrev main_call7_v2 : Ref sig .tc := ⟨.hbm, 214, rfl⟩
abbrev main_call7_v3 : Ref sig .tc := ⟨.hbm, 215, rfl⟩
abbrev main_call7_cst_0 : Ref sig .tc := ⟨.hbm, 216, rfl⟩
abbrev main_call7_v4 : Ref sig .tc := ⟨.hbm, 217, rfl⟩
abbrev main_call7_v5 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_call8_v0 : Ref sig .tc := ⟨.hbm, 234, rfl⟩
abbrev main_call8_v1 : Ref sig .tc := ⟨.hbm, 235, rfl⟩
abbrev main_call8_cst : Ref sig .tc := ⟨.hbm, 236, rfl⟩
abbrev main_call8_v2 : Ref sig .tc := ⟨.hbm, 237, rfl⟩
abbrev main_call8_v3 : Ref sig .tc := ⟨.hbm, 238, rfl⟩
abbrev main_call8_cst_0 : Ref sig .tc := ⟨.hbm, 239, rfl⟩
abbrev main_call8_v4 : Ref sig .tc := ⟨.hbm, 240, rfl⟩
abbrev main_call8_v5 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_cst_6 : Ref sig .tc := ⟨.hbm, 253, rfl⟩
abbrev main_v166 : Ref sig .tc := ⟨.hbm, 254, rfl⟩
abbrev main_v167 : Ref sig .tc := ⟨.hbm, 255, rfl⟩
abbrev main_cst_7 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩
abbrev main_v171 : Ref sig .tc := ⟨.hbm, 260, rfl⟩
abbrev main_v172 : Ref sig .tc := ⟨.hbm, 261, rfl⟩
abbrev main_cst_8 : Ref sig .tc := ⟨.hbm, 262, rfl⟩
abbrev main_v173 : Ref sig .tc := ⟨.hbm, 263, rfl⟩
abbrev main_v174 : Ref sig .tc := ⟨.hbm, 264, rfl⟩
abbrev main_cst_9 : Ref sig .tc := ⟨.hbm, 265, rfl⟩
abbrev main_v175 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_cst_10 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_v189 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_v193 : Ref sig .tc := ⟨.hbm, 285, rfl⟩
abbrev main_v194 : Ref sig .tc := ⟨.hbm, 286, rfl⟩
abbrev main_v195 : Ref sig .tc := ⟨.hbm, 287, rfl⟩
abbrev main_v196 : Ref sig .tc := ⟨.hbm, 288, rfl⟩
abbrev main_v197 : Ref sig .tc := ⟨.hbm, 289, rfl⟩
abbrev main_v198 : Ref sig .tc := ⟨.hbm, 290, rfl⟩
abbrev main_cst_11 : Ref sig .tc := ⟨.hbm, 291, rfl⟩
abbrev main_v199 : Ref sig .tc := ⟨.hbm, 292, rfl⟩
abbrev main_v200 : Ref sig .tc := ⟨.hbm, 293, rfl⟩
abbrev main_cst_12 : Ref sig .tc := ⟨.hbm, 294, rfl⟩
abbrev main_v201 : Ref sig .tc := ⟨.hbm, 295, rfl⟩
abbrev main_v202 : Ref sig .tc := ⟨.hbm, 296, rfl⟩
abbrev main_v203 : Ref sig .tc := ⟨.hbm, 297, rfl⟩
abbrev main_v204 : Ref sig .tc := ⟨.hbm, 298, rfl⟩
abbrev main_v205 : Ref sig .tc := ⟨.hbm, 299, rfl⟩
abbrev main_v206 : Ref sig .tc := ⟨.hbm, 300, rfl⟩
abbrev main_v207 : Ref sig .tc := ⟨.hbm, 301, rfl⟩
abbrev main_v208 : Ref sig .tc := ⟨.hbm, 302, rfl⟩
abbrev main_v209 : Ref sig .tc := ⟨.hbm, 303, rfl⟩
abbrev main_v210 : Ref sig .tc := ⟨.hbm, 304, rfl⟩
abbrev main_values_13 : Ref sig .tc := ⟨.hbm, 305, rfl⟩
abbrev main_indices_14 : Ref sig .tc := ⟨.hbm, 306, rfl⟩
abbrev main_cst_15 : Ref sig .tc := ⟨.hbm, 307, rfl⟩
abbrev main_v211 : Ref sig .tc := ⟨.hbm, 308, rfl⟩
abbrev main_cst_16 : Ref sig .tc := ⟨.hbm, 309, rfl⟩
abbrev main_v212 : Ref sig .tc := ⟨.hbm, 310, rfl⟩
abbrev main_v213 : Ref sig .tc := ⟨.hbm, 311, rfl⟩
abbrev main_v214 : Ref sig .tc := ⟨.hbm, 312, rfl⟩
abbrev main_v215 : Ref sig .tc := ⟨.hbm, 313, rfl⟩
abbrev main_v216 : Ref sig .tc := ⟨.hbm, 314, rfl⟩
abbrev main_v217 : Ref sig .tc := ⟨.hbm, 315, rfl⟩
abbrev main_cst_17 : Ref sig .tc := ⟨.hbm, 316, rfl⟩
abbrev main_v218 : Ref sig .tc := ⟨.hbm, 317, rfl⟩
abbrev main_v219 : Ref sig .tc := ⟨.hbm, 318, rfl⟩
abbrev main_v220 : Ref sig .tc := ⟨.hbm, 319, rfl⟩
abbrev main_v221 : Ref sig .tc := ⟨.hbm, 320, rfl⟩
abbrev main_call9_v0 : Ref sig .tc := ⟨.hbm, 321, rfl⟩
abbrev main_call9_v1 : Ref sig .tc := ⟨.hbm, 322, rfl⟩
abbrev main_call9_v2 : Ref sig .tc := ⟨.hbm, 323, rfl⟩
abbrev main_call9_v3 : Ref sig .tc := ⟨.hbm, 324, rfl⟩
abbrev main_call9_v4 : Ref sig .tc := ⟨.hbm, 325, rfl⟩
abbrev main_v222 : Ref sig .tc := ⟨.hbm, 326, rfl⟩
abbrev main_v223 : Ref sig .tc := ⟨.hbm, 327, rfl⟩
abbrev main_v224 : Ref sig .tc := ⟨.hbm, 328, rfl⟩
abbrev main_v225 : Ref sig .tc := ⟨.hbm, 329, rfl⟩
abbrev main_cst_18 : Ref sig .tc := ⟨.hbm, 330, rfl⟩
abbrev main_v226 : Ref sig .tc := ⟨.hbm, 331, rfl⟩
abbrev main_cst_19 : Ref sig .tc := ⟨.hbm, 332, rfl⟩
abbrev main_v227 : Ref sig .tc := ⟨.hbm, 333, rfl⟩
abbrev main_v228 : Ref sig .tc := ⟨.hbm, 334, rfl⟩
abbrev main_v229 : Ref sig .tc := ⟨.hbm, 335, rfl⟩
abbrev main_v230 : Ref sig .tc := ⟨.hbm, 336, rfl⟩
abbrev main_v231 : Ref sig .tc := ⟨.hbm, 337, rfl⟩
abbrev main_v232 : Ref sig .tc := ⟨.hbm, 338, rfl⟩
abbrev main_v233 : Ref sig .tc := ⟨.hbm, 339, rfl⟩
abbrev main_v234 : Ref sig .tc := ⟨.hbm, 340, rfl⟩
abbrev main_v235 : Ref sig .tc := ⟨.hbm, 341, rfl⟩
abbrev main_call10_v0 : Ref sig .tc := ⟨.hbm, 342, rfl⟩
abbrev main_call10_v1 : Ref sig .tc := ⟨.hbm, 343, rfl⟩
abbrev main_call10_cst : Ref sig .tc := ⟨.hbm, 344, rfl⟩
abbrev main_call10_v2 : Ref sig .tc := ⟨.hbm, 345, rfl⟩
abbrev main_call10_v3 : Ref sig .tc := ⟨.hbm, 346, rfl⟩
abbrev main_call10_cst_0 : Ref sig .tc := ⟨.hbm, 347, rfl⟩
abbrev main_call10_v4 : Ref sig .tc := ⟨.hbm, 348, rfl⟩
abbrev main_call10_v5 : Ref sig .tc := ⟨.hbm, 349, rfl⟩
abbrev main_v236 : Ref sig .tc := ⟨.hbm, 350, rfl⟩
abbrev main_v237 : Ref sig .tc := ⟨.hbm, 351, rfl⟩
abbrev main_v238 : Ref sig .tc := ⟨.hbm, 352, rfl⟩
abbrev main_v239 : Ref sig .tc := ⟨.hbm, 353, rfl⟩
abbrev main_v240 : Ref sig .tc := ⟨.hbm, 354, rfl⟩
abbrev main_v241 : Ref sig .tc := ⟨.hbm, 355, rfl⟩
abbrev main_v242 : Ref sig .tc := ⟨.hbm, 356, rfl⟩
abbrev main_v243 : Ref sig .tc := ⟨.hbm, 357, rfl⟩
abbrev main_v244 : Ref sig .tc := ⟨.hbm, 358, rfl⟩
abbrev main_v245 : Ref sig .tc := ⟨.hbm, 359, rfl⟩
abbrev main_v246 : Ref sig .tc := ⟨.hbm, 360, rfl⟩
abbrev main_v247 : Ref sig .tc := ⟨.hbm, 361, rfl⟩
abbrev main_v248 : Ref sig .tc := ⟨.hbm, 362, rfl⟩
abbrev main_v249 : Ref sig .tc := ⟨.hbm, 363, rfl⟩
abbrev main_v250 : Ref sig .tc := ⟨.hbm, 364, rfl⟩
abbrev main_call11_v0 : Ref sig .tc := ⟨.hbm, 365, rfl⟩
abbrev main_call11_v1 : Ref sig .tc := ⟨.hbm, 366, rfl⟩
abbrev main_call11_cst : Ref sig .tc := ⟨.hbm, 367, rfl⟩
abbrev main_call11_v2 : Ref sig .tc := ⟨.hbm, 368, rfl⟩
abbrev main_call11_v3 : Ref sig .tc := ⟨.hbm, 369, rfl⟩
abbrev main_call11_cst_0 : Ref sig .tc := ⟨.hbm, 370, rfl⟩
abbrev main_call11_v4 : Ref sig .tc := ⟨.hbm, 371, rfl⟩
abbrev main_call11_v5 : Ref sig .tc := ⟨.hbm, 372, rfl⟩
abbrev main_v251 : Ref sig .tc := ⟨.hbm, 373, rfl⟩
abbrev main_v252 : Ref sig .tc := ⟨.hbm, 374, rfl⟩
abbrev main_v253 : Ref sig .tc := ⟨.hbm, 375, rfl⟩
abbrev main_v254 : Ref sig .tc := ⟨.hbm, 376, rfl⟩
abbrev main_v255 : Ref sig .tc := ⟨.hbm, 377, rfl⟩
abbrev main_v256 : Ref sig .tc := ⟨.hbm, 378, rfl⟩
abbrev main_v257 : Ref sig .tc := ⟨.hbm, 379, rfl⟩
abbrev main_v258 : Ref sig .tc := ⟨.hbm, 380, rfl⟩
abbrev main_v259 : Ref sig .tc := ⟨.hbm, 381, rfl⟩
abbrev main_v260 : Ref sig .tc := ⟨.hbm, 382, rfl⟩
abbrev main_v261 : Ref sig .tc := ⟨.hbm, 383, rfl⟩
abbrev main_v262 : Ref sig .tc := ⟨.hbm, 384, rfl⟩
abbrev main_v263 : Ref sig .tc := ⟨.hbm, 385, rfl⟩
abbrev main_v264 : Ref sig .tc := ⟨.hbm, 386, rfl⟩
abbrev main_v265 : Ref sig .tc := ⟨.hbm, 387, rfl⟩
abbrev main_call12_v0 : Ref sig .tc := ⟨.hbm, 388, rfl⟩
abbrev main_call12_v1 : Ref sig .tc := ⟨.hbm, 389, rfl⟩
abbrev main_call12_cst : Ref sig .tc := ⟨.hbm, 390, rfl⟩
abbrev main_call12_v2 : Ref sig .tc := ⟨.hbm, 391, rfl⟩
abbrev main_call12_v3 : Ref sig .tc := ⟨.hbm, 392, rfl⟩
abbrev main_call12_cst_0 : Ref sig .tc := ⟨.hbm, 393, rfl⟩
abbrev main_call12_v4 : Ref sig .tc := ⟨.hbm, 394, rfl⟩
abbrev main_call12_v5 : Ref sig .tc := ⟨.hbm, 395, rfl⟩
abbrev main_v266 : Ref sig .tc := ⟨.hbm, 396, rfl⟩
abbrev main_v267 : Ref sig .tc := ⟨.hbm, 397, rfl⟩
abbrev main_v268 : Ref sig .tc := ⟨.hbm, 398, rfl⟩
abbrev main_v269 : Ref sig .tc := ⟨.hbm, 399, rfl⟩
abbrev main_v270 : Ref sig .tc := ⟨.hbm, 400, rfl⟩
abbrev main_v271 : Ref sig .tc := ⟨.hbm, 401, rfl⟩
abbrev main_v272 : Ref sig .tc := ⟨.hbm, 402, rfl⟩
abbrev main_v273 : Ref sig .tc := ⟨.hbm, 403, rfl⟩
abbrev main_v274 : Ref sig .tc := ⟨.hbm, 404, rfl⟩
abbrev main_v275 : Ref sig .tc := ⟨.hbm, 405, rfl⟩
abbrev main_v276 : Ref sig .tc := ⟨.hbm, 406, rfl⟩
abbrev main_v277 : Ref sig .tc := ⟨.hbm, 407, rfl⟩
abbrev main_v278 : Ref sig .tc := ⟨.hbm, 408, rfl⟩
abbrev main_v279 : Ref sig .tc := ⟨.hbm, 409, rfl⟩
abbrev main_v280 : Ref sig .tc := ⟨.hbm, 410, rfl⟩
abbrev main_call13_v0 : Ref sig .tc := ⟨.hbm, 411, rfl⟩
abbrev main_call13_v1 : Ref sig .tc := ⟨.hbm, 412, rfl⟩
abbrev main_call13_cst : Ref sig .tc := ⟨.hbm, 413, rfl⟩
abbrev main_call13_v2 : Ref sig .tc := ⟨.hbm, 414, rfl⟩
abbrev main_call13_v3 : Ref sig .tc := ⟨.hbm, 415, rfl⟩
abbrev main_call13_cst_0 : Ref sig .tc := ⟨.hbm, 416, rfl⟩
abbrev main_call13_v4 : Ref sig .tc := ⟨.hbm, 417, rfl⟩
abbrev main_call13_v5 : Ref sig .tc := ⟨.hbm, 418, rfl⟩
abbrev main_v281 : Ref sig .tc := ⟨.hbm, 419, rfl⟩
abbrev main_v282 : Ref sig .tc := ⟨.hbm, 420, rfl⟩
abbrev main_v283 : Ref sig .tc := ⟨.hbm, 421, rfl⟩
abbrev main_v284 : Ref sig .tc := ⟨.hbm, 422, rfl⟩
abbrev main_v285 : Ref sig .tc := ⟨.hbm, 423, rfl⟩
abbrev main_v286 : Ref sig .tc := ⟨.hbm, 424, rfl⟩
abbrev main_v287 : Ref sig .tc := ⟨.hbm, 425, rfl⟩
abbrev main_v288 : Ref sig .tc := ⟨.hbm, 426, rfl⟩
abbrev main_v289 : Ref sig .tc := ⟨.hbm, 427, rfl⟩
abbrev main_v290 : Ref sig .tc := ⟨.hbm, 428, rfl⟩
abbrev main_v291 : Ref sig .tc := ⟨.hbm, 429, rfl⟩
abbrev main_v292 : Ref sig .tc := ⟨.hbm, 430, rfl⟩
abbrev main_v293 : Ref sig .tc := ⟨.hbm, 431, rfl⟩
abbrev main_v294 : Ref sig .tc := ⟨.hbm, 432, rfl⟩
abbrev main_v295 : Ref sig .tc := ⟨.hbm, 433, rfl⟩
abbrev main_call14_v0 : Ref sig .tc := ⟨.hbm, 434, rfl⟩
abbrev main_call14_v1 : Ref sig .tc := ⟨.hbm, 435, rfl⟩
abbrev main_call14_cst : Ref sig .tc := ⟨.hbm, 436, rfl⟩
abbrev main_call14_v2 : Ref sig .tc := ⟨.hbm, 437, rfl⟩
abbrev main_call14_v3 : Ref sig .tc := ⟨.hbm, 438, rfl⟩
abbrev main_call14_cst_0 : Ref sig .tc := ⟨.hbm, 439, rfl⟩
abbrev main_call14_v4 : Ref sig .tc := ⟨.hbm, 440, rfl⟩
abbrev main_call14_v5 : Ref sig .tc := ⟨.hbm, 441, rfl⟩
abbrev main_v296 : Ref sig .tc := ⟨.hbm, 442, rfl⟩
abbrev main_v297 : Ref sig .tc := ⟨.hbm, 443, rfl⟩
abbrev main_v298 : Ref sig .tc := ⟨.hbm, 444, rfl⟩
abbrev main_v299 : Ref sig .tc := ⟨.hbm, 445, rfl⟩
abbrev main_v300 : Ref sig .tc := ⟨.hbm, 446, rfl⟩
abbrev main_v301 : Ref sig .tc := ⟨.hbm, 447, rfl⟩
abbrev main_v302 : Ref sig .tc := ⟨.hbm, 448, rfl⟩
abbrev main_v303 : Ref sig .tc := ⟨.hbm, 449, rfl⟩
abbrev main_v304 : Ref sig .tc := ⟨.hbm, 450, rfl⟩
abbrev main_v305 : Ref sig .tc := ⟨.hbm, 451, rfl⟩
abbrev main_v306 : Ref sig .tc := ⟨.hbm, 452, rfl⟩
abbrev main_v307 : Ref sig .tc := ⟨.hbm, 453, rfl⟩
abbrev main_v308 : Ref sig .tc := ⟨.hbm, 454, rfl⟩
abbrev main_v309 : Ref sig .tc := ⟨.hbm, 455, rfl⟩
abbrev main_v310 : Ref sig .tc := ⟨.hbm, 456, rfl⟩
abbrev main_call15_v0 : Ref sig .tc := ⟨.hbm, 457, rfl⟩
abbrev main_call15_v1 : Ref sig .tc := ⟨.hbm, 458, rfl⟩
abbrev main_call15_cst : Ref sig .tc := ⟨.hbm, 459, rfl⟩
abbrev main_call15_v2 : Ref sig .tc := ⟨.hbm, 460, rfl⟩
abbrev main_call15_v3 : Ref sig .tc := ⟨.hbm, 461, rfl⟩
abbrev main_call15_cst_0 : Ref sig .tc := ⟨.hbm, 462, rfl⟩
abbrev main_call15_v4 : Ref sig .tc := ⟨.hbm, 463, rfl⟩
abbrev main_call15_v5 : Ref sig .tc := ⟨.hbm, 464, rfl⟩
abbrev main_v311 : Ref sig .tc := ⟨.hbm, 465, rfl⟩
abbrev main_v312 : Ref sig .tc := ⟨.hbm, 466, rfl⟩
abbrev main_v313 : Ref sig .tc := ⟨.hbm, 467, rfl⟩
abbrev main_v314 : Ref sig .tc := ⟨.hbm, 468, rfl⟩
abbrev main_v315 : Ref sig .tc := ⟨.hbm, 469, rfl⟩
abbrev main_v316 : Ref sig .tc := ⟨.hbm, 470, rfl⟩
abbrev main_v317 : Ref sig .tc := ⟨.hbm, 471, rfl⟩
abbrev main_v318 : Ref sig .tc := ⟨.hbm, 472, rfl⟩
abbrev main_v319 : Ref sig .tc := ⟨.hbm, 473, rfl⟩
abbrev main_v320 : Ref sig .tc := ⟨.hbm, 474, rfl⟩
abbrev main_v321 : Ref sig .tc := ⟨.hbm, 475, rfl⟩
abbrev main_v322 : Ref sig .tc := ⟨.hbm, 476, rfl⟩
abbrev main_v323 : Ref sig .tc := ⟨.hbm, 477, rfl⟩
abbrev main_v324 : Ref sig .tc := ⟨.hbm, 478, rfl⟩
abbrev main_v325 : Ref sig .tc := ⟨.hbm, 479, rfl⟩
abbrev main_call16_v0 : Ref sig .tc := ⟨.hbm, 480, rfl⟩
abbrev main_call16_v1 : Ref sig .tc := ⟨.hbm, 481, rfl⟩
abbrev main_call16_cst : Ref sig .tc := ⟨.hbm, 482, rfl⟩
abbrev main_call16_v2 : Ref sig .tc := ⟨.hbm, 483, rfl⟩
abbrev main_call16_v3 : Ref sig .tc := ⟨.hbm, 484, rfl⟩
abbrev main_call16_cst_0 : Ref sig .tc := ⟨.hbm, 485, rfl⟩
abbrev main_call16_v4 : Ref sig .tc := ⟨.hbm, 486, rfl⟩
abbrev main_call16_v5 : Ref sig .tc := ⟨.hbm, 487, rfl⟩
abbrev main_v326 : Ref sig .tc := ⟨.hbm, 488, rfl⟩
abbrev main_v327 : Ref sig .tc := ⟨.hbm, 489, rfl⟩
abbrev main_v328 : Ref sig .tc := ⟨.hbm, 490, rfl⟩
abbrev main_v329 : Ref sig .tc := ⟨.hbm, 491, rfl⟩
abbrev main_v330 : Ref sig .tc := ⟨.hbm, 492, rfl⟩
abbrev main_v331 : Ref sig .tc := ⟨.hbm, 493, rfl⟩
abbrev main_v332 : Ref sig .tc := ⟨.hbm, 494, rfl⟩
abbrev main_v333 : Ref sig .tc := ⟨.hbm, 495, rfl⟩
abbrev main_v334 : Ref sig .tc := ⟨.hbm, 496, rfl⟩
abbrev main_v335 : Ref sig .tc := ⟨.hbm, 497, rfl⟩
abbrev main_v336 : Ref sig .tc := ⟨.hbm, 498, rfl⟩
abbrev main_v337 : Ref sig .tc := ⟨.hbm, 499, rfl⟩
abbrev main_v338 : Ref sig .tc := ⟨.hbm, 500, rfl⟩
abbrev main_v339 : Ref sig .tc := ⟨.hbm, 501, rfl⟩
abbrev main_v340 : Ref sig .tc := ⟨.hbm, 502, rfl⟩
abbrev main_call17_v0 : Ref sig .tc := ⟨.hbm, 503, rfl⟩
abbrev main_call17_v1 : Ref sig .tc := ⟨.hbm, 504, rfl⟩
abbrev main_call17_cst : Ref sig .tc := ⟨.hbm, 505, rfl⟩
abbrev main_call17_v2 : Ref sig .tc := ⟨.hbm, 506, rfl⟩
abbrev main_call17_v3 : Ref sig .tc := ⟨.hbm, 507, rfl⟩
abbrev main_call17_cst_0 : Ref sig .tc := ⟨.hbm, 508, rfl⟩
abbrev main_call17_v4 : Ref sig .tc := ⟨.hbm, 509, rfl⟩
abbrev main_call17_v5 : Ref sig .tc := ⟨.hbm, 510, rfl⟩
abbrev main_v341 : Ref sig .tc := ⟨.hbm, 511, rfl⟩
abbrev main_v342 : Ref sig .tc := ⟨.hbm, 512, rfl⟩
abbrev main_v343 : Ref sig .tc := ⟨.hbm, 513, rfl⟩
abbrev main_v344 : Ref sig .tc := ⟨.hbm, 514, rfl⟩
abbrev main_v345 : Ref sig .tc := ⟨.hbm, 515, rfl⟩
abbrev main_v346 : Ref sig .tc := ⟨.hbm, 516, rfl⟩
abbrev main_v347 : Ref sig .tc := ⟨.hbm, 517, rfl⟩
abbrev main_v348 : Ref sig .tc := ⟨.hbm, 518, rfl⟩
abbrev main_v349 : Ref sig .tc := ⟨.hbm, 519, rfl⟩
abbrev main_v350 : Ref sig .tc := ⟨.hbm, 520, rfl⟩
abbrev main_cst_20 : Ref sig .tc := ⟨.hbm, 521, rfl⟩
abbrev main_v351 : Ref sig .tc := ⟨.hbm, 522, rfl⟩
abbrev main_v352 : Ref sig .tc := ⟨.hbm, 523, rfl⟩
abbrev main_cst_21 : Ref sig .tc := ⟨.hbm, 524, rfl⟩
abbrev main_v353 : Ref sig .tc := ⟨.hbm, 525, rfl⟩
abbrev main_v354 : Ref sig .tc := ⟨.hbm, 526, rfl⟩
abbrev main_v355 : Ref sig .tc := ⟨.hbm, 527, rfl⟩
abbrev main_v356 : Ref sig .tc := ⟨.hbm, 528, rfl⟩
abbrev main_v357 : Ref sig .tc := ⟨.hbm, 529, rfl⟩
abbrev main_cst_22 : Ref sig .tc := ⟨.hbm, 530, rfl⟩
abbrev main_v358 : Ref sig .tc := ⟨.hbm, 531, rfl⟩
abbrev main_v359 : Ref sig .tc := ⟨.hbm, 532, rfl⟩
abbrev main_cst_23 : Ref sig .tc := ⟨.hbm, 533, rfl⟩
abbrev main_v360 : Ref sig .tc := ⟨.hbm, 534, rfl⟩
abbrev main_v361 : Ref sig .tc := ⟨.hbm, 535, rfl⟩
abbrev main_v362 : Ref sig .tc := ⟨.hbm, 536, rfl⟩
abbrev main_v363 : Ref sig .tc := ⟨.hbm, 537, rfl⟩
abbrev main_cst_24 : Ref sig .tc := ⟨.hbm, 538, rfl⟩
abbrev main_v364 : Ref sig .tc := ⟨.hbm, 539, rfl⟩
abbrev main_v365 : Ref sig .tc := ⟨.hbm, 540, rfl⟩
abbrev main_v366 : Ref sig .tc := ⟨.hbm, 541, rfl⟩
abbrev main_v367 : Ref sig .tc := ⟨.hbm, 542, rfl⟩
abbrev main_v368 : Ref sig .tc := ⟨.hbm, 543, rfl⟩
abbrev main_v369 : Ref sig .tc := ⟨.hbm, 544, rfl⟩
abbrev main_v370 : Ref sig .tc := ⟨.hbm, 545, rfl⟩
abbrev main_v371 : Ref sig .tc := ⟨.hbm, 546, rfl⟩
abbrev main_v372 : Ref sig .tc := ⟨.hbm, 547, rfl⟩
abbrev main_v373 : Ref sig .tc := ⟨.hbm, 548, rfl⟩
abbrev main_v374 : Ref sig .tc := ⟨.hbm, 549, rfl⟩
abbrev main_v375 : Ref sig .tc := ⟨.hbm, 550, rfl⟩
abbrev main_v376 : Ref sig .tc := ⟨.hbm, 551, rfl⟩

abbrev nD : Nat := 1
abbrev τ : Topo := Topo.v7x

variable {F : FTy → Type} [FloatOps F]
-- ==== Proof.AttnMath.lean ====
module

public import Idealize.ShloMosaic.PureOps
public import Idealize.ShloMosaic.PureOps.Ideal.Laws
public import Mathlib.Data.EReal.Operations
public import Mathlib.Data.EReal.Inv

@[expose] public section

noncomputable section

namespace Cert.Attn

open Idealize.ShloMosaic

/-- The maximum of a row of scores and of the sink's logit. -/
def top {n : ℕ} (s : Fin n → EReal) (z : EReal) : EReal := max (Finset.fold max ⊥ s Finset.univ) z

/-- The divisor of the softmax: the scores' exponentials and the sink's. -/
def den {n : ℕ} (s : Fin n → EReal) (z : EReal) : EReal :=
  ∑ x, Ideal.exp (s x - top s z) + Ideal.exp (z - top s z)

/-- The weighted sum of the values, divided once. -/
def once {n : ℕ} (s v : Fin n → EReal) (z : EReal) : EReal :=
  Ideal.div (∑ x, Ideal.exp (s x - top s z) * v x) (den s z)

/-- The sum of the values, each by its own normalised weight. -/
def each {n : ℕ} (s v : Fin n → EReal) (z : EReal) : EReal :=
  ∑ x, Ideal.div (Ideal.exp (s x - top s z)) (den s z) * v x

theorem fold_ne_top {n : ℕ} (s : Fin n → EReal) (hs : ∀ x, s x ≠ ⊤) (S : Finset (Fin n)) : Finset.fold max ⊥ s S ≠ ⊤ := by
  induction S using Finset.induction_on with
  | empty => simp
  | insert a S ha ih =>
    rw [Finset.fold_insert ha]
    rcases max_choice (s a) (Finset.fold max ⊥ s S) with h | h <;> rw [h]
    · exact hs a
    · exact ih

theorem top_real {n : ℕ} (s : Fin n → EReal) (hs : ∀ x, s x ≠ ⊤) (z : ℝ) : ∃ t : ℝ, top s z = t := by
  have h1 : top s z ≠ ⊤ := by
    unfold top
    rcases max_choice (Finset.fold max ⊥ s Finset.univ) (z : EReal) with h | h <;> rw [h]
    · exact fold_ne_top s hs _
    · exact EReal.coe_ne_top z
  have h2 : top s z ≠ ⊥ := by
    intro h
    have : (z : EReal) ≤ top s z := le_max_right _ _
    rw [h] at this
    exact EReal.coe_ne_bot z (le_bot_iff.mp this)
  exact ⟨(top s z).toReal, (EReal.coe_toReal h1 h2).symm⟩

theorem exp_nonneg_real (a : EReal) (ha : a ≠ ⊤) : ∃ t : ℝ, 0 ≤ t ∧ Ideal.exp a = t := by
  induction a with
  | bot => exact ⟨0, le_refl _, by simp⟩
  | coe a => exact ⟨Real.exp a, (Real.exp_pos a).le, by simp⟩
  | top => exact absurd rfl ha

theorem sub_real_ne_top (a : EReal) (ha : a ≠ ⊤) (t : ℝ) : a - (t : EReal) ≠ ⊤ := by
  induction a with
  | bot => simp
  | coe a => rw [← EReal.coe_sub]; exact EReal.coe_ne_top _
  | top => exact absurd rfl ha

theorem sum_real {ι : Type*} (S : Finset ι) (f : ι → EReal) (h : ∀ x, ∃ t : ℝ, 0 ≤ t ∧ f x = t) :
    ∃ t : ℝ, 0 ≤ t ∧ ∑ x ∈ S, f x = t := by
  choose g hg hf using h
  refine ⟨∑ x ∈ S, g x, Finset.sum_nonneg fun x _ => hg x, ?_⟩
  simp only [hf]
  exact (map_sum (⟨⟨fun r : ℝ => (r : EReal), EReal.coe_zero⟩, EReal.coe_add⟩ : ℝ →+ EReal) g S).symm

theorem den_pos {n : ℕ} (s : Fin n → EReal) (hs : ∀ x, s x ≠ ⊤) (z : ℝ) : ∃ d : ℝ, 0 < d ∧ den s z = d := by
  obtain ⟨t, ht⟩ := top_real s hs z
  obtain ⟨a, ha, h⟩ := sum_real Finset.univ (fun x => Ideal.exp (s x - top s z))
    (fun x => exp_nonneg_real _ (by rw [ht]; exact sub_real_ne_top _ (hs x) t))
  refine ⟨a + Real.exp (z - t), by positivity, ?_⟩
  unfold den
  rw [h, ht, ← EReal.coe_sub, Ideal.exp_coe, EReal.coe_add]

theorem sum_mul_real {ι : Type*} (S : Finset ι) (f : ι → EReal) (a : EReal) (h0 : 0 ≤ a) (h1 : a ≠ ⊤) :
    (∑ x ∈ S, f x) * a = ∑ x ∈ S, f x * a := by
  classical
  induction S using Finset.induction_on with
  | empty => simp
  | insert b S hb ih => rw [Finset.sum_insert hb, Finset.sum_insert hb, EReal.right_distrib_of_nonneg_of_ne_top h0 h1, ih]

/-- One division after the sum is a division of every weight, when no score is ⊤ and the sink is a real number. -/
theorem once_eq_each {n : ℕ} (s v : Fin n → EReal) (z : ℝ) (hs : ∀ x, s x ≠ ⊤) : once s v z = each s v z := by
  obtain ⟨d, hd, h⟩ := den_pos s hs z
  unfold once each
  rw [h, Ideal.div_coe hd.ne', sum_mul_real _ _ _ (by exact_mod_cast (one_div_pos.mpr hd).le) (EReal.coe_ne_top _)]
  refine Finset.sum_congr rfl fun x _ => ?_
  rw [Ideal.div_coe hd.ne', mul_right_comm]

/-- The values at masked keys do not matter. -/
theorem once_congr {n : ℕ} (s v w : Fin n → EReal) (z : EReal) (h : ∀ x, s x = ⊥ ∨ v x = w x) : once s v z = once s w z := by
  unfold once
  congr 1
  refine Finset.sum_congr rfl fun x _ => ?_
  rcases h x with hx | hx
  · rw [hx, EReal.bot_sub, Ideal.exp_bot, zero_mul, zero_mul]
  · rw [hx]

/-- The scale of the scores. -/
def eighth : EReal := Ideal.ofBits .f32 0x3E000000#32

theorem eighth_eq : eighth = ((1 / 8 : ℝ) : EReal) := by
  simp [eighth, Ideal.ofBits, Ideal.ieee, -EReal.coe_mul]; norm_num

theorem minus_inf : Ideal.ofBits .f32 4286578688#32 = ⊥ := by
  simp [Ideal.ofBits, Ideal.ieee]

/-- A scaled product of a key and a query of 64 numbers. -/
def dot8 (k q : Fin 64 → EReal) : EReal := (∑ l, k l * q l) * eighth

/-- Lane `l` of the first 64 of 128. -/
def lo (l : Fin 64) : Fin 128 := ⟨l, by omega⟩

/-- Lane `l` of the last 64 of 128. -/
def hi (l : Fin 64) : Fin 128 := ⟨64 + l, by omega⟩

theorem lo_roll (l : Fin 64) : (⟨((lo l : ℕ) + 64) % 128, Nat.mod_lt _ (by decide)⟩ : Fin 128) = hi l := by
  apply Fin.ext; simp only [lo, hi]; omega

theorem hi_roll (l : Fin 64) : (⟨((hi l : ℕ) + 64) % 128, Nat.mod_lt _ (by decide)⟩ : Fin 128) = lo l := by
  apply Fin.ext; simp only [lo, hi]; omega

theorem sum_lanes (f : Fin 128 → EReal) : ∑ x, f x = ∑ l, f (lo l) + ∑ l, f (hi l) :=
  Fin.sum_univ_add (M := EReal) (a := 64) (b := 64) f

theorem scaled (k q : Fin 64 → EReal) : ∑ l, q l * eighth * k l = dot8 k q := by
  rw [dot8, sum_mul_real _ _ _ (by rw [eighth_eq]; exact_mod_cast (by norm_num : (0 : ℝ) ≤ 1 / 8)) (by rw [eighth_eq]; exact EReal.coe_ne_top _)]
  exact Finset.sum_congr rfl fun l _ => by rw [mul_right_comm, mul_comm (q l)]

theorem sum_lo (k q : Fin 128 → EReal) :
    ∑ x : Fin 128, (if (x : ℕ) < 64 then q x * eighth else 0) * k x = dot8 (fun l => k (lo l)) (fun l => q (lo l)) := by
  rw [sum_lanes, ← scaled]
  have h1 : ∀ l : Fin 64, ((lo l : Fin 128) : ℕ) < 64 := fun l => l.isLt
  have h2 : ∀ l : Fin 64, ¬((hi l : Fin 128) : ℕ) < 64 := fun l => by simp [hi]
  simp only [h1, h2, if_true, if_false, zero_mul, Finset.sum_const_zero, add_zero]

theorem sum_hi (k q : Fin 128 → EReal) :
    ∑ x : Fin 128, (if (x : ℕ) < 64 then 0 else q x * eighth) * k x = dot8 (fun l => k (hi l)) (fun l => q (hi l)) := by
  rw [sum_lanes, ← scaled]
  have h1 : ∀ l : Fin 64, ((lo l : Fin 128) : ℕ) < 64 := fun l => l.isLt
  have h2 : ∀ l : Fin 64, ¬((hi l : Fin 128) : ℕ) < 64 := fun l => by simp [hi]
  simp only [h1, h2, if_true, if_false, zero_mul, Finset.sum_const_zero, zero_add]

/-- A score of the 896 keys of a latent row, with the masks of the block before and of the block after. -/
def masked (b0 b1 : Fin 128 → EReal) (n : Fin 896) (a : EReal) : EReal :=
  if h : (n : ℕ) < 128 then a + b0 ⟨n, h⟩
  else if (n : ℕ) - 128 < 128 then a
  else if h : (n : ℕ) - 128 - 128 < 128 then a + b1 ⟨n - 128 - 128, h⟩
  else a

/-- Entry `n` of four runs of 128, 128, 128 and 512 one after the other. -/
def stack (a b c : Fin 128 → EReal) (d : Fin 512 → EReal) (n : Fin 896) : EReal :=
  if h : (n : ℕ) < 128 then a ⟨n, h⟩
  else if h : (n : ℕ) - 128 < 128 then b ⟨n - 128, h⟩
  else if h : (n : ℕ) - 128 - 128 < 128 then c ⟨n - 128 - 128, h⟩
  else d ⟨n - 128 - 128 - 128, by omega⟩

/-- The query head of a result column. -/
def headOf (j : Fin 512) : Fin 8 := ⟨j / 64, by omega⟩

/-- The column of the queries that entry `l` of a result column's head is in. -/
def qCol (j : Fin 512) (l : Fin 64) : Fin 512 := ⟨64 * (j / 64) + l, by omega⟩

/-- The column of the keys that entry `l` of a result column's group is in. -/
def kCol (j : Fin 512) (l : Fin 64) : Fin 128 := ⟨64 * (j / 256) + l, by omega⟩

/-- The column of the values that a result column weighs. -/
def vCol (j : Fin 512) : Fin 128 := ⟨64 * (j / 256) + j % 64, by omega⟩

end Cert.Attn
-- ==== Proof.AttnVocab.lean ====
module

public import proofs.«01_k».proof.Proof.Gen.KernelIdeal.Skeleton
public import Idealize.ShloMosaic.Lib.Pipeline.ValueKit
public import Idealize.ShloMosaic.Lib.Pointwise
public import proofs.«01_k».proof.Proof.AttnMath

@[expose] public section

set_option maxRecDepth 16384

noncomputable section

namespace Cert.KernelIdeal.Attn

open Cert.Attn
open Idealize.ShloMosaic Idealize.SL.Sem
open Cert.KernelIdeal Cert.KernelIdeal.Gen

/-- The queries of an even head: the first 64 columns scaled, the others zero. -/
def qLo (q : FVec Ideal S128x128 .f32) : FVec Ideal S128x128 .bf16 :=
  truncf .bf16 (select k0_pay12 (mulf q (broadcast S128x128 (Scalar.ofBits .f32 0x3E000000#32)))
    (broadcast S128x128 (Scalar.ofBits .f32 0x00000000#32))) bitsLt_bf16_f32

/-- The queries of an odd head: the last 64 columns scaled, the others zero. -/
def qHi (q : FVec Ideal S128x128 .f32) : FVec Ideal S128x128 .bf16 :=
  truncf .bf16 (select (xori k0_pay12 (constantI S128x128 1 1#1)) (mulf q (broadcast S128x128 (Scalar.ofBits .f32 0x3E000000#32)))
    (broadcast S128x128 (Scalar.ofBits .f32 0x00000000#32))) bitsLt_bf16_f32

/-- Context scores. -/
def scA (q : FVec Ideal S128x128 .bf16) (k : FVec Ideal S256x128 .bf16) : FVec Ideal S128x256 .f32 :=
  matmul dot_S128x128_S256x128_S128x256_1_1_0_0_n_n none q k (constant S128x256 .f32 0x00000000#32)

/-- The row maximum of context scores, the sink among them. -/
def mxA (s : FVec Ideal S128x256 .f32) (z : Ideal .f32) : FVec Ideal S128x1 .f32 :=
  maximumf (shapeCast S128x1 (multiReduction .maximumf [1] S128 s 0xFF800000#32 reduces_S128x256_S128 (.inl rfl) rfl)
    shapeCasts_S128_S128x1) (broadcast S128x1 z)

/-- The exponentials of context scores. -/
def exA (s : FVec Ideal S128x256 .f32) (z : Ideal .f32) : FVec Ideal S128x256 .f32 :=
  exp (subf s (broadcastTo S128x256 (mxA s z) broadcasts_S128x1_S128x256))

/-- The divisor of context scores. -/
def dnA (s : FVec Ideal S128x256 .f32) (z : Ideal .f32) : FVec Ideal S128x1 .f32 :=
  addf (shapeCast S128x1 (multiReduction .add [1] S128 (exA s z) 0x00000000#32 reduces_S128x256_S128 (.inl rfl) rfl)
    shapeCasts_S128_S128x1) (exp (subf (broadcast S128x1 z) (mxA s z)))

/-- One context head's output, in all 128 columns. -/
def headA (s : FVec Ideal S128x256 .f32) (v : FVec Ideal S256x128 .bf16) (z : Ideal .f32) : FVec Ideal S128x128 .f32 :=
  divf (matmul dot_S128x256_S256x128_S128x128_1_0_0_1_n_n none (truncf .bf16 (exA s z) bitsLt_bf16_f32) v
    (constant S128x128 .f32 0x00000000#32)) (broadcastTo S128x128 (dnA s z) broadcasts_S128x1_S128x128)

/-- The comparison of a lane number with 64, as a truth value. -/
theorem low_lane (x : Fin 128) : (IntOp.cmpi CmpIPredicate.slt (BitVec.ofNat 32 x) 64#32 = 1) = ((x : ℕ) < 64) := by
  have : ∀ x : Fin 128, (IntOp.cmpi CmpIPredicate.slt (BitVec.ofNat 32 x) 64#32 = 1) ↔ ((x : ℕ) < 64) := by decide +kernel
  exact propext (this x)

/-- Its negation. -/
theorem high_lane (x : Fin 128) : (IntOp.xori (IntOp.cmpi CmpIPredicate.slt (BitVec.ofNat 32 x) 64#32) 1#1 = 1) = ¬((x : ℕ) < 64) := by
  have : ∀ x : Fin 128, (IntOp.xori (IntOp.cmpi CmpIPredicate.slt (BitVec.ofNat 32 x) 64#32) 1#1 = 1) ↔ ¬((x : ℕ) < 64) := by decide +kernel
  exact propext (this x)

theorem qLo_at (q : FVec Ideal S128x128 .f32) (r c : Fin 128) :
    qLo q (ix2 r c) = if (c : ℕ) < 64 then q (ix2 r c) * eighth else 0 := by
  pointwise [qLo, k0_pay12]
  rw [Scalar.select]
  simp only [low_lane, eighth]

theorem qHi_at (q : FVec Ideal S128x128 .f32) (r c : Fin 128) :
    qHi q (ix2 r c) = if (c : ℕ) < 64 then 0 else q (ix2 r c) * eighth := by
  pointwise [qHi, k0_pay12]
  rw [Scalar.select]
  simp only [high_lane, eighth, ite_not]

theorem scA_at (q : FVec Ideal S128x128 .bf16) (k : FVec Ideal S256x128 .bf16) (r : Fin 128) (n : Fin 256) :
    scA q k (ix2 r n) = ∑ x : Fin 128, q (ix2 r x) * k (ix2 n x) := by
  pointwise [scA]

theorem mxA_at (s : FVec Ideal S128x256 .f32) (z : Ideal .f32) (r : Fin 128) (n : Fin 1) :
    mxA s z (ix2 r n) = top (fun x : Fin 256 => s (ix2 r x)) z := by
  pointwise [mxA]
  rw [top, minus_inf]

theorem headA_at (s : FVec Ideal S128x256 .f32) (v : FVec Ideal S256x128 .bf16) (z : Ideal .f32) (r n : Fin 128) :
    headA s v z (ix2 r n) = once (fun x : Fin 256 => s (ix2 r x)) (fun x => v (ix2 x n)) z := by
  pointwise [headA, dnA, exA, mxA_at]
  rfl

/-- The 128 columns of two heads, the even head's in the first half. -/
theorem pair_at (a b : FVec Ideal S128x128 .f32) (r c : Fin 128) :
    select k0_pay12 a b (ix2 r c) = if (c : ℕ) < 64 then a (ix2 r c) else b (ix2 r c) := by
  pointwise [k0_pay12]
  rw [Scalar.select]
  simp only [low_lane]

theorem rollA_at (s : Vec Ideal S256x128 .f32)  (r : Fin 256) (n : Fin 128) :
    k0_pay9 s (ix2 r n) = s (ix2 r ⟨(n + 64) % 128, Nat.mod_lt _ (by decide)⟩) := by
  pointwise [k0_pay9]
  blk_ext

/-- The scores of an even head against keys in its own column half. -/
theorem scA_lo_same (q : FVec Ideal S128x128 .f32) (k : Vec Ideal S256x128 .f32) (r : Fin 128) (n : Fin 256) :
    scA (qLo q) (k0_pay8 k) (ix2 r n) = dot8 (fun l => k (ix2 n (lo l))) (fun l => q (ix2 r (lo l))) := by
  rw [scA_at]
  simp only [qLo_at]
  exact sum_lo (fun x => k (ix2 n x)) (fun x => q (ix2 r x))

/-- The scores of an even head against keys in the other column half. -/
theorem scA_lo_swap (q : FVec Ideal S128x128 .f32) (k : Vec Ideal S256x128 .f32) (r : Fin 128) (n : Fin 256) :
    scA (qLo q) (k0_pay9 k) (ix2 r n) = dot8 (fun l => k (ix2 n (hi l))) (fun l => q (ix2 r (lo l))) := by
  rw [scA_at]
  simp only [qLo_at, rollA_at]
  rw [sum_lo (fun x => k (ix2 n ⟨(x + 64) % 128, Nat.mod_lt _ (by decide)⟩)) (fun x => q (ix2 r x))]
  congr 1; funext l; congr 2; exact lo_roll l

theorem scA_hi_same (q : FVec Ideal S128x128 .f32) (k : Vec Ideal S256x128 .f32) (r : Fin 128) (n : Fin 256) :
    scA (qHi q) (k0_pay8 k) (ix2 r n) = dot8 (fun l => k (ix2 n (hi l))) (fun l => q (ix2 r (hi l))) := by
  rw [scA_at]
  simp only [qHi_at]
  exact sum_hi (fun x => k (ix2 n x)) (fun x => q (ix2 r x))

theorem scA_hi_swap (q : FVec Ideal S128x128 .f32) (k : Vec Ideal S256x128 .f32) (r : Fin 128) (n : Fin 256) :
    scA (qHi q) (k0_pay9 k) (ix2 r n) = dot8 (fun l => k (ix2 n (lo l))) (fun l => q (ix2 r (hi l))) := by
  rw [scA_at]
  simp only [qHi_at, rollA_at]
  rw [sum_hi (fun x => k (ix2 n ⟨(x + 64) % 128, Nat.mod_lt _ (by decide)⟩)) (fun x => q (ix2 r x))]
  congr 1; funext l; congr 2; exact hi_roll l

end Cert.KernelIdeal.Attn
-- ==== Proof.AttnLatent.lean ====
module

public import proofs.«01_k».proof.Proof.AttnVocab

@[expose] public section

set_option maxRecDepth 16384

noncomputable section

namespace Cert.KernelIdeal.Attn

open Cert.Attn
open Idealize.ShloMosaic Idealize.SL.Sem
open Cert.KernelIdeal Cert.KernelIdeal.Gen

/-- Latent scores, the masks added to the keys of the blocks before and after. -/
def scB (q : FVec Ideal S128x128 .bf16) (k : FVec Ideal S896x128 .bf16) (b0 b1 : FVec Ideal S128x128 .f32) : FVec Ideal S128x896 .f32 :=
  k0_pay67 b0 b1 (matmul dot_S128x128_S896x128_S128x896_1_1_0_0_n_n none q k (constant S128x896 .f32 0x00000000#32))

/-- The row maximum of latent scores, the sink among them. -/
def mxB (s : FVec Ideal S128x896 .f32) (z : Ideal .f32) : FVec Ideal S128x1 .f32 :=
  maximumf (shapeCast S128x1 (multiReduction .maximumf [1] S128 s 0xFF800000#32 reduces_S128x896_S128 (.inl rfl) rfl)
    shapeCasts_S128_S128x1) (broadcast S128x1 z)

/-- The exponentials of latent scores. -/
def exB (s : FVec Ideal S128x896 .f32) (z : Ideal .f32) : FVec Ideal S128x896 .f32 :=
  exp (subf s (broadcastTo S128x896 (mxB s z) broadcasts_S128x1_S128x896))

/-- The divisor of latent scores. -/
def dnB (s : FVec Ideal S128x896 .f32) (z : Ideal .f32) : FVec Ideal S128x1 .f32 :=
  addf (shapeCast S128x1 (multiReduction .add [1] S128 (exB s z) 0x00000000#32 reduces_S128x896_S128 (.inl rfl) rfl)
    shapeCasts_S128_S128x1) (exp (subf (broadcast S128x1 z) (mxB s z)))

/-- One latent head's output, in all 128 columns. -/
def headB (s : FVec Ideal S128x896 .f32) (v : FVec Ideal S896x128 .bf16) (z : Ideal .f32) : FVec Ideal S128x128 .f32 :=
  divf (matmul dot_S128x896_S896x128_S128x128_1_0_0_1_n_n none (truncf .bf16 (exB s z) bitsLt_bf16_f32) v
    (constant S128x128 .f32 0x00000000#32)) (broadcastTo S128x128 (dnB s z) broadcasts_S128x1_S128x128)

theorem scB_at (q : FVec Ideal S128x128 .bf16) (k : FVec Ideal S896x128 .bf16) (b0 b1 : FVec Ideal S128x128 .f32)
    (r : Fin 128) (n : Fin 896) :
    scB q k b0 b1 (ix2 r n) = masked (fun x => b0 (ix2 r x)) (fun x => b1 (ix2 r x)) n (∑ x : Fin 128, q (ix2 r x) * k (ix2 n x)) := by
  pointwise [scB, k0_pay67]
  rw [masked]
  split_ifs <;> blk_point []

theorem mxB_at (s : FVec Ideal S128x896 .f32) (z : Ideal .f32) (r : Fin 128) (n : Fin 1) :
    mxB s z (ix2 r n) = top (fun x : Fin 896 => s (ix2 r x)) z := by
  pointwise [mxB]
  rw [top, minus_inf]

theorem headB_at (s : FVec Ideal S128x896 .f32) (v : FVec Ideal S896x128 .bf16) (z : Ideal .f32) (r n : Fin 128) :
    headB s v z (ix2 r n) = once (fun x : Fin 896 => s (ix2 r x)) (fun x => v (ix2 x n)) z := by
  pointwise [headB, dnB, exB, mxB_at]
  rfl

theorem rollB_at (s : FVec Ideal S896x128 .f32)  (r : Fin 896) (n : Fin 128) :
    k0_pay57 s (ix2 r n) = s (ix2 r ⟨(n + 64) % 128, Nat.mod_lt _ (by decide)⟩) := by
  pointwise [k0_pay57]
  blk_ext

theorem stack_at (a b c : Vec Ideal S128x128 .f32) (d : Vec Ideal S1x512x128 .f32) (n : Fin 896) (x : Fin 128) :
    k0_pay51 a b c d (ix2 n x)
      = stack (fun k => a (ix2 k x)) (fun k => b (ix2 k x)) (fun k => c (ix2 k x)) (fun k => d (ix3 0 k x)) n := by
  pointwise [k0_pay51]
  rw [stack]

theorem mask_value : Named.named (F := Ideal) κ "mask" (φ := .f32) 4048155338#32 = (⊥ : EReal) :=
  IdealRules.named_const.ideal_named_scalar _ _ _ _ rfl

/-- A lane number as a signed word. -/
theorem lane_int (r : Fin 128) : (BitVec.ofNat 32 r).toInt = ((r : ℕ) : ℤ) := by
  have : ∀ r : Fin 128, (BitVec.ofNat 32 r).toInt = ((r : ℕ) : ℤ) := by decide +kernel
  exact this r

theorem lane_le (r x : Fin 128) : (IntOp.cmpi CmpIPredicate.sge (BitVec.ofNat 32 x) (BitVec.ofNat 32 r) = 1) = ((r : ℕ) ≤ x) := by
  by_cases h : (r : ℕ) ≤ x <;> simp [IntOp.cmpi, BitVec.sle, lane_int, h]

theorem lane_ge (r x : Fin 128) : (IntOp.cmpi CmpIPredicate.sle (BitVec.ofNat 32 x) (BitVec.ofNat 32 r) = 1) = ((x : ℕ) ≤ r) := by
  by_cases h : (x : ℕ) ≤ r <;> simp [IntOp.cmpi, BitVec.sle, lane_int, h]

/-- The mask of the block before: keys not before the window's start, and only where there is such a block. -/
theorem bias0_at (w : BitVec 1) (r x : Fin 128) :
    k0_pay54 (F := Ideal) k0_pay53 w (Scalar.ofBits .f32 0x00000000#32) (Named.named κ "mask" 0xF149F2CA#32) (ix2 r x)
      = (if (r : ℕ) ≤ x then 0 else ⊥) + (if w = 1 then 0 else ⊥) := by
  pointwise [k0_pay54, k0_pay53]
  rw [Scalar.select, Scalar.select]
  simp only [mask_value, lane_le]

/-- The mask of the block after: keys not past the window's end, and only where there is such a block. -/
theorem bias1_at (w : BitVec 32) (r x : Fin 128) :
    k0_pay55 (F := Ideal) w (iota .tc S128x128 32 [0] iota_S128x128_d0_w32) (iota .tc S128x128 32 [1] iota_S128x128_d1_w32) (ix2 r x)
      = (if (x : ℕ) ≤ r then 0 else ⊥) + (if Scalar.cmpi CmpIPredicate.slt w 31#32 = 1 then 0 else ⊥) := by
  pointwise [k0_pay55]
  rw [Scalar.select, Scalar.select]
  simp only [mask_value, lane_ge]

/-- The scores of an even head against keys in its own column half. -/
theorem mmB_lo_same (q : FVec Ideal S128x128 .f32) (k : FVec Ideal S896x128 .f32) (r : Fin 128) (n : Fin 896) :
    ∑ x : Fin 128, qLo q (ix2 r x) * k0_pay56 k (ix2 n x) = dot8 (fun l => k (ix2 n (lo l))) (fun l => q (ix2 r (lo l))) := by
  simp only [qLo_at]
  exact sum_lo (fun x => k (ix2 n x)) (fun x => q (ix2 r x))

/-- The scores of an even head against keys in the other column half. -/
theorem mmB_lo_swap (q : FVec Ideal S128x128 .f32) (k : FVec Ideal S896x128 .f32) (r : Fin 128) (n : Fin 896) :
    ∑ x : Fin 128, qLo q (ix2 r x) * k0_pay57 k (ix2 n x) = dot8 (fun l => k (ix2 n (hi l))) (fun l => q (ix2 r (lo l))) := by
  simp only [qLo_at, rollB_at]
  rw [sum_lo (fun x => k (ix2 n ⟨(x + 64) % 128, Nat.mod_lt _ (by decide)⟩)) (fun x => q (ix2 r x))]
  congr 1; funext l; congr 2; exact lo_roll l

theorem mmB_hi_same (q : FVec Ideal S128x128 .f32) (k : FVec Ideal S896x128 .f32) (r : Fin 128) (n : Fin 896) :
    ∑ x : Fin 128, qHi q (ix2 r x) * k0_pay56 k (ix2 n x) = dot8 (fun l => k (ix2 n (hi l))) (fun l => q (ix2 r (hi l))) := by
  simp only [qHi_at]
  exact sum_hi (fun x => k (ix2 n x)) (fun x => q (ix2 r x))

theorem mmB_hi_swap (q : FVec Ideal S128x128 .f32) (k : FVec Ideal S896x128 .f32) (r : Fin 128) (n : Fin 896) :
    ∑ x : Fin 128, qHi q (ix2 r x) * k0_pay57 k (ix2 n x) = dot8 (fun l => k (ix2 n (lo l))) (fun l => q (ix2 r (hi l))) := by
  simp only [qHi_at, rollB_at]
  rw [sum_hi (fun x => k (ix2 n ⟨(x + 64) % 128, Nat.mod_lt _ (by decide)⟩)) (fun x => q (ix2 r x))]
  congr 1; funext l; congr 2; exact hi_roll l

end Cert.KernelIdeal.Attn
-- ==== Proof.AttnBlockA.lean ====
module

public import proofs.«01_k».proof.Proof.Gen.KernelIdeal.Value
public import Idealize.ShloMosaic.Lib.Pipeline.ValueKit
public import Idealize.ShloMosaic.Lib.Pointwise
public import proofs.«01_k».proof.Proof.AttnLatent

@[expose] public section

set_option maxRecDepth 16384

noncomputable section

namespace Cert.KernelIdeal.Attn

open Cert.Attn
open Idealize.ShloMosaic Idealize.ShloMosaic.TcCoe Idealize.SL.Sem
open Cert.KernelIdeal Cert.KernelIdeal.Gen

theorem rollV_at (v : Vec Ideal S256x128 .f32) (r : Fin 256) (n : Fin 128) :
    k0_pay11 v (ix2 r n) = v (ix2 r ⟨(n + 64) % 128, Nat.mod_lt _ (by decide)⟩) := rollA_at v r n

/-- Two heads of the first group. -/
theorem lowA (qp : Vec Ideal S128x128 .f32) (k v : Vec Ideal S256x128 .f32) (z0 z1 : Ideal .f32) (r c : Fin 128) :
    select k0_pay12 (headA (scA (qLo qp) (k0_pay8 k)) (k0_pay10 v) z0) (headA (scA (qHi qp) (k0_pay9 k)) (k0_pay11 v) z1) (ix2 r c)
      = once (fun n : Fin 256 => dot8 (fun l => k (ix2 n (lo l))) (fun l => qp (ix2 r ⟨64 * (c / 64) + l, by omega⟩)))
          (fun n : Fin 256 => v (ix2 n ⟨c % 64, by omega⟩)) (if (c : ℕ) < 64 then z0 else z1) := by
  rw [pair_at, headA_at, headA_at]
  by_cases h : (c : ℕ) < 64
  · simp only [if_pos h, scA_lo_same]
    have e1 : ∀ l : Fin 64, lo l = ⟨64 * ((c : ℕ) / 64) + l, by omega⟩ := fun l => Fin.ext (by simp only [lo]; omega)
    have e2 : (⟨(c : ℕ) % 64, by omega⟩ : Fin 128) = c := Fin.ext (by dsimp only; omega)
    simp only [← e1, e2]
    rfl
  · simp only [if_neg h, scA_hi_swap, rollV_at]
    have e1 : ∀ l : Fin 64, hi l = ⟨64 * ((c : ℕ) / 64) + l, by omega⟩ := fun l => Fin.ext (by simp only [hi]; omega)
    have e2 : (⟨((c : ℕ) + 64) % 128, Nat.mod_lt _ (by decide)⟩ : Fin 128) = ⟨(c : ℕ) % 64, by omega⟩ := Fin.ext (by dsimp only; omega)
    simp only [← e1, e2]

/-- Two heads of the second group. -/
theorem highA (qp : Vec Ideal S128x128 .f32) (k v : Vec Ideal S256x128 .f32) (z0 z1 : Ideal .f32) (r c : Fin 128) :
    select k0_pay12 (headA (scA (qLo qp) (k0_pay9 k)) (k0_pay11 v) z0) (headA (scA (qHi qp) (k0_pay8 k)) (k0_pay10 v) z1) (ix2 r c)
      = once (fun n : Fin 256 => dot8 (fun l => k (ix2 n (hi l))) (fun l => qp (ix2 r ⟨64 * (c / 64) + l, by omega⟩)))
          (fun n : Fin 256 => v (ix2 n ⟨64 + c % 64, by omega⟩)) (if (c : ℕ) < 64 then z0 else z1) := by
  rw [pair_at, headA_at, headA_at]
  by_cases h : (c : ℕ) < 64
  · simp only [if_pos h, scA_lo_swap, rollV_at]
    have e1 : ∀ l : Fin 64, lo l = ⟨64 * ((c : ℕ) / 64) + l, by omega⟩ := fun l => Fin.ext (by simp only [lo]; omega)
    have e2 : (⟨((c : ℕ) + 64) % 128, Nat.mod_lt _ (by decide)⟩ : Fin 128) = ⟨64 + (c : ℕ) % 64, by omega⟩ := Fin.ext (by dsimp only; omega)
    simp only [← e1, e2]
  · simp only [if_neg h, scA_hi_same]
    have e1 : ∀ l : Fin 64, hi l = ⟨64 * ((c : ℕ) / 64) + l, by omega⟩ := fun l => Fin.ext (by simp only [hi]; omega)
    have e2 : (⟨64 + (c : ℕ) % 64, by omega⟩ : Fin 128) = c := Fin.ext (by dsimp only; omega)
    simp only [← e1, e2]
    rfl

/-- The 128 columns of a block of queries from column `o` on. -/
def colsOf (q : FVec Ideal S128x512 .f32) (o : ℕ) (h : o ≤ 384) : FVec Ideal S128x128 .f32 :=
  fun x => q (ix2 (x 0) ⟨o + (x 1).val, by have : (x 1).val < 128 := (x 1).isLt; omega⟩)

theorem ld_cols (q : FVec Ideal S128x512 .f32) (o : ℕ) (h : o ≤ 384) (inb) :
    View.ld (Val := Elt Ideal) (e' := .f32) q (Rect.unit (s := S128x512) ![0, o] ![128, 128] inb) = colsOf q o h := by
  funext x
  rw [View.ld_apply]
  refine congrArg q (funext fun a => Fin.ext ?_)
  fin_cases a <;> simp [ix2]

theorem ld_z (z : FVec Ideal S8 .f32) (o : Fin 8) (n : ℕ) (hn : n = o) (inb) (i) :
    View.ld (Val := Elt Ideal) (e' := .f32) z (Rect.unit (s := S8) ![n] ![1] inb) i = z (ix1 o) := by
  subst hn
  rw [View.ld_apply]
  refine congrArg z (funext fun a => Fin.ext ?_)
  fin_cases a
  have : (i 0).val < 1 := (i 0).isLt
  simp [ix1]

/-- A tile of the low group at an index of the block. -/
theorem low_piece (q : FVec Ideal S128x512 .f32) (k v : FVec Ideal S256x128 .f32) (z : FVec Ideal S8 .f32)
    (y : S128x512.Idx) (x : S128x128.Idx) (o : ℕ) (ho : o ≤ 384) (hg : o = 0 ∨ o = 128) (e0 e1 : Fin 8)
    (he0 : (e0 : ℕ) = o / 64) (he1 : (e1 : ℕ) = o / 64 + 1)
    (h0 : ((y 0 : Fin 128) : ℕ) = ((x 0 : Fin 128) : ℕ)) (h1 : ((y 1 : Fin 512) : ℕ) = o + ((x 1 : Fin 128) : ℕ)) :
    select k0_pay12 (headA (scA (qLo (colsOf q o ho)) (k0_pay8 k)) (k0_pay10 v) (z (ix1 e0)))
      (headA (scA (qHi (colsOf q o ho)) (k0_pay9 k)) (k0_pay11 v) (z (ix1 e1))) x
      = once (fun n : Fin 256 => dot8 (fun l => k (ix2 n (kCol (y 1) l))) (fun l => q (ix2 (y 0) (qCol (y 1) l))))
        (fun n : Fin 256 => v (ix2 n (vCol (y 1)))) (z (ix1 (headOf (y 1)))) := by
  obtain ⟨r, c, rfl⟩ : ∃ (r c : Fin 128), x = ix2 r c := ⟨x 0, x 1, eq_ix2 x⟩
  obtain ⟨r', j, rfl⟩ : ∃ (r : Fin 128) (j : Fin 512), y = ix2 r j := ⟨y 0, y 1, eq_ix2 y⟩
  change (r' : ℕ) = (r : ℕ) at h0
  change (j : ℕ) = o + (c : ℕ) at h1
  obtain rfl : r' = r := Fin.ext h0
  rw [lowA]
  change _ = once (fun n : Fin 256 => dot8 (fun l => k (ix2 n (kCol j l))) (fun l => q (ix2 r' (qCol j l))))
        (fun n : Fin 256 => v (ix2 n (vCol j))) (z (ix1 (headOf j)))
  have hk : ∀ l : Fin 64, lo l = kCol j l := fun l => Fin.ext (by simp only [lo, kCol]; omega)
  have hv : (⟨(c : ℕ) % 64, by omega⟩ : Fin 128) = vCol j := Fin.ext (by simp only [vCol]; omega)
  have hq : ∀ l : Fin 64, colsOf q o ho (ix2 r' ⟨64 * ((c : ℕ) / 64) + l, by omega⟩) = q (ix2 r' (qCol j l)) := fun l => by
    have : (⟨o + (64 * ((c : ℕ) / 64) + l), by omega⟩ : Fin 512) = qCol j l := Fin.ext (by simp only [qCol]; omega)
    rw [← this, colsOf]
    rfl
  have hz : (if (c : ℕ) < 64 then z (ix1 e0) else z (ix1 e1)) = z (ix1 (headOf j)) := by
    split_ifs
    · have : e0 = headOf j := Fin.ext (by simp only [headOf]; omega)
      rw [this]
    · have : e1 = headOf j := Fin.ext (by simp only [headOf]; omega)
      rw [this]
  simp only [hk, hv, hq, hz]

/-- A tile of the high group at an index of the block. -/
theorem high_piece (q : FVec Ideal S128x512 .f32) (k v : FVec Ideal S256x128 .f32) (z : FVec Ideal S8 .f32)
    (y : S128x512.Idx) (x : S128x128.Idx) (o : ℕ) (ho : o ≤ 384) (hg : o = 256 ∨ o = 384) (e0 e1 : Fin 8)
    (he0 : (e0 : ℕ) = o / 64) (he1 : (e1 : ℕ) = o / 64 + 1)
    (h0 : ((y 0 : Fin 128) : ℕ) = ((x 0 : Fin 128) : ℕ)) (h1 : ((y 1 : Fin 512) : ℕ) = o + ((x 1 : Fin 128) : ℕ)) :
    select k0_pay12 (headA (scA (qLo (colsOf q o ho)) (k0_pay9 k)) (k0_pay11 v) (z (ix1 e0)))
      (headA (scA (qHi (colsOf q o ho)) (k0_pay8 k)) (k0_pay10 v) (z (ix1 e1))) x
      = once (fun n : Fin 256 => dot8 (fun l => k (ix2 n (kCol (y 1) l))) (fun l => q (ix2 (y 0) (qCol (y 1) l))))
        (fun n : Fin 256 => v (ix2 n (vCol (y 1)))) (z (ix1 (headOf (y 1)))) := by
  obtain ⟨r, c, rfl⟩ : ∃ (r c : Fin 128), x = ix2 r c := ⟨x 0, x 1, eq_ix2 x⟩
  obtain ⟨r', j, rfl⟩ : ∃ (r : Fin 128) (j : Fin 512), y = ix2 r j := ⟨y 0, y 1, eq_ix2 y⟩
  change (r' : ℕ) = (r : ℕ) at h0
  change (j : ℕ) = o + (c : ℕ) at h1
  obtain rfl : r' = r := Fin.ext h0
  rw [highA]
  change _ = once (fun n : Fin 256 => dot8 (fun l => k (ix2 n (kCol j l))) (fun l => q (ix2 r' (qCol j l))))
        (fun n : Fin 256 => v (ix2 n (vCol j))) (z (ix1 (headOf j)))
  have hk : ∀ l : Fin 64, hi l = kCol j l := fun l => Fin.ext (by simp only [hi, kCol]; omega)
  have hv : (⟨64 + (c : ℕ) % 64, by omega⟩ : Fin 128) = vCol j := Fin.ext (by simp only [vCol]; omega)
  have hq : ∀ l : Fin 64, colsOf q o ho (ix2 r' ⟨64 * ((c : ℕ) / 64) + l, by omega⟩) = q (ix2 r' (qCol j l)) := fun l => by
    have : (⟨o + (64 * ((c : ℕ) / 64) + l), by omega⟩ : Fin 512) = qCol j l := Fin.ext (by simp only [qCol]; omega)
    rw [← this, colsOf]
    rfl
  have hz : (if (c : ℕ) < 64 then z (ix1 e0) else z (ix1 e1)) = z (ix1 (headOf j)) := by
    split_ifs
    · have : e0 = headOf j := Fin.ext (by simp only [headOf]; omega)
      rw [this]
    · have : e1 = headOf j := Fin.ext (by simp only [headOf]; omega)
      rw [this]
  simp only [hk, hv, hq, hz]

variable (m : (ℓ : Loc nD τ sig) → Buf (Elt Ideal) ℓ)

/-- A context block: each entry an average of its sequence's values. -/
theorem blockA (c : Dev nD) (t : Fin cfg0.N) (h0 : t.val < 64) (h1 : ¬64 ≤ t.val) (y : S128x512.Idx)
    (q : FVec Ideal S128x512 .f32) (k v : FVec Ideal S256x128 .f32) (z : FVec Ideal S8 .f32)
    (hq : iblk m c 0 t = q) (hk : iblk m c 1 t = k) (hv : iblk m c 2 t = v) (hz : iblk m c 11 t = z) :
    outsAt0 m c t.val t.isLt y = once (fun n : Fin 256 => dot8 (fun l => k (ix2 n (kCol (y 1) l))) (fun l => q (ix2 (y 0) (qCol (y 1) l))))
      (fun n : Fin 256 => v (ix2 n (vCol (y 1)))) (z (ix1 (headOf (y 1)))) := by
  rw [outsAt0_A m c t h0 h1]
  frame_out
  rw [hq, hk, hv, hz]
  canon_tiles x h
  case piece0 =>
    refine Eq.trans (b := select k0_pay12
      (headA (scA (qLo (colsOf q 384 (by decide))) (k0_pay9 k)) (k0_pay11 v) (z (ix1 6)))
      (headA (scA (qHi (colsOf q 384 (by decide))) (k0_pay8 k)) (k0_pay10 v) (z (ix1 7))) x) ?_ ?_
    · rw [← ld_cols q 384, ← ld_z z 6 6 rfl inb_S8_S1_6 (Shape.Idx.first (by decide)), ← ld_z z 7 7 rfl inb_S8_S1_7 (Shape.Idx.first (by decide))]
      with_unfolding_all rfl
    exact high_piece q k v z y x 384 (by decide) (by decide) 6 7 (by decide) (by decide) h0 (by omega)
  case piece1 =>
    refine Eq.trans (b := select k0_pay12
      (headA (scA (qLo (colsOf q 256 (by decide))) (k0_pay9 k)) (k0_pay11 v) (z (ix1 4)))
      (headA (scA (qHi (colsOf q 256 (by decide))) (k0_pay8 k)) (k0_pay10 v) (z (ix1 5))) x) ?_ ?_
    · rw [← ld_cols q 256, ← ld_z z 4 4 rfl inb_S8_S1_4 (Shape.Idx.first (by decide)), ← ld_z z 5 5 rfl inb_S8_S1_5 (Shape.Idx.first (by decide))]
      with_unfolding_all rfl
    exact high_piece q k v z y x 256 (by decide) (by decide) 4 5 (by decide) (by decide) h0 (by omega)
  case piece2 =>
    refine Eq.trans (b := select k0_pay12
      (headA (scA (qLo (colsOf q 128 (by decide))) (k0_pay8 k)) (k0_pay10 v) (z (ix1 2)))
      (headA (scA (qHi (colsOf q 128 (by decide))) (k0_pay9 k)) (k0_pay11 v) (z (ix1 3))) x) ?_ ?_
    · rw [← ld_cols q 128, ← ld_z z 2 2 rfl inb_S8_S1_2 (Shape.Idx.first (by decide)), ← ld_z z 3 3 rfl inb_S8_S1_3 (Shape.Idx.first (by decide))]
      with_unfolding_all rfl
    exact low_piece q k v z y x 128 (by decide) (by decide) 2 3 (by decide) (by decide) h0 (by omega)
  case piece3 =>
    refine Eq.trans (b := select k0_pay12
      (headA (scA (qLo (colsOf q 0 (by decide))) (k0_pay8 k)) (k0_pay10 v) (z (ix1 0)))
      (headA (scA (qHi (colsOf q 0 (by decide))) (k0_pay9 k)) (k0_pay11 v) (z (ix1 1))) x) ?_ ?_
    · rw [← ld_cols q 0, ← ld_z z 0 0 rfl inb_S8_S1_0 (Shape.Idx.first (by decide)), ← ld_z z 1 1 rfl inb_S8_S1_1 (Shape.Idx.first (by decide))]
      with_unfolding_all rfl
    exact low_piece q k v z y x 0 (by decide) (by decide) 0 1 (by decide) (by decide) h0 (by omega)

end Cert.KernelIdeal.Attn
-- ==== Proof.AttnBlockB.lean ====
module

public import proofs.«01_k».proof.Proof.Gen.KernelIdeal.Value
public import Idealize.ShloMosaic.Lib.Pipeline.ValueKit
public import Idealize.ShloMosaic.Lib.Pointwise
public import proofs.«01_k».proof.Proof.AttnBlockA

@[expose] public section

set_option maxRecDepth 16384

noncomputable section

namespace Cert.KernelIdeal.Attn

open Cert.Attn
open Idealize.ShloMosaic Idealize.ShloMosaic.TcCoe Idealize.SL.Sem
open Cert.KernelIdeal Cert.KernelIdeal.Gen

/-- The tile index of a latent block, as the kernel computes it from the grid point. -/
def tileWord (p : BitVec 32) : BitVec 32 :=
  Scalar.select
    (Scalar.andi
      (Scalar.xori (Scalar.cmpi CmpIPredicate.slt (Scalar.remsi (Scalar.subi p 64#32) 32#32) 0#32) 0#1)
      (Scalar.cmpi CmpIPredicate.ne (Scalar.remsi (Scalar.subi p 64#32) 32#32) 0#32))
    (Scalar.addi (Scalar.remsi (Scalar.subi p 64#32) 32#32) 32#32)
    (Scalar.remsi (Scalar.subi p 64#32) 32#32)

/-- The mask that the kernel adds to the block before. -/
def biasL (w : BitVec 32) : FVec Ideal S128x128 .f32 :=
  k0_pay54 (F := Ideal) k0_pay53 (Scalar.cmpi CmpIPredicate.sgt w 0#32) (Scalar.ofBits .f32 0x00000000#32) (Named.named κ "mask" 0xF149F2CA#32)

/-- The mask that the kernel adds to the block after. -/
def biasR (w : BitVec 32) : FVec Ideal S128x128 .f32 :=
  k0_pay55 (F := Ideal) w (iota .tc S128x128 32 [0] iota_S128x128_d0_w32) (iota .tc S128x128 32 [1] iota_S128x128_d1_w32)

theorem sameB_at (v : FVec Ideal S896x128 .f32) (r : Fin 896) (n : Fin 128) : k0_pay58 v (ix2 r n) = v (ix2 r n) := rfl

theorem swapB_at (v : FVec Ideal S896x128 .f32) (r : Fin 896) (n : Fin 128) :
    k0_pay59 v (ix2 r n) = v (ix2 r ⟨(n + 64) % 128, Nat.mod_lt _ (by decide)⟩) := rollB_at v r n

/-- Two latent heads of the first group. -/
theorem lowB (qp : Vec Ideal S128x128 .f32) (k v : FVec Ideal S896x128 .f32) (b0 b1 : FVec Ideal S128x128 .f32) (z0 z1 : Ideal .f32) (r c : Fin 128) :
    select k0_pay12 (headB (scB (qLo qp) (k0_pay56 k) b0 b1) (k0_pay58 v) z0) (headB (scB (qHi qp) (k0_pay57 k) b0 b1) (k0_pay59 v) z1) (ix2 r c)
      = once (fun n : Fin 896 => masked (fun x => b0 (ix2 r x)) (fun x => b1 (ix2 r x)) n
          (dot8 (fun l => k (ix2 n (lo l))) (fun l => qp (ix2 r ⟨64 * (c / 64) + l, by omega⟩))))
          (fun n : Fin 896 => v (ix2 n ⟨c % 64, by omega⟩)) (if (c : ℕ) < 64 then z0 else z1) := by
  rw [pair_at, headB_at, headB_at]
  by_cases h : (c : ℕ) < 64
  · simp only [if_pos h, scB_at, mmB_lo_same, sameB_at]
    have e1 : ∀ l : Fin 64, lo l = ⟨64 * ((c : ℕ) / 64) + l, by omega⟩ := fun l => Fin.ext (by simp only [lo]; omega)
    have e2 : (⟨(c : ℕ) % 64, by omega⟩ : Fin 128) = c := Fin.ext (by dsimp only; omega)
    simp only [← e1, e2]
  · simp only [if_neg h, scB_at, mmB_hi_swap, swapB_at]
    have e1 : ∀ l : Fin 64, hi l = ⟨64 * ((c : ℕ) / 64) + l, by omega⟩ := fun l => Fin.ext (by simp only [hi]; omega)
    have e2 : (⟨((c : ℕ) + 64) % 128, Nat.mod_lt _ (by decide)⟩ : Fin 128) = ⟨(c : ℕ) % 64, by omega⟩ := Fin.ext (by dsimp only; omega)
    simp only [← e1, e2]

/-- Two latent heads of the second group. -/
theorem highB (qp : Vec Ideal S128x128 .f32) (k v : FVec Ideal S896x128 .f32) (b0 b1 : FVec Ideal S128x128 .f32) (z0 z1 : Ideal .f32) (r c : Fin 128) :
    select k0_pay12 (headB (scB (qLo qp) (k0_pay57 k) b0 b1) (k0_pay59 v) z0) (headB (scB (qHi qp) (k0_pay56 k) b0 b1) (k0_pay58 v) z1) (ix2 r c)
      = once (fun n : Fin 896 => masked (fun x => b0 (ix2 r x)) (fun x => b1 (ix2 r x)) n
          (dot8 (fun l => k (ix2 n (hi l))) (fun l => qp (ix2 r ⟨64 * (c / 64) + l, by omega⟩))))
          (fun n : Fin 896 => v (ix2 n ⟨64 + c % 64, by omega⟩)) (if (c : ℕ) < 64 then z0 else z1) := by
  rw [pair_at, headB_at, headB_at]
  by_cases h : (c : ℕ) < 64
  · simp only [if_pos h, scB_at, mmB_lo_swap, swapB_at]
    have e1 : ∀ l : Fin 64, lo l = ⟨64 * ((c : ℕ) / 64) + l, by omega⟩ := fun l => Fin.ext (by simp only [lo]; omega)
    have e2 : (⟨((c : ℕ) + 64) % 128, Nat.mod_lt _ (by decide)⟩ : Fin 128) = ⟨64 + (c : ℕ) % 64, by omega⟩ := Fin.ext (by dsimp only; omega)
    simp only [← e1, e2]
  · simp only [if_neg h, scB_at, mmB_hi_same, sameB_at]
    have e1 : ∀ l : Fin 64, hi l = ⟨64 * ((c : ℕ) / 64) + l, by omega⟩ := fun l => Fin.ext (by simp only [hi]; omega)
    have e2 : (⟨64 + (c : ℕ) % 64, by omega⟩ : Fin 128) = c := Fin.ext (by dsimp only; omega)
    simp only [← e1, e2]

/-- A latent tile of the low group at an index of the block. -/
theorem lowB_piece (q : FVec Ideal S128x512 .f32) (k v : FVec Ideal S896x128 .f32) (b0 b1 : FVec Ideal S128x128 .f32) (z : FVec Ideal S8 .f32)
    (y : S128x512.Idx) (x : S128x128.Idx) (o : ℕ) (ho : o ≤ 384) (hg : o = 0 ∨ o = 128) (e0 e1 : Fin 8)
    (he0 : (e0 : ℕ) = o / 64) (he1 : (e1 : ℕ) = o / 64 + 1)
    (h0 : ((y 0 : Fin 128) : ℕ) = ((x 0 : Fin 128) : ℕ)) (h1 : ((y 1 : Fin 512) : ℕ) = o + ((x 1 : Fin 128) : ℕ)) :
    select k0_pay12 (headB (scB (qLo (colsOf q o ho)) (k0_pay56 k) b0 b1) (k0_pay58 v) (z (ix1 e0)))
      (headB (scB (qHi (colsOf q o ho)) (k0_pay57 k) b0 b1) (k0_pay59 v) (z (ix1 e1))) x
      = once (fun n : Fin 896 => masked (fun x => b0 (ix2 (y 0) x)) (fun x => b1 (ix2 (y 0) x)) n
          (dot8 (fun l => k (ix2 n (kCol (y 1) l))) (fun l => q (ix2 (y 0) (qCol (y 1) l)))))
        (fun n : Fin 896 => v (ix2 n (vCol (y 1)))) (z (ix1 (headOf (y 1)))) := by
  obtain ⟨r, c, rfl⟩ : ∃ (r c : Fin 128), x = ix2 r c := ⟨x 0, x 1, eq_ix2 x⟩
  obtain ⟨r', j, rfl⟩ : ∃ (r : Fin 128) (j : Fin 512), y = ix2 r j := ⟨y 0, y 1, eq_ix2 y⟩
  change (r' : ℕ) = (r : ℕ) at h0
  change (j : ℕ) = o + (c : ℕ) at h1
  obtain rfl : r' = r := Fin.ext h0
  rw [lowB]
  change _ = once (fun n : Fin 896 => masked (fun x => b0 (ix2 r' x)) (fun x => b1 (ix2 r' x)) n
          (dot8 (fun l => k (ix2 n (kCol j l))) (fun l => q (ix2 r' (qCol j l)))))
        (fun n : Fin 896 => v (ix2 n (vCol j))) (z (ix1 (headOf j)))
  have hk : ∀ l : Fin 64, lo l = kCol j l := fun l => Fin.ext (by simp only [lo, kCol]; omega)
  have hv : (⟨(c : ℕ) % 64, by omega⟩ : Fin 128) = vCol j := Fin.ext (by simp only [vCol]; omega)
  have hq : ∀ l : Fin 64, colsOf q o ho (ix2 r' ⟨64 * ((c : ℕ) / 64) + l, by omega⟩) = q (ix2 r' (qCol j l)) := fun l => by
    have : (⟨o + (64 * ((c : ℕ) / 64) + l), by omega⟩ : Fin 512) = qCol j l := Fin.ext (by simp only [qCol]; omega)
    rw [← this, colsOf]
    rfl
  have hz : (if (c : ℕ) < 64 then z (ix1 e0) else z (ix1 e1)) = z (ix1 (headOf j)) := by
    split_ifs
    · have : e0 = headOf j := Fin.ext (by simp only [headOf]; omega)
      rw [this]
    · have : e1 = headOf j := Fin.ext (by simp only [headOf]; omega)
      rw [this]
  simp only [hk, hv, hq, hz]

/-- A latent tile of the high group at an index of the block. -/
theorem highB_piece (q : FVec Ideal S128x512 .f32) (k v : FVec Ideal S896x128 .f32) (b0 b1 : FVec Ideal S128x128 .f32) (z : FVec Ideal S8 .f32)
    (y : S128x512.Idx) (x : S128x128.Idx) (o : ℕ) (ho : o ≤ 384) (hg : o = 256 ∨ o = 384) (e0 e1 : Fin 8)
    (he0 : (e0 : ℕ) = o / 64) (he1 : (e1 : ℕ) = o / 64 + 1)
    (h0 : ((y 0 : Fin 128) : ℕ) = ((x 0 : Fin 128) : ℕ)) (h1 : ((y 1 : Fin 512) : ℕ) = o + ((x 1 : Fin 128) : ℕ)) :
    select k0_pay12 (headB (scB (qLo (colsOf q o ho)) (k0_pay57 k) b0 b1) (k0_pay59 v) (z (ix1 e0)))
      (headB (scB (qHi (colsOf q o ho)) (k0_pay56 k) b0 b1) (k0_pay58 v) (z (ix1 e1))) x
      = once (fun n : Fin 896 => masked (fun x => b0 (ix2 (y 0) x)) (fun x => b1 (ix2 (y 0) x)) n
          (dot8 (fun l => k (ix2 n (kCol (y 1) l))) (fun l => q (ix2 (y 0) (qCol (y 1) l)))))
        (fun n : Fin 896 => v (ix2 n (vCol (y 1)))) (z (ix1 (headOf (y 1)))) := by
  obtain ⟨r, c, rfl⟩ : ∃ (r c : Fin 128), x = ix2 r c := ⟨x 0, x 1, eq_ix2 x⟩
  obtain ⟨r', j, rfl⟩ : ∃ (r : Fin 128) (j : Fin 512), y = ix2 r j := ⟨y 0, y 1, eq_ix2 y⟩
  change (r' : ℕ) = (r : ℕ) at h0
  change (j : ℕ) = o + (c : ℕ) at h1
  obtain rfl : r' = r := Fin.ext h0
  rw [highB]
  change _ = once (fun n : Fin 896 => masked (fun x => b0 (ix2 r' x)) (fun x => b1 (ix2 r' x)) n
          (dot8 (fun l => k (ix2 n (kCol j l))) (fun l => q (ix2 r' (qCol j l)))))
        (fun n : Fin 896 => v (ix2 n (vCol j))) (z (ix1 (headOf j)))
  have hk : ∀ l : Fin 64, hi l = kCol j l := fun l => Fin.ext (by simp only [hi, kCol]; omega)
  have hv : (⟨64 + (c : ℕ) % 64, by omega⟩ : Fin 128) = vCol j := Fin.ext (by simp only [vCol]; omega)
  have hq : ∀ l : Fin 64, colsOf q o ho (ix2 r' ⟨64 * ((c : ℕ) / 64) + l, by omega⟩) = q (ix2 r' (qCol j l)) := fun l => by
    have : (⟨o + (64 * ((c : ℕ) / 64) + l), by omega⟩ : Fin 512) = qCol j l := Fin.ext (by simp only [qCol]; omega)
    rw [← this, colsOf]
    rfl
  have hz : (if (c : ℕ) < 64 then z (ix1 e0) else z (ix1 e1)) = z (ix1 (headOf j)) := by
    split_ifs
    · have : e0 = headOf j := Fin.ext (by simp only [headOf]; omega)
      rw [this]
    · have : e1 = headOf j := Fin.ext (by simp only [headOf]; omega)
      rw [this]
  simp only [hk, hv, hq, hz]

variable (m : (ℓ : Loc nD τ sig) → Buf (Elt Ideal) ℓ)

/-- A latent block: each entry an average of the values of the blocks around it and of the cache. -/
theorem blockB (c : Dev nD) (t : Fin cfg0.N) (h0 : ¬t.val < 64) (h1 : 64 ≤ t.val) (y : S128x512.Idx)
    (q : FVec Ideal S128x512 .f32) (ka kb kc va vb vc : FVec Ideal S128x128 .f32) (ck cv : FVec Ideal S1x512x128 .f32) (z : FVec Ideal S8 .f32)
    (k v : FVec Ideal S896x128 .f32) (b0 b1 : FVec Ideal S128x128 .f32)
    (hq : iblk m c 0 t = q) (hka : iblk m c 3 t = ka) (hkb : iblk m c 4 t = kb) (hkc : iblk m c 5 t = kc)
    (hva : iblk m c 6 t = va) (hvb : iblk m c 7 t = vb) (hvc : iblk m c 8 t = vc) (hck : iblk m c 9 t = ck)
    (hcv : iblk m c 10 t = cv) (hz : iblk m c 11 t = z)
    (hk : k0_pay51 (F := Ideal) ka kb kc ck = k) (hv : k0_pay52 (F := Ideal) va vb vc cv = v)
    (hb0 : biasL (tileWord (BitVec.ofNat 32 (grid0.coords t 0))) = b0) (hb1 : biasR (tileWord (BitVec.ofNat 32 (grid0.coords t 0))) = b1) :
    outsAt0 m c t.val t.isLt y = once (fun n : Fin 896 => masked (fun x => b0 (ix2 (y 0) x)) (fun x => b1 (ix2 (y 0) x)) n
          (dot8 (fun l => k (ix2 n (kCol (y 1) l))) (fun l => q (ix2 (y 0) (qCol (y 1) l)))))
        (fun n : Fin 896 => v (ix2 n (vCol (y 1)))) (z (ix1 (headOf (y 1)))) := by
  rw [outsAt0_B m c t h0 h1]
  frame_out
  rw [hq, hka, hkb, hkc, hva, hvb, hvc, hck, hcv, hz, hk, hv]
  unfold tileWord at hb0 hb1
  generalize Scalar.select
    (Scalar.andi
      (Scalar.xori (Scalar.cmpi CmpIPredicate.slt (Scalar.remsi (Scalar.subi (BitVec.ofNat 32 (grid0.coords t 0)) 64#32) 32#32) 0#32) 0#1)
      (Scalar.cmpi CmpIPredicate.ne (Scalar.remsi (Scalar.subi (BitVec.ofNat 32 (grid0.coords t 0)) 64#32) 32#32) 0#32))
    (Scalar.addi (Scalar.remsi (Scalar.subi (BitVec.ofNat 32 (grid0.coords t 0)) 64#32) 32#32) 32#32)
    (Scalar.remsi (Scalar.subi (BitVec.ofNat 32 (grid0.coords t 0)) 64#32) 32#32) = w at hb0 hb1 ⊢
  subst hb0 hb1
  canon_tiles x h
  case piece0 =>
    refine Eq.trans (b := select k0_pay12
      (headB (scB (qLo (colsOf q 384 (by decide))) (k0_pay57 k) (biasL w) (biasR w)) (k0_pay59 v) (z (ix1 6)))
      (headB (scB (qHi (colsOf q 384 (by decide))) (k0_pay56 k) (biasL w) (biasR w)) (k0_pay58 v) (z (ix1 7))) x) ?_ ?_
    · rw [← ld_cols q 384, ← ld_z z 6 6 rfl inb_S8_S1_6 (Shape.Idx.first (by decide)), ← ld_z z 7 7 rfl inb_S8_S1_7 (Shape.Idx.first (by decide))]
      with_unfolding_all rfl
    exact highB_piece q k v (biasL w) (biasR w) z y x 384 (by decide) (by decide) 6 7 (by decide) (by decide) h0 (by omega)
  case piece1 =>
    refine Eq.trans (b := select k0_pay12
      (headB (scB (qLo (colsOf q 256 (by decide))) (k0_pay57 k) (biasL w) (biasR w)) (k0_pay59 v) (z (ix1 4)))
      (headB (scB (qHi (colsOf q 256 (by decide))) (k0_pay56 k) (biasL w) (biasR w)) (k0_pay58 v) (z (ix1 5))) x) ?_ ?_
    · rw [← ld_cols q 256, ← ld_z z 4 4 rfl inb_S8_S1_4 (Shape.Idx.first (by decide)), ← ld_z z 5 5 rfl inb_S8_S1_5 (Shape.Idx.first (by decide))]
      with_unfolding_all rfl
    exact highB_piece q k v (biasL w) (biasR w) z y x 256 (by decide) (by decide) 4 5 (by decide) (by decide) h0 (by omega)
  case piece2 =>
    refine Eq.trans (b := select k0_pay12
      (headB (scB (qLo (colsOf q 128 (by decide))) (k0_pay56 k) (biasL w) (biasR w)) (k0_pay58 v) (z (ix1 2)))
      (headB (scB (qHi (colsOf q 128 (by decide))) (k0_pay57 k) (biasL w) (biasR w)) (k0_pay59 v) (z (ix1 3))) x) ?_ ?_
    · rw [← ld_cols q 128, ← ld_z z 2 2 rfl inb_S8_S1_2 (Shape.Idx.first (by decide)), ← ld_z z 3 3 rfl inb_S8_S1_3 (Shape.Idx.first (by decide))]
      with_unfolding_all rfl
    exact lowB_piece q k v (biasL w) (biasR w) z y x 128 (by decide) (by decide) 2 3 (by decide) (by decide) h0 (by omega)
  case piece3 =>
    refine Eq.trans (b := select k0_pay12
      (headB (scB (qLo (colsOf q 0 (by decide))) (k0_pay56 k) (biasL w) (biasR w)) (k0_pay58 v) (z (ix1 0)))
      (headB (scB (qHi (colsOf q 0 (by decide))) (k0_pay57 k) (biasL w) (biasR w)) (k0_pay59 v) (z (ix1 1))) x) ?_ ?_
    · rw [← ld_cols q 0, ← ld_z z 0 0 rfl inb_S8_S1_0 (Shape.Idx.first (by decide)), ← ld_z z 1 1 rfl inb_S8_S1_1 (Shape.Idx.first (by decide))]
      with_unfolding_all rfl
    exact lowB_piece q k v (biasL w) (biasR w) z y x 0 (by decide) (by decide) 0 1 (by decide) (by decide) h0 (by omega)

end Cert.KernelIdeal.Attn
-- ==== Proof.AttnWin.lean ====
module

public import proofs.«01_k».proof.Proof.AttnBlockB

@[expose] public section

set_option maxRecDepth 16384

noncomputable section

namespace Cert.KernelIdeal.Attn

open Cert.Attn
open Idealize.ShloMosaic Idealize.ShloMosaic.TcCoe Idealize.SL.Sem
open Cert.KernelIdeal Cert.KernelIdeal.Gen

/-- Which block each window holds, at every point. -/
theorem idx_all : ∀ t : Fin cfg0.N, win0_0.index t = ![t.val, 0] ∧ win0_11.index t = ![0] ∧ win0_12.index t = ![t.val, 0] :=
  (by decide +kernel : ∀ t : Fin grid0.N, _)

/-- … at a context point, which holds half a sequence's queries and the sequence's keys and values. -/
theorem idx_ctx : ∀ t : Fin cfg0.N, t.val < 64 → win0_1.index t = ![t.val / 2, 0] ∧ win0_2.index t = ![t.val / 2, 0] :=
  (by decide +kernel : ∀ t : Fin grid0.N, _)

/-- … at a latent point: the blocks before, at and after it, clamped to its sequence, and its sequence's cache. -/
theorem idx_lat : ∀ t : Fin cfg0.N, 64 ≤ t.val →
    win0_3.index t = ![if (t.val - 64) % 32 = 0 then t.val else t.val - 1, 0] ∧ win0_4.index t = ![t.val, 0]
    ∧ win0_5.index t = ![if (t.val - 64) % 32 = 31 then t.val else t.val + 1, 0]
    ∧ win0_6.index t = ![if (t.val - 64) % 32 = 0 then t.val else t.val - 1, 0] ∧ win0_7.index t = ![t.val, 0]
    ∧ win0_8.index t = ![if (t.val - 64) % 32 = 31 then t.val else t.val + 1, 0]
    ∧ win0_9.index t = ![(t.val - 64) / 32, 0, 0] ∧ win0_10.index t = ![(t.val - 64) / 32, 0, 0] :=
  (by decide +kernel : ∀ t : Fin grid0.N, _)

/-- The kernel's tile index of a latent point. -/
theorem tile_val : ∀ t : Fin cfg0.N, 64 ≤ t.val → tileWord (BitVec.ofNat 32 (grid0.coords t 0)) = BitVec.ofNat 32 ((t.val - 64) % 32) :=
  (by decide +kernel : ∀ t : Fin grid0.N, _)

theorem N_eq : cfg0.N = 128 := by decide +kernel

variable (m : (ℓ : Loc nD τ sig) → Buf (Elt Ideal) ℓ)

/-- The queries. -/
def aQ (c : Dev nD) : FVec Ideal S16384x512 .f32 := m ((c.tc : Thread nD τ).loc main_arg0)
/-- The keys. -/
def aK (c : Dev nD) : FVec Ideal S16384x128 .f32 := m ((c.tc : Thread nD τ).loc main_arg1)
/-- The values. -/
def aV (c : Dev nD) : FVec Ideal S16384x128 .f32 := m ((c.tc : Thread nD τ).loc main_arg2)
/-- The cached keys. -/
def aCK (c : Dev nD) : FVec Ideal S2x512x2x64 .f32 := m ((c.tc : Thread nD τ).loc main_arg3)
/-- The cached values. -/
def aCV (c : Dev nD) : FVec Ideal S2x512x2x64 .f32 := m ((c.tc : Thread nD τ).loc main_arg4)
/-- The sinks. -/
def aZ (c : Dev nD) : FVec Ideal S8 .f32 := m ((c.tc : Thread nD τ).loc main_arg5)

/-- A point's block of a window, at its literal shape. -/
def wQ (c : Dev nD) (t : Fin cfg0.N) : FVec Ideal S128x512 .f32 := iblk m c 0 t
def wKx (c : Dev nD) (t : Fin cfg0.N) : FVec Ideal S256x128 .f32 := iblk m c 1 t
def wVx (c : Dev nD) (t : Fin cfg0.N) : FVec Ideal S256x128 .f32 := iblk m c 2 t
def wKa (c : Dev nD) (t : Fin cfg0.N) : FVec Ideal S128x128 .f32 := iblk m c 3 t
def wKb (c : Dev nD) (t : Fin cfg0.N) : FVec Ideal S128x128 .f32 := iblk m c 4 t
def wKc (c : Dev nD) (t : Fin cfg0.N) : FVec Ideal S128x128 .f32 := iblk m c 5 t
def wVa (c : Dev nD) (t : Fin cfg0.N) : FVec Ideal S128x128 .f32 := iblk m c 6 t
def wVb (c : Dev nD) (t : Fin cfg0.N) : FVec Ideal S128x128 .f32 := iblk m c 7 t
def wVc (c : Dev nD) (t : Fin cfg0.N) : FVec Ideal S128x128 .f32 := iblk m c 8 t
def wCK (c : Dev nD) (t : Fin cfg0.N) : FVec Ideal S1x512x128 .f32 := iblk m c 9 t
def wCV (c : Dev nD) (t : Fin cfg0.N) : FVec Ideal S1x512x128 .f32 := iblk m c 10 t
def wZ (c : Dev nD) (t : Fin cfg0.N) : FVec Ideal S8 .f32 := iblk m c 11 t

theorem q_at (c : Dev nD) (t : Fin cfg0.N) (r : Fin 128) (j : Fin 512) (hb) :
    wQ m c t (ix2 r j) = aQ m c (ix2 ⟨128 * t.val + r, hb⟩ j) := by
  unfold wQ aQ
  blk_ext [iblk, V, (idx_all t).1]

theorem z_at (c : Dev nD) (t : Fin cfg0.N) (j : Fin 8) : wZ m c t (ix1 j) = aZ m c (ix1 j) := by
  unfold wZ aZ
  blk_ext [iblk, V, (idx_all t).2.1]

theorem kx_at (c : Dev nD) (t : Fin cfg0.N) (h : t.val < 64) (n : Fin 256) (j : Fin 128) (hb) :
    wKx m c t (ix2 n j) = aK m c (ix2 ⟨256 * (t.val / 2) + n, hb⟩ j) := by
  unfold wKx aK
  blk_ext [iblk, V, (idx_ctx t h).1]

theorem vx_at (c : Dev nD) (t : Fin cfg0.N) (h : t.val < 64) (n : Fin 256) (j : Fin 128) (hb) :
    wVx m c t (ix2 n j) = aV m c (ix2 ⟨256 * (t.val / 2) + n, hb⟩ j) := by
  unfold wVx aV
  blk_ext [iblk, V, (idx_ctx t h).2]

theorem ka_at (c : Dev nD) (t : Fin cfg0.N) (h : 64 ≤ t.val) (n : Fin 128) (j : Fin 128) (hb) :
    wKa m c t (ix2 n j) = aK m c (ix2 ⟨128 * (if (t.val - 64) % 32 = 0 then t.val else t.val - 1) + n, hb⟩ j) := by
  unfold wKa aK
  blk_ext [iblk, V, (idx_lat t h).1]

theorem kb_at (c : Dev nD) (t : Fin cfg0.N) (h : 64 ≤ t.val) (n : Fin 128) (j : Fin 128) (hb) :
    wKb m c t (ix2 n j) = aK m c (ix2 ⟨128 * (t.val) + n, hb⟩ j) := by
  unfold wKb aK
  blk_ext [iblk, V, (idx_lat t h).2.1]

theorem kc_at (c : Dev nD) (t : Fin cfg0.N) (h : 64 ≤ t.val) (n : Fin 128) (j : Fin 128) (hb) :
    wKc m c t (ix2 n j) = aK m c (ix2 ⟨128 * (if (t.val - 64) % 32 = 31 then t.val else t.val + 1) + n, hb⟩ j) := by
  unfold wKc aK
  blk_ext [iblk, V, (idx_lat t h).2.2.1]

theorem va_at (c : Dev nD) (t : Fin cfg0.N) (h : 64 ≤ t.val) (n : Fin 128) (j : Fin 128) (hb) :
    wVa m c t (ix2 n j) = aV m c (ix2 ⟨128 * (if (t.val - 64) % 32 = 0 then t.val else t.val - 1) + n, hb⟩ j) := by
  unfold wVa aV
  blk_ext [iblk, V, (idx_lat t h).2.2.2.1]

theorem vb_at (c : Dev nD) (t : Fin cfg0.N) (h : 64 ≤ t.val) (n : Fin 128) (j : Fin 128) (hb) :
    wVb m c t (ix2 n j) = aV m c (ix2 ⟨128 * (t.val) + n, hb⟩ j) := by
  unfold wVb aV
  blk_ext [iblk, V, (idx_lat t h).2.2.2.2.1]

theorem vc_at (c : Dev nD) (t : Fin cfg0.N) (h : 64 ≤ t.val) (n : Fin 128) (j : Fin 128) (hb) :
    wVc m c t (ix2 n j) = aV m c (ix2 ⟨128 * (if (t.val - 64) % 32 = 31 then t.val else t.val + 1) + n, hb⟩ j) := by
  unfold wVc aV
  blk_ext [iblk, V, (idx_lat t h).2.2.2.2.2.1]

theorem ck_at (c : Dev nD) (t : Fin cfg0.N) (h : 64 ≤ t.val) (u : Fin 1) (n : Fin 512) (g : Fin 2) (l : Fin 64) (hc hb) :
    wCK m c t (ix3 u n ⟨64 * g + l, hc⟩) = aCK m c (ix4 ⟨(t.val - 64) / 32, hb⟩ n g l) := by
  unfold wCK aCK
  blk_point [iblk, V, (idx_lat t h).2.2.2.2.2.2.1]

theorem cv_at (c : Dev nD) (t : Fin cfg0.N) (h : 64 ≤ t.val) (u : Fin 1) (n : Fin 512) (g : Fin 2) (l : Fin 64) (hc hb) :
    wCV m c t (ix3 u n ⟨64 * g + l, hc⟩) = aCV m c (ix4 ⟨(t.val - 64) / 32, hb⟩ n g l) := by
  unfold wCV aCV
  blk_point [iblk, V, (idx_lat t h).2.2.2.2.2.2.2]

end Cert.KernelIdeal.Attn
-- ==== Proof.AttnRef.lean ====
module

public import proofs.«01_k».proof.Proof.Gen.ReferenceIdeal.Run
public import Idealize.ShloMosaic.Lib.Pipeline.ValueKit
public import Idealize.ShloMosaic.Lib.Pointwise
public import proofs.«01_k».proof.Proof.AttnMath

@[expose] public section

set_option maxRecDepth 16384

noncomputable section

namespace Cert.ReferenceIdeal.Attn

open Cert.Attn
open Idealize.ShloMosaic Idealize.SL.Sem
open Cert.ReferenceIdeal Cert.ReferenceIdeal.Gen

/-- The context's keys (or values), a block and a group apart. -/
def kvC (k : FVec Ideal S16384x128 .f32) : FVec Ideal S32x256x2x64 .f32 :=
  shapeCast S32x256x2x64 (extractStridedSlice S8192x128 ![0, 0] k slices_S16384x128_S8192x128_0_0) shapeCasts_S8192x128_S32x256x2x64

/-- The context's queries, a block, a group and a head apart. -/
def quC (q : FVec Ideal S16384x512 .f32) : FVec Ideal S32x256x2x4x64 .f32 :=
  shapeCast S32x256x2x4x64 (shapeCast S32x256x8x64 (extractStridedSlice S8192x512 ![0, 0] q slices_S16384x512_S8192x512_0_0)
    shapeCasts_S8192x512_S32x256x8x64) shapeCasts_S32x256x8x64_S32x256x2x4x64

def doC (k : FVec Ideal S32x256x2x64 .f32) (q : FVec Ideal S32x256x2x4x64 .f32) : FVec Ideal S32x2x256x256x4 .f32 :=
  Host.dotGeneral dot_S32x256x2x64_S32x256x2x4x64_S32x2x256x256x4_3_4_1_13_02_02 none k q

/-- The reference's context scores. -/
def scC (q : FVec Ideal S16384x512 .f32) (k : FVec Ideal S16384x128 .f32) : FVec Ideal S32x2x4x256x256 .f32 :=
  mulf (transpose S32x2x4x256x256 [0, 1, 4, 3, 2] (doC (kvC k) (quC q)) transposes_S32x2x256x256x4_S32x2x4x256x256_0_1_4_3_2)
    (broadcastInDim S32x2x4x256x256 ![] bcast_S_S32x2x4x256x256 (constant S_ .f32 0x3E000000#32))

/-- The sinks, one a head. -/
def snC (z : FVec Ideal S8 .f32) : FVec Ideal S2x4x1x1 .f32 :=
  broadcastInDim S2x4x1x1 ![0, 1] bcast_S2x4_S2x4x1x1_0_1 (shapeCast S2x4 z shapeCasts_S8_S2x4)

/-- The sinks, broadcast over blocks and rows. -/
def skC (z : FVec Ideal S8 .f32) : FVec Ideal S32x2x4x256x1 .f32 :=
  broadcastInDim S32x2x4x256x1 ![0, 1, 2, 3, 4] bcast_S1x2x4x1x1_S32x2x4x256x1_0_1_2_3_4
    (broadcastInDim S1x2x4x1x1 ![1, 2, 3, 4] bcast_S2x4x1x1_S1x2x4x1x1_1_2_3_4 (snC z))

def rdC (s : FVec Ideal S32x2x4x256x256 .f32) : FVec Ideal S32x2x4x256 .f32 :=
  Host.reduce FloatOps.maximumf s (constant S_ .f32 0xFF800000#32) reducesTo_S32x2x4x256x256_S32x2x4x256_d4 h_S_

/-- A number a row, as a column. -/
def coC (u : FVec Ideal S32x2x4x256 .f32) : FVec Ideal S32x2x4x256x1 .f32 :=
  broadcastInDim S32x2x4x256x1 ![0, 1, 2, 3] bcast_S32x2x4x256_S32x2x4x256x1_0_1_2_3 u

/-- A column, on every key. -/
def spC (u : FVec Ideal S32x2x4x256x1 .f32) : FVec Ideal S32x2x4x256x256 .f32 :=
  broadcastInDim S32x2x4x256x256 ![0, 1, 2, 3, 4] bcast_S32x2x4x256x1_S32x2x4x256x256_0_1_2_3_4 u

def mxC (s : FVec Ideal S32x2x4x256x256 .f32) (z : FVec Ideal S8 .f32) : FVec Ideal S32x2x4x256x1 .f32 :=
  maximumf (coC (rdC s)) (skC z)

def exC (s : FVec Ideal S32x2x4x256x256 .f32) (z : FVec Ideal S8 .f32) : FVec Ideal S32x2x4x256x256 .f32 :=
  Host.exp (subf s (spC (mxC s z)))

def smC (e : FVec Ideal S32x2x4x256x256 .f32) : FVec Ideal S32x2x4x256 .f32 :=
  Host.reduceAdd e (constant S_ .f32 0x00000000#32) reducesTo_S32x2x4x256x256_S32x2x4x256_d4 h_S_

def dnC (s : FVec Ideal S32x2x4x256x256 .f32) (z : FVec Ideal S8 .f32) : FVec Ideal S32x2x4x256x1 .f32 :=
  addf (coC (smC (exC s z))) (Host.exp (subf (skC z) (mxC s z)))

/-- The reference's context weights. -/
def prC (s : FVec Ideal S32x2x4x256x256 .f32) (z : FVec Ideal S8 .f32) : FVec Ideal S32x2x4x256x256 .f32 :=
  Host.divf (exC s z) (spC (dnC s z))

def dvC (v : FVec Ideal S32x256x2x64 .f32) (p : FVec Ideal S32x2x4x256x256 .f32) : FVec Ideal S32x2x64x4x256 .f32 :=
  Host.dotGeneral dot_S32x256x2x64_S32x2x4x256x256_S32x2x64x4x256_1_4_3_23_02_01 none v p

def flC (o : FVec Ideal S32x2x64x4x256 .f32) : FVec Ideal S8192x512 .f32 :=
  shapeCast S8192x512 (shapeCast S32x256x512 (transpose S32x256x2x4x64 [0, 4, 1, 3, 2] o
    transposes_S32x2x64x4x256_S32x256x2x4x64_0_4_1_3_2) shapeCasts_S32x256x2x4x64_S32x256x512) shapeCasts_S32x256x512_S8192x512

theorem kvC_at (k : FVec Ideal S16384x128 .f32) (b : Fin 32) (n : Fin 256) (g : Fin 2) (l : Fin 64) :
    kvC k (ix4 b n g l) = k (ix2 ⟨256 * b + n, by omega⟩ ⟨64 * g + l, by omega⟩) := by
  pointwise [kvC]
  blk_ext

theorem quC_at (q : FVec Ideal S16384x512 .f32) (b : Fin 32) (n : Fin 256) (g : Fin 2) (t : Fin 4) (l : Fin 64) :
    quC q (ix5 b n g t l) = q (ix2 ⟨256 * b + n, by omega⟩ ⟨64 * (4 * g + t) + l, by omega⟩) := by
  pointwise [quC]
  blk_ext

theorem doC_at (k : FVec Ideal S32x256x2x64 .f32) (q : FVec Ideal S32x256x2x4x64 .f32)
    (b : Fin 32) (g : Fin 2) (n r : Fin 256) (t : Fin 4) :
    doC k q (ix5 b g n r t) = ∑ l : Fin 64, k (ix4 b n g l) * q (ix5 b r g t l) := by
  pointwise [doC]

theorem scC_at (q : FVec Ideal S16384x512 .f32) (k : FVec Ideal S16384x128 .f32)
    (b : Fin 32) (g : Fin 2) (t : Fin 4) (r n : Fin 256) :
    scC q k (ix5 b g t r n) = dot8 (fun l => k (ix2 ⟨256 * b + n, by omega⟩ ⟨64 * g + l, by omega⟩))
      (fun l => q (ix2 ⟨256 * b + r, by omega⟩ ⟨64 * (4 * g + t) + l, by omega⟩)) := by
  pointwise [scC, doC_at, kvC_at, quC_at]
  rfl

theorem skC_at (z : FVec Ideal S8 .f32) (b : Fin 32) (g : Fin 2) (t : Fin 4) (r : Fin 256) (n : Fin 1) :
    skC z (ix5 b g t r n) = z (ix1 ⟨4 * g + t, by omega⟩) := by
  pointwise [skC, snC]
  blk_ext

theorem fold_bits {n : ℕ} (f : Fin n → EReal) :
    Finset.fold max (Ideal.ofBits .f32 4286578688#32) f Finset.univ = Finset.fold max ⊥ f Finset.univ := by
  rw [minus_inf]

theorem rdC_bits (s : FVec Ideal S32x2x4x256x256 .f32) (b : Fin 32) (g : Fin 2) (t : Fin 4) (r : Fin 256) :
    rdC s (ix4 b g t r) = Finset.fold max (Ideal.ofBits .f32 4286578688#32) (fun x : Fin 256 => s (ix5 b g t r x)) Finset.univ := by
  pointwise [rdC]

theorem rdC_at (s : FVec Ideal S32x2x4x256x256 .f32) (b : Fin 32) (g : Fin 2) (t : Fin 4) (r : Fin 256) :
    rdC s (ix4 b g t r) = Finset.fold max ⊥ (fun x : Fin 256 => s (ix5 b g t r x)) Finset.univ :=
  (rdC_bits s b g t r).trans (fold_bits _)

theorem max_at {S : Shape} (a b : FVec Ideal S .f32) (i : S.Idx) : maximumf a b i = max (a i : EReal) (b i) := rfl

theorem add_at {S : Shape} (a b : FVec Ideal S .f32) (i : S.Idx) : addf a b i = (a i : EReal) + b i := rfl

theorem sub_at {S : Shape} (a b : FVec Ideal S .f32) (i : S.Idx) : subf a b i = (a i : EReal) - b i := rfl

theorem exp_at {S : Shape} (a : FVec Ideal S .f32) (i : S.Idx) : Host.exp a i = Ideal.exp (a i) := rfl

theorem div_at {S : Shape} (a b : FVec Ideal S .f32) (i : S.Idx) : Host.divf a b i = Ideal.div (a i) (b i) := rfl

theorem coC_at (u : FVec Ideal S32x2x4x256 .f32) (b : Fin 32) (g : Fin 2) (t : Fin 4) (r : Fin 256) (n : Fin 1) :
    coC u (ix5 b g t r n) = u (ix4 b g t r) := by
  pointwise [coC]

theorem spC_at (u : FVec Ideal S32x2x4x256x1 .f32) (b : Fin 32) (g : Fin 2) (t : Fin 4) (r n : Fin 256) :
    spC u (ix5 b g t r n) = u (ix5 b g t r 0) := by
  pointwise [spC]

theorem smC_at (e : FVec Ideal S32x2x4x256x256 .f32) (b : Fin 32) (g : Fin 2) (t : Fin 4) (r : Fin 256) :
    smC e (ix4 b g t r) = ∑ x : Fin 256, e (ix5 b g t r x) := by
  pointwise [smC]

theorem mxC_at (s : FVec Ideal S32x2x4x256x256 .f32) (z : FVec Ideal S8 .f32)
    (b : Fin 32) (g : Fin 2) (t : Fin 4) (r : Fin 256) (n : Fin 1) :
    mxC s z (ix5 b g t r n) = top (fun x : Fin 256 => s (ix5 b g t r x)) (z (ix1 ⟨4 * g + t, by omega⟩)) := by
  rw [mxC, max_at, coC_at, rdC_at, skC_at, top]

theorem exC_at (s : FVec Ideal S32x2x4x256x256 .f32) (z : FVec Ideal S8 .f32)
    (b : Fin 32) (g : Fin 2) (t : Fin 4) (r n : Fin 256) :
    exC s z (ix5 b g t r n) = Ideal.exp (s (ix5 b g t r n) - top (fun x : Fin 256 => s (ix5 b g t r x)) (z (ix1 ⟨4 * g + t, by omega⟩))) := by
  rw [exC, exp_at, sub_at, spC_at, mxC_at]

theorem dnC_at (s : FVec Ideal S32x2x4x256x256 .f32) (z : FVec Ideal S8 .f32)
    (b : Fin 32) (g : Fin 2) (t : Fin 4) (r : Fin 256) (n : Fin 1) :
    dnC s z (ix5 b g t r n) = den (fun x : Fin 256 => s (ix5 b g t r x)) (z (ix1 ⟨4 * g + t, by omega⟩)) := by
  rw [dnC, add_at, exp_at, sub_at, coC_at, smC_at, skC_at, mxC_at, den]
  simp only [exC_at]

theorem prC_at (s : FVec Ideal S32x2x4x256x256 .f32) (z : FVec Ideal S8 .f32)
    (b : Fin 32) (g : Fin 2) (t : Fin 4) (r n : Fin 256) :
    prC s z (ix5 b g t r n) =
      Ideal.div (Ideal.exp (s (ix5 b g t r n) - top (fun x : Fin 256 => s (ix5 b g t r x)) (z (ix1 ⟨4 * g + t, by omega⟩))))
        (den (fun x : Fin 256 => s (ix5 b g t r x)) (z (ix1 ⟨4 * g + t, by omega⟩))) := by
  rw [prC, div_at, spC_at, exC_at, dnC_at]

theorem dvC_at (v : FVec Ideal S32x256x2x64 .f32) (p : FVec Ideal S32x2x4x256x256 .f32)
    (b : Fin 32) (g : Fin 2) (l : Fin 64) (t : Fin 4) (r : Fin 256) :
    dvC v p (ix5 b g l t r) = ∑ n : Fin 256, v (ix4 b n g l) * p (ix5 b g t r n) := by
  pointwise [dvC]

theorem flC_at (o : FVec Ideal S32x2x64x4x256 .f32) (i : Fin 8192) (j : Fin 512) :
    flC o (ix2 i j) = o (ix5 ⟨i / 256, by omega⟩ ⟨j / 256, by omega⟩ ⟨j % 64, by omega⟩ ⟨j / 64 % 4, by omega⟩ ⟨i % 256, by omega⟩) := by
  pointwise [flC]
  blk_ext

end Cert.ReferenceIdeal.Attn
-- ==== Proof.AttnRefL.lean ====
module

public import proofs.«01_k».proof.Proof.AttnRef

@[expose] public section

set_option maxRecDepth 16384

noncomputable section

namespace Cert.ReferenceIdeal.Attn

open Cert.Attn
open Idealize.ShloMosaic Idealize.SL.Sem
open Cert.ReferenceIdeal Cert.ReferenceIdeal.Gen

/-- The latent keys (or values), with a block of zeros before and one after. -/
def paL (k : FVec Ideal S16384x128 .f32) : FVec Ideal S2x4352x2x64 .f32 :=
  pad S2x4352x2x64 ![0, 128, 0, 0] ![0, 128, 0, 0] ![0, 0, 0, 0]
    (shapeCast S2x4096x2x64 (extractStridedSlice S8192x128 ![8192, 0] k slices_S16384x128_S8192x128_8192_0) shapeCasts_S8192x128_S2x4096x2x64)
    (sitofp .f32 (constantI S_ 32 0#32)) pads_S2x4096x2x64_S2x4352x2x64_000_1281280_000_000 h_S_

def blL (p : FVec Ideal S2x4352x2x64 .f32) : FVec Ideal S2x34x128x2x64 .f32 :=
  shapeCast S2x34x128x2x64 p shapeCasts_S2x4352x2x64_S2x34x128x2x64

/-- The three blocks around each block. -/
def bnL (p : FVec Ideal S2x34x128x2x64 .f32) : FVec Ideal S2x32x384x2x64 .f32 :=
  concatenate S2x32x384x2x64 2
    [⟨S2x32x128x2x64, extractStridedSlice S2x32x128x2x64 ![0, 0, 0, 0, 0] p slices_S2x34x128x2x64_S2x32x128x2x64_0_0_0_0_0⟩,
     ⟨S2x32x128x2x64, extractStridedSlice S2x32x128x2x64 ![0, 1, 0, 0, 0] p slices_S2x34x128x2x64_S2x32x128x2x64_0_1_0_0_0⟩,
     ⟨S2x32x128x2x64, extractStridedSlice S2x32x128x2x64 ![0, 2, 0, 0, 0] p slices_S2x34x128x2x64_S2x32x128x2x64_0_2_0_0_0⟩]
    concatenates_S2x32x128x2x64_S2x32x128x2x64_S2x32x128x2x64_S2x32x384x2x64_d2

/-- The latent queries. -/
def quL (q : FVec Ideal S16384x512 .f32) : FVec Ideal S2x32x128x2x4x64 .f32 :=
  shapeCast S2x32x128x2x4x64 (shapeCast S2x4096x8x64 (extractStridedSlice S8192x512 ![8192, 0] q slices_S16384x512_S8192x512_8192_0)
    shapeCasts_S8192x512_S2x4096x8x64) shapeCasts_S2x4096x8x64_S2x32x128x2x4x64

def doL (k : FVec Ideal S2x32x384x2x64 .f32) (q : FVec Ideal S2x32x128x2x4x64 .f32) : FVec Ideal S2x32x2x384x128x4 .f32 :=
  Host.dotGeneral dot_S2x32x384x2x64_S2x32x128x2x4x64_S2x32x2x384x128x4_4_5_2_24_013_013 none k q

def dcL (k : FVec Ideal S2x512x2x64 .f32) (q : FVec Ideal S2x32x128x2x4x64 .f32) : FVec Ideal S2x2x512x32x128x4 .f32 :=
  Host.dotGeneral dot_S2x512x2x64_S2x32x128x2x4x64_S2x2x512x32x128x4_3_5_1_124_02_03 none k q

/-- The scores of the band. -/
def saL (q : FVec Ideal S16384x512 .f32) (k : FVec Ideal S16384x128 .f32) : FVec Ideal S2x32x2x4x128x384 .f32 :=
  mulf (transpose S2x32x2x4x128x384 [0, 1, 2, 5, 4, 3] (doL (bnL (blL (paL k))) (quL q)) transposes_S2x32x2x384x128x4_S2x32x2x4x128x384_0_1_2_5_4_3)
    (broadcastInDim S2x32x2x4x128x384 ![] bcast_S_S2x32x2x4x128x384 (constant S_ .f32 0x3E000000#32))

/-- The scores of the cached keys. -/
def sbL (q : FVec Ideal S16384x512 .f32) (k : FVec Ideal S2x512x2x64 .f32) : FVec Ideal S2x32x2x4x128x512 .f32 :=
  mulf (transpose S2x32x2x4x128x512 [0, 3, 1, 5, 4, 2] (dcL k (quL q)) transposes_S2x2x512x32x128x4_S2x32x2x4x128x512_0_3_1_5_4_2)
    (broadcastInDim S2x32x2x4x128x512 ![] bcast_S_S2x32x2x4x128x512 (constant S_ .f32 0x3E000000#32))

theorem paL_at (k : FVec Ideal S16384x128 .f32) (b : Fin 2) (n : Fin 4352) (g : Fin 2) (l : Fin 64) :
    paL k (ix4 b n g l) = if h : 128 ≤ (n : ℕ) ∧ (n : ℕ) < 4224 then k (ix2 ⟨8192 + 4096 * b + (n - 128), by omega⟩ ⟨64 * g + l, by omega⟩) else 0 := by
  pointwise [paL]
  have e : FloatOps.sitofp (F := Ideal) .f32 (0#32) = (0 : EReal) := by
    show (((0#32 : BitVec 32).toInt : ℝ) : EReal) = 0
    simp
  by_cases h : 128 ≤ (n : ℕ) ∧ (n : ℕ) < 4224
  · rw [dif_pos ⟨h.1, by omega⟩, dif_pos h]; blk_ext
  · rw [dif_neg (by omega), dif_neg h, e]

theorem blL_at (p : FVec Ideal S2x4352x2x64 .f32) (b : Fin 2) (m : Fin 34) (n : Fin 128) (g : Fin 2) (l : Fin 64) :
    blL p (ix5 b m n g l) = p (ix4 b ⟨128 * m + n, by omega⟩ g l) := by
  pointwise [blL]
  blk_ext

theorem bnL_at (p : FVec Ideal S2x34x128x2x64 .f32) (b : Fin 2) (m : Fin 32) (n : Fin 384) (g : Fin 2) (l : Fin 64) :
    bnL p (ix5 b m n g l) = p (ix5 b ⟨m + n / 128, by omega⟩ ⟨n % 128, by omega⟩ g l) := by
  pointwise [bnL]
  by_cases h0 : (n : ℕ) < 128
  · rw [dif_pos h0]; blk_ext
  · rw [dif_neg h0]
    by_cases h1 : (n : ℕ) - 128 < 128
    · rw [dif_pos h1]; blk_ext
    · rw [dif_neg h1]; blk_ext

theorem quL_at (q : FVec Ideal S16384x512 .f32) (b : Fin 2) (m : Fin 32) (n : Fin 128) (g : Fin 2) (t : Fin 4) (l : Fin 64) :
    quL q (ix6 b m n g t l) = q (ix2 ⟨8192 + 4096 * b + 128 * m + n, by omega⟩ ⟨64 * (4 * g + t) + l, by omega⟩) := by
  pointwise [quL]
  blk_ext

theorem doL_at (k : FVec Ideal S2x32x384x2x64 .f32) (q : FVec Ideal S2x32x128x2x4x64 .f32)
    (b : Fin 2) (m : Fin 32) (g : Fin 2) (n : Fin 384) (r : Fin 128) (t : Fin 4) :
    doL k q (ix6 b m g n r t) = ∑ l : Fin 64, k (ix5 b m n g l) * q (ix6 b m r g t l) := by
  pointwise [doL]

theorem dcL_at (k : FVec Ideal S2x512x2x64 .f32) (q : FVec Ideal S2x32x128x2x4x64 .f32)
    (b : Fin 2) (m : Fin 32) (g : Fin 2) (n : Fin 512) (r : Fin 128) (t : Fin 4) :
    dcL k q (ix6 b g n m r t) = ∑ l : Fin 64, k (ix4 b n g l) * q (ix6 b m r g t l) := by
  pointwise [dcL]

theorem saL_at (q : FVec Ideal S16384x512 .f32) (k : FVec Ideal S16384x128 .f32)
    (b : Fin 2) (m : Fin 32) (g : Fin 2) (t : Fin 4) (r : Fin 128) (n : Fin 384) :
    saL q k (ix6 b m g t r n) = dot8 (fun l => bnL (blL (paL k)) (ix5 b m n g l))
      (fun l => q (ix2 ⟨8192 + 4096 * b + 128 * m + r, by omega⟩ ⟨64 * (4 * g + t) + l, by omega⟩)) := by
  pointwise [saL, doL_at, quL_at]
  rfl

theorem sbL_at (q : FVec Ideal S16384x512 .f32) (k : FVec Ideal S2x512x2x64 .f32)
    (b : Fin 2) (m : Fin 32) (g : Fin 2) (t : Fin 4) (r : Fin 128) (n : Fin 512) :
    sbL q k (ix6 b m g t r n) = dot8 (fun l => k (ix4 b n g l))
      (fun l => q (ix2 ⟨8192 + 4096 * b + 128 * m + r, by omega⟩ ⟨64 * (4 * g + t) + l, by omega⟩)) := by
  pointwise [sbL, dcL_at, quL_at]
  rfl

/-- Position `n` of a window around block `m` of request `b` holds a key: the key itself, otherwise zero. -/
theorem window_at (k : FVec Ideal S16384x128 .f32) (b : Fin 2) (m : Fin 32) (n : Fin 384) (g : Fin 2) (l : Fin 64) :
    bnL (blL (paL k)) (ix5 b m n g l) = if h : 128 ≤ 128 * (m : ℕ) + n ∧ 128 * (m : ℕ) + n < 4224
      then k (ix2 ⟨8192 + 4096 * b + (128 * m + n - 128), by omega⟩ ⟨64 * g + l, by omega⟩) else 0 := by
  rw [bnL_at, blL_at, paL_at]
  by_cases h : 128 ≤ 128 * (m : ℕ) + n ∧ 128 * (m : ℕ) + n < 4224
  · rw [dif_pos h, dif_pos (by constructor <;> dsimp only <;> omega)]; blk_ext
  · rw [dif_neg h, dif_neg (by dsimp only; omega)]

/-- The number of a block's first position. -/
def fiL : Vec Ideal S32x1 .i32 :=
  muli (broadcastInDim S32x1 ![0] bcast_S32_S32x1_0 (iotaInDim S32 32 0)) (broadcastInDim S32x1 ![] bcast_S_S32x1 (constantI S_ 32 128#32))

/-- The position of a query. -/
def qpL : Vec Ideal S32x128 .i32 :=
  addi (broadcastInDim S32x128 ![0, 1] bcast_S32x1_S32x128_0_1 fiL)
    (broadcastInDim S32x128 ![0, 1] bcast_S1x128_S32x128_0_1 (broadcastInDim S1x128 ![1] bcast_S128_S1x128_1 (iotaInDim S128 32 0)))

/-- The position of a key of a window. -/
def kpL : Vec Ideal S32x384 .i32 :=
  addi (broadcastInDim S32x384 ![0, 1] bcast_S32x1_S32x384_0_1 (subi fiL (broadcastInDim S32x1 ![] bcast_S_S32x1 (constantI S_ 32 128#32))))
    (broadcastInDim S32x384 ![0, 1] bcast_S1x384_S32x384_0_1 (broadcastInDim S1x384 ![1] bcast_S384_S1x384_1 (iotaInDim S384 32 0)))

/-- Whether a position of a window is one of the request's. -/
def inL : Vec Ideal S32x1x384 .i1 :=
  andi (cmpi .sge (broadcastInDim S32x1x384 ![0, 2] bcast_S32x384_S32x1x384_0_2 kpL) (broadcastInDim S32x1x384 ![] bcast_S_S32x1x384 (constantI S_ 32 0#32)))
    (cmpi .slt (broadcastInDim S32x1x384 ![0, 2] bcast_S32x384_S32x1x384_0_2 kpL) (broadcastInDim S32x1x384 ![] bcast_S_S32x1x384 (constantI S_ 32 4096#32)))

/-- Whether a key is near its query. -/
def nrL : Vec Ideal S32x128x384 .i1 :=
  cmpi .sle (absi (subi
    (broadcastInDim S32x128x384 ![0, 1, 2] bcast_S32x128x1_S32x128x384_0_1_2 (broadcastInDim S32x128x1 ![0, 1] bcast_S32x128_S32x128x1_0_1 qpL))
    (broadcastInDim S32x128x384 ![0, 1, 2] bcast_S32x1x384_S32x128x384_0_1_2 (broadcastInDim S32x1x384 ![0, 2] bcast_S32x384_S32x1x384_0_2 kpL))))
    (broadcastInDim S32x128x384 ![] bcast_S_S32x128x384 (constantI S_ 32 128#32))

/-- Whether a query sees a key. -/
def okL : Vec Ideal S32x128x384 .i1 :=
  andi (broadcastInDim S32x128x384 ![0, 1, 2] bcast_S32x1x384_S32x128x384_0_1_2 inL) nrL

/-- The scores of the band, those of unseen keys `-∞`. -/
def slL (s : FVec Ideal S2x32x2x4x128x384 .f32) : FVec Ideal S2x32x2x4x128x384 .f32 :=
  select (broadcastInDim S2x32x2x4x128x384 ![0, 1, 2, 3, 4, 5] bcast_S1x32x1x1x128x384_S2x32x2x4x128x384_0_1_2_3_4_5
    (broadcastInDim S1x32x1x1x128x384 ![1, 4, 5] bcast_S32x128x384_S1x32x1x1x128x384_1_4_5 okL)) s
    (broadcastInDim S2x32x2x4x128x384 ![] bcast_S_S2x32x2x4x128x384 (id (constant S_ .f32 0xFF800000#32)))

/-- All scores of the latent rows. -/
def ctL (s : FVec Ideal S2x32x2x4x128x384 .f32) (t : FVec Ideal S2x32x2x4x128x512 .f32) : FVec Ideal S2x32x2x4x128x896 .f32 :=
  concatenate S2x32x2x4x128x896 5 [⟨S2x32x2x4x128x384, s⟩, ⟨S2x32x2x4x128x512, t⟩] concatenates_S2x32x2x4x128x384_S2x32x2x4x128x512_S2x32x2x4x128x896_d5

theorem fiL_at (m : Fin 32) (n : Fin 1) : fiL (ix2 m n) = BitVec.ofNat 32 m * 128#32 := by
  pointwise [fiL]
  rfl

theorem qpL_at (m : Fin 32) (r : Fin 128) : qpL (ix2 m r) = BitVec.ofNat 32 m * 128#32 + BitVec.ofNat 32 r := by
  pointwise [qpL, fiL_at]
  rfl

theorem kpL_at (m : Fin 32) (n : Fin 384) : kpL (ix2 m n) = BitVec.ofNat 32 m * 128#32 - 128#32 + BitVec.ofNat 32 n := by
  pointwise [kpL, fiL_at]
  rfl

theorem add_small (a b : BitVec 32) (h0 : -100000 ≤ a.toInt + b.toInt) (h1 : a.toInt + b.toInt ≤ 100000) :
    (a + b).toInt = a.toInt + b.toInt := by
  rw [BitVec.toInt_add, Int.bmod_def]
  generalize a.toInt + b.toInt = z at *
  norm_num only
  split_ifs <;> omega

theorem sub_small (a b : BitVec 32) (h0 : -100000 ≤ a.toInt - b.toInt) (h1 : a.toInt - b.toInt ≤ 100000) :
    (a - b).toInt = a.toInt - b.toInt := by
  rw [BitVec.toInt_sub, Int.bmod_def]
  generalize a.toInt - b.toInt = z at *
  norm_num only
  split_ifs <;> omega

theorem neg_small (a : BitVec 32) (h0 : -100000 ≤ a.toInt) (h1 : a.toInt ≤ 100000) : (-a).toInt = -a.toInt := by
  rw [BitVec.toInt_neg, Int.bmod_def]
  generalize a.toInt = z at *
  norm_num only
  split_ifs <;> omega

theorem block_int (m : Fin 32) : (BitVec.ofNat 32 m * 128#32).toInt = 128 * ((m : ℕ) : ℤ) := by
  have : ∀ m : Fin 32, (BitVec.ofNat 32 m * 128#32).toInt = 128 * ((m : ℕ) : ℤ) := by decide +kernel
  exact this m

theorem row_int (r : Fin 128) : (BitVec.ofNat 32 r).toInt = ((r : ℕ) : ℤ) := by
  have : ∀ r : Fin 128, (BitVec.ofNat 32 r).toInt = ((r : ℕ) : ℤ) := by decide +kernel
  exact this r

theorem place_int (n : Fin 384) : (BitVec.ofNat 32 n).toInt = ((n : ℕ) : ℤ) := by
  have : ∀ n : Fin 384, (BitVec.ofNat 32 n).toInt = ((n : ℕ) : ℤ) := by decide +kernel
  exact this n

theorem key_int (m : Fin 32) (n : Fin 384) :
    (BitVec.ofNat 32 m * 128#32 - 128#32 + BitVec.ofNat 32 n).toInt = 128 * ((m : ℕ) : ℤ) - 128 + (n : ℕ) := by
  have c : (128#32 : BitVec 32).toInt = 128 := by decide
  have h1 : (BitVec.ofNat 32 m * 128#32 - 128#32).toInt = 128 * ((m : ℕ) : ℤ) - 128 := by
    rw [sub_small _ _ (by rw [block_int, c]; omega) (by rw [block_int, c]; omega), block_int, c]
  rw [add_small _ _ (by rw [h1, place_int]; omega) (by rw [h1, place_int]; omega), h1, place_int]

theorem query_int (m : Fin 32) (r : Fin 128) :
    (BitVec.ofNat 32 m * 128#32 + BitVec.ofNat 32 r).toInt = 128 * ((m : ℕ) : ℤ) + (r : ℕ) := by
  rw [add_small _ _ (by rw [block_int, row_int]; omega) (by rw [block_int, row_int]; omega), block_int, row_int]

theorem abs_le (w : BitVec 32) (h0 : -1000 ≤ w.toInt) (h1 : w.toInt ≤ 1000) :
    (IntOp.absi w).toInt ≤ 128 ↔ -128 ≤ w.toInt ∧ w.toInt ≤ 128 := by
  rw [IntOp.absi, BitVec.msb_eq_toInt]
  by_cases h : w.toInt < 0
  · rw [if_pos (by simpa using h), neg_small _ (by omega) (by omega)]
    omega
  · rw [if_neg (by simpa using h)]
    omega

theorem and_one (a b : BitVec 1) : (IntOp.andi a b = 1) ↔ (a = 1 ∧ b = 1) := by
  revert a b; decide

theorem okL_iff (m : Fin 32) (r : Fin 128) (n : Fin 384) :
    okL (ix3 m r n) = 1 ↔ (128 ≤ 128 * (m : ℕ) + n ∧ 128 * (m : ℕ) + n < 4224) ∧ (r : ℕ) ≤ n ∧ (n : ℕ) ≤ r + 256 := by
  have e : okL (ix3 m r n) = IntOp.andi
      (IntOp.andi (IntOp.cmpi CmpIPredicate.sge (BitVec.ofNat 32 m * 128#32 - 128#32 + BitVec.ofNat 32 n) 0#32)
        (IntOp.cmpi CmpIPredicate.slt (BitVec.ofNat 32 m * 128#32 - 128#32 + BitVec.ofNat 32 n) 4096#32))
      (IntOp.cmpi CmpIPredicate.sle (IntOp.absi (IntOp.subi (BitVec.ofNat 32 m * 128#32 + BitVec.ofNat 32 r)
        (BitVec.ofNat 32 m * 128#32 - 128#32 + BitVec.ofNat 32 n))) 128#32) := by
    pointwise [okL, inL, nrL, kpL_at, qpL_at]
  have one : ∀ b : Bool, (BitVec.ofBool b = 1) ↔ b = true := by decide
  have d : (IntOp.subi (BitVec.ofNat 32 m * 128#32 + BitVec.ofNat 32 r)
      (BitVec.ofNat 32 m * 128#32 - 128#32 + BitVec.ofNat 32 n)).toInt = ((r : ℕ) : ℤ) + 128 - (n : ℕ) := by
    rw [IntOp.subi, sub_small _ _ (by rw [query_int, key_int]; omega) (by rw [query_int, key_int]; omega), query_int, key_int]
    ring
  rw [e, and_one, and_one, IntOp.cmpi, IntOp.cmpi, IntOp.cmpi, one, one, one, BitVec.sle_iff_toInt_le, BitVec.slt_iff_toInt_lt,
    BitVec.sle_iff_toInt_le, key_int]
  have c0 : (0#32 : BitVec 32).toInt = 0 := by decide
  have c1 : (4096#32 : BitVec 32).toInt = 4096 := by decide
  have c2 : (128#32 : BitVec 32).toInt = 128 := by decide
  rw [c0, c1, c2, abs_le _ (by rw [d]; omega) (by rw [d]; omega), d]
  omega

theorem slL_at (s : FVec Ideal S2x32x2x4x128x384 .f32) (b : Fin 2) (m : Fin 32) (g : Fin 2) (t : Fin 4) (r : Fin 128) (n : Fin 384) :
    slL s (ix6 b m g t r n) = if okL (ix3 m r n) = 1 then s (ix6 b m g t r n) else ⊥ := by
  have h : slL s (ix6 b m g t r n) = if okL (ix3 m r n) = 1 then s (ix6 b m g t r n) else Ideal.ofBits .f32 4286578688#32 := by
    pointwise [slL]
    rfl
  rw [h, minus_inf]

theorem ctL_at (s : FVec Ideal S2x32x2x4x128x384 .f32) (u : FVec Ideal S2x32x2x4x128x512 .f32)
    (b : Fin 2) (m : Fin 32) (g : Fin 2) (t : Fin 4) (r : Fin 128) (n : Fin 896) :
    ctL s u (ix6 b m g t r n) = if h : (n : ℕ) < 384 then s (ix6 b m g t r ⟨n, h⟩) else u (ix6 b m g t r ⟨n - 384, by omega⟩) := by
  pointwise [ctL]

end Cert.ReferenceIdeal.Attn
-- ==== Proof.AttnRefO.lean ====
module

public import proofs.«01_k».proof.Proof.AttnRefL

@[expose] public section

set_option maxRecDepth 16384

noncomputable section

namespace Cert.ReferenceIdeal.Attn

open Cert.Attn
open Idealize.ShloMosaic Idealize.SL.Sem
open Cert.ReferenceIdeal Cert.ReferenceIdeal.Gen

/-- The sinks on the latent rows. -/
def skL (z : FVec Ideal S8 .f32) : FVec Ideal S2x32x2x4x128x1 .f32 :=
  broadcastInDim S2x32x2x4x128x1 ![0, 1, 2, 3, 4, 5] bcast_S1x1x2x4x1x1_S2x32x2x4x128x1_0_1_2_3_4_5
    (broadcastInDim S1x1x2x4x1x1 ![2, 3, 4, 5] bcast_S2x4x1x1_S1x1x2x4x1x1_2_3_4_5 (snC z))

def rdL (s : FVec Ideal S2x32x2x4x128x896 .f32) : FVec Ideal S2x32x2x4x128 .f32 :=
  Host.reduce FloatOps.maximumf s (constant S_ .f32 0xFF800000#32) reducesTo_S2x32x2x4x128x896_S2x32x2x4x128_d5 h_S_

def coL (u : FVec Ideal S2x32x2x4x128 .f32) : FVec Ideal S2x32x2x4x128x1 .f32 :=
  broadcastInDim S2x32x2x4x128x1 ![0, 1, 2, 3, 4] bcast_S2x32x2x4x128_S2x32x2x4x128x1_0_1_2_3_4 u

def spL (u : FVec Ideal S2x32x2x4x128x1 .f32) : FVec Ideal S2x32x2x4x128x896 .f32 :=
  broadcastInDim S2x32x2x4x128x896 ![0, 1, 2, 3, 4, 5] bcast_S2x32x2x4x128x1_S2x32x2x4x128x896_0_1_2_3_4_5 u

def mxL (s : FVec Ideal S2x32x2x4x128x896 .f32) (z : FVec Ideal S8 .f32) : FVec Ideal S2x32x2x4x128x1 .f32 :=
  maximumf (coL (rdL s)) (skL z)

def exL (s : FVec Ideal S2x32x2x4x128x896 .f32) (z : FVec Ideal S8 .f32) : FVec Ideal S2x32x2x4x128x896 .f32 :=
  Host.exp (subf s (spL (mxL s z)))

def smL (e : FVec Ideal S2x32x2x4x128x896 .f32) : FVec Ideal S2x32x2x4x128 .f32 :=
  Host.reduceAdd e (constant S_ .f32 0x00000000#32) reducesTo_S2x32x2x4x128x896_S2x32x2x4x128_d5 h_S_

def dnL (s : FVec Ideal S2x32x2x4x128x896 .f32) (z : FVec Ideal S8 .f32) : FVec Ideal S2x32x2x4x128x1 .f32 :=
  addf (coL (smL (exL s z))) (Host.exp (subf (skL z) (mxL s z)))

/-- The reference's latent weights. -/
def prL (s : FVec Ideal S2x32x2x4x128x896 .f32) (z : FVec Ideal S8 .f32) : FVec Ideal S2x32x2x4x128x896 .f32 :=
  Host.divf (exL s z) (spL (dnL s z))

/-- The weights of the band. -/
def p1L (p : FVec Ideal S2x32x2x4x128x896 .f32) : FVec Ideal S2x32x2x4x128x384 .f32 :=
  extractStridedSlice S2x32x2x4x128x384 ![0, 0, 0, 0, 0, 0] p slices_S2x32x2x4x128x896_S2x32x2x4x128x384_0_0_0_0_0_0

/-- The weights of the cached keys. -/
def p2L (p : FVec Ideal S2x32x2x4x128x896 .f32) : FVec Ideal S2x32x2x4x128x512 .f32 :=
  extractStridedSlice S2x32x2x4x128x512 ![0, 0, 0, 0, 0, 384] p slices_S2x32x2x4x128x896_S2x32x2x4x128x512_0_0_0_0_0_384

def dvL (v : FVec Ideal S2x32x384x2x64 .f32) (p : FVec Ideal S2x32x2x4x128x384 .f32) : FVec Ideal S2x32x2x64x4x128 .f32 :=
  Host.dotGeneral dot_S2x32x384x2x64_S2x32x2x4x128x384_S2x32x2x64x4x128_2_5_4_34_013_012 none v p

def dwL (v : FVec Ideal S2x512x2x64 .f32) (p : FVec Ideal S2x32x2x4x128x512 .f32) : FVec Ideal S2x2x64x32x4x128 .f32 :=
  Host.dotGeneral dot_S2x512x2x64_S2x32x2x4x128x512_S2x2x64x32x4x128_1_5_3_134_02_02 none v p

def adL (a : FVec Ideal S2x32x2x64x4x128 .f32) (c : FVec Ideal S2x2x64x32x4x128 .f32) : FVec Ideal S2x32x128x2x4x64 .f32 :=
  addf (transpose S2x32x128x2x4x64 [0, 1, 5, 2, 4, 3] a transposes_S2x32x2x64x4x128_S2x32x128x2x4x64_0_1_5_2_4_3)
    (transpose S2x32x128x2x4x64 [0, 3, 5, 1, 4, 2] c transposes_S2x2x64x32x4x128_S2x32x128x2x4x64_0_3_5_1_4_2)

def flL (o : FVec Ideal S2x32x128x2x4x64 .f32) : FVec Ideal S8192x512 .f32 :=
  shapeCast S8192x512 (shapeCast S2x4096x512 o shapeCasts_S2x32x128x2x4x64_S2x4096x512) shapeCasts_S2x4096x512_S8192x512

/-- The context rows. -/
def rowsC (q : FVec Ideal S16384x512 .f32) (k v : FVec Ideal S16384x128 .f32) (z : FVec Ideal S8 .f32) : FVec Ideal S8192x512 .f32 :=
  flC (dvC (kvC v) (prC (scC q k) z))

/-- The latent rows' scores. -/
def scL (q : FVec Ideal S16384x512 .f32) (k : FVec Ideal S16384x128 .f32) (ck : FVec Ideal S2x512x2x64 .f32) : FVec Ideal S2x32x2x4x128x896 .f32 :=
  ctL (slL (saL q k)) (sbL q ck)

/-- The latent rows. -/
def rowsL (q : FVec Ideal S16384x512 .f32) (k v : FVec Ideal S16384x128 .f32) (ck cv : FVec Ideal S2x512x2x64 .f32) (z : FVec Ideal S8 .f32) :
    FVec Ideal S8192x512 .f32 :=
  flL (adL (dvL (bnL (blL (paL v))) (p1L (prL (scL q k ck) z))) (dwL cv (p2L (prL (scL q k ck) z))))

/-- All rows. -/
def rows (c l : FVec Ideal S8192x512 .f32) : FVec Ideal S16384x512 .f32 :=
  concatenate S16384x512 0 [⟨S8192x512, c⟩, ⟨S8192x512, l⟩] concatenates_S8192x512_S8192x512_S16384x512_d0

theorem rows_at (c l : FVec Ideal S8192x512 .f32) (i : Fin 16384) (j : Fin 512) :
    rows c l (ix2 i j) = if h : (i : ℕ) < 8192 then c (ix2 ⟨i, h⟩ j) else l (ix2 ⟨i - 8192, by omega⟩ j) := by
  pointwise [rows]

theorem skL_at (z : FVec Ideal S8 .f32) (b : Fin 2) (m : Fin 32) (g : Fin 2) (t : Fin 4) (r : Fin 128) (n : Fin 1) :
    skL z (ix6 b m g t r n) = z (ix1 ⟨4 * g + t, by omega⟩) := by
  pointwise [skL, snC]
  blk_ext

theorem coL_at (u : FVec Ideal S2x32x2x4x128 .f32) (b : Fin 2) (m : Fin 32) (g : Fin 2) (t : Fin 4) (r : Fin 128) (n : Fin 1) :
    coL u (ix6 b m g t r n) = u (ix5 b m g t r) := by
  pointwise [coL]

theorem spL_at (u : FVec Ideal S2x32x2x4x128x1 .f32) (b : Fin 2) (m : Fin 32) (g : Fin 2) (t : Fin 4) (r : Fin 128) (n : Fin 896) :
    spL u (ix6 b m g t r n) = u (ix6 b m g t r 0) := by
  pointwise [spL]

/-- Keys of one row, as indices of the scores. -/
def keyL (b : Fin 2) (m : Fin 32) (g : Fin 2) (t : Fin 4) (r : Fin 128) : Fin 896 ↪ S2x32x2x4x128x896.Idx :=
  ⟨fun x => ix6 b m g t r x, fun x y h => ((ix6_inj ..).1 h).2.2.2.2.2⟩

theorem drop_iff (i : S2x32x2x4x128x896.Idx) (b : Fin 2) (m : Fin 32) (g : Fin 2) (t : Fin 4) (r : Fin 128) :
    reducesTo_S2x32x2x4x128x896_S2x32x2x4x128_d5.drop i = ix5 b m g t r ↔ ∃ x, keyL b m g t r x = i := by
  have e := reducesTo_S2x32x2x4x128x896_S2x32x2x4x128_d5
  constructor
  · intro h
    refine ⟨i 5, ?_⟩
    have h0 : i 0 = b := Fin.ext ((e.drop_apply_val_of_eq i 0 0).symm.trans (congrArg Fin.val (congrFun h 0)))
    have h1 : i 1 = m := Fin.ext ((e.drop_apply_val_of_eq i 1 1).symm.trans (congrArg Fin.val (congrFun h 1)))
    have h2 : i 2 = g := Fin.ext ((e.drop_apply_val_of_eq i 2 2).symm.trans (congrArg Fin.val (congrFun h 2)))
    have h3 : i 3 = t := Fin.ext ((e.drop_apply_val_of_eq i 3 3).symm.trans (congrArg Fin.val (congrFun h 3)))
    have h4 : i 4 = r := Fin.ext ((e.drop_apply_val_of_eq i 4 4).symm.trans (congrArg Fin.val (congrFun h 4)))
    rw [← h0, ← h1, ← h2, ← h3, ← h4]
    exact ix6_eta i
  · rintro ⟨x, rfl⟩
    funext a
    apply Fin.ext
    match a with
    | ⟨0, _⟩ => exact e.drop_apply_val_of_eq (keyL b m g t r x) 0 0
    | ⟨1, _⟩ => exact e.drop_apply_val_of_eq (keyL b m g t r x) 1 1
    | ⟨2, _⟩ => exact e.drop_apply_val_of_eq (keyL b m g t r x) 2 2
    | ⟨3, _⟩ => exact e.drop_apply_val_of_eq (keyL b m g t r x) 3 3
    | ⟨4, _⟩ => exact e.drop_apply_val_of_eq (keyL b m g t r x) 4 4

theorem fiberL (b : Fin 2) (m : Fin 32) (g : Fin 2) (t : Fin 4) (r : Fin 128) :
    Finset.univ.filter (fun i => reducesTo_S2x32x2x4x128x896_S2x32x2x4x128_d5.drop i = ix5 b m g t r) = Finset.univ.map (keyL b m g t r) := by
  apply Finset.ext
  intro i
  rw [Finset.mem_filter, Finset.mem_map, drop_iff]
  simp only [Finset.mem_univ, true_and]

theorem rdL_fold (s : FVec Ideal S2x32x2x4x128x896 .f32) (j : S2x32x2x4x128.Idx) :
    rdL s j = Finset.fold max (Ideal.ofBits .f32 4286578688#32) s
      (Finset.univ.filter (fun i => reducesTo_S2x32x2x4x128x896_S2x32x2x4x128_d5.drop i = j)) := by
  pointwise [rdL]

theorem fold_keys (s : S2x32x2x4x128x896.Idx → EReal) (a : EReal) (f : Fin 896 ↪ S2x32x2x4x128x896.Idx) :
    Finset.fold max a s (Finset.univ.map f) = Finset.fold max a (fun x => s (f x)) Finset.univ := by
  rw [Finset.fold_map]; rfl

theorem rdL_at (s : FVec Ideal S2x32x2x4x128x896 .f32) (b : Fin 2) (m : Fin 32) (g : Fin 2) (t : Fin 4) (r : Fin 128) :
    rdL s (ix5 b m g t r) = Finset.fold max ⊥ (fun x : Fin 896 => s (ix6 b m g t r x)) Finset.univ := by
  rw [rdL_fold, fiberL, fold_keys]
  exact fold_bits _

theorem smL_sum (e : FVec Ideal S2x32x2x4x128x896 .f32) (j : S2x32x2x4x128.Idx) :
    smL e j = 0 + ∑ i ∈ Finset.univ.filter (fun i => reducesTo_S2x32x2x4x128x896_S2x32x2x4x128_d5.drop i = j), (e i : EReal) := by
  have h : smL e j = Ideal.hostReduceAdd reducesTo_S2x32x2x4x128x896_S2x32x2x4x128_d5 e 0 j := by
    pointwise [smL]
  rw [h, Ideal.hostReduceAdd]

theorem smL_at (e : FVec Ideal S2x32x2x4x128x896 .f32) (b : Fin 2) (m : Fin 32) (g : Fin 2) (t : Fin 4) (r : Fin 128) :
    smL e (ix5 b m g t r) = ∑ x : Fin 896, e (ix6 b m g t r x) := by
  rw [smL_sum, fiberL, Finset.sum_map, zero_add]
  rfl

theorem mxL_at (s : FVec Ideal S2x32x2x4x128x896 .f32) (z : FVec Ideal S8 .f32)
    (b : Fin 2) (m : Fin 32) (g : Fin 2) (t : Fin 4) (r : Fin 128) (n : Fin 1) :
    mxL s z (ix6 b m g t r n) = top (fun x : Fin 896 => s (ix6 b m g t r x)) (z (ix1 ⟨4 * g + t, by omega⟩)) := by
  rw [mxL, max_at, coL_at, rdL_at, skL_at, top]

theorem exL_at (s : FVec Ideal S2x32x2x4x128x896 .f32) (z : FVec Ideal S8 .f32)
    (b : Fin 2) (m : Fin 32) (g : Fin 2) (t : Fin 4) (r : Fin 128) (n : Fin 896) :
    exL s z (ix6 b m g t r n) =
      Ideal.exp (s (ix6 b m g t r n) - top (fun x : Fin 896 => s (ix6 b m g t r x)) (z (ix1 ⟨4 * g + t, by omega⟩))) := by
  rw [exL, exp_at, sub_at, spL_at, mxL_at]

theorem dnL_at (s : FVec Ideal S2x32x2x4x128x896 .f32) (z : FVec Ideal S8 .f32)
    (b : Fin 2) (m : Fin 32) (g : Fin 2) (t : Fin 4) (r : Fin 128) (n : Fin 1) :
    dnL s z (ix6 b m g t r n) = den (fun x : Fin 896 => s (ix6 b m g t r x)) (z (ix1 ⟨4 * g + t, by omega⟩)) := by
  rw [dnL, add_at, exp_at, sub_at, coL_at, smL_at, skL_at, mxL_at, den]
  simp only [exL_at]

theorem prL_at (s : FVec Ideal S2x32x2x4x128x896 .f32) (z : FVec Ideal S8 .f32)
    (b : Fin 2) (m : Fin 32) (g : Fin 2) (t : Fin 4) (r : Fin 128) (n : Fin 896) :
    prL s z (ix6 b m g t r n) =
      Ideal.div (Ideal.exp (s (ix6 b m g t r n) - top (fun x : Fin 896 => s (ix6 b m g t r x)) (z (ix1 ⟨4 * g + t, by omega⟩))))
        (den (fun x : Fin 896 => s (ix6 b m g t r x)) (z (ix1 ⟨4 * g + t, by omega⟩))) := by
  rw [prL, div_at, spL_at, exL_at, dnL_at]

theorem p1L_at (p : FVec Ideal S2x32x2x4x128x896 .f32) (b : Fin 2) (m : Fin 32) (g : Fin 2) (t : Fin 4) (r : Fin 128) (n : Fin 384) :
    p1L p (ix6 b m g t r n) = p (ix6 b m g t r ⟨n, by omega⟩) := by
  pointwise [p1L]

theorem p2L_at (p : FVec Ideal S2x32x2x4x128x896 .f32) (b : Fin 2) (m : Fin 32) (g : Fin 2) (t : Fin 4) (r : Fin 128) (n : Fin 512) :
    p2L p (ix6 b m g t r n) = p (ix6 b m g t r ⟨384 + n, by omega⟩) := by
  pointwise [p2L]

theorem dvL_at (v : FVec Ideal S2x32x384x2x64 .f32) (p : FVec Ideal S2x32x2x4x128x384 .f32)
    (b : Fin 2) (m : Fin 32) (g : Fin 2) (l : Fin 64) (t : Fin 4) (r : Fin 128) :
    dvL v p (ix6 b m g l t r) = ∑ n : Fin 384, v (ix5 b m n g l) * p (ix6 b m g t r n) := by
  pointwise [dvL]

theorem dwL_at (v : FVec Ideal S2x512x2x64 .f32) (p : FVec Ideal S2x32x2x4x128x512 .f32)
    (b : Fin 2) (m : Fin 32) (g : Fin 2) (l : Fin 64) (t : Fin 4) (r : Fin 128) :
    dwL v p (ix6 b g l m t r) = ∑ n : Fin 512, v (ix4 b n g l) * p (ix6 b m g t r n) := by
  pointwise [dwL]

theorem adL_at (a : FVec Ideal S2x32x2x64x4x128 .f32) (c : FVec Ideal S2x2x64x32x4x128 .f32)
    (b : Fin 2) (m : Fin 32) (g : Fin 2) (l : Fin 64) (t : Fin 4) (r : Fin 128) :
    adL a c (ix6 b m r g t l) = (a (ix6 b m g l t r) : EReal) + c (ix6 b g l m t r) := by
  pointwise [adL]

theorem flL_at (o : FVec Ideal S2x32x128x2x4x64 .f32) (i : Fin 8192) (j : Fin 512) :
    flL o (ix2 i j) = o (ix6 ⟨i / 4096, by omega⟩ ⟨i / 128 % 32, by omega⟩ ⟨i % 128, by omega⟩ ⟨j / 256, by omega⟩ ⟨j / 64 % 4, by omega⟩ ⟨j % 64, by omega⟩) := by
  pointwise [flL]
  blk_ext

end Cert.ReferenceIdeal.Attn
-- ==== Proof.AttnRefS.lean ====
module

public import proofs.«01_k».proof.Proof.AttnRefO

@[expose] public section

set_option maxRecDepth 16384

noncomputable section

namespace Cert.ReferenceIdeal.Attn

open Cert.Attn
open Idealize.ShloMosaic Idealize.SL.Sem
open Cert.ReferenceIdeal Cert.ReferenceIdeal.Gen

theorem head_eq (j : Fin 512) (h : 4 * ((j : ℕ) / 256) + (j : ℕ) / 64 % 4 < 8) : (⟨4 * ((j : ℕ) / 256) + (j : ℕ) / 64 % 4, h⟩ : Fin 8) = headOf j :=
  Fin.ext (by simp only [headOf]; omega)

theorem qcol_eq (j : Fin 512) (l : Fin 64) (h : 64 * (4 * ((j : ℕ) / 256) + (j : ℕ) / 64 % 4) + (l : ℕ) < 512) :
    (⟨64 * (4 * ((j : ℕ) / 256) + (j : ℕ) / 64 % 4) + (l : ℕ), h⟩ : Fin 512) = qCol j l :=
  Fin.ext (by simp only [qCol]; omega)

/-- The context rows: each an average of its own sequence's values. -/
theorem rowsC_at (q : FVec Ideal S16384x512 .f32) (k v : FVec Ideal S16384x128 .f32) (z : FVec Ideal S8 .f32) (i : Fin 8192) (j : Fin 512) :
    rowsC q k v z (ix2 i j) = each
      (fun n : Fin 256 => dot8 (fun l => k (ix2 ⟨256 * (i / 256) + n, by omega⟩ (kCol j l))) (fun l => q (ix2 ⟨i, by omega⟩ (qCol j l))))
      (fun n : Fin 256 => v (ix2 ⟨256 * (i / 256) + n, by omega⟩ (vCol j))) (z (ix1 (headOf j))) := by
  rw [rowsC, flC_at, dvC_at, each]
  refine Finset.sum_congr rfl fun n _ => ?_
  rw [mul_comm, prC_at, kvC_at]
  simp only [scC_at, head_eq, qcol_eq]
  have e : ∀ h, (⟨256 * ((i : ℕ) / 256) + (i : ℕ) % 256, h⟩ : Fin 16384) = ⟨i, by omega⟩ := fun h => Fin.ext (by dsimp only; omega)
  simp only [e]
  rfl

/-- The scores of a latent row, an unseen key's `-∞`. -/
def lscore (q : FVec Ideal S16384x512 .f32) (k : FVec Ideal S16384x128 .f32) (ck : FVec Ideal S2x512x2x64 .f32) (i : Fin 8192) (j : Fin 512) (n : Fin 896) : EReal :=
  if h : (n : ℕ) < 384 then
    if w : (128 ≤ 128 * ((i : ℕ) / 128 % 32) + n ∧ 128 * ((i : ℕ) / 128 % 32) + n < 4224) ∧ (i : ℕ) % 128 ≤ n ∧ (n : ℕ) ≤ (i : ℕ) % 128 + 256 then
      dot8 (fun l => k (ix2 ⟨8192 + 4096 * (i / 4096) + (128 * (i / 128 % 32) + n - 128), by omega⟩ (kCol j l))) (fun l => q (ix2 ⟨8192 + i, by omega⟩ (qCol j l)))
    else ⊥
  else dot8 (fun l => ck (ix4 ⟨i / 4096, by omega⟩ ⟨n - 384, by omega⟩ ⟨j / 256, by omega⟩ l)) (fun l => q (ix2 ⟨8192 + i, by omega⟩ (qCol j l)))

/-- The values a latent row weighs, zero where there is no key. -/
def lvalue (v : FVec Ideal S16384x128 .f32) (cv : FVec Ideal S2x512x2x64 .f32) (i : Fin 8192) (j : Fin 512) (n : Fin 896) : EReal :=
  if h : (n : ℕ) < 384 then
    if w : 128 ≤ 128 * ((i : ℕ) / 128 % 32) + n ∧ 128 * ((i : ℕ) / 128 % 32) + n < 4224 then
      v (ix2 ⟨8192 + 4096 * (i / 4096) + (128 * (i / 128 % 32) + n - 128), by omega⟩ (vCol j))
    else 0
  else cv (ix4 ⟨i / 4096, by omega⟩ ⟨n - 384, by omega⟩ ⟨j / 256, by omega⟩ ⟨j % 64, by omega⟩)

theorem scL_row (q : FVec Ideal S16384x512 .f32) (k : FVec Ideal S16384x128 .f32) (ck : FVec Ideal S2x512x2x64 .f32) (i : Fin 8192) (j : Fin 512) (n : Fin 896) :
    scL q k ck (ix6 ⟨i / 4096, by omega⟩ ⟨i / 128 % 32, by omega⟩ ⟨j / 256, by omega⟩ ⟨j / 64 % 4, by omega⟩ ⟨i % 128, by omega⟩ n) = lscore q k ck i j n := by
  have e : ∀ h, (⟨8192 + 4096 * ((i : ℕ) / 4096) + 128 * ((i : ℕ) / 128 % 32) + (i : ℕ) % 128, h⟩ : Fin 16384) = ⟨8192 + i, by omega⟩ :=
    fun h => Fin.ext (by dsimp only; omega)
  rw [scL, ctL_at, lscore]
  by_cases h : (n : ℕ) < 384
  · rw [dif_pos h, dif_pos h, slL_at]
    have hok := okL_iff ⟨(i : ℕ) / 128 % 32, by omega⟩ ⟨(i : ℕ) % 128, by omega⟩ ⟨n, h⟩
    by_cases w : (128 ≤ 128 * ((i : ℕ) / 128 % 32) + n ∧ 128 * ((i : ℕ) / 128 % 32) + n < 4224) ∧ (i : ℕ) % 128 ≤ n ∧ (n : ℕ) ≤ (i : ℕ) % 128 + 256
    · rw [if_pos (hok.2 w), dif_pos w, saL_at]
      simp only [window_at, qcol_eq, e, dif_pos w.1]
      rfl
    · rw [if_neg (fun o => w (hok.1 o)), dif_neg w]
  · rw [dif_neg h, dif_neg h, sbL_at]
    simp only [qcol_eq, e]

/-- The latent rows: each an average of the values of the window around it and of the cached ones. -/
theorem rowsL_at (q : FVec Ideal S16384x512 .f32) (k v : FVec Ideal S16384x128 .f32) (ck cv : FVec Ideal S2x512x2x64 .f32)
    (z : FVec Ideal S8 .f32) (i : Fin 8192) (j : Fin 512) :
    rowsL q k v ck cv z (ix2 i j) = each (lscore q k ck i j) (lvalue v cv i j) (z (ix1 (headOf j))) := by
  rw [rowsL, flL_at, adL_at, dvL_at, dwL_at, each]
  simp only [p1L_at, p2L_at, prL_at, scL_row, head_eq]
  have s := Fin.sum_univ_add (M := EReal) (a := 384) (b := 512) (fun x => Ideal.div (Ideal.exp (lscore q k ck i j x - top (lscore q k ck i j) (z (ix1 (headOf j)))))
    (den (lscore q k ck i j) (z (ix1 (headOf j)))) * lvalue v cv i j x)
  refine Eq.trans ?_ s.symm
  congr 1
  · refine Finset.sum_congr rfl fun n _ => ?_
    rw [mul_comm]
    have hv : lvalue v cv i j (Fin.castAdd 512 n) = bnL (blL (paL v)) (ix5 ⟨i / 4096, by omega⟩ ⟨i / 128 % 32, by omega⟩ n ⟨j / 256, by omega⟩ ⟨j % 64, by omega⟩) := by
      have hn : ((Fin.castAdd 512 n : Fin (384 + 512)) : ℕ) = n := rfl
      rw [window_at, lvalue, dif_pos (by rw [hn]; exact n.isLt)]
      rfl
    rw [hv]
    rfl
  · refine Finset.sum_congr rfl fun n _ => ?_
    rw [mul_comm]
    have hn : ((Fin.natAdd 384 n : Fin (384 + 512)) : ℕ) = 384 + n := rfl
    have hv : lvalue v cv i j (Fin.natAdd 384 n) = cv (ix4 ⟨i / 4096, by omega⟩ n ⟨j / 256, by omega⟩ ⟨j % 64, by omega⟩) := by
      rw [lvalue, dif_neg (by rw [hn]; omega)]
      congr 2
      exact Fin.ext (by dsimp only [Fin.natAdd]; omega)
    rw [hv]
    rfl

/-- The reference's result is these rows. -/
theorem result_eq (m : (ℓ : Loc nD τ sig) → Buf (Elt Ideal) ℓ) (c : Dev nD) :
    Cert.ReferenceIdeal.Value.res_main_v125 m c = rows
      (rowsC (m ((c.tc : Thread nD τ).loc main_arg0)) (m ((c.tc : Thread nD τ).loc main_arg1)) (m ((c.tc : Thread nD τ).loc main_arg2)) (m ((c.tc : Thread nD τ).loc main_arg5)))
      (rowsL (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))) := by
  unfold Cert.ReferenceIdeal.Value.res_main_v125 rows rowsC rowsL scL flC dvC prC exC dnC mxC spC coC rdC smC skC snC scC doC kvC quC
    flL adL dvL dwL p1L p2L prL exL dnL mxL spL coL rdL smL skL snC ctL slL okL inL nrL kpL qpL fiL sbL saL dcL doL quL bnL blL paL
  rfl

end Cert.ReferenceIdeal.Attn
-- ==== Proof.AttnFinal.lean ====
module

public import proofs.«01_k».proof.Proof.AttnWin
public import proofs.«01_k».proof.Proof.AttnRefS
public import proofs.«01_k».proof.Defs

@[expose] public section

set_option maxRecDepth 16384

noncomputable section

namespace Cert.KernelIdeal.Attn

open Cert.Attn Cert.ReferenceIdeal.Attn
open Idealize.ShloMosaic Idealize.ShloMosaic.TcCoe Idealize.SL.Sem
open Cert.KernelIdeal Cert.KernelIdeal.Gen

/-- An extended real that is a real. -/
def IsReal (x : EReal) : Prop := ∃ r : ℝ, x = (r : EReal)

/-- A scaled product of reals is real. -/
theorem dot8_real (k q : Fin 64 → EReal) (hk : ∀ l, IsReal (k l)) (hq : ∀ l, IsReal (q l)) : IsReal (dot8 k q) := by
  choose f hf using hk
  choose g hg using hq
  refine ⟨(∑ l, f l * g l) * (1 / 8), ?_⟩
  rw [dot8, eighth_eq, EReal.coe_mul]
  congr 1
  simp only [hf, hg, ← EReal.coe_mul]
  push_cast
  rfl

theorem has_before (M : ℕ) (h : M < 32) : (Scalar.cmpi CmpIPredicate.sgt (BitVec.ofNat 32 M) 0#32 = 1) = (0 < M) := by
  have : ∀ M : Fin 32, (Scalar.cmpi CmpIPredicate.sgt (BitVec.ofNat 32 M) 0#32 = 1) ↔ (0 < (M : ℕ)) := by decide +kernel
  exact propext (this ⟨M, h⟩)

theorem has_after (M : ℕ) (h : M < 32) : (Scalar.cmpi CmpIPredicate.slt (BitVec.ofNat 32 M) 31#32 = 1) = (M < 31) := by
  have : ∀ M : Fin 32, (Scalar.cmpi CmpIPredicate.slt (BitVec.ofNat 32 M) 31#32 = 1) ↔ ((M : ℕ) < 31) := by decide +kernel
  exact propext (this ⟨M, h⟩)

theorem biasL_at (M : ℕ) (h : M < 32) (r x : Fin 128) :
    biasL (BitVec.ofNat 32 M) (ix2 r x) = (if (r : ℕ) ≤ x then 0 else ⊥) + (if 0 < M then 0 else ⊥) := by
  rw [biasL, bias0_at]
  simp only [has_before M h]

theorem biasR_at (M : ℕ) (h : M < 32) (r x : Fin 128) :
    biasR (BitVec.ofNat 32 M) (ix2 r x) = (if (x : ℕ) ≤ r then 0 else ⊥) + (if M < 31 then 0 else ⊥) := by
  rw [biasR, bias1_at]
  simp only [has_after M h]

/-- A mask added to a score leaves it or makes it `-∞`. -/
theorem add_masks (a : EReal) (p q : Prop) [Decidable p] [Decidable q] :
    a + ((if p then 0 else ⊥) + (if q then 0 else ⊥)) = if p ∧ q then a else ⊥ := by
  by_cases hp : p <;> by_cases hq : q <;> simp [hp, hq]

variable (m : (ℓ : Loc nD τ sig) → Buf (Elt Ideal) ℓ)

/-- The arrays that the scores read hold reals. -/
structure Finite (c : Dev nD) : Prop where
  q : ∀ i, IsReal (aQ m c i)
  k : ∀ i, IsReal (aK m c i)
  ck : ∀ i, IsReal (aCK m c i)
  z : ∀ i, IsReal (aZ m c i)

theorem ne_top {x : EReal} (h : IsReal x) : x ≠ ⊤ := by
  obtain ⟨r, rfl⟩ := h
  exact EReal.coe_ne_top r

/-- A context point's block holds the reference's rows. -/
theorem pointA (c : Dev nD) (hf : Finite m c) (t : Fin cfg0.N) (h : t.val < 64) (r : Fin 128) (j : Fin 512) (hb) :
    outsAt0 m c t.val t.isLt (ix2 r j) = rowsC (aQ m c) (aK m c) (aV m c) (aZ m c) (ix2 ⟨128 * t.val + r, hb⟩ j) := by
  rw [blockA m c t h (by omega) (ix2 r j) (wQ m c t) (wKx m c t) (wVx m c t) (wZ m c t) rfl rfl rfl rfl, rowsC_at]
  change once (fun n : Fin 256 => dot8 (fun l => wKx m c t (ix2 n (kCol j l))) (fun l => wQ m c t (ix2 r (qCol j l))))
    (fun n : Fin 256 => wVx m c t (ix2 n (vCol j))) (wZ m c t (ix1 (headOf j))) = _
  have ht := t.isLt
  have e : 256 * ((128 * t.val + (r : ℕ)) / 256) = 256 * (t.val / 2) := by omega
  have hk : ∀ (n : Fin 256) l, wKx m c t (ix2 n (kCol j l)) = aK m c (ix2 ⟨256 * ((128 * t.val + (r : ℕ)) / 256) + n, by omega⟩ (kCol j l)) :=
    fun n l => by rw [kx_at m c t h n (kCol j l) (by omega)]; simp only [e]
  have hv : ∀ (n : Fin 256), wVx m c t (ix2 n (vCol j)) = aV m c (ix2 ⟨256 * ((128 * t.val + (r : ℕ)) / 256) + n, by omega⟩ (vCol j)) :=
    fun n => by rw [vx_at m c t h n (vCol j) (by omega)]; simp only [e]
  have hq : ∀ l, wQ m c t (ix2 r (qCol j l)) = aQ m c (ix2 ⟨128 * t.val + r, by omega⟩ (qCol j l)) :=
    fun l => q_at m c t r (qCol j l) (by omega)
  simp only [hk, hv, hq, z_at]
  obtain ⟨z, hz⟩ := hf.z (ix1 (headOf j))
  rw [hz]
  exact once_eq_each _ _ z fun n => ne_top (dot8_real _ _ (fun l => hf.k _) (fun l => hf.q _))

/-- The scores of a latent block, masked, are the reference's. -/
theorem score_eq (c : Dev nD) (t : Fin cfg0.N) (h : 64 ≤ t.val) (r : Fin 128) (j : Fin 512) (hb) (n : Fin 896) :
    masked (fun x => biasL (BitVec.ofNat 32 ((t.val - 64) % 32)) (ix2 r x)) (fun x => biasR (BitVec.ofNat 32 ((t.val - 64) % 32)) (ix2 r x)) n
      (dot8 (fun l => k0_pay51 (F := Ideal) (wKa m c t) (wKb m c t) (wKc m c t) (wCK m c t) (ix2 n (kCol j l))) (fun l => wQ m c t (ix2 r (qCol j l))))
      = lscore (aQ m c) (aK m c) (aCK m c) ⟨128 * (t.val - 64) + r, hb⟩ j n := by
  have ht : t.val < 128 := N_eq ▸ t.isLt
  have hM : (t.val - 64) % 32 < 32 := Nat.mod_lt _ (by decide)
  have e1 : (128 * (t.val - 64) + (r : ℕ)) / 4096 = (t.val - 64) / 32 := by omega
  have e2 : (128 * (t.val - 64) + (r : ℕ)) / 128 % 32 = (t.val - 64) % 32 := by omega
  have e3 : (128 * (t.val - 64) + (r : ℕ)) % 128 = r := by omega
  have hq : ∀ l, wQ m c t (ix2 r (qCol j l)) = aQ m c (ix2 ⟨8192 + (128 * (t.val - 64) + r), by omega⟩ (qCol j l)) := fun l => by
    rw [q_at m c t r (qCol j l) (by omega)]
    congr 2
    exact Fin.ext (by dsimp only; omega)
  simp only [stack_at, hq, biasL_at _ hM, biasR_at _ hM]
  rw [masked, lscore]
  simp only [stack, e1, e2, e3]
  by_cases h1 : (n : ℕ) < 128
  · simp only [dif_pos h1, add_masks]
    rw [dif_pos (by omega : (n : ℕ) < 384)]
    by_cases w : (r : ℕ) ≤ n ∧ 0 < (t.val - 64) % 32
    · rw [if_pos w, dif_pos (by omega)]
      congr 1
      funext l
      rw [ka_at m c t h _ _ (by split_ifs <;> dsimp only <;> omega)]
      congr 2
      apply Fin.ext
      dsimp only
      split_ifs <;> omega
    · rw [if_neg w, dif_neg (by omega)]
  · by_cases h2 : (n : ℕ) - 128 < 128
    · simp only [dif_neg h1, dif_pos h2, if_pos h2]
      rw [dif_pos (by omega : (n : ℕ) < 384), dif_pos (by omega)]
      congr 1
      funext l
      rw [kb_at m c t h _ _ (by dsimp only; omega)]
      congr 2
      apply Fin.ext
      dsimp only
      omega
    · by_cases h3 : (n : ℕ) - 128 - 128 < 128
      · simp only [dif_neg h1, dif_neg h2, dif_pos h3, if_neg h2, add_masks]
        rw [dif_pos (by omega : (n : ℕ) < 384)]
        by_cases w : (n : ℕ) - 128 - 128 ≤ r ∧ (t.val - 64) % 32 < 31
        · rw [if_pos w, dif_pos (by omega)]
          congr 1
          funext l
          rw [kc_at m c t h _ _ (by split_ifs <;> dsimp only <;> omega)]
          congr 2
          apply Fin.ext
          dsimp only
          split_ifs <;> omega
        · rw [if_neg w, dif_neg (by omega)]
      · simp only [dif_neg h1, dif_neg h2, dif_neg h3, if_neg h2]
        rw [dif_neg (by omega : ¬(n : ℕ) < 384)]
        congr 1
        funext l
        have hcol : kCol j l = ⟨64 * (⟨j / 256, by omega⟩ : Fin 2) + l, by dsimp only; omega⟩ := rfl
        rw [hcol, ck_at m c t h _ _ _ _ _ (by omega)]
        congr 2

/-- The values of a latent block are the reference's, wherever a key is seen. -/
theorem value_eq (c : Dev nD) (t : Fin cfg0.N) (h : 64 ≤ t.val) (r : Fin 128) (j : Fin 512) (hb) (n : Fin 896) :
    lscore (aQ m c) (aK m c) (aCK m c) ⟨128 * (t.val - 64) + r, hb⟩ j n = ⊥ ∨
    k0_pay52 (F := Ideal) (wVa m c t) (wVb m c t) (wVc m c t) (wCV m c t) (ix2 n (vCol j))
      = lvalue (aV m c) (aCV m c) ⟨128 * (t.val - 64) + r, hb⟩ j n := by
  have ht : t.val < 128 := N_eq ▸ t.isLt
  have e1 : (128 * (t.val - 64) + (r : ℕ)) / 4096 = (t.val - 64) / 32 := by omega
  have e2 : (128 * (t.val - 64) + (r : ℕ)) / 128 % 32 = (t.val - 64) % 32 := by omega
  have e3 : (128 * (t.val - 64) + (r : ℕ)) % 128 = r := by omega
  have hs : k0_pay52 (F := Ideal) (wVa m c t) (wVb m c t) (wVc m c t) (wCV m c t) = k0_pay51 (F := Ideal) (wVa m c t) (wVb m c t) (wVc m c t) (wCV m c t) := rfl
  rw [hs, stack_at, lscore, lvalue]
  simp only [stack, e1, e2, e3]
  by_cases h1 : (n : ℕ) < 128
  · simp only [dif_pos h1, dif_pos (show (n : ℕ) < 384 by omega)]
    by_cases w : 0 < (t.val - 64) % 32
    · right
      rw [dif_pos (by omega), va_at m c t h _ _ (by split_ifs <;> dsimp only <;> omega)]
      congr 2
      apply Fin.ext
      dsimp only
      split_ifs <;> omega
    · left
      rw [dif_neg (by omega)]
  · by_cases h2 : (n : ℕ) - 128 < 128
    · right
      simp only [dif_neg h1, dif_pos h2]
      rw [dif_pos (by omega : (n : ℕ) < 384), dif_pos (by omega), vb_at m c t h _ _ (by dsimp only; omega)]
      congr 2
      apply Fin.ext
      dsimp only
      omega
    · by_cases h3 : (n : ℕ) - 128 - 128 < 128
      · simp only [dif_neg h1, dif_neg h2, dif_pos h3, dif_pos (show (n : ℕ) < 384 by omega)]
        by_cases w : (t.val - 64) % 32 < 31
        · right
          rw [dif_pos (by omega), vc_at m c t h _ _ (by split_ifs <;> dsimp only <;> omega)]
          congr 2
          apply Fin.ext
          dsimp only
          split_ifs <;> omega
        · left
          rw [dif_neg (by omega)]
      · right
        simp only [dif_neg h1, dif_neg h2, dif_neg h3]
        rw [dif_neg (by omega : ¬(n : ℕ) < 384)]
        have hcol : vCol j = ⟨64 * (⟨j / 256, by omega⟩ : Fin 2) + (⟨j % 64, by omega⟩ : Fin 64), by dsimp only; omega⟩ := rfl
        rw [hcol, cv_at m c t h _ _ _ _ _ (by omega)]
        congr 2

/-- A latent score is never `+∞`. -/
theorem lscore_ne_top (c : Dev nD) (hf : Finite m c) (i : Fin 8192) (j : Fin 512) (n : Fin 896) :
    lscore (aQ m c) (aK m c) (aCK m c) i j n ≠ ⊤ := by
  rw [lscore]
  split_ifs
  · exact ne_top (dot8_real _ _ (fun l => hf.k _) (fun l => hf.q _))
  · exact bot_ne_top
  · exact ne_top (dot8_real _ _ (fun l => hf.ck _) (fun l => hf.q _))

/-- A latent point's block holds the reference's rows. -/
theorem pointB (c : Dev nD) (hf : Finite m c) (t : Fin cfg0.N) (h : 64 ≤ t.val) (r : Fin 128) (j : Fin 512) (hb) :
    outsAt0 m c t.val t.isLt (ix2 r j)
      = rowsL (aQ m c) (aK m c) (aV m c) (aCK m c) (aCV m c) (aZ m c) (ix2 ⟨128 * (t.val - 64) + r, hb⟩ j) := by
  rw [blockB m c t (by omega) h (ix2 r j) (wQ m c t) (wKa m c t) (wKb m c t) (wKc m c t) (wVa m c t) (wVb m c t) (wVc m c t) (wCK m c t) (wCV m c t)
    (wZ m c t) _ _ _ _ rfl rfl rfl rfl rfl rfl rfl rfl rfl rfl rfl rfl rfl rfl, rowsL_at, tile_val t h]
  change once (fun n : Fin 896 => masked (fun x => biasL (BitVec.ofNat 32 ((t.val - 64) % 32)) (ix2 r x))
      (fun x => biasR (BitVec.ofNat 32 ((t.val - 64) % 32)) (ix2 r x)) n
      (dot8 (fun l => k0_pay51 (F := Ideal) (wKa m c t) (wKb m c t) (wKc m c t) (wCK m c t) (ix2 n (kCol j l))) (fun l => wQ m c t (ix2 r (qCol j l)))))
    (fun n : Fin 896 => k0_pay52 (F := Ideal) (wVa m c t) (wVb m c t) (wVc m c t) (wCV m c t) (ix2 n (vCol j))) (wZ m c t (ix1 (headOf j))) = _
  simp only [score_eq m c t h r j hb, z_at]
  rw [once_congr _ _ _ _ (value_eq m c t h r j hb)]
  obtain ⟨z, hz⟩ := hf.z (ix1 (headOf j))
  rw [hz]
  exact once_eq_each _ _ z (lscore_ne_top m c hf _ j)

/-- Where a block of the result lies. -/
theorem out_place (t : Fin cfg0.N) (r : Fin 128) (j : Fin 512) (hb) (G : FVec Ideal S16384x512 .f32) :
    G ((win0_12.blk t).view.emb (show S128x512.Idx from ix2 r j)) = G (ix2 ⟨128 * t.val + r, hb⟩ j) := by
  blk_ext [(idx_all t).2.2]

/-- The array that the kernel leaves is the reference's result. -/
theorem final (c : Dev nD) (hf : Finite m c) :
    (dats m 0 c).arrAt 12 cfg0.N = rows (rowsC (aQ m c) (aK m c) (aV m c) (aZ m c)) (rowsL (aQ m c) (aK m c) (aV m c) (aCK m c) (aCV m c) (aZ m c)) := by
  refine (dats m 0 c).arrAt_eq_of_covers 12 _ (by decide +kernel) fun t hfl y => ?_
  blk_simp
  rw [after0_12]
  have ht : t.val < 128 := N_eq ▸ t.isLt
  obtain ⟨r, j, rfl⟩ : ∃ (r : Fin 128) (j : Fin 512), y = (show S128x512.Idx from ix2 r j) :=
    ⟨(show S128x512.Idx from y) 0, (show S128x512.Idx from y) 1, eq_ix2 (show S128x512.Idx from y)⟩
  refine Eq.trans ?_ (out_place t r j (by omega) _).symm
  rw [rows_at]
  by_cases h : t.val < 64
  · rw [dif_pos (by dsimp only; omega)]
    exact pointA m c hf t h r j (by omega)
  · rw [dif_neg (by dsimp only; omega)]
    refine (pointB m c hf t (by omega) r j (by omega)).trans ?_
    exact congrArg (fun i : Fin 8192 => rowsL (aQ m c) (aK m c) (aV m c) (aCK m c) (aCV m c) (aZ m c) (ix2 i j)) (Fin.ext (by dsimp only; omega))

/-- An extended real whose absolute value is below `+∞` is a real. -/
theorem isReal_of_abs {x : Ideal .f32}
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := by
    by_contra hn
    simp [hn] at h
  rw [max_lt_iff] at hlt
  refine ⟨EReal.toReal x, (EReal.coe_toReal hlt.1.ne fun hb => ?_).symm⟩
  rw [hb] at hlt
  simp at hlt

/-- The precondition says that the arrays which the scores read hold reals. -/
theorem finite_of_pre [hP : Cert.Pre_finite_logits.Facts] (h : Cert.Pre_KernelIdeal_finite_logits m) (c : Dev nD) : Finite m c := by
  obtain ⟨h0, h1, h2, h3⟩ := h c
  exact ⟨fun i => isReal_of_abs (congrFun h0 i), fun i => isReal_of_abs (congrFun h1 i), fun i => isReal_of_abs (congrFun h2 i),
    fun i => isReal_of_abs (congrFun h3 i)⟩

end Cert.KernelIdeal.Attn
-- ==== Proof.FfnMath.lean ====
module

public import Idealize.ShloMosaic.PureOps.Ideal
public import Idealize.ShloMosaic.Lib.Pointwise

@[expose] public section

noncomputable section

namespace Cert.Ffn

open Idealize.ShloMosaic

/-- `x / (1 + exp (-x))`, as the product of `x` and that quotient of one. -/
def silu (x : EReal) : EReal :=
  x * Ideal.div (Ideal.ofBits .f32 0x3F800000#32) (Ideal.ofBits .f32 0x3F800000#32 + Ideal.exp (-x))

/-- A hidden value of the feed-forward: a row's product with one column, through `silu`, times its product with another. -/
def hidden (h a b : Fin 1024 → EReal) : EReal := silu (∑ l, h l * a l) * ∑ l, h l * b l

/-- The mean of a row. -/
def mean (u : Fin 1024 → EReal) : EReal := Ideal.div (∑ l, u l) (Ideal.ofBits .f32 0x44800000#32)

/-- One entry of a row's layer norm. -/
def norm (u : Fin 1024 → EReal) (g b : EReal) (j : Fin 1024) : EReal :=
  (u j - mean u) * Ideal.rsqrt (mean (fun l => (u l - mean u) * (u l - mean u)) + Ideal.ofBits .f32 0x3727C5AC#32) * g + b

/-- A row, scaled, and its gated feed-forward. -/
def mixed (x z y : EReal) : EReal := Ideal.ofBits .f32 0x3FB504F3#32 * x + z * y

/-- A row modulated by scale and shift. -/
def moved (x s t : EReal) : EReal := x * (Ideal.ofBits .f32 0x3F800000#32 + s) + t

/-- The whole part, of one row with its six modulation rows: each entry of the result. -/
def rowOut (x : Fin 1024 → EReal) (md : Fin 6 → Fin 1024 → EReal) (w1 w3 : Fin 1024 → Fin 2816 → EReal) (w2 : Fin 2816 → Fin 1024 → EReal)
    (g b : Fin 1024 → EReal) (j : Fin 1024) : EReal :=
  norm (fun k => mixed (x k) (md 5 k) (∑ f, hidden (fun l => moved (x l) (md 4 l) (md 3 l)) (fun l => w1 l f) (fun l => w3 l f) * w2 f k)) (g j) (b j) j

/-- Eleven numbers added one by one. -/
theorem sum_eleven (s : Fin 11 → EReal) :
    ∑ k, s k = ((((((((((0 + s 0) + s 1) + s 2) + s 3) + s 4) + s 5) + s 6) + s 7) + s 8) + s 9) + s 10 := by
  simp only [Fin.sum_univ_castSucc, Fin.sum_univ_zero]
  rfl

/-- A sum over 2816 is that of eleven sums over 256, added one by one. -/
theorem sum_parts (t : Fin 2816 → EReal) :
    ∑ f, t f = ((((((((((0 + ∑ i : Fin 256, t ⟨i, by omega⟩) + ∑ i : Fin 256, t ⟨256 + i, by omega⟩) + ∑ i : Fin 256, t ⟨512 + i, by omega⟩)
      + ∑ i : Fin 256, t ⟨768 + i, by omega⟩) + ∑ i : Fin 256, t ⟨1024 + i, by omega⟩) + ∑ i : Fin 256, t ⟨1280 + i, by omega⟩)
      + ∑ i : Fin 256, t ⟨1536 + i, by omega⟩) + ∑ i : Fin 256, t ⟨1792 + i, by omega⟩) + ∑ i : Fin 256, t ⟨2048 + i, by omega⟩)
      + ∑ i : Fin 256, t ⟨2304 + i, by omega⟩) + ∑ i : Fin 256, t ⟨2560 + i, by omega⟩ := by
  have e : ∑ f, t f = ∑ k : Fin 11, ∑ i : Fin 256, t ⟨256 * k + i, by omega⟩ := by
    rw [← Fintype.sum_prod_type', ← (finProdFinEquiv (m := 11) (n := 256)).sum_comp]
    refine Finset.sum_congr rfl fun p _ => congrArg t (Fin.ext ?_)
    simp only [finProdFinEquiv, Equiv.coe_fn_mk]
    omega
  have z : ∀ i : Fin 256, (⟨i, by omega⟩ : Fin 2816) = ⟨256 * (0 : Fin 11) + i, by dsimp only [Fin.val_zero]; omega⟩ := fun i => Fin.ext (by simp)
  rw [e, sum_eleven]
  simp only [z]
  rfl

end Cert.Ffn
-- ==== Proof.FfnBlock.lean ====
module

public import proofs.«01_k».proof.Proof.Gen.Kernel2Ideal.Value
public import Idealize.ShloMosaic.Lib.Pipeline.ValueKit
public import Idealize.ShloMosaic.Lib.Pointwise
public import proofs.«01_k».proof.Proof.FfnMath

@[expose] public section

set_option maxRecDepth 16384

noncomputable section

namespace Cert.Kernel2Ideal.Ffn

open Cert.Ffn
open Idealize.ShloMosaic Idealize.ShloMosaic.TcCoe Idealize.SL.Sem
open Cert.Kernel2Ideal Cert.Kernel2Ideal.Gen

/-- The rows' products with 256 columns of a weight. -/
def upV (h : FVec Ideal S512x1024 .bf16) (w : FVec Ideal S1024x256 .bf16) : FVec Ideal S512x256 .f32 :=
  matmul dot_S512x1024_S1024x256_S512x256_1_0_0_1_n_n none h (shapeCast S1024x256 w shapeCasts_S1024x256_S1024x256)
    (constant S512x256 .f32 0x00000000#32)

/-- The hidden values of 256 columns. -/
def hidV (h : FVec Ideal S512x1024 .bf16) (a b : FVec Ideal S1024x256 .bf16) : FVec Ideal S512x256 .bf16 :=
  truncf .bf16 (mulf (mulf (upV h a) (divf (broadcast S512x256 (Scalar.ofBits .f32 0x3F800000#32))
    (addf (broadcast S512x256 (Scalar.ofBits .f32 0x3F800000#32))
      (exp (subf (broadcast S512x256 (Scalar.ofBits .f32 0x00000000#32)) (upV h a)))))) (upV h b)) bitsLt_bf16_f32

/-- What 256 hidden columns give. -/
def partV (h : FVec Ideal S512x1024 .bf16) (a b : FVec Ideal S1024x256 .bf16) (w : FVec Ideal S256x1024 .bf16) : FVec Ideal S512x1024 .f32 :=
  matmul dot_S512x256_S256x1024_S512x1024_1_0_0_1_n_n none (hidV h a b) (shapeCast S256x1024 w shapeCasts_S256x1024_S256x1024)
    (constant S512x1024 .f32 0x00000000#32)

/-- The residual: the rows, scaled, and their gated feed-forward. -/
def mixV (x : FVec Ideal S512x1024 .f32) (md : FVec Ideal S6x1024 .f32) (y : FVec Ideal S512x1024 .f32) : FVec Ideal S512x1024 .f32 :=
  addf (mulf (broadcast S512x1024 (Scalar.ofBits .f32 0x3FB504F3#32)) x)
    (mulf (broadcastTo S512x1024 (extractStridedSlice S1x1024 ![5, 0] md slices_S6x1024_o5_0_S1x1024) broadcasts_S1x1024_S512x1024) y)

/-- The rows' means. -/
def meanV (u : FVec Ideal S512x1024 .f32) : FVec Ideal S512x1 .f32 :=
  divf (shapeCast S512x1 (multiReduction .add [1] S512 u 0x00000000#32 reduces_S512x1024_S512 (.inl rfl) rfl) shapeCasts_S512_S512x1)
    (broadcast S512x1 (Scalar.ofBits .f32 0x44800000#32))

/-- The rows less their means. -/
def centV (u : FVec Ideal S512x1024 .f32) : FVec Ideal S512x1024 .f32 :=
  subf u (broadcastTo S512x1024 (meanV u) broadcasts_S512x1_S512x1024)

/-- The rows' layer norms. -/
def normV (u : FVec Ideal S512x1024 .f32) (g b : FVec Ideal S1x1024 .f32) : FVec Ideal S512x1024 .f32 :=
  addf (mulf (mulf (centV u) (broadcastTo S512x1024 (rsqrt (addf (meanV (mulf (centV u) (centV u)))
      (broadcast S512x1 (Scalar.ofBits .f32 0x3727C5AC#32)))) broadcasts_S512x1_S512x1024))
    (broadcastTo S512x1024 (shapeCast S1x1024 g shapeCasts_S1x1024_S1x1024) broadcasts_S1x1024_S512x1024))
    (broadcastTo S512x1024 (shapeCast S1x1024 b shapeCasts_S1x1024_S1x1024) broadcasts_S1x1024_S512x1024)

/-- 256 columns of a weight. -/
def colsOf (w : FVec Ideal S1024x2816 .bf16) (o : ℕ) (h : o ≤ 2560) : FVec Ideal S1024x256 .bf16 :=
  fun x => w (ix2 (x 0) ⟨o + (x 1).val, by have : (x 1).val < 256 := (x 1).isLt; omega⟩)

/-- 256 rows of a weight. -/
def rowsOf (w : FVec Ideal S2816x1024 .bf16) (o : ℕ) (h : o ≤ 2560) : FVec Ideal S256x1024 .bf16 :=
  fun x => w (ix2 ⟨o + (x 0).val, by have : (x 0).val < 256 := (x 0).isLt; omega⟩ (x 1))

theorem ld_cols (w : FVec Ideal S1024x2816 .bf16) (o : ℕ) (h : o ≤ 2560) (inb) :
    View.ld (Val := Elt Ideal) (e' := .bf16) w (Rect.unit (s := S1024x2816) ![0, o] ![1024, 256] inb) = colsOf w o h := by
  funext x
  rw [View.ld_apply]
  refine congrArg w (funext fun a => Fin.ext ?_)
  fin_cases a <;> simp [ix2]

theorem ld_rows (w : FVec Ideal S2816x1024 .bf16) (o : ℕ) (h : o ≤ 2560) (inb) :
    View.ld (Val := Elt Ideal) (e' := .bf16) w (Rect.unit (s := S2816x1024) ![o, 0] ![256, 1024] inb) = rowsOf w o h := by
  funext x
  rw [View.ld_apply]
  refine congrArg w (funext fun a => Fin.ext ?_)
  fin_cases a <;> simp [ix2]

/-- What the part from column `o` on gives. -/
def partAt (h : FVec Ideal S512x1024 .bf16) (w1 w3 : FVec Ideal S1024x2816 .bf16) (w2 : FVec Ideal S2816x1024 .bf16) (o : ℕ) (ho : o ≤ 2560) :
    FVec Ideal S512x1024 .f32 :=
  partV h (colsOf w1 o ho) (colsOf w3 o ho) (rowsOf w2 o ho)

/-- The feed-forward, added part by part. -/
def sumV (h : FVec Ideal S512x1024 .bf16) (w1 w3 : FVec Ideal S1024x2816 .bf16) (w2 : FVec Ideal S2816x1024 .bf16) : FVec Ideal S512x1024 .f32 :=
  let p (o : ℕ) (ho : o ≤ 2560) := partAt h w1 w3 w2 o ho
  addf (addf (addf (addf (addf (addf (addf (addf (addf (addf (addf (broadcast S512x1024 (Scalar.ofBits .f32 0x00000000#32))
    (p 0 (by decide))) (p 256 (by decide))) (p 512 (by decide))) (p 768 (by decide))) (p 1024 (by decide))) (p 1280 (by decide)))
    (p 1536 (by decide))) (p 1792 (by decide))) (p 2048 (by decide))) (p 2304 (by decide))) (p 2560 (by decide))

theorem pay3_eq (md : FVec Ideal S1x6x1024 .f32) (x : FVec Ideal S512x1024 .f32) (a b : FVec Ideal S1024x256 .bf16) (w : FVec Ideal S256x1024 .bf16) :
    k0_pay3 md x a b w = addf (broadcast S512x1024 (Scalar.ofBits .f32 0x00000000#32)) (partV (k0_pay2 md x) a b w) := rfl

theorem pay5_eq (h : FVec Ideal S512x1024 .bf16) (s : FVec Ideal S512x1024 .f32) (a b : FVec Ideal S1024x256 .bf16) (w : FVec Ideal S256x1024 .bf16) (a' b' : FVec Ideal S1024x256 .bf16) (w' : FVec Ideal S256x1024 .bf16) :
    k0_pay5 h s (upV h a) b w a' b' w' = addf (addf s (partV h a b w)) (partV h a' b' w') := rfl

theorem pay6_eq (h : FVec Ideal S512x1024 .bf16) (s : FVec Ideal S512x1024 .f32) (a b : FVec Ideal S1024x256 .bf16) (w : FVec Ideal S256x1024 .bf16) : k0_pay6 h s a b w = addf s (partV h a b w) := rfl

theorem pay7_eq (h : FVec Ideal S512x1024 .bf16) (a b : FVec Ideal S1024x256 .bf16) (w : FVec Ideal S256x1024 .bf16) : k0_pay7 h a b w = partV h a b w := rfl

theorem pay8_eq (h : FVec Ideal S512x1024 .bf16) (s p : FVec Ideal S512x1024 .f32) (a b : FVec Ideal S1024x256 .bf16) (w : FVec Ideal S256x1024 .bf16) : k0_pay8 h s p a b w = addf (addf s p) (partV h a b w) := rfl

theorem pay10_eq (h : FVec Ideal S512x1024 .bf16) (s : FVec Ideal S512x1024 .f32) (a b : FVec Ideal S1024x256 .bf16) (w : FVec Ideal S256x1024 .bf16) (a' b' : FVec Ideal S1024x256 .bf16) (w' : FVec Ideal S256x1024 .bf16) :
    k0_pay10 h s (k0_pay9 h a b) w a' b' w' = addf (addf s (partV h a b w)) (partV h a' b' w') := rfl

theorem pay13_eq (h : FVec Ideal S512x1024 .bf16) (s : FVec Ideal S512x1024 .f32) (a b : FVec Ideal S1024x256 .bf16) (w : FVec Ideal S256x1024 .bf16) (a' b' : FVec Ideal S1024x256 .bf16) (w' : FVec Ideal S256x1024 .bf16) :
    k0_pay13 h s (k0_pay11 h b) (k0_pay12 h a) w a' b' w' = addf (addf s (partV h a b w)) (partV h a' b' w') := rfl

theorem pay17_eq (h : FVec Ideal S512x1024 .bf16) (md : FVec Ideal S6x1024 .f32) (x s : FVec Ideal S512x1024 .f32) (a b : FVec Ideal S1024x256 .bf16) (w : FVec Ideal S256x1024 .bf16) (g b' : FVec Ideal S1x1024 .f32) :
    k0_pay17 md x s (k0_pay14 h a) (k0_pay15 h b) (k0_pay16 h a) w g b' = normV (mixV x md (addf s (partV h a b w))) g b' := rfl

/-- A point's block of the result. -/
theorem out_eq (x : FVec Ideal S512x1024 .f32) (md : FVec Ideal S1x6x1024 .f32) (w1 w3 : FVec Ideal S1024x2816 .bf16) (w2 : FVec Ideal S2816x1024 .bf16)
    (g b : FVec Ideal S1x1024 .f32) :
    out0_7 (F := Ideal) x md w1 w3 w2 g b = normV (mixV x (k0_pay1 (F := Ideal) md) (sumV (k0_pay2 (F := Ideal) md x) w1 w3 w2)) g b := by
  have e1 : View.ld (Val := Elt Ideal) (e' := .f32) md r0_0 = md := View.ld_unit_lit _ _ (by decide)
  have e0 : View.ld (Val := Elt Ideal) (e' := .f32) x r0_1 = x := View.ld_unit_lit _ _ (by decide)
  have e5 : View.ld (Val := Elt Ideal) (e' := .f32) g r0_24 = g := View.ld_unit_lit _ _ (by decide)
  have e6 : View.ld (Val := Elt Ideal) (e' := .f32) b r0_24 = b := View.ld_unit_lit _ _ (by decide)
  unfold out0_7 k0_pay18
  rw [e0, e1, e5, e6]
  refine (View.canon_cons_unit_lit _ _ _ (by decide)).trans ?_
  have a0 : View.ld (Val := Elt Ideal) (e' := .bf16) w1 r0_2 = colsOf w1 0 (by decide) := ld_cols ..
  have b0 : View.ld (Val := Elt Ideal) (e' := .bf16) w3 r0_2 = colsOf w3 0 (by decide) := ld_cols ..
  have c0 : View.ld (Val := Elt Ideal) (e' := .bf16) w2 r0_3 = rowsOf w2 0 (by decide) := ld_rows ..
  have a1 : View.ld (Val := Elt Ideal) (e' := .bf16) w1 r0_4 = colsOf w1 256 (by decide) := ld_cols ..
  have b1 : View.ld (Val := Elt Ideal) (e' := .bf16) w3 r0_4 = colsOf w3 256 (by decide) := ld_cols ..
  have c1 : View.ld (Val := Elt Ideal) (e' := .bf16) w2 r0_5 = rowsOf w2 256 (by decide) := ld_rows ..
  have a2 : View.ld (Val := Elt Ideal) (e' := .bf16) w1 r0_6 = colsOf w1 512 (by decide) := ld_cols ..
  have b2 : View.ld (Val := Elt Ideal) (e' := .bf16) w3 r0_6 = colsOf w3 512 (by decide) := ld_cols ..
  have c2 : View.ld (Val := Elt Ideal) (e' := .bf16) w2 r0_7 = rowsOf w2 512 (by decide) := ld_rows ..
  have a3 : View.ld (Val := Elt Ideal) (e' := .bf16) w1 r0_8 = colsOf w1 768 (by decide) := ld_cols ..
  have b3 : View.ld (Val := Elt Ideal) (e' := .bf16) w3 r0_8 = colsOf w3 768 (by decide) := ld_cols ..
  have c3 : View.ld (Val := Elt Ideal) (e' := .bf16) w2 r0_9 = rowsOf w2 768 (by decide) := ld_rows ..
  have a4 : View.ld (Val := Elt Ideal) (e' := .bf16) w1 r0_10 = colsOf w1 1024 (by decide) := ld_cols ..
  have b4 : View.ld (Val := Elt Ideal) (e' := .bf16) w3 r0_10 = colsOf w3 1024 (by decide) := ld_cols ..
  have c4 : View.ld (Val := Elt Ideal) (e' := .bf16) w2 r0_11 = rowsOf w2 1024 (by decide) := ld_rows ..
  have a5 : View.ld (Val := Elt Ideal) (e' := .bf16) w1 r0_12 = colsOf w1 1280 (by decide) := ld_cols ..
  have b5 : View.ld (Val := Elt Ideal) (e' := .bf16) w3 r0_12 = colsOf w3 1280 (by decide) := ld_cols ..
  have c5 : View.ld (Val := Elt Ideal) (e' := .bf16) w2 r0_13 = rowsOf w2 1280 (by decide) := ld_rows ..
  have a6 : View.ld (Val := Elt Ideal) (e' := .bf16) w1 r0_14 = colsOf w1 1536 (by decide) := ld_cols ..
  have b6 : View.ld (Val := Elt Ideal) (e' := .bf16) w3 r0_14 = colsOf w3 1536 (by decide) := ld_cols ..
  have c6 : View.ld (Val := Elt Ideal) (e' := .bf16) w2 r0_15 = rowsOf w2 1536 (by decide) := ld_rows ..
  have a7 : View.ld (Val := Elt Ideal) (e' := .bf16) w1 r0_16 = colsOf w1 1792 (by decide) := ld_cols ..
  have b7 : View.ld (Val := Elt Ideal) (e' := .bf16) w3 r0_16 = colsOf w3 1792 (by decide) := ld_cols ..
  have c7 : View.ld (Val := Elt Ideal) (e' := .bf16) w2 r0_17 = rowsOf w2 1792 (by decide) := ld_rows ..
  have a8 : View.ld (Val := Elt Ideal) (e' := .bf16) w1 r0_18 = colsOf w1 2048 (by decide) := ld_cols ..
  have b8 : View.ld (Val := Elt Ideal) (e' := .bf16) w3 r0_18 = colsOf w3 2048 (by decide) := ld_cols ..
  have c8 : View.ld (Val := Elt Ideal) (e' := .bf16) w2 r0_19 = rowsOf w2 2048 (by decide) := ld_rows ..
  have a9 : View.ld (Val := Elt Ideal) (e' := .bf16) w1 r0_20 = colsOf w1 2304 (by decide) := ld_cols ..
  have b9 : View.ld (Val := Elt Ideal) (e' := .bf16) w3 r0_20 = colsOf w3 2304 (by decide) := ld_cols ..
  have c9 : View.ld (Val := Elt Ideal) (e' := .bf16) w2 r0_21 = rowsOf w2 2304 (by decide) := ld_rows ..
  have a10 : View.ld (Val := Elt Ideal) (e' := .bf16) w1 r0_22 = colsOf w1 2560 (by decide) := ld_cols ..
  have b10 : View.ld (Val := Elt Ideal) (e' := .bf16) w3 r0_22 = colsOf w3 2560 (by decide) := ld_cols ..
  have c10 : View.ld (Val := Elt Ideal) (e' := .bf16) w2 r0_23 = rowsOf w2 2560 (by decide) := ld_rows ..
  rw [a0, b0, c0, a1, b1, c1, a2, b2, c2, a3, b3, c3, a4, b4, c4, a5, b5, c5, a6, b6, c6, a7, b7, c7, a8, b8, c8, a9, b9, c9, a10, b10, c10, pay3_eq]
  rw [show k0_pay4 (F := Ideal) md x (colsOf w1 256 (by decide)) = upV (k0_pay2 (F := Ideal) md x) (colsOf w1 256 (by decide)) from rfl]
  rw [pay5_eq, pay6_eq, pay7_eq, pay8_eq, pay10_eq, pay13_eq, pay17_eq]
  rfl

theorem upV_at (h : FVec Ideal S512x1024 .bf16) (w : FVec Ideal S1024x256 .bf16) (r : Fin 512) (n : Fin 256) :
    upV h w (ix2 r n) = ∑ l : Fin 1024, h (ix2 r l) * w (ix2 l n) := by
  pointwise [upV]

theorem zero_less (x : EReal) : Ideal.ofBits .f32 0x00000000#32 - x = -x := by
  rw [show Ideal.ofBits .f32 0x00000000#32 = 0 by simp [Ideal.ofBits, Ideal.ieee], zero_sub]

/-- What the kernel takes for a hidden value of two products. -/
theorem hid_at (u v : FVec Ideal S512x256 .f32) (i : S512x256.Idx) :
    truncf .bf16 (mulf (mulf u (divf (broadcast S512x256 (Scalar.ofBits .f32 0x3F800000#32))
      (addf (broadcast S512x256 (Scalar.ofBits .f32 0x3F800000#32))
        (exp (subf (broadcast S512x256 (Scalar.ofBits .f32 0x00000000#32)) u))))) v) bitsLt_bf16_f32 i = silu (u i) * v i := by
  rw [silu, ← zero_less]
  rfl

theorem hidV_at (h : FVec Ideal S512x1024 .bf16) (a b : FVec Ideal S1024x256 .bf16) (r : Fin 512) (n : Fin 256) :
    hidV h a b (ix2 r n) = hidden (fun l => h (ix2 r l)) (fun l => a (ix2 l n)) (fun l => b (ix2 l n)) := by
  rw [hidV, hid_at, upV_at, upV_at, Cert.Ffn.hidden]

theorem partV_at (h : FVec Ideal S512x1024 .bf16) (a b : FVec Ideal S1024x256 .bf16) (w : FVec Ideal S256x1024 .bf16) (r : Fin 512) (j : Fin 1024) :
    partV h a b w (ix2 r j) = ∑ f : Fin 256, hidden (fun l => h (ix2 r l)) (fun l => a (ix2 l f)) (fun l => b (ix2 l f)) * w (ix2 f j) := by
  pointwise [partV, hidV_at]

theorem add_at {S : Shape} (a b : FVec Ideal S .f32) (i : S.Idx) : addf a b i = (a i : EReal) + b i := rfl

theorem partAt_at (h : FVec Ideal S512x1024 .bf16) (w1 w3 : FVec Ideal S1024x2816 .bf16) (w2 : FVec Ideal S2816x1024 .bf16) (o : ℕ) (ho : o ≤ 2560)
    (r : Fin 512) (j : Fin 1024) :
    partAt h w1 w3 w2 o ho (ix2 r j) = ∑ i : Fin 256, (fun f : Fin 2816 => hidden (fun l => h (ix2 r l)) (fun l => w1 (ix2 l f)) (fun l => w3 (ix2 l f))
      * w2 (ix2 f j)) ⟨o + i, by omega⟩ := by
  rw [partAt, partV_at]
  rfl

theorem sumV_at (h : FVec Ideal S512x1024 .bf16) (w1 w3 : FVec Ideal S1024x2816 .bf16) (w2 : FVec Ideal S2816x1024 .bf16) (r : Fin 512) (j : Fin 1024) :
    sumV h w1 w3 w2 (ix2 r j) = ∑ f, hidden (fun l => h (ix2 r l)) (fun l => w1 (ix2 l f)) (fun l => w3 (ix2 l f)) * w2 (ix2 f j) := by
  have z : ∀ i : Fin 256, (⟨0 + i, by omega⟩ : Fin 2816) = ⟨i, by omega⟩ := fun i => Fin.ext (Nat.zero_add _)
  rw [sum_parts (fun f : Fin 2816 => hidden (fun l => h (ix2 r l)) (fun l => w1 (ix2 l f)) (fun l => w3 (ix2 l f)) * w2 (ix2 f j))]
  rw [sumV]
  simp only [add_at, partAt_at, z]
  rw [show (broadcast S512x1024 (Scalar.ofBits .f32 0x00000000#32) : FVec Ideal S512x1024 .f32) (ix2 r j) = 0 from
    (show Ideal.ofBits .f32 0x00000000#32 = 0 by simp [Ideal.ofBits, Ideal.ieee])]

theorem mixV_at (x : FVec Ideal S512x1024 .f32) (md : FVec Ideal S1x6x1024 .f32) (y : FVec Ideal S512x1024 .f32) (r : Fin 512) (j : Fin 1024) :
    mixV x (k0_pay1 (F := Ideal) md) y (ix2 r j) = mixed (x (ix2 r j)) (md (ix3 0 5 j)) (y (ix2 r j)) := by
  pointwise [mixV, k0_pay1]
  rfl

theorem h_at (md : FVec Ideal S1x6x1024 .f32) (x : FVec Ideal S512x1024 .f32) (r : Fin 512) (j : Fin 1024) :
    k0_pay2 (F := Ideal) md x (ix2 r j) = moved (x (ix2 r j)) (md (ix3 0 4 j)) (md (ix3 0 3 j)) := by
  pointwise [k0_pay2, k0_pay1, moved]

theorem meanV_at (u : FVec Ideal S512x1024 .f32) (r : Fin 512) (n : Fin 1) : meanV u (ix2 r n) = mean (fun l => u (ix2 r l)) := by
  pointwise [meanV]
  rfl

theorem centV_at (u : FVec Ideal S512x1024 .f32) (r : Fin 512) (j : Fin 1024) : centV u (ix2 r j) = u (ix2 r j) - mean (fun l => u (ix2 r l)) := by
  pointwise [centV, meanV_at]

theorem normV_at (u : FVec Ideal S512x1024 .f32) (g b : FVec Ideal S1x1024 .f32) (r : Fin 512) (j : Fin 1024) :
    normV u g b (ix2 r j) = norm (fun l => u (ix2 r l)) (g (ix2 0 j)) (b (ix2 0 j)) j := by
  pointwise [normV, meanV_at, centV_at]
  rfl

/-- An entry of a point's block of the result. -/
theorem out_at (x : FVec Ideal S512x1024 .f32) (md : FVec Ideal S1x6x1024 .f32) (w1 w3 : FVec Ideal S1024x2816 .bf16) (w2 : FVec Ideal S2816x1024 .bf16)
    (g b : FVec Ideal S1x1024 .f32) (r : Fin 512) (j : Fin 1024) :
    out0_7 (F := Ideal) x md w1 w3 w2 g b (ix2 r j) = rowOut (fun l => x (ix2 r l)) (fun q l => md (ix3 0 q l))
      (fun l f => w1 (ix2 l f)) (fun l f => w3 (ix2 l f)) (fun f l => w2 (ix2 f l)) (fun l => g (ix2 0 l)) (fun l => b (ix2 0 l)) j := by
  rw [out_eq, normV_at, rowOut]
  simp only [mixV_at, sumV_at, h_at]

end Cert.Kernel2Ideal.Ffn
-- ==== Proof.FfnRef.lean ====
module

public import proofs.«01_k».proof.Proof.Gen.Reference2Ideal.Run
public import Idealize.ShloMosaic.Lib.Pipeline.ValueKit
public import Idealize.ShloMosaic.Lib.Pointwise
public import proofs.«01_k».proof.Proof.FfnMath

@[expose] public section

set_option maxRecDepth 16384

noncomputable section

namespace Cert.Reference2Ideal.Ffn

open Cert.Ffn
open Idealize.ShloMosaic Idealize.SL.Sem
open Cert.Reference2Ideal Cert.Reference2Ideal.Gen

/-- The six modulation rows of each group. -/
def mods (md : FVec Ideal S3x6x1024 .f32) : FVec Ideal S3x6x1x1024 .f32 :=
  broadcastInDim S3x6x1x1024 ![0, 1, 3] bcast_S3x6x1024_S3x6x1x1024_0_1_3 md

/-- The context's six. -/
def sixC (md : FVec Ideal S3x6x1024 .f32) : FVec Ideal S6x1x1024 .f32 :=
  shapeCast S6x1x1024 (extractStridedSlice S1x6x1x1024 ![0, 0, 0, 0] (mods md) slices_S3x6x1x1024_S1x6x1x1024_0_0_0_0) shapeCasts_S1x6x1x1024_S6x1x1024

/-- The latent sequences' six each. -/
def sixL (md : FVec Ideal S3x6x1024 .f32) : FVec Ideal S2x6x1x1024 .f32 :=
  extractStridedSlice S2x6x1x1024 ![1, 0, 0, 0] (mods md) slices_S3x6x1x1024_S2x6x1x1024_1_0_0_0

def onC (u : FVec Ideal S1x1024 .f32) : FVec Ideal S32x256x1024 .f32 :=
  broadcastInDim S32x256x1024 ![0, 1, 2] bcast_S1x1x1024_S32x256x1024_0_1_2 (broadcastInDim S1x1x1024 ![1, 2] bcast_S1x1024_S1x1x1024_1_2 u)

def onL (u : FVec Ideal S2x1x1024 .f32) : FVec Ideal S2x4096x1024 .f32 :=
  broadcastInDim S2x4096x1024 ![0, 1, 2] bcast_S2x1x1024_S2x4096x1024_0_1_2 u

def oneC : FVec Ideal S1x1024 .f32 := broadcastInDim S1x1024 ![] bcast_S_S1x1024 (constant S_ .f32 0x3F800000#32)

def oneL : FVec Ideal S2x1x1024 .f32 := broadcastInDim S2x1x1024 ![] bcast_S_S2x1x1024 (constant S_ .f32 0x3F800000#32)

def shC (md : FVec Ideal S3x6x1024 .f32) : FVec Ideal S1x1024 .f32 :=
  shapeCast S1x1024 (extractStridedSlice S1x1x1024 ![3, 0, 0] (sixC md) slices_S6x1x1024_S1x1x1024_3_0_0) shapeCasts_S1x1x1024_S1x1024

def shL (md : FVec Ideal S3x6x1024 .f32) : FVec Ideal S2x1x1024 .f32 :=
  shapeCast S2x1x1024 (extractStridedSlice S2x1x1x1024 ![0, 3, 0, 0] (sixL md) slices_S2x6x1x1024_S2x1x1x1024_0_3_0_0) shapeCasts_S2x1x1x1024_S2x1x1024

def scC (md : FVec Ideal S3x6x1024 .f32) : FVec Ideal S1x1024 .f32 :=
  shapeCast S1x1024 (extractStridedSlice S1x1x1024 ![4, 0, 0] (sixC md) slices_S6x1x1024_S1x1x1024_4_0_0) shapeCasts_S1x1x1024_S1x1024

def scL (md : FVec Ideal S3x6x1024 .f32) : FVec Ideal S2x1x1024 .f32 :=
  shapeCast S2x1x1024 (extractStridedSlice S2x1x1x1024 ![0, 4, 0, 0] (sixL md) slices_S2x6x1x1024_S2x1x1x1024_0_4_0_0) shapeCasts_S2x1x1x1024_S2x1x1024

def gaC (md : FVec Ideal S3x6x1024 .f32) : FVec Ideal S1x1024 .f32 :=
  shapeCast S1x1024 (extractStridedSlice S1x1x1024 ![5, 0, 0] (sixC md) slices_S6x1x1024_S1x1x1024_5_0_0) shapeCasts_S1x1x1024_S1x1024

def gaL (md : FVec Ideal S3x6x1024 .f32) : FVec Ideal S2x1x1024 .f32 :=
  shapeCast S2x1x1024 (extractStridedSlice S2x1x1x1024 ![0, 5, 0, 0] (sixL md) slices_S2x6x1x1024_S2x1x1x1024_0_5_0_0) shapeCasts_S2x1x1x1024_S2x1x1024

/-- The group's rows. -/
def inC (x : FVec Ideal S16384x1024 .f32) : FVec Ideal S32x256x1024 .f32 :=
  shapeCast S32x256x1024 (extractStridedSlice S8192x1024 ![0, 0] x slices_S16384x1024_S8192x1024_0_0) shapeCasts_S8192x1024_S32x256x1024

/-- The rows modulated. -/
def mvC (x : FVec Ideal S16384x1024 .f32) (md : FVec Ideal S3x6x1024 .f32) : FVec Ideal S32x256x1024 .f32 :=
  addf (mulf (inC x) (onC (addf oneC (scC md)))) (onC (shC md))

def upC (h : FVec Ideal S32x256x1024 .f32) (w : FVec Ideal S1024x2816 .f32) : FVec Ideal S32x256x2816 .f32 :=
  Host.dotGeneral dot_S32x256x1024_S1024x2816_S32x256x2816_2_0_01_1_n_n none h w

def siC (u : FVec Ideal S32x256x2816 .f32) : FVec Ideal S32x256x2816 .f32 :=
  mulf u (Host.divf (broadcastInDim S32x256x2816 ![] bcast_S_S32x256x2816 (constant S_ .f32 0x3F800000#32))
    (addf (broadcastInDim S32x256x2816 ![] bcast_S_S32x256x2816 (constant S_ .f32 0x3F800000#32)) (Host.exp (Host.negf u))))

def dnC (h : FVec Ideal S32x256x2816 .f32) (w : FVec Ideal S2816x1024 .f32) : FVec Ideal S32x256x1024 .f32 :=
  Host.dotGeneral dot_S32x256x2816_S2816x1024_S32x256x1024_2_0_01_1_n_n none h w

/-- The feed-forward. -/
def ffC (h : FVec Ideal S32x256x1024 .f32) (w1 w3 : FVec Ideal S1024x2816 .f32) (w2 : FVec Ideal S2816x1024 .f32) : FVec Ideal S32x256x1024 .f32 :=
  dnC (mulf (siC (upC h w1)) (upC h w3)) w2

/-- The residual. -/
def mxC (x : FVec Ideal S16384x1024 .f32) (md : FVec Ideal S3x6x1024 .f32) (y : FVec Ideal S32x256x1024 .f32) : FVec Ideal S32x256x1024 .f32 :=
  addf (mulf (broadcastInDim S32x256x1024 ![] bcast_S_S32x256x1024 (constant S_ .f32 0x3FB504F3#32)) (inC x)) (mulf (onC (gaC md)) y)

def smC (u : FVec Ideal S32x256x1024 .f32) : FVec Ideal S32x256 .f32 :=
  Host.reduceAdd u (constant S_ .f32 0x00000000#32) reducesTo_S32x256x1024_S32x256_d2 h_S_

def mnC (u : FVec Ideal S32x256x1024 .f32) : FVec Ideal S32x256x1 .f32 :=
  Host.divf (broadcastInDim S32x256x1 ![0, 1] bcast_S32x256_S32x256x1_0_1 (smC u)) (broadcastInDim S32x256x1 ![] bcast_S_S32x256x1 (constant S_ .f32 0x44800000#32))

def spC (u : FVec Ideal S32x256x1 .f32) : FVec Ideal S32x256x1024 .f32 :=
  broadcastInDim S32x256x1024 ![0, 1, 2] bcast_S32x256x1_S32x256x1024_0_1_2 u

def rowC (v : FVec Ideal S1024 .f32) : FVec Ideal S32x256x1024 .f32 :=
  broadcastInDim S32x256x1024 ![0, 1, 2] bcast_S1x1x1024_S32x256x1024_0_1_2 (broadcastInDim S1x1x1024 ![2] bcast_S1024_S1x1x1024_2 v)

def epsC : FVec Ideal S32x256x1 .f32 := broadcastInDim S32x256x1 ![] bcast_S_S32x256x1 (constant S_ .f32 0x3727C5AC#32)

/-- The layer norm. -/
def nmC (u : FVec Ideal S32x256x1024 .f32) (w b : FVec Ideal S1024 .f32) : FVec Ideal S32x256x1024 .f32 :=
  addf (mulf (mulf (subf u (spC (mnC u))) (spC (Host.rsqrt (addf (mnC (mulf (subf u (spC (mnC u))) (subf u (spC (mnC u))))) epsC))))
    (rowC w)) (rowC b)

def flC (u : FVec Ideal S32x256x1024 .f32) : FVec Ideal S8192x1024 .f32 := shapeCast S8192x1024 u shapeCasts_S32x256x1024_S8192x1024

/-- The group's result. -/
def allC (x : FVec Ideal S16384x1024 .f32) (md : FVec Ideal S3x6x1024 .f32) (w1 w3 : FVec Ideal S1024x2816 .f32) (w2 : FVec Ideal S2816x1024 .f32)
    (w b : FVec Ideal S1024 .f32) : FVec Ideal S8192x1024 .f32 :=
  flC (nmC (mxC x md (ffC (mvC x md) w1 w3 w2)) w b)

/-- The group's rows. -/
def inL (x : FVec Ideal S16384x1024 .f32) : FVec Ideal S2x4096x1024 .f32 :=
  shapeCast S2x4096x1024 (extractStridedSlice S8192x1024 ![8192, 0] x slices_S16384x1024_S8192x1024_8192_0) shapeCasts_S8192x1024_S2x4096x1024

/-- The rows modulated. -/
def mvL (x : FVec Ideal S16384x1024 .f32) (md : FVec Ideal S3x6x1024 .f32) : FVec Ideal S2x4096x1024 .f32 :=
  addf (mulf (inL x) (onL (addf oneL (scL md)))) (onL (shL md))

def upL (h : FVec Ideal S2x4096x1024 .f32) (w : FVec Ideal S1024x2816 .f32) : FVec Ideal S2x4096x2816 .f32 :=
  Host.dotGeneral dot_S2x4096x1024_S1024x2816_S2x4096x2816_2_0_01_1_n_n none h w

def siL (u : FVec Ideal S2x4096x2816 .f32) : FVec Ideal S2x4096x2816 .f32 :=
  mulf u (Host.divf (broadcastInDim S2x4096x2816 ![] bcast_S_S2x4096x2816 (constant S_ .f32 0x3F800000#32))
    (addf (broadcastInDim S2x4096x2816 ![] bcast_S_S2x4096x2816 (constant S_ .f32 0x3F800000#32)) (Host.exp (Host.negf u))))

def dnL (h : FVec Ideal S2x4096x2816 .f32) (w : FVec Ideal S2816x1024 .f32) : FVec Ideal S2x4096x1024 .f32 :=
  Host.dotGeneral dot_S2x4096x2816_S2816x1024_S2x4096x1024_2_0_01_1_n_n none h w

/-- The feed-forward. -/
def ffL (h : FVec Ideal S2x4096x1024 .f32) (w1 w3 : FVec Ideal S1024x2816 .f32) (w2 : FVec Ideal S2816x1024 .f32) : FVec Ideal S2x4096x1024 .f32 :=
  dnL (mulf (siL (upL h w1)) (upL h w3)) w2

/-- The residual. -/
def mxL (x : FVec Ideal S16384x1024 .f32) (md : FVec Ideal S3x6x1024 .f32) (y : FVec Ideal S2x4096x1024 .f32) : FVec Ideal S2x4096x1024 .f32 :=
  addf (mulf (broadcastInDim S2x4096x1024 ![] bcast_S_S2x4096x1024 (constant S_ .f32 0x3FB504F3#32)) (inL x)) (mulf (onL (gaL md)) y)

def smL (u : FVec Ideal S2x4096x1024 .f32) : FVec Ideal S2x4096 .f32 :=
  Host.reduceAdd u (constant S_ .f32 0x00000000#32) reducesTo_S2x4096x1024_S2x4096_d2 h_S_

def mnL (u : FVec Ideal S2x4096x1024 .f32) : FVec Ideal S2x4096x1 .f32 :=
  Host.divf (broadcastInDim S2x4096x1 ![0, 1] bcast_S2x4096_S2x4096x1_0_1 (smL u)) (broadcastInDim S2x4096x1 ![] bcast_S_S2x4096x1 (constant S_ .f32 0x44800000#32))

def spL (u : FVec Ideal S2x4096x1 .f32) : FVec Ideal S2x4096x1024 .f32 :=
  broadcastInDim S2x4096x1024 ![0, 1, 2] bcast_S2x4096x1_S2x4096x1024_0_1_2 u

def rowL (v : FVec Ideal S1024 .f32) : FVec Ideal S2x4096x1024 .f32 :=
  broadcastInDim S2x4096x1024 ![0, 1, 2] bcast_S1x1x1024_S2x4096x1024_0_1_2 (broadcastInDim S1x1x1024 ![2] bcast_S1024_S1x1x1024_2 v)

def epsL : FVec Ideal S2x4096x1 .f32 := broadcastInDim S2x4096x1 ![] bcast_S_S2x4096x1 (constant S_ .f32 0x3727C5AC#32)

/-- The layer norm. -/
def nmL (u : FVec Ideal S2x4096x1024 .f32) (w b : FVec Ideal S1024 .f32) : FVec Ideal S2x4096x1024 .f32 :=
  addf (mulf (mulf (subf u (spL (mnL u))) (spL (Host.rsqrt (addf (mnL (mulf (subf u (spL (mnL u))) (subf u (spL (mnL u))))) epsL))))
    (rowL w)) (rowL b)

def flL (u : FVec Ideal S2x4096x1024 .f32) : FVec Ideal S8192x1024 .f32 := shapeCast S8192x1024 u shapeCasts_S2x4096x1024_S8192x1024

/-- The group's result. -/
def allL (x : FVec Ideal S16384x1024 .f32) (md : FVec Ideal S3x6x1024 .f32) (w1 w3 : FVec Ideal S1024x2816 .f32) (w2 : FVec Ideal S2816x1024 .f32)
    (w b : FVec Ideal S1024 .f32) : FVec Ideal S8192x1024 .f32 :=
  flL (nmL (mxL x md (ffL (mvL x md) w1 w3 w2)) w b)

/-- Both groups' rows. -/
def rows (c l : FVec Ideal S8192x1024 .f32) : FVec Ideal S16384x1024 .f32 :=
  concatenate S16384x1024 0 [⟨S8192x1024, c⟩, ⟨S8192x1024, l⟩] concatenates_S8192x1024_S8192x1024_S16384x1024_d0

theorem rows_at (c l : FVec Ideal S8192x1024 .f32) (i : Fin 16384) (j : Fin 1024) :
    rows c l (ix2 i j) = if h : (i : ℕ) < 8192 then c (ix2 ⟨i, h⟩ j) else l (ix2 ⟨i - 8192, by omega⟩ j) := by
  pointwise [rows]

theorem mul_at {S : Shape} (a b : FVec Ideal S .f32) (i : S.Idx) : mulf a b i = (a i : EReal) * b i := rfl

theorem add_at {S : Shape} (a b : FVec Ideal S .f32) (i : S.Idx) : addf a b i = (a i : EReal) + b i := rfl

theorem sub_at {S : Shape} (a b : FVec Ideal S .f32) (i : S.Idx) : subf a b i = (a i : EReal) - b i := rfl

theorem div_at {S : Shape} (a b : FVec Ideal S .f32) (i : S.Idx) : Host.divf a b i = Ideal.div (a i) (b i) := rfl

theorem rsqrt_at {S : Shape} (a : FVec Ideal S .f32) (i : S.Idx) : Host.rsqrt a i = Ideal.rsqrt (a i) := rfl

theorem shC_at (md : FVec Ideal S3x6x1024 .f32) (k : Fin 1) (j : Fin 1024) : shC md (ix2 k j) = md (ix3 0 3 j) := by
  pointwise [shC, sixC, mods]
  blk_ext

theorem scC_at (md : FVec Ideal S3x6x1024 .f32) (k : Fin 1) (j : Fin 1024) : scC md (ix2 k j) = md (ix3 0 4 j) := by
  pointwise [scC, sixC, mods]
  blk_ext

theorem gaC_at (md : FVec Ideal S3x6x1024 .f32) (k : Fin 1) (j : Fin 1024) : gaC md (ix2 k j) = md (ix3 0 5 j) := by
  pointwise [gaC, sixC, mods]
  blk_ext

theorem onC_at (u : FVec Ideal S1x1024 .f32) (k : Fin 32) (r : Fin 256) (j : Fin 1024) : onC u (ix3 k r j) = u (ix2 0 j) := by
  pointwise [onC]

theorem inC_at (x : FVec Ideal S16384x1024 .f32) (k : Fin 32) (r : Fin 256) (j : Fin 1024) : inC x (ix3 k r j) = x (ix2 ⟨(256 * k + r), by omega⟩ j) := by
  pointwise [inC]
  blk_ext

theorem mvC_at (x : FVec Ideal S16384x1024 .f32) (md : FVec Ideal S3x6x1024 .f32) (k : Fin 32) (r : Fin 256) (j : Fin 1024) :
    mvC x md (ix3 k r j) = moved (x (ix2 ⟨(256 * k + r), by omega⟩ j)) (md (ix3 0 4 j)) (md (ix3 0 3 j)) := by
  rw [mvC, add_at, mul_at, onC_at, onC_at, inC_at, add_at, scC_at, shC_at]
  rfl

theorem upC_at (h : FVec Ideal S32x256x1024 .f32) (w : FVec Ideal S1024x2816 .f32) (k : Fin 32) (r : Fin 256) (f : Fin 2816) :
    upC h w (ix3 k r f) = ∑ l : Fin 1024, h (ix3 k r l) * w (ix2 l f) := by
  pointwise [upC]

theorem siC_at (u : FVec Ideal S32x256x2816 .f32) (k : Fin 32) (r : Fin 256) (f : Fin 2816) : siC u (ix3 k r f) = silu (u (ix3 k r f)) := by
  rw [siC, mul_at, div_at, add_at]
  rfl

theorem dnC_at (h : FVec Ideal S32x256x2816 .f32) (w : FVec Ideal S2816x1024 .f32) (k : Fin 32) (r : Fin 256) (j : Fin 1024) :
    dnC h w (ix3 k r j) = ∑ f : Fin 2816, h (ix3 k r f) * w (ix2 f j) := by
  pointwise [dnC]

theorem ffC_at (h : FVec Ideal S32x256x1024 .f32) (w1 w3 : FVec Ideal S1024x2816 .f32) (w2 : FVec Ideal S2816x1024 .f32) (k : Fin 32) (r : Fin 256) (j : Fin 1024) :
    ffC h w1 w3 w2 (ix3 k r j) = ∑ f, hidden (fun l => h (ix3 k r l)) (fun l => w1 (ix2 l f)) (fun l => w3 (ix2 l f)) * w2 (ix2 f j) := by
  rw [ffC, dnC_at]
  simp only [mul_at, siC_at, upC_at, Cert.Ffn.hidden]

theorem mxC_at (x : FVec Ideal S16384x1024 .f32) (md : FVec Ideal S3x6x1024 .f32) (y : FVec Ideal S32x256x1024 .f32) (k : Fin 32) (r : Fin 256) (j : Fin 1024) :
    mxC x md y (ix3 k r j) = mixed (x (ix2 ⟨(256 * k + r), by omega⟩ j)) (md (ix3 0 5 j)) (y (ix3 k r j)) := by
  rw [mxC, add_at, mul_at, mul_at, onC_at, inC_at, gaC_at]
  rfl

theorem smC_at (u : FVec Ideal S32x256x1024 .f32) (k : Fin 32) (r : Fin 256) : smC u (ix2 k r) = ∑ l : Fin 1024, u (ix3 k r l) := by
  pointwise [smC]

theorem mnC_at (u : FVec Ideal S32x256x1024 .f32) (k : Fin 32) (r : Fin 256) (n : Fin 1) : mnC u (ix3 k r n) = mean (fun l => u (ix3 k r l)) := by
  have e : (broadcastInDim S32x256x1 ![0, 1] bcast_S32x256_S32x256x1_0_1 (smC u) : FVec Ideal S32x256x1 .f32) (ix3 k r n) = smC u (ix2 k r) := by
    pointwise []
  rw [mnC, div_at, e, smC_at]
  rfl

theorem spC_at (u : FVec Ideal S32x256x1 .f32) (k : Fin 32) (r : Fin 256) (j : Fin 1024) : spC u (ix3 k r j) = u (ix3 k r 0) := by
  pointwise [spC]

theorem rowC_at (v : FVec Ideal S1024 .f32) (k : Fin 32) (r : Fin 256) (j : Fin 1024) : rowC v (ix3 k r j) = v (ix1 j) := by
  pointwise [rowC]

theorem nmC_at (u : FVec Ideal S32x256x1024 .f32) (w b : FVec Ideal S1024 .f32) (k : Fin 32) (r : Fin 256) (j : Fin 1024) :
    nmC u w b (ix3 k r j) = norm (fun l => u (ix3 k r l)) (w (ix1 j)) (b (ix1 j)) j := by
  rw [nmC, add_at, mul_at, mul_at, rowC_at, rowC_at, sub_at, spC_at, spC_at, rsqrt_at, add_at, mnC_at, mnC_at]
  simp only [mul_at, sub_at, spC_at, mnC_at]
  rfl

theorem flC_at (u : FVec Ideal S32x256x1024 .f32) (i : Fin 8192) (j : Fin 1024) :
    flC u (ix2 i j) = u (ix3 ⟨i / 256, by omega⟩ ⟨i % 256, by omega⟩ j) := by
  pointwise [flC]
  blk_ext

theorem allC_at (x : FVec Ideal S16384x1024 .f32) (md : FVec Ideal S3x6x1024 .f32) (w1 w3 : FVec Ideal S1024x2816 .f32) (w2 : FVec Ideal S2816x1024 .f32)
    (w b : FVec Ideal S1024 .f32) (i : Fin 8192) (j : Fin 1024) :
    allC x md w1 w3 w2 w b (ix2 i j) = rowOut (fun l => x (ix2 ⟨i, by omega⟩ l)) (fun q l => md (ix3 0 q l))
      (fun l f => w1 (ix2 l f)) (fun l f => w3 (ix2 l f)) (fun f l => w2 (ix2 f l)) (fun l => w (ix1 l)) (fun l => b (ix1 l)) j := by
  have e : ((256 * ((i : ℕ) / 256) + (i : ℕ) % 256)) = (i : ℕ) := by omega
  rw [allC, flC_at, nmC_at, rowOut]
  simp only [mxC_at, ffC_at, mvC_at, e]

theorem shL_at (md : FVec Ideal S3x6x1024 .f32) (k : Fin 2) (n : Fin 1) (j : Fin 1024) : shL md (ix3 k n j) = md (ix3 ⟨1 + k, by omega⟩ 3 j) := by
  pointwise [shL, sixL, mods]
  blk_ext

theorem scL_at (md : FVec Ideal S3x6x1024 .f32) (k : Fin 2) (n : Fin 1) (j : Fin 1024) : scL md (ix3 k n j) = md (ix3 ⟨1 + k, by omega⟩ 4 j) := by
  pointwise [scL, sixL, mods]
  blk_ext

theorem gaL_at (md : FVec Ideal S3x6x1024 .f32) (k : Fin 2) (n : Fin 1) (j : Fin 1024) : gaL md (ix3 k n j) = md (ix3 ⟨1 + k, by omega⟩ 5 j) := by
  pointwise [gaL, sixL, mods]
  blk_ext

theorem onL_at (u : FVec Ideal S2x1x1024 .f32) (k : Fin 2) (r : Fin 4096) (j : Fin 1024) : onL u (ix3 k r j) = u (ix3 k 0 j) := by
  pointwise [onL]

theorem inL_at (x : FVec Ideal S16384x1024 .f32) (k : Fin 2) (r : Fin 4096) (j : Fin 1024) : inL x (ix3 k r j) = x (ix2 ⟨8192 + (4096 * k + r), by omega⟩ j) := by
  pointwise [inL]
  blk_ext

theorem mvL_at (x : FVec Ideal S16384x1024 .f32) (md : FVec Ideal S3x6x1024 .f32) (k : Fin 2) (r : Fin 4096) (j : Fin 1024) :
    mvL x md (ix3 k r j) = moved (x (ix2 ⟨8192 + (4096 * k + r), by omega⟩ j)) (md (ix3 ⟨1 + k, by omega⟩ 4 j)) (md (ix3 ⟨1 + k, by omega⟩ 3 j)) := by
  rw [mvL, add_at, mul_at, onL_at, onL_at, inL_at, add_at, scL_at, shL_at]
  rfl

theorem upL_at (h : FVec Ideal S2x4096x1024 .f32) (w : FVec Ideal S1024x2816 .f32) (k : Fin 2) (r : Fin 4096) (f : Fin 2816) :
    upL h w (ix3 k r f) = ∑ l : Fin 1024, h (ix3 k r l) * w (ix2 l f) := by
  pointwise [upL]

theorem siL_at (u : FVec Ideal S2x4096x2816 .f32) (k : Fin 2) (r : Fin 4096) (f : Fin 2816) : siL u (ix3 k r f) = silu (u (ix3 k r f)) := by
  rw [siL, mul_at, div_at, add_at]
  rfl

theorem dnL_at (h : FVec Ideal S2x4096x2816 .f32) (w : FVec Ideal S2816x1024 .f32) (k : Fin 2) (r : Fin 4096) (j : Fin 1024) :
    dnL h w (ix3 k r j) = ∑ f : Fin 2816, h (ix3 k r f) * w (ix2 f j) := by
  pointwise [dnL]

theorem ffL_at (h : FVec Ideal S2x4096x1024 .f32) (w1 w3 : FVec Ideal S1024x2816 .f32) (w2 : FVec Ideal S2816x1024 .f32) (k : Fin 2) (r : Fin 4096) (j : Fin 1024) :
    ffL h w1 w3 w2 (ix3 k r j) = ∑ f, hidden (fun l => h (ix3 k r l)) (fun l => w1 (ix2 l f)) (fun l => w3 (ix2 l f)) * w2 (ix2 f j) := by
  rw [ffL, dnL_at]
  simp only [mul_at, siL_at, upL_at, Cert.Ffn.hidden]

theorem mxL_at (x : FVec Ideal S16384x1024 .f32) (md : FVec Ideal S3x6x1024 .f32) (y : FVec Ideal S2x4096x1024 .f32) (k : Fin 2) (r : Fin 4096) (j : Fin 1024) :
    mxL x md y (ix3 k r j) = mixed (x (ix2 ⟨8192 + (4096 * k + r), by omega⟩ j)) (md (ix3 ⟨1 + k, by omega⟩ 5 j)) (y (ix3 k r j)) := by
  rw [mxL, add_at, mul_at, mul_at, onL_at, inL_at, gaL_at]
  rfl

theorem smL_at (u : FVec Ideal S2x4096x1024 .f32) (k : Fin 2) (r : Fin 4096) : smL u (ix2 k r) = ∑ l : Fin 1024, u (ix3 k r l) := by
  pointwise [smL]

theorem mnL_at (u : FVec Ideal S2x4096x1024 .f32) (k : Fin 2) (r : Fin 4096) (n : Fin 1) : mnL u (ix3 k r n) = mean (fun l => u (ix3 k r l)) := by
  have e : (broadcastInDim S2x4096x1 ![0, 1] bcast_S2x4096_S2x4096x1_0_1 (smL u) : FVec Ideal S2x4096x1 .f32) (ix3 k r n) = smL u (ix2 k r) := by
    pointwise []
  rw [mnL, div_at, e, smL_at]
  rfl

theorem spL_at (u : FVec Ideal S2x4096x1 .f32) (k : Fin 2) (r : Fin 4096) (j : Fin 1024) : spL u (ix3 k r j) = u (ix3 k r 0) := by
  pointwise [spL]

theorem rowL_at (v : FVec Ideal S1024 .f32) (k : Fin 2) (r : Fin 4096) (j : Fin 1024) : rowL v (ix3 k r j) = v (ix1 j) := by
  pointwise [rowL]

theorem nmL_at (u : FVec Ideal S2x4096x1024 .f32) (w b : FVec Ideal S1024 .f32) (k : Fin 2) (r : Fin 4096) (j : Fin 1024) :
    nmL u w b (ix3 k r j) = norm (fun l => u (ix3 k r l)) (w (ix1 j)) (b (ix1 j)) j := by
  rw [nmL, add_at, mul_at, mul_at, rowL_at, rowL_at, sub_at, spL_at, spL_at, rsqrt_at, add_at, mnL_at, mnL_at]
  simp only [mul_at, sub_at, spL_at, mnL_at]
  rfl

theorem flL_at (u : FVec Ideal S2x4096x1024 .f32) (i : Fin 8192) (j : Fin 1024) :
    flL u (ix2 i j) = u (ix3 ⟨i / 4096, by omega⟩ ⟨i % 4096, by omega⟩ j) := by
  pointwise [flL]
  blk_ext

theorem allL_at (x : FVec Ideal S16384x1024 .f32) (md : FVec Ideal S3x6x1024 .f32) (w1 w3 : FVec Ideal S1024x2816 .f32) (w2 : FVec Ideal S2816x1024 .f32)
    (w b : FVec Ideal S1024 .f32) (i : Fin 8192) (j : Fin 1024) :
    allL x md w1 w3 w2 w b (ix2 i j) = rowOut (fun l => x (ix2 ⟨8192 + i, by omega⟩ l)) (fun q l => md (ix3 ⟨1 + i / 4096, by omega⟩ q l))
      (fun l f => w1 (ix2 l f)) (fun l f => w3 (ix2 l f)) (fun f l => w2 (ix2 f l)) (fun l => w (ix1 l)) (fun l => b (ix1 l)) j := by
  have e : (8192 + (4096 * ((i : ℕ) / 4096) + (i : ℕ) % 4096)) = 8192 + (i : ℕ) := by omega
  rw [allL, flL_at, nmL_at, rowOut]
  simp only [mxL_at, ffL_at, mvL_at, e]

/-- The reference's result is these rows. -/
theorem result_eq (m : (ℓ : Loc nD τ sig) → Buf (Elt Ideal) ℓ) (c : Dev nD) :
    Cert.Reference2Ideal.Value.res_main_v105 m c = rows
      (allC (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)))
      (allL (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))) := by
  unfold Cert.Reference2Ideal.Value.res_main_v105 rows allC flC nmC rowC spC mnC epsC smC mxC ffC dnC siC upC mvC inC gaC scC shC oneC onC sixC allL flL nmL rowL spL mnL epsL smL mxL ffL dnL siL upL mvL inL gaL scL shL oneL onL sixL mods
  rfl

end Cert.Reference2Ideal.Ffn
-- ==== Proof.FfnFinal.lean ====
module

public import proofs.«01_k».proof.Proof.FfnBlock
public import proofs.«01_k».proof.Proof.FfnRef

@[expose] public section

set_option maxRecDepth 16384

noncomputable section

namespace Cert.Kernel2Ideal.Ffn

open Cert.Ffn Cert.Reference2Ideal.Ffn
open Idealize.ShloMosaic Idealize.ShloMosaic.TcCoe Idealize.SL.Sem
open Cert.Kernel2Ideal Cert.Kernel2Ideal.Gen

/-- Which block each window holds, at every point. -/
theorem idx_all : ∀ t : Fin cfg0.N, win0_0.index t = ![t.val, 0]
    ∧ win0_1.index t = ![if t.val < 16 then 0 else 1 + (t.val - 16) / 8, 0, 0]
    ∧ win0_2.index t = ![0, 0] ∧ win0_3.index t = ![0, 0] ∧ win0_4.index t = ![0, 0] ∧ win0_5.index t = ![0, 0] ∧ win0_6.index t = ![0, 0]
    ∧ win0_7.index t = ![t.val, 0] :=
  (by decide +kernel : ∀ t : Fin grid0.N, _)

theorem N_eq : cfg0.N = 32 := by decide +kernel

variable (m : (ℓ : Loc nD τ sig) → Buf (Elt Ideal) ℓ)

/-- The rows. -/
def aX (c : Dev nD) : FVec Ideal S16384x1024 .f32 := m ((c.tc : Thread nD τ).loc main_arg0)
/-- The modulation rows. -/
def aM (c : Dev nD) : FVec Ideal S3x6x1024 .f32 := m ((c.tc : Thread nD τ).loc main_arg1)
/-- The gate's weights. -/
def aA (c : Dev nD) : FVec Ideal S1024x2816 .f32 := m ((c.tc : Thread nD τ).loc main_arg2)
/-- The values' weights. -/
def aB (c : Dev nD) : FVec Ideal S1024x2816 .f32 := m ((c.tc : Thread nD τ).loc main_arg3)
/-- The weights back to the width of a row. -/
def aW (c : Dev nD) : FVec Ideal S2816x1024 .f32 := m ((c.tc : Thread nD τ).loc main_arg4)
/-- The layer norm's factors. -/
def aG (c : Dev nD) : FVec Ideal S1024 .f32 := m ((c.tc : Thread nD τ).loc main_arg5)
/-- The layer norm's offsets. -/
def aO (c : Dev nD) : FVec Ideal S1024 .f32 := m ((c.tc : Thread nD τ).loc main_arg6)

/-- A point's block of a window, at its literal shape. -/
def wX (c : Dev nD) (t : Fin cfg0.N) : FVec Ideal S512x1024 .f32 := iblk m c 0 t
def wM (c : Dev nD) (t : Fin cfg0.N) : FVec Ideal S1x6x1024 .f32 := iblk m c 1 t
def wA (c : Dev nD) (t : Fin cfg0.N) : FVec Ideal S1024x2816 .bf16 := iblk m c 2 t
def wB (c : Dev nD) (t : Fin cfg0.N) : FVec Ideal S1024x2816 .bf16 := iblk m c 3 t
def wW (c : Dev nD) (t : Fin cfg0.N) : FVec Ideal S2816x1024 .bf16 := iblk m c 4 t
def wG (c : Dev nD) (t : Fin cfg0.N) : FVec Ideal S1x1024 .f32 := iblk m c 5 t
def wO (c : Dev nD) (t : Fin cfg0.N) : FVec Ideal S1x1024 .f32 := iblk m c 6 t

theorem x_at (c : Dev nD) (t : Fin cfg0.N) (r : Fin 512) (j : Fin 1024) (hb) : wX m c t (ix2 r j) = aX m c (ix2 ⟨512 * t.val + r, hb⟩ j) := by
  unfold wX aX
  blk_ext [iblk, V, (idx_all t).1]

theorem m_at (c : Dev nD) (t : Fin cfg0.N) (u : Fin 1) (q : Fin 6) (j : Fin 1024) (hb) :
    wM m c t (ix3 u q j) = aM m c (ix3 ⟨if t.val < 16 then 0 else 1 + (t.val - 16) / 8, hb⟩ q j) := by
  unfold wM aM
  blk_ext [iblk, V, (idx_all t).2.1]

theorem a_at (c : Dev nD) (t : Fin cfg0.N) (i : Fin 1024) (j : Fin 2816) : wA m c t (ix2 i j) = aA m c (ix2 i j) := by
  unfold wA aA
  blk_point [iblk, V, (idx_all t).2.2.1]

theorem b_at (c : Dev nD) (t : Fin cfg0.N) (i : Fin 1024) (j : Fin 2816) : wB m c t (ix2 i j) = aB m c (ix2 i j) := by
  unfold wB aB
  blk_point [iblk, V, (idx_all t).2.2.2.1]

theorem w_at (c : Dev nD) (t : Fin cfg0.N) (i : Fin 2816) (j : Fin 1024) : wW m c t (ix2 i j) = aW m c (ix2 i j) := by
  unfold wW aW
  blk_point [iblk, V, (idx_all t).2.2.2.2.1]

theorem g_at (c : Dev nD) (t : Fin cfg0.N) (u : Fin 1) (j : Fin 1024) : wG m c t (ix2 u j) = aG m c (ix1 j) := by
  unfold wG aG
  blk_point [iblk, V, (idx_all t).2.2.2.2.2.1]

theorem o_at (c : Dev nD) (t : Fin cfg0.N) (u : Fin 1) (j : Fin 1024) : wO m c t (ix2 u j) = aO m c (ix1 j) := by
  unfold wO aO
  blk_point [iblk, V, (idx_all t).2.2.2.2.2.2.1]

/-- The reference's rows of the kernel's arrays. -/
def want (c : Dev nD) : FVec Ideal S16384x1024 .f32 :=
  rows (allC (aX m c) (aM m c) (aA m c) (aB m c) (aW m c) (aG m c) (aO m c)) (allL (aX m c) (aM m c) (aA m c) (aB m c) (aW m c) (aG m c) (aO m c))

/-- A row of them, whichever group it lies in. -/
theorem want_at (c : Dev nD) (i : Fin 16384) (j : Fin 1024) (hb) :
    want m c (ix2 i j) = rowOut (fun l => aX m c (ix2 i l)) (fun q l => aM m c (ix3 ⟨if (i : ℕ) < 8192 then 0 else 1 + ((i : ℕ) - 8192) / 4096, hb⟩ q l))
      (fun l f => aA m c (ix2 l f)) (fun l f => aB m c (ix2 l f)) (fun f l => aW m c (ix2 f l)) (fun l => aG m c (ix1 l)) (fun l => aO m c (ix1 l)) j := by
  rw [want, rows_at]
  by_cases h : (i : ℕ) < 8192
  · rw [dif_pos h, allC_at]
    simp only [if_pos h]
    rfl
  · rw [dif_neg h, allL_at]
    have e : 8192 + ((i : ℕ) - 8192) = i := by omega
    simp only [if_neg h, e]

/-- A point's block holds the reference's rows. -/
theorem point (c : Dev nD) (t : Fin cfg0.N) (r : Fin 512) (j : Fin 1024) (hb) :
    out0_7 (F := Ideal) (wX m c t) (wM m c t) (wA m c t) (wB m c t) (wW m c t) (wG m c t) (wO m c t) (ix2 r j)
      = want m c (ix2 ⟨512 * t.val + r, hb⟩ j) := by
  have ht : t.val < 32 := N_eq ▸ t.isLt
  rw [out_at, want_at m c _ j (by dsimp only; split_ifs <;> omega)]
  have e : (if t.val < 16 then 0 else 1 + (t.val - 16) / 8) = if 512 * t.val + (r : ℕ) < 8192 then 0 else 1 + (512 * t.val + (r : ℕ) - 8192) / 4096 := by
    split_ifs <;> omega
  have hx : ∀ l, wX m c t (ix2 r l) = aX m c (ix2 ⟨512 * t.val + r, hb⟩ l) := fun l => x_at m c t r l hb
  have hm : ∀ q l, wM m c t (ix3 0 q l) = aM m c (ix3 ⟨if 512 * t.val + (r : ℕ) < 8192 then 0 else 1 + (512 * t.val + (r : ℕ) - 8192) / 4096, by
      split_ifs <;> omega⟩ q l) := fun q l => by
    rw [m_at m c t 0 q l (by split_ifs <;> omega)]
    simp only [e]
  simp only [hx, hm, a_at, b_at, w_at, g_at, o_at]

/-- Where a block of the result lies. -/
theorem out_place (t : Fin cfg0.N) (r : Fin 512) (j : Fin 1024) (hb) (G : FVec Ideal S16384x1024 .f32) :
    G ((win0_7.blk t).view.emb (show S512x1024.Idx from ix2 r j)) = G (ix2 ⟨512 * t.val + r, hb⟩ j) := by
  blk_ext [(idx_all t).2.2.2.2.2.2.2]

/-- The array that the kernel leaves is the reference's result. -/
theorem final (c : Dev nD) : (dats m 0 c).arrAt 7 cfg0.N = want m c := by
  refine (dats m 0 c).arrAt_eq_of_covers 7 _ (by decide +kernel) fun t hfl y => ?_
  blk_simp
  rw [after0_7]
  have ht : t.val < 32 := N_eq ▸ t.isLt
  obtain ⟨r, j, rfl⟩ : ∃ (r : Fin 512) (j : Fin 1024), y = (show S512x1024.Idx from ix2 r j) :=
    ⟨(show S512x1024.Idx from y) 0, (show S512x1024.Idx from y) 1, eq_ix2 (show S512x1024.Idx from y)⟩
  exact (point m c t r j (by omega)).trans (out_place t r j (by omega) _).symm

end Cert.Kernel2Ideal.Ffn
-- ==== Proof.MoeLoop.lean ====
/- One grid point's two counted loops, as pure functions of what they find: the side condition on the trip count
   holds at every word, and the loops' invariants name the accumulator's contents trip by trip. -/
module

public import proofs.«01_k».proof.Proof.Gen.Kernel3Ideal.Frame
public import proofs.«01_k».proof.Proof.Gen.Kernel3Ideal.Loops
public import Idealize.ShloMosaic.Lib.VecWindow
public import Idealize.ShloMosaic.Lib.Pipeline.ValueKit

@[expose] public section

set_option maxRecDepth 8192
set_option maxHeartbeats 4000000

noncomputable section

namespace Cert.Kernel3Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

/-! ## The side condition -/

theorem ok_from_zero (u : BitVec 32) : Scf.OK 0#32 u 1#32 := by
  refine ⟨by decide, ?_⟩
  have h := BitVec.toInt_lt (x := u)
  simp only [Scf.trips, show (0#32 : BitVec 32).toInt = 0 from rfl, show (1#32 : BitVec 32).toInt = 1 from rfl]
  omega

theorem ok_from_self (u : BitVec 32) : Scf.OK u u 1#32 := by
  refine ⟨by decide, ?_⟩
  have h := BitVec.toInt_lt (x := u)
  simp only [Scf.trips, show (1#32 : BitVec 32).toInt = 1 from rfl]
  omega

theorem div_one_mul_one (u : BitVec 32) :
    Scalar.addi 0#32 (Scalar.muli (Scalar.divsi u 1#32) 1#32) = Scalar.addi 0#32 u := by
  simp [Scalar.addi, Scalar.muli, Scalar.divsi, IntOp.addi, IntOp.muli, IntOp.divsi, IntOp.SDivCorner, BitVec.sdiv_one]

theorem rest_loop (v : BitVec 32) : (k0_t2_loop v).lb = (k0_t2_loop v).ub ∧ (k0_t2_loop v).st = 1#32 :=
  ⟨div_one_mul_one _, rfl⟩

/-- The kernel's check of its trip counts holds at every count. -/
theorem chk (v : BitVec 32) : k0_chk1 v := by
  refine ⟨ok_from_zero _, ?_⟩
  have h := rest_loop v
  show Scf.OK (k0_t2_loop v).lb (k0_t2_loop v).ub (k0_t2_loop v).st
  rw [h.1, h.2]
  exact ok_from_self _

/-- The second loop, over what the first leaves over, makes no trip. -/
theorem rest_trips (v : BitVec 32) : (k0_t2_loop v).trips = 0 := by
  have h := rest_loop v
  show Scf.trips (k0_t2_loop v).lb (k0_t2_loop v).ub (k0_t2_loop v).st = 0
  rw [h.1, h.2]
  simp [Scf.trips]

variable {F : FTy → Type} [FloatOps F] [Named F]

local notation "𝕄" => MT nD τ sig Unit (Elt F) ℕ (UR sig nD τ) ℕ

/-! ## A trip -/

/-- What a trip makes of the accumulator. -/
def trip (v11 v13 v15 : Vec F S1x1024 .f32) (v20 : BitVec 32) (v22 : FVec F S128x1024 .f32)
    (h : Vec F S1024x1024 .bf16) (x4 x5 x6 : Vec F S1x1024x1024 .bf16) (k : Fin (k0_t1_loop v20).trips)
    (a : Vec F S1024x1024 .f32) : Vec F S1024x1024 .f32 :=
  k0_pay1 (k0_pay19 v11 v15 v20 v22 0#32 1#32 k) (k0_pay20 v11 v15 v20 v22 0#32 1#32 k h x4 x5 x6)
    (k0_pay21 v11 v13 v15 v20 v22 0#32 1#32 k) a

/-- The accumulator before trip `k`. -/
def trips (v11 v13 v15 : Vec F S1x1024 .f32) (v20 : BitVec 32) (v22 : FVec F S128x1024 .f32)
    (h : Vec F S1024x1024 .bf16) (x4 x5 x6 : Vec F S1x1024x1024 .bf16) (a : Vec F S1024x1024 .f32) :
    ℕ → Vec F S1024x1024 .f32
  | 0 => a
  | k + 1 => if hk : k < (k0_t1_loop v20).trips then trip v11 v13 v15 v20 v22 h x4 x5 x6 ⟨k, hk⟩ (trips v11 v13 v15 v20 v22 h x4 x5 x6 a k)
      else trips v11 v13 v15 v20 v22 h x4 x5 x6 a k

theorem trips_succ (v11 v13 v15 : Vec F S1x1024 .f32) (v20 : BitVec 32) (v22 : FVec F S128x1024 .f32)
    (h : Vec F S1024x1024 .bf16) (x4 x5 x6 : Vec F S1x1024x1024 .bf16) (a : Vec F S1024x1024 .f32)
    (k : Fin (k0_t1_loop v20).trips) :
    trips v11 v13 v15 v20 v22 h x4 x5 x6 a (k.val + 1)
      = trip v11 v13 v15 v20 v22 h x4 x5 x6 k (trips v11 v13 v15 v20 v22 h x4 x5 x6 a k.val) := by
  rw [trips.eq_2, dif_pos k.isLt]

/-! ## The invariants -/

section Loops

variable (c : Dev nD) (i : grid0.Coords)
  (arg2 : Memref sig .tc .vmem S1024x1024 .f32) (harg2 : arg2.IsWhole)
  (arg3 : Memref sig .tc .vmem S1x6x1024 .f32) (harg3 : arg3.IsWhole)
  (arg4 : Memref sig .tc .vmem S8x1024 .f32) (harg4 : arg4.IsWhole)
  (arg5 : Memref sig .tc .vmem S8x1 .f32) (harg5 : arg5.IsWhole)
  (arg6 : Memref sig .tc .vmem S1x1024x1024 .bf16) (harg6 : arg6.IsWhole)
  (arg7 : Memref sig .tc .vmem S1x1024x1024 .bf16) (harg7 : arg7.IsWhole)
  (arg8 : Memref sig .tc .vmem S1x1024x1024 .bf16) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1024x1024 .f32) (harg11 : arg11.IsWhole)
  (arg12 : Memref sig .tc .vmem S1024x1024 .f32) (harg12 : arg12.IsWhole)
  (arg13 : Memref sig .tc .vmem S1024x1024 .bf16) (harg13 : arg13.IsWhole)
  (arg14 : Memref sig .tc .vmem S8x1024 .f32) (harg14 : arg14.IsWhole)
  (arg15 : Memref sig .tc .vmem S8x1024 .f32) (harg15 : arg15.IsWhole)
  (arg16 : Memref sig .tc .vmem S8x1024 .f32) (harg16 : arg16.IsWhole)
  (arg17 : Memref sig .tc .vmem S1024x1024 .f32) (harg17 : arg17.IsWhole)
  (arg18 : Memref sig .tc .vmem S1024x1024 .bf16) (harg18 : arg18.IsWhole)
  (v11 v13 v15 : Vec F S1x1024 .f32) (v20 : BitVec 32) (hw : k0_chk1 v20) (v22 : FVec F S128x1024 .f32)

set_option warn.classDefReducibility false in
/-- Before trip `k` the accumulator reads as the pure trips before `k` make it; the rest is read only. -/
@[sl_loop] def inv1 (E : Set ℕ) (X6 : BufTy.Contents (Elt F) arg6.view.ty) (X7 : BufTy.Contents (Elt F) arg7.view.ty)
    (X8 : BufTy.Contents (Elt F) arg8.view.ty) (X13 : BufTy.Contents (Elt F) arg13.view.ty)
    (G : BufTy.Contents (Elt F) arg17.view.ty) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v11 v13 v15 v20 hw v22 where
  inv k _ := iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg13.view.loc (c : Thread nD τ) ↦[arg13.view.set]{fullShare} X13)
    ∗ (∃ f, (arg17.view.loc (c : Thread nD τ) ↦[arg17.view.set]{fullShare} f) ∗ ⌜arg17.view.read (Elt F) f = trips v11 v13 v15 v20 v22 (arg13.view.read (Elt F) X13) (arg6.view.read (Elt F) X6) (arg7.view.read (Elt F) X7) (arg8.view.read (Elt F) X8) (arg17.view.read (Elt F) G) k⌝))
  step k _ := by
    iintro ⟨H6, H7, H8, H13, ⟨%f, H17, %hf⟩⟩
    unfold k0_t1_body
    simp only [k0_part3_eq_skeleton]; unfold k0_part3_skel
    sl_exec
    sl_step
    isplitl [H6]; · iexact H6
    isplitl [H7]; · iexact H7
    isplitl [H8]; · iexact H8
    isplitl [H13]; · iexact H13
    iexists _; isplitl [H17]; · iexact H17
    ipureintro
    rw [trips_succ, ← hf]
    refine (View.read_writes_full _ _ _ _ _).trans ?_
    dsimp only
    unfold trip
    rw [View.readAt_full, View.readAt_full, View.readAt_full, View.readAt_full, View.readAt_full]

set_option warn.classDefReducibility false in
/-- The second loop makes no trip: its invariant is what it finds. -/
@[sl_loop] def inv2 (E : Set ℕ) (v46 : BitVec 32) (G : BufTy.Contents (Elt F) arg17.view.ty) :
    LoopInvTy_k0_t2 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v11 v13 v15 v20 hw v22 v46 where
  inv _ _ := iprop((arg17.view.loc (c : Thread nD τ) ↦[arg17.view.set]{fullShare} G))
  step k _ := (Nat.not_lt_zero _ (Nat.lt_of_lt_of_eq k.isLt (rest_trips v20))).elim

end Loops

end Cert.Kernel3Ideal.Moe
-- ==== Proof.MoeBody.lean ====
/- One grid point of the experts' kernel as a pure step of the scratch it keeps between points. -/
module

public import proofs.«01_k».proof.Proof.MoeLoop

@[expose] public section

set_option maxRecDepth 16384
set_option maxHeartbeats 4000000

noncomputable section

namespace Cert.Kernel3Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel3Ideal Cert.Kernel3Ideal.Gen

variable {F : FTy → Type} [FloatOps F] [Named F]

local notation "𝕄" => MT nD τ sig Unit (Elt F) ℕ (UR sig nD τ) ℕ

/-! ## The scratch between points -/

/-- What the kernel keeps between points: a tile's rows, each expert's members, their gates, their ranks, the rows'
    sums, and the table of which column precedes which. -/
structure Scr (F : FTy → Type) where
  h : Vec F S1024x1024 .bf16
  mem : Vec F S8x1024 .f32
  gate : Vec F S8x1024 .f32
  rank : Vec F S8x1024 .f32
  acc : Vec F S1024x1024 .f32
  earl : Vec F S1024x1024 .bf16

/-- The very first point. -/
def cond1 (i : grid0.Coords) : BitVec 1 :=
  Scalar.cmpi .ne (Scalar.extui (Scalar.andi (Scalar.cmpi .eq (BitVec.ofNat 32 (i 0).val) 0#32)
    (Scalar.cmpi .eq (BitVec.ofNat 32 (i 1).val) 0#32)) : BitVec 32) 0#32

/-- A tile's first expert. -/
def cond2 (i : grid0.Coords) : BitVec 1 :=
  Scalar.cmpi .ne (Scalar.extui (Scalar.cmpi .eq (BitVec.ofNat 32 (i 1).val) 0#32) : BitVec 32) 0#32

/-- The row of the point's expert. -/
def row (i : grid0.Coords) (X : Vec F S8x1024 .f32) : Vec F S1x1024 .f32 :=
  View.ld X (Rect.unit (s := S8x1024) (k0_off1 i) S1x1024.size (k0_off1_inb i))

section Routing

variable (x0 : Vec F S1024x1024 .f32) (x1 : Vec F S1x6x1024 .f32) (x2 : Vec F S8x1024 .f32) (x3 : Vec F S8x1 .f32)

/-- The constant that masks the chosen expert. -/
def maskC : F .f32 := Named.named κ "mask" 0xF149F2CA#32

/-- The experts' numbers. -/
def iotaE : IVec S8x1024 32 := iota .tc S8x1024 32 [0] iota_S8x1024_d0_w32

def rows : Vec F S1024x1024 .bf16 := k0_pay6 (k0_pay26 x1) x0
def members : Vec F S8x1024 .f32 :=
  k0_pay15 (k0_pay7 (k0_pay26 x1) x0 x2 x3) iotaE (k0_pay9 (k0_pay26 x1) x0 x2 x3) (k0_pay10 (k0_pay26 x1) x0 x2 x3) maskC
def gates : Vec F S8x1024 .f32 :=
  k0_pay16 (k0_pay7 (k0_pay26 x1) x0 x2 x3) iotaE (k0_pay8 (k0_pay26 x1) x0 x2 x3) (k0_pay9 (k0_pay26 x1) x0 x2 x3) (k0_pay10 (k0_pay26 x1) x0 x2 x3) maskC
def ranks (e : Vec F S1024x1024 .bf16) : Vec F S8x1024 .f32 :=
  k0_pay28 (k0_pay17 (k0_pay7 (k0_pay26 x1) x0 x2 x3) iotaE (k0_pay9 (k0_pay26 x1) x0 x2 x3) (k0_pay10 (k0_pay26 x1) x0 x2 x3) maskC) e

end Routing

/-- The table of precedence, written at the first point only. -/
def setup (i : grid0.Coords) (s : Scr F) : Scr F :=
  if cond1 i = 1#1 then { s with earl := k0_pay27 } else s

/-- A tile's routing, worked out at its first expert. -/
def route (i : grid0.Coords) (x0 : Vec F S1024x1024 .f32) (x1 : Vec F S1x6x1024 .f32) (x2 : Vec F S8x1024 .f32)
    (x3 : Vec F S8x1 .f32) (s : Scr F) : Scr F :=
  if cond2 i = 1#1 then
    { h := rows x0 x1, mem := members x0 x1 x2 x3, gate := gates x0 x1 x2 x3, rank := ranks x0 x1 x2 x3 s.earl,
      acc := k0_pay29, earl := s.earl }
  else s

/-- The rows' sums after the point's expert. -/
def expert (i : grid0.Coords) (x4 x5 x6 : Vec F S1x1024x1024 .bf16) (s : Scr F) : Vec F S1024x1024 .f32 :=
  trips (row i s.mem) (row i s.gate) (row i s.rank) (Scalar.fptosi 32 (k0_pay30 (row i s.mem))) k0_pay31 s.h x4 x5 x6 s.acc
    (k0_t1_loop (Scalar.fptosi 32 (k0_pay30 (row i s.mem)))).trips

/-- A point's step. -/
def step (i : grid0.Coords) (x0 : Vec F S1024x1024 .f32) (x1 : Vec F S1x6x1024 .f32) (x2 : Vec F S8x1024 .f32)
    (x3 : Vec F S8x1 .f32) (x4 x5 x6 : Vec F S1x1024x1024 .bf16) (s : Scr F) : Scr F :=
  { route i x0 x1 x2 x3 (setup i s) with acc := expert i x4 x5 x6 (route i x0 x1 x2 x3 (setup i s)) }

/-- A tile's result. -/
def yout (x0 : Vec F S1024x1024 .f32) (x1 : Vec F S1x6x1024 .f32) (a : Vec F S1024x1024 .f32) (x7 x8 : Vec F S1x1024 .f32) :
    Vec F S1024x1024 .f32 := k0_pay3 (k0_pay26 x1) x0 a x7 x8

/-- The first result's block after a point that found it at `o`. -/
def put9 (i : grid0.Coords) (x0 : Vec F S1024x1024 .f32) (x1 : Vec F S1x6x1024 .f32) (a : Vec F S1024x1024 .f32)
    (x7 x8 : Vec F S1x1024 .f32) (o : Vec F S1024x1024 .f32) : Vec F S1024x1024 .f32 :=
  if k0_cond3 i = 1#1 ∧ k0_cond4 i = 1#1 then yout x0 x1 a x7 x8 else o

/-- The second result's block after a point that found it at `o`. -/
def put10 (i : grid0.Coords) (x0 : Vec F S1024x1024 .f32) (x1 : Vec F S1x6x1024 .f32) (a : Vec F S1024x1024 .f32)
    (x7 x8 : Vec F S1x1024 .f32) (o : Vec F S1024x1024 .f32) : Vec F S1024x1024 .f32 :=
  if k0_cond3 i = 1#1 ∧ k0_cond5 i = 1#1 then yout x0 x1 a x7 x8 else o

/-! ## The kernel body -/

/-- A load out of what a whole store left. -/
theorem readAt_stored {sig : RefSig} {κ : Kind} {sp : Space} {s : Shape} {e : EltTy} (v : View sig κ sp s e)
    (f : v.ty.Contents (Elt F)) {off : Fin s.rank → ℕ} (inb : ∀ a, off a + s.size a ≤ s.size a)
    (w : (Rect.unit off s.size inb).shape.Idx → Elt F e) (L : List (View.Piece (Elt F) s e)) (r : Rect s) :
    v.readAt (Elt F) r.toLoadRect (v.writes (Elt F) f (⟨Rect.unit off s.size inb, w⟩ :: L)) = View.ld (e' := e) (Val := Elt F) (S := s) w r := by
  funext x
  exact congrFun (View.read_writes_full v f inb w L) (r.emb x)

/-- What the conditionals at the end of a tile leave of a result's block. -/
theorem read_put {sig : RefSig} {κ : Kind} {sp : Space} {s : Shape} {e : EltTy} (v : View sig κ sp s e)
    (f : v.ty.Contents (Elt F)) {off : Fin s.rank → ℕ} (inb : ∀ a, off a + s.size a ≤ s.size a)
    (w : (Rect.unit off s.size inb).shape.Idx → Elt F e) (a b : BitVec 1) :
    v.read (Elt F) (if ha : a = 1#1 then if hb : b = 1#1 then v.writes (Elt F) f [⟨Rect.unit off s.size inb, w⟩] else f else f)
      = if a = 1#1 ∧ b = 1#1 then w else v.read (Elt F) f := by
  by_cases ha : a = 1#1
  · by_cases hb : b = 1#1
    · rw [dif_pos ha, dif_pos hb, if_pos ⟨ha, hb⟩]; exact View.read_writes_full v f inb w []
    · rw [dif_pos ha, dif_neg hb, if_neg fun h => hb h.2]
  · rw [dif_neg ha, if_neg fun h => ha h.1]

theorem expert_eq (i : grid0.Coords) (x4 x5 x6 : Vec F S1x1024x1024 .bf16) (u : Scr F)
    {v11 v13 v15 : Vec F S1x1024 .f32} {h : Vec F S1024x1024 .bf16} {a : Vec F S1024x1024 .f32}
    {v20 : BitVec 32} (h20 : v20 = Scalar.fptosi 32 (k0_pay30 v11)) (h11 : v11 = row i u.mem) (h13 : v13 = row i u.gate) (h15 : v15 = row i u.rank) (hh : h = u.h) (ha : a = u.acc) :
    trips v11 v13 v15 v20 k0_pay31 h x4 x5 x6 a (k0_t1_loop v20).trips
      = expert i x4 x5 x6 u := by
  subst h20 h11 h13 h15 hh ha; rfl

theorem cond2_of_cond1 (i : grid0.Coords) (h : cond1 i = 1#1) : cond2 i = 1#1 := by
  unfold cond1 at h; unfold cond2
  generalize Scalar.cmpi .eq (BitVec.ofNat 32 (i 0).val) 0#32 = a at h
  generalize Scalar.cmpi .eq (BitVec.ofNat 32 (i 1).val) 0#32 = b at h ⊢
  revert h; revert a b; decide

theorem step_inner (i : grid0.Coords) (x0 : Vec F S1024x1024 .f32) (x1 : Vec F S1x6x1024 .f32) (x2 : Vec F S8x1024 .f32)
    (x3 : Vec F S8x1 .f32) (x4 x5 x6 : Vec F S1x1024x1024 .bf16) (s : Scr F) (h1 : ¬ cond1 i = 1#1) (h2 : ¬ cond2 i = 1#1) :
    step i x0 x1 x2 x3 x4 x5 x6 s = { s with acc := expert i x4 x5 x6 s } := by
  rw [step, route, setup, if_neg h2, if_neg h1]

/-- A tile's routing and its sums at its first expert. -/
theorem step_first (i : grid0.Coords) (x0 : Vec F S1024x1024 .f32) (x1 : Vec F S1x6x1024 .f32) (x2 : Vec F S8x1024 .f32)
    (x3 : Vec F S8x1 .f32) (x4 x5 x6 : Vec F S1x1024x1024 .bf16) (s : Scr F) (h2 : cond2 i = 1#1) {e : Vec F S1024x1024 .bf16}
    (he : (setup i s).earl = e) :
    step i x0 x1 x2 x3 x4 x5 x6 s = ⟨rows x0 x1, members x0 x1 x2 x3, gates x0 x1 x2 x3, ranks x0 x1 x2 x3 e,
      expert i x4 x5 x6 ⟨rows x0 x1, members x0 x1 x2 x3, gates x0 x1 x2 x3, ranks x0 x1 x2 x3 e, k0_pay29, e⟩, e⟩ := by
  subst he; rw [step, route, if_pos h2]

theorem setup_first (i : grid0.Coords) (s : Scr F) (h1 : cond1 i = 1#1) : (setup i s).earl = k0_pay27 := by
  rw [setup, if_pos h1]

theorem setup_later (i : grid0.Coords) (s : Scr F) (h1 : ¬ cond1 i = 1#1) : (setup i s).earl = s.earl := by
  rw [setup, if_neg h1]

theorem put9_eq (i : grid0.Coords) {x0 : Vec F S1024x1024 .f32} {x1 : Vec F S1x6x1024 .f32} {a : Vec F S1024x1024 .f32}
    {x7 x8 : Vec F S1x1024 .f32} {v1 : FVec F S6x1024 .f32} {v50 v54 : Vec F S1024x1024 .f32} {v58 v60 : Vec F S1x1024 .f32}
    (h1 : v1 = k0_pay26 x1) (h50 : v50 = x0) (h54 : v54 = a) (h58 : v58 = x7) (h60 : v60 = x8) (o : Vec F S1024x1024 .f32) :
    (if k0_cond3 i = 1#1 ∧ k0_cond4 i = 1#1 then k0_pay3 v1 v50 v54 v58 v60 else o) = put9 i x0 x1 a x7 x8 o := by
  subst h1 h50 h54 h58 h60; rfl

theorem put10_eq (i : grid0.Coords) {x0 : Vec F S1024x1024 .f32} {x1 : Vec F S1x6x1024 .f32} {a : Vec F S1024x1024 .f32}
    {x7 x8 : Vec F S1x1024 .f32} {v1 : FVec F S6x1024 .f32} {v50 v54 : Vec F S1024x1024 .f32} {v58 v60 : Vec F S1x1024 .f32}
    (h1 : v1 = k0_pay26 x1) (h50 : v50 = x0) (h54 : v54 = a) (h58 : v58 = x7) (h60 : v60 = x8) (o : Vec F S1024x1024 .f32) :
    (if k0_cond3 i = 1#1 ∧ k0_cond5 i = 1#1 then k0_pay3 v1 v50 v54 v58 v60 else o) = put10 i x0 x1 a x7 x8 o := by
  subst h1 h50 h54 h58 h60; rfl

/-- An equation the run is not to use. -/
structure Is {α : Type} (a b : α) : Prop where
  eq : a = b

theorem body (c : Dev nD) (E : Set ℕ) (i : grid0.Coords)
    (arg2 : Memref sig .tc .vmem S1024x1024 .f32) (harg2 : arg2.IsWhole)
    (arg3 : Memref sig .tc .vmem S1x6x1024 .f32) (harg3 : arg3.IsWhole)
    (arg4 : Memref sig .tc .vmem S8x1024 .f32) (harg4 : arg4.IsWhole)
    (arg5 : Memref sig .tc .vmem S8x1 .f32) (harg5 : arg5.IsWhole)
    (arg6 : Memref sig .tc .vmem S1x1024x1024 .bf16) (harg6 : arg6.IsWhole)
    (arg7 : Memref sig .tc .vmem S1x1024x1024 .bf16) (harg7 : arg7.IsWhole)
    (arg8 : Memref sig .tc .vmem S1x1024x1024 .bf16) (harg8 : arg8.IsWhole)
    (arg9 : Memref sig .tc .vmem S1x1024 .f32) (harg9 : arg9.IsWhole)
    (arg10 : Memref sig .tc .vmem S1x1024 .f32) (harg10 : arg10.IsWhole)
    (arg11 : Memref sig .tc .vmem S1024x1024 .f32) (harg11 : arg11.IsWhole)
    (arg12 : Memref sig .tc .vmem S1024x1024 .f32) (harg12 : arg12.IsWhole)
    (arg13 : Memref sig .tc .vmem S1024x1024 .bf16) (harg13 : arg13.IsWhole)
    (arg14 : Memref sig .tc .vmem S8x1024 .f32) (harg14 : arg14.IsWhole)
    (arg15 : Memref sig .tc .vmem S8x1024 .f32) (harg15 : arg15.IsWhole)
    (arg16 : Memref sig .tc .vmem S8x1024 .f32) (harg16 : arg16.IsWhole)
    (arg17 : Memref sig .tc .vmem S1024x1024 .f32) (harg17 : arg17.IsWhole)
    (arg18 : Memref sig .tc .vmem S1024x1024 .bf16) (harg18 : arg18.IsWhole)
    (x0 : Vec F S1024x1024 .f32) (x1 : Vec F S1x6x1024 .f32) (x2 : Vec F S8x1024 .f32) (x3 : Vec F S8x1 .f32)
    (x4 x5 x6 : Vec F S1x1024x1024 .bf16) (x7 x8 : Vec F S1x1024 .f32) (o9 o10 : Vec F S1024x1024 .f32) (s : Scr F)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare o9 ∗ owns (c : Thread nD τ) arg12 fullShare o10 ∗ owns (c : Thread nD τ) arg13 fullShare s.h ∗ owns (c : Thread nD τ) arg14 fullShare s.mem ∗ owns (c : Thread nD τ) arg15 fullShare s.gate ∗ owns (c : Thread nD τ) arg16 fullShare s.rank ∗ owns (c : Thread nD τ) arg17 fullShare s.acc ∗ owns (c : Thread nD τ) arg18 fullShare s.earl
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (put9 i x0 x1 (step i x0 x1 x2 x3 x4 x5 x6 s).acc x7 x8 o9) ∗ owns (c : Thread nD τ) arg12 fullShare (put10 i x0 x1 (step i x0 x1 x2 x3 x4 x5 x6 s).acc x7 x8 o10) ∗ owns (c : Thread nD τ) arg13 fullShare (step i x0 x1 x2 x3 x4 x5 x6 s).h ∗ owns (c : Thread nD τ) arg14 fullShare (step i x0 x1 x2 x3 x4 x5 x6 s).mem ∗ owns (c : Thread nD τ) arg15 fullShare (step i x0 x1 x2 x3 x4 x5 x6 s).gate ∗ owns (c : Thread nD τ) arg16 fullShare (step i x0 x1 x2 x3 x4 x5 x6 s).rank ∗ owns (c : Thread nD τ) arg17 fullShare (step i x0 x1 x2 x3 x4 x5 x6 s).acc ∗ owns (c : Thread nD τ) arg18 fullShare (step i x0 x1 x2 x3 x4 x5 x6 s).earl) -∗ K ⟨⟩))
      ⊢ wp frame (wpE (defs₀ (F := F)) Variants.none c none) E (cc0_moe_ln i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_moe_ln_eq_skeleton]; unfold cc0_moe_ln_skel
  simp only [k0_part5_eq_skeleton, k0_part1_eq_skeleton, k0_part2_eq_skeleton]
  generalize hS : step i x0 x1 x2 x3 x4 x5 x6 s = S
  obtain ⟨s13, s14, s15, s16, s17, s18⟩ := s
  dsimp only
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  subst hf2 hf3 hf4 hf5 hf6 hf7 hf8 hf9 hf10 hf11 hf12 hf13 hf14 hf15 hf16 hf17 hf18
  have hchk := chk
  have hcases : (cond1 i = 1#1 ∧ cond2 i = 1#1) ∨ (¬ cond1 i = 1#1 ∧ cond2 i = 1#1) ∨ (¬ cond1 i = 1#1 ∧ ¬ cond2 i = 1#1) :=
    (Classical.em (cond2 i = 1#1)).elim
      (fun h2 => (Classical.em (cond1 i = 1#1)).elim (fun h1 => .inl ⟨h1, h2⟩) fun h1 => .inr (.inl ⟨h1, h2⟩))
      fun h2 => .inr (.inr ⟨fun h => h2 (cond2_of_cond1 i h), h2⟩)
  rcases hcases with ⟨h1, h2⟩ | ⟨h1, h2⟩ | ⟨h1, h2⟩
  on_goal 1 => rw [step_first _ _ _ _ _ _ _ _ _ h2 (setup_first _ _ h1)] at hS
  on_goal 2 => rw [step_first _ _ _ _ _ _ _ _ _ h2 (setup_later _ _ h1)] at hS
  on_goal 3 => rw [step_inner _ _ _ _ _ _ _ _ _ h1 h2] at hS
  on_goal 1 => rw [← View.readAt_full arg2.view f2 inb_S1024x1024_S1024x1024_0_0, ← View.readAt_full arg3.view f3 inb_S1x6x1024_S1x6x1024_0_0_0, ← View.readAt_full arg4.view f4 inb_S8x1024_S8x1024_0_0, ← View.readAt_full arg5.view f5 inb_S8x1_S8x1_0_0] at hS
  on_goal 2 => rw [← View.readAt_full arg2.view f2 inb_S1024x1024_S1024x1024_0_0, ← View.readAt_full arg3.view f3 inb_S1x6x1024_S1x6x1024_0_0_0, ← View.readAt_full arg4.view f4 inb_S8x1024_S8x1024_0_0, ← View.readAt_full arg5.view f5 inb_S8x1_S8x1_0_0, ← View.readAt_full arg18.view f18 inb_S1024x1024_S1024x1024_0_0] at hS
  all_goals
    replace hS := Is.mk hS
    sl_exec (disch := first | sl_exact h1 | sl_exact h2 | exact hchk _)
    sl_step
    replace hS := hS.eq
    have e2 := View.readAt_full arg2.view f2 inb_S1024x1024_S1024x1024_0_0
    have e3 := View.readAt_full arg3.view f3 inb_S1x6x1024_S1x6x1024_0_0_0
    have e4 := View.readAt_full arg4.view f4 inb_S8x1024_S8x1024_0_0
    have e5 := View.readAt_full arg5.view f5 inb_S8x1_S8x1_0_0
    have e9 := View.readAt_full arg9.view f9 inb_S1x1024_S1x1024_0_0
    have e10 := View.readAt_full arg10.view f10 inb_S1x1024_S1x1024_0_0
    have eL := View.readAt_full arg17.view fL0 inb_S1024x1024_S1024x1024_0_0
    have s17 : View.read (Elt F) arg17.view fL0 = S.acc := by
      refine (‹View.read (Elt F) arg17.view fL0 = _›).trans ?_
      rw [← hS]
      dsimp only
      refine expert_eq i _ _ _ _ rfl ?_ ?_ ?_ ?_ ?_
      iterate 3 first | exact (readAt_stored _ _ _ _ _ _).trans (congrArg (row i) rfl) | exact (readAt_stored _ _ _ _ _ _).trans (congrArg (fun e => row i (ranks _ _ _ _ e)) ((View.readAt_full _ _ _).trans (View.read_writes_full _ _ _ _ _))) | rfl
      iterate 2 first | exact (View.read_writes_full _ _ _ _ _).trans rfl | rfl
    iapply Hk
    isplitl [H2]
    · iexists _; isplitr
      swap; · iexact H2
      ipureintro
      rfl
    isplitl [H3]
    · iexists _; isplitr
      swap; · iexact H3
      ipureintro
      rfl
    isplitl [H4]
    · iexists _; isplitr
      swap; · iexact H4
      ipureintro
      rfl
    isplitl [H5]
    · iexists _; isplitr
      swap; · iexact H5
      ipureintro
      rfl
    isplitl [H6]
    · iexists _; isplitr
      swap; · iexact H6
      ipureintro
      rfl
    isplitl [H7]
    · iexists _; isplitr
      swap; · iexact H7
      ipureintro
      rfl
    isplitl [H8]
    · iexists _; isplitr
      swap; · iexact H8
      ipureintro
      rfl
    isplitl [H9]
    · iexists _; isplitr
      swap; · iexact H9
      ipureintro
      rfl
    isplitl [H10]
    · iexists _; isplitr
      swap; · iexact H10
      ipureintro
      rfl
    isplitl [H11]
    · iexists _; isplitr
      swap; · iexact H11
      ipureintro
      exact (read_put _ _ _ _ _ _).trans (put9_eq i (congrArg k0_pay26 e3) e2 (eL.trans s17) e9 e10 _)
    isplitl [H12]
    · iexists _; isplitr
      swap; · iexact H12
      ipureintro
      exact (read_put _ _ _ _ _ _).trans (put10_eq i (congrArg k0_pay26 e3) e2 (eL.trans s17) e9 e10 _)
    isplitl [H13]
    · iexists _; isplitr
      swap; · iexact H13
      ipureintro
      rw [← hS]; try exact (View.read_writes_full _ _ _ _ _).trans rfl
    isplitl [H14]
    · iexists _; isplitr
      swap; · iexact H14
      ipureintro
      rw [← hS]; try exact (View.read_writes_full _ _ _ _ _).trans rfl
    isplitl [H15]
    · iexists _; isplitr
      swap; · iexact H15
      ipureintro
      rw [← hS]; try exact (View.read_writes_full _ _ _ _ _).trans rfl
    isplitl [H16]
    · iexists _; isplitr
      swap; · iexact H16
      ipureintro
      first | (rw [← hS]; done) | (rw [← hS]; exact (View.read_writes_full _ _ _ _ _).trans rfl) | (rw [← hS]; exact (View.read_writes_full _ _ _ _ _).trans (congrArg (ranks _ _ _ _) ((View.readAt_full _ _ _).trans (View.read_writes_full _ _ _ _ _))))
    isplitl [H17]
    · iexists _; isplitr
      swap; · iexact H17
      ipureintro
      exact s17
    iexists _; isplitr
    swap; · iexact H18
    ipureintro
    first | (rw [← hS]; done) | (rw [← hS]; exact (View.read_writes_full _ _ _ _ _).trans rfl) | (rw [← hS]; exact (View.readAt_full _ _ _).symm)

end Cert.Kernel3Ideal.Moe
-- ==== Proof.MoeRun.lean ====
/- The run of the experts' kernel at any float operations, from any memory: it ends, with its arguments as they were
   and every semaphore at zero. The two result windows are not followed. -/
module

public import proofs.«01_k».proof.Proof.MoeBody

@[expose] public section

set_option maxRecDepth 16384

noncomputable section

namespace Cert.Kernel3Ideal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel3Ideal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The windows whose contents the run does not follow: the two results'. -/
def free (w : Fin 11) : Bool := match w with
  | ⟨9, _⟩ => true
  | ⟨10, _⟩ => true
  | _ => false

/-- What the pipeline's run is proved with: the arrays as the region finds them, each input's buffer at its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- A buffer held whole, as a memref over it. -/
theorem owned_intro (c : Dev nD) (b : Ref sig .tc) (f : Buf (Elt F) ((c : Thread nD τ).loc b)) :
    (((c : Thread nD τ).loc b) ↦{fullShare} f : sProp 𝕄) ⊢ owns (c : Thread nD τ) (Memref.whole b) fullShare f :=
  .of_eq (owns_whole (c : Thread nD τ) b fullShare f).symm

/-- The converse, the contents forgotten. -/
theorem owned_elim (c : Dev nD) (b : Ref sig .tc) (X : b.ty.Contents (Elt F)) :
    (owns (c : Thread nD τ) (Memref.whole b) fullShare X : sProp 𝕄)
      ⊢ iprop(∃ f : Buf (Elt F) ((c : Thread nD τ).loc b), ((c : Thread nD τ).loc b) ↦{fullShare} f) := by
  rw [owns_whole]
  iintro H
  iexists X; iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ X, owns (c : Thread nD τ) (st0_9 t) fullShare X)
    ∗ (∃ X, owns (c : Thread nD τ) (st0_10 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, owns (c : Thread nD τ) (st0_9 t) fullShare X)
    ∗ (∃ X, owns (c : Thread nD τ) (st0_10 t) fullShare X))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8]
  unfold Pipeline.ΦA
  rw [scopedRest0_eq]
  iintro ⟨⟨⟨⟨%f0, S0⟩, ⟨%f1, S1⟩, ⟨%f2, S2⟩, ⟨%f3, S3⟩, ⟨%f4, S4⟩, ⟨%f5, S5⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body c Set.univ (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) d9 d10
    ⟨f0, f1, f2, f3, f4, f5⟩ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iapply (owned_intro c cc0_scratch0 f0); iexact S0
  isplitl [S1]; · iapply (owned_intro c cc0_scratch1 f1); iexact S1
  isplitl [S2]; · iapply (owned_intro c cc0_scratch2 f2); iexact S2
  isplitl [S3]; · iapply (owned_intro c cc0_scratch3 f3); iexact S3
  isplitl [S4]; · iapply (owned_intro c cc0_scratch4 f4); iexact S4
  isplitl [S5]; · iapply (owned_intro c cc0_scratch5 f5); iexact S5
  iintro ⟨H0, H1, H2, H3, H4, H5, H6, H7, H8, H9, H10, S0, S1, S2, S3, S4, S5⟩
  isplitl [S0 S1 S2 S3 S4 S5 Hp]
  · isplitr [Hp]
    swap; · iexact Hp
    isplitl [S0]; · iapply (owned_elim c cc0_scratch0 _); iexact S0
    isplitl [S1]; · iapply (owned_elim c cc0_scratch1 _); iexact S1
    isplitl [S2]; · iapply (owned_elim c cc0_scratch2 _); iexact S2
    isplitl [S3]; · iapply (owned_elim c cc0_scratch3 _); iexact S3
    isplitl [S4]; · iapply (owned_elim c cc0_scratch4 _); iexact S4
    iapply (owned_elim c cc0_scratch5 _); iexact S5
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iexists _; iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ free := fun t => by
  rw [bigSep_W0, bigSep_W0, defs₀_row]
  exact triple_restated (sound_body m c t) rfl .rfl fun _ => .rfl

set_option backward.isDefEq.respectTransparency.types false in
set_option maxHeartbeats 800000 in
/-- The run of @main. -/
theorem run_main : θ_run defs (onTc (τ := τ) (main (F := F))) (s₀ m ρ) (fun r => RDat.FramePost cfg0 (fun c => (dats m 0 c).toRForget free) (V m) r ∧ r.2.sem = fun _ => 0) :=
  Pipeline.θ_run_frame_forget (Q' := _) cfgs (dats m) (0 : Fin 1) launch0 defs₀ Variants.none free m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, at any float operations. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ ⟨h, hs⟩ => ⟨fun c => ⟨
      ((congrFun (((dats m 0 c).toRForget free).ArrAt_in 0 rfl _) _).mp ((h c).1 0)).trans ((A_eq m c 0).trans (V_main_arg0 m c)),
      ((congrFun (((dats m 0 c).toRForget free).ArrAt_in 1 rfl _) _).mp ((h c).1 1)).trans ((A_eq m c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩, hs⟩) (run_main m ρ)

end Cert.Kernel3Ideal.Moe

end
-- ==== Proof.MoeTrack.lean ====
/- The run of the experts' kernel with what it leaves followed: the scratch from point to point, and the two results'
   blocks. -/
module

public import proofs.«01_k».proof.Proof.MoeRun

@[expose] public section

set_option maxRecDepth 16384

noncomputable section

namespace Cert.Kernel3Ideal.MoeTrack

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel3Ideal.Gen
open Cert.Kernel3Ideal.Moe (Scr step cond1 cond2 cond2_of_cond1 step_first setup_first yout put9 put10 body owned_intro owned_elim defs₀_row)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A point's step on its blocks. -/
def stepAt (c : Dev nD) (t : Fin cfg0.N) (s : Scr F) : Scr F :=
  step (grid0.coords t) (iblk m c 0 t) (iblk m c 1 t) (iblk m c 2 t) (iblk m c 3 t) (iblk m c 4 t) (iblk m c 5 t) (iblk m c 6 t) s

/-- Some scratch, for the first point to overwrite. -/
def scr0 : Scr F := ⟨k0_pay27, fun _ => Scalar.ofBits .f32 0#32, fun _ => Scalar.ofBits .f32 0#32, fun _ => Scalar.ofBits .f32 0#32, k0_pay29, k0_pay27⟩

/-- The scratch before a point. -/
def scr (c : Dev nD) : ℕ → Scr F
  | 0 => scr0
  | n + 1 => if h : n < cfg0.N then stepAt m c ⟨n, h⟩ (scr c n) else scr c n

theorem scr_succ (c : Dev nD) (t : Fin cfg0.N) : scr m c (t.val + 1) = stepAt m c t (scr m c t.val) := by
  rw [scr, dif_pos t.isLt]

theorem cond1_zero (t : Fin cfg0.N) (h : t.val = 0) : cond1 (grid0.coords t) = 1#1 := by
  have : ∀ t : Fin grid0.N, t.val = 0 → cond1 (grid0.coords t) = 1#1 := by decide +kernel
  exact this t h

/-- The first point forgets what it found. -/
theorem stepAt_zero (c : Dev nD) (t : Fin cfg0.N) (h : t.val = 0) (s s' : Scr F) : stepAt m c t s = stepAt m c t s' := by
  have h1 := cond1_zero t h
  unfold stepAt
  rw [step_first _ _ _ _ _ _ _ _ _ (cond2_of_cond1 _ h1) (setup_first _ s h1), step_first _ _ _ _ _ _ _ _ _ (cond2_of_cond1 _ h1) (setup_first _ s' h1)]

/-- What a tile's last point writes. -/
def outAt (c : Dev nD) (t : Fin cfg0.N) : Vec F S1024x1024 .f32 :=
  yout (iblk m c 0 t) (iblk m c 1 t) (scr m c (t.val + 1)).acc (iblk m c 7 t) (iblk m c 8 t)

/-- The last point that writes the first result. -/
def last9 : Fin cfg0.N := ⟨63, by decide⟩

/-- The scratch, held at what it contains. -/
def held (c : Dev nD) (s : Scr F) : sProp 𝕄 :=
  iprop((owns (c : Thread nD τ) (Memref.whole cc0_scratch0) fullShare s.h ∗ owns (c : Thread nD τ) (Memref.whole cc0_scratch1) fullShare s.mem
    ∗ owns (c : Thread nD τ) (Memref.whole cc0_scratch2) fullShare s.gate ∗ owns (c : Thread nD τ) (Memref.whole cc0_scratch3) fullShare s.rank
    ∗ owns (c : Thread nD τ) (Memref.whole cc0_scratch4) fullShare s.acc ∗ owns (c : Thread nD τ) (Memref.whole cc0_scratch5) fullShare s.earl)
    ∗ ∃ r, prngReg c r)

/-- What holds between points. -/
def Φs (c : Dev nD) : ℕ → sProp 𝕄
  | 0 => Pipeline.ΦA spec0 c
  | n + 1 => held c (scr m c (n + 1))

/-- What the pipeline's run is proved with. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c (if t.val ≤ 63 then t else last9)
    | ⟨10, _⟩ => outAt m c t
  Φ t := Φs m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAt m c (if t.val ≤ 63 then t else last9) := by dsimp only [dats]
theorem after0_10 (c : Dev nD) (t : Fin cfg0.N) : (dats m 0 c).after 10 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The two results' windows -/

/-- A result is idle where its conditions fail. -/
theorem idle9_true (i : grid0.Coords) (h : idle0 9 i = true) : ¬ (k0_cond3 i = 1#1 ∧ k0_cond4 i = 1#1) := by
  rintro ⟨a, b⟩
  simp [idle0, a, b] at h

theorem idle9_false (i : grid0.Coords) (h : idle0 9 i = false) : k0_cond3 i = 1#1 ∧ k0_cond4 i = 1#1 := by
  simpa [idle0] using h

theorem idle10_true (i : grid0.Coords) (h : idle0 10 i = true) : ¬ (k0_cond3 i = 1#1 ∧ k0_cond5 i = 1#1) := by
  rintro ⟨a, b⟩
  simp [idle0, a, b] at h

theorem idle10_false (i : grid0.Coords) (h : idle0 10 i = false) : k0_cond3 i = 1#1 ∧ k0_cond5 i = 1#1 := by
  simpa [idle0] using h

/-- Where the first result is idle, and where it is written back. -/
theorem win9 : ∀ t : Fin grid0.N, (idle0 9 (grid0.coords t) = false → t.val ≤ 63)
    ∧ (63 < t.val → idle0 9 (grid0.coords t) = true)
    ∧ (t.val = 63 → idle0 9 (grid0.coords t) = false)
    ∧ win0_9.fetch t = false ∧ (62 < t.val → t.val < 127 → win0_9.flush t = false)
    ∧ (win0_9.flush t = true → idle0 9 (grid0.coords t) = true → t.val = 127) := by decide +kernel

/-- The second result is never idle where it is written back. -/
theorem win10 : ∀ t : Fin grid0.N, win0_10.flush t = true → idle0 10 (grid0.coords t) = false := by decide +kernel

/-- After its last point, the first result's buffer keeps what that point wrote. -/
theorem keeps9 (c : Dev nD) (d) : ∀ n (h : n < cfg0.N), 63 < n → (dats m 0 c).before 9 ⟨n, h⟩ d = outAt m c last9
  | 0, _, h => absurd h (by decide)
  | n + 1, h, h' => by
    have hN : n < 127 := by have : n + 1 < 128 := h; omega
    rw [(dats m 0 c).before_of_pos 9 ⟨n + 1, h⟩ (Nat.succ_ne_zero n) (win9 ⟨n + 1, h⟩).2.2.2.1 d]
    have hf : (cfg0.win 9).flush ⟨n, Nat.lt_of_succ_lt h⟩ = false := (win9 ⟨n, Nat.lt_of_succ_lt h⟩).2.2.2.2.1 (by dsimp only; omega) hN
    refine (if_neg (by simpa using hf)).trans ?_
    rcases Nat.lt_or_ge 63 n with a | a
    · have hi : cfg0.idle 9 (grid0.coords ⟨n, Nat.lt_of_succ_lt h⟩) = true := (win9 ⟨n, Nat.lt_of_succ_lt h⟩).2.1 a
      have := keeps9 c d n (Nat.lt_of_succ_lt h) a
      unfold Dat.left
      simp only [Nat.add_sub_cancel]
      split
      · exact this
      · rename_i h0; exact absurd (hi.symm.trans h0) (fun e => Bool.noConfusion e)
    · obtain rfl : n = 63 := by omega
      have hi : cfg0.idle 9 (grid0.coords ⟨63, Nat.lt_of_succ_lt h⟩) = false := (win9 ⟨63, Nat.lt_of_succ_lt h⟩).2.2.1 rfl
      unfold Dat.left
      simp only [Nat.add_sub_cancel]
      split
      · rename_i h0; exact absurd (h0.symm.trans hi) (fun e => Bool.noConfusion e)
      · unfold Dat.kept
        rw [Pipeline.fill_of_clip_none (cfg := cfg0) 9 _ (fun _ => rfl) d ((dats m 0 c).after 9 ⟨63, Nat.lt_of_succ_lt h⟩), Window.fill_cut, after0_9]
        exact congrArg (outAt m c) (if_pos (le_refl 63))

/-- A result's buffer before the body at a point, -/
def pre9 (c : Dev nD) (t : Fin cfg0.N) : sProp 𝕄 := iprop(∃ d, owns (c : Thread nD τ) (st0_9 t) fullShare ((dats m 0 c).before 9 t d))
def pre10 (c : Dev nD) (t : Fin cfg0.N) : sProp 𝕄 := iprop(∃ d, owns (c : Thread nD τ) (st0_10 t) fullShare ((dats m 0 c).before 10 t d))

/-- and after it. -/
def post9 (c : Dev nD) (t : Fin cfg0.N) : sProp 𝕄 :=
  match cfg0.idle 9 (cfg0.grid.coords t) with
  | true =>
    match (cfg0.win 9).flush t with
    | false => iprop(∃ d, owns (c : Thread nD τ) (st0_9 t) fullShare ((dats m 0 c).before 9 t d))
    | true => owns (c : Thread nD τ) (st0_9 t) fullShare ((dats m 0 c).after 9 t)
  | false => owns (c : Thread nD τ) (st0_9 t) fullShare ((dats m 0 c).after 9 t)
def post10 (c : Dev nD) (t : Fin cfg0.N) : sProp 𝕄 :=
  match cfg0.idle 10 (cfg0.grid.coords t) with
  | true =>
    match (cfg0.win 10).flush t with
    | false => iprop(∃ d, owns (c : Thread nD τ) (st0_10 t) fullShare ((dats m 0 c).before 10 t d))
    | true => owns (c : Thread nD τ) (st0_10 t) fullShare ((dats m 0 c).after 10 t)
  | false => owns (c : Thread nD τ) (st0_10 t) fullShare ((dats m 0 c).after 10 t)

/-- What the body makes of the first result's buffer is what it is to leave. -/
theorem to_post9 (c : Dev nD) (t : Fin cfg0.N) (d) (a : Vec F S1024x1024 .f32) (ha : a = (scr m c (t.val + 1)).acc) :
    owns (c : Thread nD τ) (st0_9 t) fullShare (put9 (grid0.coords t) (iblk m c 0 t) (iblk m c 1 t) a (iblk m c 7 t) (iblk m c 8 t) ((dats m 0 c).before 9 t d))
      ⊢ post9 m c t := by
  subst ha
  unfold post9
  split
  · rename_i hi
    have hp : put9 (grid0.coords t) (iblk m c 0 t) (iblk m c 1 t) (scr m c (t.val + 1)).acc (iblk m c 7 t) (iblk m c 8 t) ((dats m 0 c).before 9 t d)
        = (dats m 0 c).before 9 t d := if_neg (idle9_true _ hi)
    split
    · rw [hp]
      iintro H; iexists d; iexact H
    · rename_i hf
      have h := (win9 t).2.2.2.2.2 hf hi
      rw [hp, keeps9 m c d t.val t.isLt (by omega), after0_9, if_neg (by omega)]
  · rename_i hi
    have hp : put9 (grid0.coords t) (iblk m c 0 t) (iblk m c 1 t) (scr m c (t.val + 1)).acc (iblk m c 7 t) (iblk m c 8 t) ((dats m 0 c).before 9 t d)
        = outAt m c t := if_pos (idle9_false _ hi)
    rw [hp, after0_9, if_pos ((win9 t).1 hi)]

theorem to_post10 (c : Dev nD) (t : Fin cfg0.N) (d) (a : Vec F S1024x1024 .f32) (ha : a = (scr m c (t.val + 1)).acc) :
    owns (c : Thread nD τ) (st0_10 t) fullShare (put10 (grid0.coords t) (iblk m c 0 t) (iblk m c 1 t) a (iblk m c 7 t) (iblk m c 8 t) ((dats m 0 c).before 10 t d))
      ⊢ post10 m c t := by
  subst ha
  unfold post10
  split
  · rename_i hi
    have hp : put10 (grid0.coords t) (iblk m c 0 t) (iblk m c 1 t) (scr m c (t.val + 1)).acc (iblk m c 7 t) (iblk m c 8 t) ((dats m 0 c).before 10 t d)
        = (dats m 0 c).before 10 t d := if_neg (idle10_true _ hi)
    split
    · rw [hp]
      iintro H; iexists d; iexact H
    · rename_i hf
      exact absurd (hi.symm.trans (win10 t hf)) (fun e => Bool.noConfusion e)
  · rename_i hi
    have hp : put10 (grid0.coords t) (iblk m c 0 t) (iblk m c 1 t) (scr m c (t.val + 1)).acc (iblk m c 7 t) (iblk m c 8 t) ((dats m 0 c).before 10 t d)
        = outAt m c t := if_pos (idle10_false _ hi)
    rw [hp, after0_10]

/-! ## The body at a point -/

/-- The scratch, held at some contents from which the point's step leads where it is to lead. -/
theorem scratch_open (c : Dev nD) (t : Fin cfg0.N) :
    Φs m c t.val ⊢ iprop(∃ s : Scr F, ⌜stepAt m c t s = scr m c (t.val + 1)⌝ ∗ held c s) := by
  rcases Nat.eq_zero_or_pos t.val with h | h
  · rw [h]
    unfold Φs Pipeline.ΦA held
    rw [scopedRest0_eq]
    iintro ⟨⟨⟨%f0, S0⟩, ⟨%f1, S1⟩, ⟨%f2, S2⟩, ⟨%f3, S3⟩, ⟨%f4, S4⟩, ⟨%f5, S5⟩⟩, Hp⟩
    iexists (⟨f0, f1, f2, f3, f4, f5⟩ : Scr F)
    isplitr
    · ipureintro
      rw [← h, scr_succ]
      exact stepAt_zero m c t h _ _
    isplitr [Hp]
    swap; · iexact Hp
    isplitl [S0]; · iapply (owned_intro c cc0_scratch0 f0); iexact S0
    isplitl [S1]; · iapply (owned_intro c cc0_scratch1 f1); iexact S1
    isplitl [S2]; · iapply (owned_intro c cc0_scratch2 f2); iexact S2
    isplitl [S3]; · iapply (owned_intro c cc0_scratch3 f3); iexact S3
    isplitl [S4]; · iapply (owned_intro c cc0_scratch4 f4); iexact S4
    iapply (owned_intro c cc0_scratch5 f5); iexact S5
  · obtain ⟨n, hn⟩ := Nat.exists_eq_succ_of_ne_zero h.ne'
    have e : Φs m c t.val = held c (scr m c t.val) := by rw [hn]; rfl
    rw [e]
    iintro H
    iexists (scr m c t.val)
    isplitr
    · ipureintro
      exact (scr_succ m c t).symm
    iexact H

/-- Whatever the scratch holds, it is some contents. -/
theorem scratch_close (c : Dev nD) (s : Scr F) : held c s ⊢ Pipeline.ΦA spec0 c := by
  unfold Pipeline.ΦA held
  rw [scopedRest0_eq]
  iintro ⟨⟨S0, S1, S2, S3, S4, S5⟩, Hp⟩
  isplitr [Hp]
  swap; · iexact Hp
  isplitl [S0]; · iapply (owned_elim c cc0_scratch0 _); iexact S0
  isplitl [S1]; · iapply (owned_elim c cc0_scratch1 _); iexact S1
  isplitl [S2]; · iapply (owned_elim c cc0_scratch2 _); iexact S2
  isplitl [S3]; · iapply (owned_elim c cc0_scratch3 _); iexact S3
  isplitl [S4]; · iapply (owned_elim c cc0_scratch4 _); iexact S4
  iapply (owned_elim c cc0_scratch5 _); iexact S5

/-- What the body is called with at point `t`, -/
def bodyPre (c : Dev nD) (t : Fin cfg0.N) : sProp 𝕄 :=
  iprop(Φs m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop(Φs m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ post9 m c t
    ∗ post10 m c t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8,
    show Φs m c (t.val + 1) = held c (scr m c (t.val + 1)) from rfl]
  refine (sep_mono_left (scratch_open m c t)).trans ?_
  unfold held
  iintro ⟨⟨%s, %hs, ⟨S0, S1, S2, S3, S4, S5⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body c Set.univ (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) ((dats m 0 c).before 9 t d9) ((dats m 0 c).before 10 t d10)
    s _)
  rw [show step (grid0.coords t) (iblk m c 0 t) (iblk m c 1 t) (iblk m c 2 t) (iblk m c 3 t) (iblk m c 4 t) (iblk m c 5 t) (iblk m c 6 t) s = scr m c (t.val + 1) from hs]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, S0, S1, S2, S3, S4, S5⟩
  isplitl [S0 S1 S2 S3 S4 S5 Hp]
  · isplitr [Hp]
    swap; · iexact Hp
    isplitl [S0]; · iexact S0
    isplitl [S1]; · iexact S1
    isplitl [S2]; · iexact S2
    isplitl [S3]; · iexact S3
    isplitl [S4]; · iexact S4
    iexact S5
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (to_post9 m c t d9 _ rfl); iexact H9
  iapply (to_post10 m c t d10 _ rfl); iexact H10

set_option maxHeartbeats 1600000 in
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost post9 post10
  cases cfg0.idle 9 (cfg0.grid.coords t) <;> cases (cfg0.win 9).flush t <;> cases cfg0.idle 10 (cfg0.grid.coords t) <;>
    cases (cfg0.win 10).flush t <;> exact .rfl

set_option backward.isDefEq.respectTransparency.types false in
set_option maxHeartbeats 800000 in
/-- The run of @main. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => .rfl) (hout := fun c => scratch_close c _)

end Cert.Kernel3Ideal.MoeTrack

end
-- ==== Proof.MoeMath.lean ====
/- The mixture of experts, row by row: the two experts with the greatest logits, their weights, and how the kernel's
   128-row trips add up to them. -/
module

public import proofs.«01_k».proof.Proof.FfnMath
public import Idealize.ShloMosaic.Lib.SortFacts

@[expose] public section

noncomputable section

namespace Cert.Moe

open Idealize.ShloMosaic Cert.Ffn

/-- An expert's feed-forward of a row: one entry. -/
def expertOf (h : Fin 1024 → EReal) (a b : Fin 1024 → Fin 1024 → EReal) (w : Fin 1024 → Fin 1024 → EReal) (j : Fin 1024) : EReal :=
  ∑ f, hidden h (fun l => a l f) (fun l => b l f) * w f j

/-- An expert's logit. -/
def logit (h w : Fin 1024 → EReal) (b : EReal) : EReal := (∑ l, h l * w l) + b

/-- The expert with the greatest logit, the first of those that share it. -/
def IsTop (L : Fin 8 → EReal) (i : Fin 8) : Prop := ∀ e, L e < L i ∨ (L e = L i ∧ i ≤ e)

/-- The same among the others. -/
def IsNext (L : Fin 8 → EReal) (i k : Fin 8) : Prop := k ≠ i ∧ ∀ e, e ≠ i → L e < L k ∨ (L e = L k ∧ k ≤ e)

theorem IsTop.unique {L : Fin 8 → EReal} {i i' : Fin 8} (h : IsTop L i) (h' : IsTop L i') : i = i' := by
  rcases h i' with a | ⟨a, b⟩ <;> rcases h' i with a' | ⟨a', b'⟩
  · exact absurd a (lt_asymm a')
  · exact absurd a' (ne_of_gt a)
  · exact absurd a (ne_of_gt a')
  · exact le_antisymm b b'

theorem IsNext.unique {L : Fin 8 → EReal} {i k k' : Fin 8} (h : IsNext L i k) (h' : IsNext L i k') : k = k' := by
  rcases h.2 k' h'.1 with a | ⟨a, b⟩ <;> rcases h'.2 k h.1 with a' | ⟨a', b'⟩
  · exact absurd a (lt_asymm a')
  · exact absurd a' (ne_of_gt a)
  · exact absurd a (ne_of_gt a')
  · exact le_antisymm b b'

/-- The greatest logit's expert. -/
def topOf (L : Fin 8 → EReal) : Fin 8 := Classical.epsilon (IsTop L)
/-- The second greatest's. -/
def nextOf (L : Fin 8 → EReal) : Fin 8 := Classical.epsilon (IsNext L (topOf L))

theorem IsTop.eq {L : Fin 8 → EReal} {i : Fin 8} (h : IsTop L i) : topOf L = i :=
  IsTop.unique (Classical.epsilon_spec ⟨i, h⟩) h

theorem IsNext.eq {L : Fin 8 → EReal} {i k : Fin 8} (hi : IsTop L i) (h : IsNext L i k) : nextOf L = k := by
  have e := hi.eq
  subst e
  exact IsNext.unique (Classical.epsilon_spec ⟨k, h⟩) h

/-- The first weight. -/
def share (a b : EReal) : EReal := Ideal.div 1 (1 + Ideal.exp (b - a))

/-- An expert's weight in a row's mixture. -/
def weight (L : Fin 8 → EReal) (e : Fin 8) : EReal :=
  if e = topOf L then share (L (topOf L)) (L (nextOf L))
  else if e = nextOf L then Ideal.exp (L (nextOf L) - L (topOf L)) * share (L (topOf L)) (L (nextOf L)) else 0

/-- Two softmax shares, given to the two chosen experts, are their weights. -/
theorem two_shares (L : Fin 8 → EReal) (hL : ∀ e, ∃ a : ℝ, L e = a) (hle : L (nextOf L) ≤ L (topOf L)) (hne : nextOf L ≠ topOf L) (e : Fin 8) :
    (if topOf L = e then (1 : EReal) else 0) * Ideal.div (Ideal.exp (L (topOf L) - max (L (topOf L)) (L (nextOf L))))
        (Ideal.exp (L (topOf L) - max (L (topOf L)) (L (nextOf L))) + Ideal.exp (L (nextOf L) - max (L (topOf L)) (L (nextOf L))))
      + (if nextOf L = e then (1 : EReal) else 0) * Ideal.div (Ideal.exp (L (nextOf L) - max (L (topOf L)) (L (nextOf L))))
        (Ideal.exp (L (topOf L) - max (L (topOf L)) (L (nextOf L))) + Ideal.exp (L (nextOf L) - max (L (topOf L)) (L (nextOf L))))
      = weight L e := by
  rw [max_eq_left hle, weight, share]
  obtain ⟨a, ha⟩ := hL (topOf L)
  obtain ⟨b, hb⟩ := hL (nextOf L)
  have e1 : Ideal.exp (L (topOf L) - L (topOf L)) = 1 := by
    rw [ha, ← EReal.coe_sub, sub_self, Ideal.exp_coe, Real.exp_zero, EReal.coe_one]
  have e2 : Ideal.exp (L (nextOf L) - L (topOf L)) = ((Real.exp (b - a) : ℝ) : EReal) := by
    rw [ha, hb, ← EReal.coe_sub, Ideal.exp_coe]
  have hp : (1 + Real.exp (b - a)) ≠ 0 := by positivity
  have e3 : (1 : EReal) + ((Real.exp (b - a) : ℝ) : EReal) = ((1 + Real.exp (b - a) : ℝ) : EReal) := by
    rw [EReal.coe_add, EReal.coe_one]
  rw [e1, e2, e3, Ideal.div_coe hp, Ideal.div_coe hp, one_mul]
  by_cases c : e = topOf L <;> by_cases d : e = nextOf L
  · exact absurd (d.symm.trans c) hne
  · rw [if_pos c, if_pos c.symm, if_neg (Ne.symm d)]; simp
  · rw [if_neg c, if_neg (Ne.symm c), if_pos d, if_pos d.symm]; simp
  · rw [if_neg c, if_neg (Ne.symm c), if_neg d, if_neg (Ne.symm d)]; simp

/-- A row's logits. -/
def logits (h : Fin 1024 → EReal) (w : Fin 1024 → Fin 8 → EReal) (b : Fin 8 → EReal) (e : Fin 8) : EReal := logit h (fun l => w l e) (b e)

/-- A row's mixture: one entry. -/
def mixture (h : Fin 1024 → EReal) (L : Fin 8 → EReal) (w1 w3 w2 : Fin 8 → Fin 1024 → Fin 1024 → EReal) (j : Fin 1024) : EReal :=
  ∑ e, weight L e * expertOf h (w1 e) (w3 e) (w2 e) j

/-- The whole part, of one row with its six modulation rows: each entry of the result. -/
def rowOut (x : Fin 1024 → EReal) (md : Fin 6 → Fin 1024 → EReal) (wr : Fin 1024 → Fin 8 → EReal) (br : Fin 8 → EReal)
    (w1 w3 w2 : Fin 8 → Fin 1024 → Fin 1024 → EReal) (g b : Fin 1024 → EReal) (j : Fin 1024) : EReal :=
  norm (fun k => mixed (x k) (md 5 k) (mixture (fun l => moved (x l) (md 4 l) (md 3 l))
    (logits (fun l => moved (x l) (md 4 l) (md 3 l)) wr br) w1 w3 w2 k)) (g j) (b j) j

/-! ## The two greatest, sorted -/

/-- A stable sort takes equal elements in their order, so ties may be broken by position beforehand. -/
theorem stableSort_ties {n : ℕ} (R R' : Fin n → Fin n → Bool) (h : ∀ a b, a < b → R b a = R' b a) :
    ∀ l : List (Fin n), l.Pairwise (· < ·) → stableSort R l = stableSort R' l
  | [], _ => rfl
  | a :: l, hl => by
    rw [List.pairwise_cons] at hl
    unfold stableSort
    rw [stableSort_ties R R' h l hl.2]
    exact insertBefore_congr R R' a _ fun b hb => h a b (hl.1 b ((perm_stableSort R' l).mem_iff.mp hb))

theorem sortedFrom_ties {n : ℕ} (R R' : Fin n → Fin n → Bool) (h : ∀ a b, a < b → R b a = R' b a) (k : Fin n) :
    sortedFrom R k = sortedFrom R' k := by
  have e : sortPositions n R = sortPositions n R' := stableSort_ties R R' h _ (List.pairwise_lt_finRange n)
  unfold sortedFrom
  have : ∀ (l l' : List (Fin n)) (hl : l.length = n) (hl' : l'.length = n), l = l' → l.get (k.cast hl.symm) = l'.get (k.cast hl'.symm) := by
    intro l l' hl hl' e; subst e; rfl
  exact this _ _ (length_sortPositions n R) (length_sortPositions n R') e

/-- Greater first, equal in their order. -/
def before (L : Fin 8 → EReal) (a b : Fin 8) : Bool := by
  classical exact decide (L b < L a ∨ (L a = L b ∧ a < b))

theorem before_iff (L : Fin 8 → EReal) (a b : Fin 8) : before L a b = true ↔ (L b < L a ∨ (L a = L b ∧ a < b)) := by
  unfold before; exact decide_eq_true_iff

theorem before_false (L : Fin 8 → EReal) (a b : Fin 8) : before L a b = false ↔ (L a < L b ∨ (L a = L b ∧ b ≤ a)) := by
  rw [Bool.eq_false_iff, Ne, before_iff]
  constructor
  · intro h
    rcases lt_trichotomy (L a) (L b) with a' | a' | a'
    · exact .inl a'
    · exact .inr ⟨a', not_lt.mp fun c => h (.inr ⟨a', c⟩)⟩
    · exact absurd (.inl a') h
  · rintro (h | ⟨h, h'⟩) (k | ⟨k, k'⟩)
    · exact lt_asymm h k
    · exact ne_of_lt h k
    · exact ne_of_gt k h
    · exact absurd k' (not_lt.mpr h')

theorem before_sorted (L : Fin 8 → EReal) (i j : Fin 8) (hij : i < j) :
    before L (sortedFrom (before L) j) (sortedFrom (before L) i) = false := by
  refine sortedFrom_noInversion (before L) (before L) ?_ (fun _ _ h => h) ?_ i j hij
  · intro a b h
    rw [before_iff] at h; rw [before_false]
    rcases h with h | ⟨h, h'⟩
    · exact .inl h
    · exact .inr ⟨h.symm, h'.le⟩
  · intro a b c h h'
    rw [before_false] at *
    rcases h with h | ⟨h, k⟩ <;> rcases h' with h' | ⟨h', k'⟩
    · exact .inl (h.trans h')
    · exact .inl (h'.symm ▸ h)
    · exact .inl (h ▸ h')
    · exact .inr ⟨h.trans h', k'.trans k⟩

/-- A stable sort by a strictly greater logit puts the greatest at the front, -/
theorem sorted_top (L : Fin 8 → EReal) (R : Fin 8 → Fin 8 → Bool) (hR : ∀ a b, R a b = true ↔ L b < L a) : IsTop L (sortedFrom R 0) := by
  have e : ∀ k, sortedFrom R k = sortedFrom (before L) k := fun k => sortedFrom_ties _ _ (fun a b hab => by
    rw [Bool.eq_iff_iff, hR, before_iff]
    exact ⟨.inl, fun h => h.elim id fun h => absurd h.2 (not_lt.mpr hab.le)⟩) k
  intro x
  obtain ⟨j, rfl⟩ := sortedFrom_surjective (before L) x
  rw [e]
  rcases Fin.eq_zero_or_eq_succ j with rfl | ⟨k, rfl⟩
  · exact .inr ⟨rfl, le_refl _⟩
  · exact (before_false _ _ _).mp (before_sorted L 0 k.succ (Fin.succ_pos k))

/-- and the next behind it. -/
theorem sorted_next (L : Fin 8 → EReal) (R : Fin 8 → Fin 8 → Bool) (hR : ∀ a b, R a b = true ↔ L b < L a) :
    IsNext L (sortedFrom R 0) (sortedFrom R 1) := by
  have e : ∀ k, sortedFrom R k = sortedFrom (before L) k := fun k => sortedFrom_ties _ _ (fun a b hab => by
    rw [Bool.eq_iff_iff, hR, before_iff]
    exact ⟨.inl, fun h => h.elim id fun h => absurd h.2 (not_lt.mpr hab.le)⟩) k
  refine ⟨fun h => absurd (sortedFrom_injective R h) (by decide), fun x hx => ?_⟩
  obtain ⟨j, rfl⟩ := sortedFrom_surjective (before L) x
  rw [e] at hx ⊢
  have hj : j ≠ 0 := fun h => hx (by rw [h])
  rcases eq_or_ne j 1 with rfl | h1
  · exact .inr ⟨rfl, le_refl _⟩
  · exact (before_false _ _ _).mp (before_sorted L 1 j (by
      have a : (j : ℕ) ≠ 0 := fun h => hj (Fin.ext h)
      have b : (j : ℕ) ≠ 1 := fun h => h1 (Fin.ext h)
      exact Fin.lt_def.mpr (show 1 < (j : ℕ) by omega)))

/-! ## The two greatest, by maximum and first position -/

/-- The first position a mask marks. -/
theorem first_marked : ∀ p : Fin 8 → Bool, (∃ e, p e = true) → ∃ i, p i = true ∧ (∀ e, p e = true → i ≤ e)
    ∧ Finset.univ.fold IntOp.minsi 2147483647#32 (fun e : Fin 8 => if p e = true then BitVec.ofNat 32 e.val else 8#32) = BitVec.ofNat 32 i.val := by
  decide +kernel

/-- The greatest of eight and the first position it is at. -/
theorem max_first (L : Fin 8 → EReal) (q : Fin 8 → BitVec 1) (hq : ∀ e, q e = 1#1 ↔ L e = Finset.univ.fold max ⊥ L) :
    ∃ i, IsTop L i ∧ Finset.univ.fold max ⊥ L = L i
      ∧ Finset.univ.fold IntOp.minsi 2147483647#32 (fun e : Fin 8 => if q e = 1#1 then BitVec.ofNat 32 e.val else 8#32) = BitVec.ofNat 32 i.val := by
  have hs : Finset.univ.fold max ⊥ L = Finset.univ.sup L := rfl
  obtain ⟨e0, _, h0⟩ := Finset.exists_mem_eq_sup Finset.univ ⟨0, Finset.mem_univ _⟩ L
  obtain ⟨i, hi, hmin, hf⟩ := first_marked (fun e => decide (q e = 1#1)) ⟨e0, decide_eq_true ((hq e0).mpr (by rw [hs, h0]))⟩
  have hiL : L i = Finset.univ.fold max ⊥ L := (hq i).mp (of_decide_eq_true hi)
  refine ⟨i, fun e => ?_, hiL.symm, ?_⟩
  · rcases lt_or_eq_of_le (show L e ≤ L i from hiL ▸ hs ▸ Finset.le_sup (Finset.mem_univ e)) with h | h
    · exact .inl h
    · exact .inr ⟨h, hmin e (decide_eq_true ((hq e).mpr (h.trans hiL)))⟩
  · simpa only [decide_eq_true_eq] using hf

/-- The second greatest, the greatest put out of the way. -/
theorem next_of_masked {L : Fin 8 → EReal} (hL : ∀ e, L e ≠ ⊥) {i k : Fin 8} (h : IsTop (fun e => if e = i then ⊥ else L e) k) :
    IsNext L i k := by
  have hk : k ≠ i := by
    rintro rfl
    obtain ⟨e, he⟩ : ∃ e : Fin 8, e ≠ k := (by decide : ∀ k : Fin 8, ∃ e : Fin 8, e ≠ k) k
    rcases h e with a | ⟨a, _⟩
    · simp [he] at a
    · simp [he] at a; exact hL e a
  refine ⟨hk, fun e he => ?_⟩
  have := h e
  simpa [he, hk] using this

/-! ## Trips of 128 members -/

section Trips

variable (P : Fin 1024 → Prop) [DecidablePred P]

/-- How many members precede a column. -/
def rankOf (t : Fin 1024) : ℕ := (Finset.univ.filter fun s => P s ∧ s < t).card
/-- How many members there are. -/
def countOf : ℕ := (Finset.univ.filter fun s => P s).card

theorem countOf_le : countOf P ≤ 1024 := (Finset.card_le_univ _).trans (by simp)

theorem rankOf_lt_of (t u : Fin 1024) (ht : P t) (h : t < u) : rankOf P t < rankOf P u := by
  refine Finset.card_lt_card ⟨fun s hs => ?_, fun hs => ?_⟩
  · simp only [Finset.mem_filter, Finset.mem_univ, true_and] at hs ⊢; exact ⟨hs.1, hs.2.trans h⟩
  · have := hs (Finset.mem_filter.mpr ⟨Finset.mem_univ t, ht, h⟩)
    simp only [Finset.mem_filter, Finset.mem_univ, true_and, lt_irrefl, and_false] at this

theorem rankOf_inj (t u : Fin 1024) (ht : P t) (hu : P u) (h : rankOf P t = rankOf P u) : t = u := by
  rcases lt_trichotomy t u with a | a | a
  · exact absurd h (rankOf_lt_of P t u ht a).ne
  · exact a
  · exact absurd h (rankOf_lt_of P u t hu a).ne'

theorem rankOf_lt_count (t : Fin 1024) (ht : P t) : rankOf P t < countOf P := by
  refine Finset.card_lt_card ⟨fun s hs => ?_, fun hs => ?_⟩
  · simp only [Finset.mem_filter, Finset.mem_univ, true_and] at hs ⊢; exact hs.1
  · have := hs (Finset.mem_filter.mpr ⟨Finset.mem_univ t, ht⟩)
    simp only [Finset.mem_filter, Finset.mem_univ, true_and, lt_irrefl, and_false] at this

/-- Whether a column is the member in slot `s` of trip `k`. -/
def hit (k : ℕ) (s : Fin 128) (t : Fin 1024) : EReal := if rankOf P t = s.val + 128 * k then (if P t then 1 else 0) else 0

theorem hit_of (k : ℕ) (s : Fin 128) (t : Fin 1024) (ht : P t) (h : rankOf P t = s.val + 128 * k) : hit P k s t = 1 := by
  rw [hit, if_pos h, if_pos ht]

theorem hit_not (k : ℕ) (s : Fin 128) (t : Fin 1024) (h : ¬ (P t ∧ rankOf P t = s.val + 128 * k)) : hit P k s t = 0 := by
  unfold hit
  split_ifs with a b
  · exact absurd ⟨b, a⟩ h
  · rfl
  · rfl

/-- A slot picks its member's value. -/
theorem sum_hit (k : ℕ) (s : Fin 128) (t : Fin 1024) (ht : P t) (h : rankOf P t = s.val + 128 * k) (v : Fin 1024 → EReal) :
    ∑ u, hit P k s u * v u = v t := by
  rw [Finset.sum_eq_single t]
  · rw [hit_of P k s t ht h, one_mul]
  · intro u _ hu
    rw [hit_not P k s u fun c => hu (rankOf_inj P u t c.1 ht (c.2.trans h.symm)), zero_mul]
  · intro c; exact absurd (Finset.mem_univ t) c

/-- What a trip adds to a column: its own value if it is a member of the trip. -/
theorem trip_adds (k : ℕ) (F : (Fin 1024 → EReal) → EReal) (h : Fin 1024 → Fin 1024 → EReal) (g : Fin 1024 → EReal) (t : Fin 1024) :
    ∑ s : Fin 128, hit P k s t * (F (fun l => ∑ u, hit P k s u * h u l) * ∑ u, hit P k s u * g u)
      = if P t ∧ 128 * k ≤ rankOf P t ∧ rankOf P t < 128 * (k + 1) then F (h t) * g t else 0 := by
  split_ifs with c
  · obtain ⟨hp, h1, h2⟩ := c
    rw [Finset.sum_eq_single (⟨rankOf P t - 128 * k, by omega⟩ : Fin 128)]
    · have e : rankOf P t = (⟨rankOf P t - 128 * k, by omega⟩ : Fin 128).val + 128 * k := by dsimp only; omega
      rw [hit_of P k _ t hp e, one_mul, sum_hit P k _ t hp e]
      simp only [sum_hit P k _ t hp e]
    · intro s _ hs
      rw [hit_not P k s t fun c => hs (Fin.ext (by dsimp only; omega)), zero_mul]
    · intro c; exact absurd (Finset.mem_univ _) c
  · refine Finset.sum_eq_zero fun s _ => ?_
    rw [hit_not P k s t fun d => c ⟨d.1, by omega, by have := s.isLt; omega⟩, zero_mul]

end Trips

end Cert.Moe
-- ==== Proof.MoeTrip.lean ====
/- A trip of the experts' kernel, entry by entry, and what an expert's trips add up to. -/
module

public import proofs.«01_k».proof.Proof.MoeBody
public import proofs.«01_k».proof.Proof.MoeMath
public import Idealize.ShloMosaic.Lib.Pipeline.ValueKit
public import Idealize.ShloMosaic.Lib.Pointwise

@[expose] public section

set_option maxRecDepth 16384

noncomputable section

namespace Cert.Kernel3Ideal.MoeTrip

open Cert.Ffn Cert.Moe
open Idealize.ShloMosaic Idealize.ShloMosaic.TcCoe Idealize.SL.Sem
open Cert.Kernel3Ideal Cert.Kernel3Ideal.Gen
open Cert.Kernel3Ideal.Moe (trip trips trips_succ)

/-! ## One trip -/

/-- The rows' products with a weight. -/
def upV (h : FVec Ideal S128x1024 .bf16) (w : FVec Ideal S1x1024x1024 .bf16) : FVec Ideal S128x1024 .f32 :=
  matmul dot_S128x1024_S1024x1024_S128x1024_1_0_0_1_n_n none h (shapeCast S1024x1024 w shapeCasts_S1x1024x1024_S1024x1024)
    (constant S128x1024 .f32 0x00000000#32)

/-- The hidden values. -/
def hidV (h : FVec Ideal S128x1024 .bf16) (a b : FVec Ideal S1x1024x1024 .bf16) : FVec Ideal S128x1024 .bf16 :=
  truncf .bf16 (mulf (mulf (upV h a) (divf (broadcast S128x1024 (Scalar.ofBits .f32 0x3F800000#32))
    (addf (broadcast S128x1024 (Scalar.ofBits .f32 0x3F800000#32))
      (exp (subf (broadcast S128x1024 (Scalar.ofBits .f32 0x00000000#32)) (upV h a)))))) (upV h b)) bitsLt_bf16_f32

/-- The members' rows, picked out. -/
def pickV (q : FVec Ideal S128x1024 .bf16) (h : FVec Ideal S1024x1024 .bf16) : FVec Ideal S128x1024 .bf16 :=
  truncf .bf16 (matmul dot_S128x1024_S1024x1024_S128x1024_1_0_0_1_n_n none q h (constant S128x1024 .f32 0x00000000#32)) bitsLt_bf16_f32

theorem pay20_eq (v11 v15 : FVec Ideal S1x1024 .f32) (v20 : BitVec 32) (v22 : FVec Ideal S128x1024 .f32) (k : Fin (k0_t1_loop v20).trips)
    (h : FVec Ideal S1024x1024 .bf16) (a b w : FVec Ideal S1x1024x1024 .bf16) :
    k0_pay20 v11 v15 v20 v22 0#32 1#32 k h a b w = upV (hidV (pickV (k0_pay19 v11 v15 v20 v22 0#32 1#32 k) h) a b) w := rfl

theorem upV_at (h : FVec Ideal S128x1024 .bf16) (w : FVec Ideal S1x1024x1024 .bf16) (r : Fin 128) (n : Fin 1024) :
    upV h w (ix2 r n) = ∑ l : Fin 1024, h (ix2 r l) * w (ix3 0 l n) := by
  pointwise [upV]

theorem zero_less (x : EReal) : Ideal.ofBits .f32 0x00000000#32 - x = -x := by
  rw [show Ideal.ofBits .f32 0x00000000#32 = 0 by simp [Ideal.ofBits, Ideal.ieee], zero_sub]

theorem hid_at (u v : FVec Ideal S128x1024 .f32) (i : S128x1024.Idx) :
    truncf .bf16 (mulf (mulf u (divf (broadcast S128x1024 (Scalar.ofBits .f32 0x3F800000#32))
      (addf (broadcast S128x1024 (Scalar.ofBits .f32 0x3F800000#32))
        (exp (subf (broadcast S128x1024 (Scalar.ofBits .f32 0x00000000#32)) u))))) v) bitsLt_bf16_f32 i = silu (u i) * v i := by
  rw [silu, ← zero_less]
  rfl

theorem hidV_at (h : FVec Ideal S128x1024 .bf16) (a b : FVec Ideal S1x1024x1024 .bf16) (r : Fin 128) (n : Fin 1024) :
    hidV h a b (ix2 r n) = hidden (fun l => h (ix2 r l)) (fun l => a (ix3 0 l n)) (fun l => b (ix3 0 l n)) := by
  rw [hidV, hid_at, upV_at, upV_at, Cert.Ffn.hidden]

theorem pickV_at (q : FVec Ideal S128x1024 .bf16) (h : FVec Ideal S1024x1024 .bf16) (r : Fin 128) (n : Fin 1024) :
    pickV q h (ix2 r n) = ∑ l : Fin 1024, q (ix2 r l) * h (ix2 l n) := by
  pointwise [pickV]

theorem pay20_at (v11 v15 : FVec Ideal S1x1024 .f32) (v20 : BitVec 32) (v22 : FVec Ideal S128x1024 .f32) (k : Fin (k0_t1_loop v20).trips)
    (h : FVec Ideal S1024x1024 .bf16) (a b w : FVec Ideal S1x1024x1024 .bf16) (r : Fin 128) (j : Fin 1024) :
    k0_pay20 v11 v15 v20 v22 0#32 1#32 k h a b w (ix2 r j)
      = expertOf (fun l => ∑ u : Fin 1024, k0_pay19 v11 v15 v20 v22 0#32 1#32 k (ix2 r u) * h (ix2 u l))
          (fun l f => a (ix3 0 l f)) (fun l f => b (ix3 0 l f)) (fun f l => w (ix3 0 f l)) j := by
  rw [pay20_eq, upV_at, expertOf]
  simp only [hidV_at, pickV_at]

theorem pay21_at (v11 v13 v15 : FVec Ideal S1x1024 .f32) (v20 : BitVec 32) (v22 : FVec Ideal S128x1024 .f32) (k : Fin (k0_t1_loop v20).trips)
    (r : Fin 128) (n : Fin 1) :
    k0_pay21 v11 v13 v15 v20 v22 0#32 1#32 k (ix2 r n) = ∑ u : Fin 1024, k0_pay18 v11 v15 v20 v22 0#32 1#32 k (ix2 r u) * v13 (ix2 0 u) := by
  unfold k0_pay21
  generalize k0_pay18 v11 v15 v20 v22 0#32 1#32 k = q
  pointwise []

theorem pay1_at (q : FVec Ideal S128x1024 .bf16) (y : FVec Ideal S128x1024 .f32) (g : FVec Ideal S128x1 .f32) (a : FVec Ideal S1024x1024 .f32)
    (t j : Fin 1024) : k0_pay1 q y g a (ix2 t j) = a (ix2 t j) + ∑ s : Fin 128, q (ix2 s t) * (y (ix2 s j) * g (ix2 s 0)) := by
  pointwise [k0_pay1]

theorem pay18_at (v11 v15 : FVec Ideal S1x1024 .f32) (v20 : BitVec 32) (k : Fin (k0_t1_loop v20).trips)
    (s : Fin 128) (t : Fin 1024) :
    k0_pay18 v11 v15 v20 (k0_pay31 (F := Ideal)) 0#32 1#32 k (ix2 s t)
      = if v15 (ix2 0 t) = (((BitVec.ofNat 32 s.val).toInt : ℝ) : EReal) + (((Scalar.muli (Scf.iv 0#32 1#32 k) 128#32).toInt : ℝ) : EReal) then v11 (ix2 0 t) else 0 := by
  pointwise [k0_pay18, k0_pay31]
  rfl

/-! ## All of an expert's trips -/

section Total

variable (P : Fin 1024 → Prop) [DecidablePred P]

theorem slot_int : ∀ s : Fin 128, (BitVec.ofNat 32 s.val).toInt = (s.val : ℤ) := by decide +kernel

theorem base_int : ∀ k : Fin 8, (Scalar.muli (Scf.iv 0#32 1#32 k.val) 128#32).toInt = ((128 * k.val : ℕ) : ℤ) := by decide +kernel

theorem count_trips : ∀ n : Fin 1025, (k0_t1_loop (BitVec.ofNat 32 n.val)).trips = (n.val + 127) / 128 := by decide +kernel

theorem same_slot (n a b : ℕ) : (((n : ℤ) : ℝ) : EReal) = (((a : ℤ) : ℝ) : EReal) + (((b : ℤ) : ℝ) : EReal) ↔ n = a + b := by
  rw [← EReal.coe_add, EReal.coe_eq_coe_iff]
  norm_cast

theorem pay18_hit (v11 v15 : FVec Ideal S1x1024 .f32) (v20 : BitVec 32) (k : Fin (k0_t1_loop v20).trips) (hk : k.val < 8)
    (h11 : ∀ t, v11 (ix2 0 t) = if P t then (1 : EReal) else 0) (h15 : ∀ t, v15 (ix2 0 t) = (((rankOf P t : ℤ) : ℝ) : EReal))
    (s : Fin 128) (t : Fin 1024) : k0_pay18 v11 v15 v20 (k0_pay31 (F := Ideal)) 0#32 1#32 k (ix2 s t) = hit P k s t := by
  rw [pay18_at, h11, h15, slot_int, base_int ⟨k.val, hk⟩, hit]
  simp only [same_slot]

theorem pay19_hit (v11 v15 : FVec Ideal S1x1024 .f32) (v20 : BitVec 32) (k : Fin (k0_t1_loop v20).trips) (hk : k.val < 8)
    (h11 : ∀ t, v11 (ix2 0 t) = if P t then (1 : EReal) else 0) (h15 : ∀ t, v15 (ix2 0 t) = (((rankOf P t : ℤ) : ℝ) : EReal))
    (s : Fin 128) (t : Fin 1024) : k0_pay19 v11 v15 v20 (k0_pay31 (F := Ideal)) 0#32 1#32 k (ix2 s t) = hit P k s t :=
  pay18_hit P v11 v15 v20 k hk h11 h15 s t

variable (v11 v13 v15 : FVec Ideal S1x1024 .f32) (h11 : ∀ t, v11 (ix2 0 t) = if P t then (1 : EReal) else 0)
  (h15 : ∀ t, v15 (ix2 0 t) = (((rankOf P t : ℤ) : ℝ) : EReal))
  (h : FVec Ideal S1024x1024 .bf16) (x4 x5 x6 : FVec Ideal S1x1024x1024 .bf16) (a : FVec Ideal S1024x1024 .f32)

include h11 h15

theorem trip_at (v20 : BitVec 32) (k : Fin (k0_t1_loop v20).trips) (hk : k.val < 8) (t j : Fin 1024) :
    trip (F := Ideal) v11 v13 v15 v20 k0_pay31 h x4 x5 x6 k a (ix2 t j)
      = a (ix2 t j) + if P t ∧ 128 * k.val ≤ rankOf P t ∧ rankOf P t < 128 * (k.val + 1) then
          expertOf (fun l => h (ix2 t l)) (fun l f => x4 (ix3 0 l f)) (fun l f => x5 (ix3 0 l f)) (fun f l => x6 (ix3 0 f l)) j * v13 (ix2 0 t) else 0 := by
  rw [trip, pay1_at]
  simp only [pay20_at, pay21_at, pay18_hit P v11 v15 v20 k hk h11 h15, pay19_hit P v11 v15 v20 k hk h11 h15]
  rw [trip_adds P k.val (fun u => expertOf u (fun l f => x4 (ix3 0 l f)) (fun l f => x5 (ix3 0 l f)) (fun f l => x6 (ix3 0 f l)) j)
    (fun u l => h (ix2 u l)) (fun u => v13 (ix2 0 u)) t]

theorem trips_at (v20 : BitVec 32) (hv : (k0_t1_loop v20).trips ≤ 8) (t j : Fin 1024) : ∀ k, k ≤ (k0_t1_loop v20).trips →
    trips (F := Ideal) v11 v13 v15 v20 k0_pay31 h x4 x5 x6 a k (ix2 t j)
      = a (ix2 t j) + if P t ∧ rankOf P t < 128 * k then
          expertOf (fun l => h (ix2 t l)) (fun l f => x4 (ix3 0 l f)) (fun l f => x5 (ix3 0 l f)) (fun f l => x6 (ix3 0 f l)) j * v13 (ix2 0 t) else 0
  | 0, _ => by rw [if_neg (by omega), add_zero]; rfl
  | k + 1, hk => by
    have e := trips_succ (F := Ideal) v11 v13 v15 v20 k0_pay31 h x4 x5 x6 a ⟨k, hk⟩
    rw [show (k + 1 : ℕ) = (⟨k, hk⟩ : Fin (k0_t1_loop v20).trips).val + 1 from rfl, e,
      trip_at P v11 v13 v15 h11 h15 h x4 x5 x6 _ v20 ⟨k, hk⟩ (Nat.lt_of_lt_of_le hk hv),
      trips_at v20 hv t j k (Nat.le_of_succ_le hk), add_assoc]
    congr 1
    by_cases p : P t
    · by_cases q : rankOf P t < 128 * k
      · rw [if_pos ⟨p, q⟩, if_neg (by dsimp only; omega), if_pos ⟨p, by dsimp only; omega⟩, add_zero]
      · rw [if_neg fun c => q c.2, zero_add]
        refine if_congr ?_ rfl rfl
        dsimp only
        exact ⟨fun c => ⟨p, c.2.2⟩, fun c => ⟨p, by omega, c.2⟩⟩
    · rw [if_neg fun c => p c.1, if_neg fun c => p c.1, if_neg fun c => p c.1, add_zero]

omit h15 in
theorem count_at : k0_pay30 (F := Ideal) v11 = (((countOf P : ℤ) : ℝ) : EReal) := by
  have e : k0_pay30 (F := Ideal) v11 = ∑ t : Fin 1024, v11 (ix2 0 t) := by
    pointwise [k0_pay30]
    exact Fin.sum_univ_one _
  rw [e]
  simp only [h11]
  rw [countOf, Finset.sum_boole]
  rfl

omit h15 in
theorem count_bits : Scalar.fptosi 32 (k0_pay30 (F := Ideal) v11) = BitVec.ofNat 32 (countOf P) := by
  rw [show Scalar.fptosi 32 (k0_pay30 (F := Ideal) v11) = Ideal.fptosi 32 (k0_pay30 (F := Ideal) v11) from rfl, count_at P v11 h11, Ideal.fptosi, Ideal.toIntClamped_coe]
  have c := countOf_le P
  rw [if_pos (by positivity), Int.floor_intCast, min_eq_right (by omega), max_eq_right (by omega), BitVec.ofInt_natCast]

/-- An expert's trips together: every member gets its row's value, by its gate. -/
theorem total_at (t j : Fin 1024) :
    trips (F := Ideal) v11 v13 v15 (Scalar.fptosi 32 (k0_pay30 (F := Ideal) v11)) k0_pay31 h x4 x5 x6 a (k0_t1_loop (Scalar.fptosi 32 (k0_pay30 (F := Ideal) v11))).trips (ix2 t j)
      = a (ix2 t j) + if P t then
          expertOf (fun l => h (ix2 t l)) (fun l f => x4 (ix3 0 l f)) (fun l f => x5 (ix3 0 l f)) (fun f l => x6 (ix3 0 f l)) j * v13 (ix2 0 t) else 0 := by
  have c := countOf_le P
  have n : (k0_t1_loop (Scalar.fptosi 32 (k0_pay30 (F := Ideal) v11))).trips = (countOf P + 127) / 128 := by
    rw [count_bits P v11 h11]; exact count_trips ⟨countOf P, by omega⟩
  rw [trips_at P v11 v13 v15 h11 h15 h x4 x5 x6 a _ (by omega) t j _ (le_refl _), n]
  congr 1
  refine if_congr ⟨fun q => q.1, fun q => ⟨q, ?_⟩⟩ rfl rfl
  have := rankOf_lt_count P t q
  omega

end Total

end Cert.Kernel3Ideal.MoeTrip
-- ==== Proof.MoeRoute.lean ====
/- The experts' routing in the kernel, entry by entry: logits, the two greatest, their gates and the members' ranks. -/
module

public import proofs.«01_k».proof.Proof.MoeTrip

@[expose] public section

set_option maxRecDepth 16384

noncomputable section

namespace Cert.Kernel3Ideal.MoeRoute

open Cert.Ffn Cert.Moe
open Idealize.ShloMosaic Idealize.ShloMosaic.TcCoe Idealize.SL.Sem
open Cert.Kernel3Ideal Cert.Kernel3Ideal.Gen
open Cert.Kernel3Ideal.Moe (rows members gates ranks iotaE maskC)

/-! ## The logits -/

theorem rows_at (x0 : FVec Ideal S1024x1024 .f32) (x1 : FVec Ideal S1x6x1024 .f32) (t l : Fin 1024) :
    rows (F := Ideal) x0 x1 (ix2 t l) = moved (x0 (ix2 t l)) (x1 (ix3 0 4 l)) (x1 (ix3 0 3 l)) := by
  pointwise [rows, k0_pay6, k0_pay5, k0_pay4, k0_pay26, moved]

/-- The router's rows and what rounding left of them, one above the other. -/
def stackV (w : FVec Ideal S8x1024 .f32) : FVec Ideal S16x1024 .bf16 :=
  concatenate S16x1024 0 [⟨S8x1024, truncf .bf16 (shapeCast S8x1024 w shapeCasts_S8x1024_S8x1024) bitsLt_bf16_f32⟩,
    ⟨S8x1024, truncf .bf16 (subf (shapeCast S8x1024 w shapeCasts_S8x1024_S8x1024)
      (extf .f32 (truncf .bf16 (shapeCast S8x1024 w shapeCasts_S8x1024_S8x1024) bitsLt_bf16_f32) bitsLt_bf16_f32)) bitsLt_bf16_f32⟩]
    concatenates_S8x1024_S8x1024_S16x1024_d0

theorem stackV_lo (w : FVec Ideal S8x1024 .f32) (e : Fin 8) (l : Fin 1024) :
    stackV w (ix2 ⟨e.val, by omega⟩ l) = w (ix2 e l) := by
  pointwise [stackV]

theorem stackV_hi (w : FVec Ideal S8x1024 .f32) (e : Fin 8) (l : Fin 1024) :
    stackV w (ix2 ⟨8 + e.val, by omega⟩ l) = w (ix2 e l) - w (ix2 e l) := by
  pointwise [stackV]

def stackDot (a : FVec Ideal S16x1024 .bf16) (h : FVec Ideal S1024x1024 .bf16) : FVec Ideal S16x1024 .f32 :=
  matmul dot_S16x1024_S1024x1024_S16x1024_1_1_0_0_n_n none a h (constant S16x1024 .f32 0x00000000#32)

theorem stackDot_at (a : FVec Ideal S16x1024 .bf16) (h : FVec Ideal S1024x1024 .bf16) (e : Fin 16) (t : Fin 1024) :
    stackDot a h (ix2 e t) = ∑ l : Fin 1024, a (ix2 e l) * h (ix2 t l) := by
  pointwise [stackDot]

def restDot (w : FVec Ideal S8x1024 .bf16) (h : FVec Ideal S1024x1024 .bf16) : FVec Ideal S8x1024 .f32 :=
  matmul dot_S8x1024_S1024x1024_S8x1024_1_1_0_0_n_n none w h (constant S8x1024 .f32 0x00000000#32)

theorem restDot_at (a : FVec Ideal S8x1024 .bf16) (h : FVec Ideal S1024x1024 .bf16) (e : Fin 8) (t : Fin 1024) :
    restDot a h (ix2 e t) = ∑ l : Fin 1024, a (ix2 e l) * h (ix2 t l) := by
  pointwise [restDot]

/-- The logits of whole rows. -/
def logitV (h : FVec Ideal S1024x1024 .f32) (w : FVec Ideal S8x1024 .f32) (b : FVec Ideal S8x1 .f32) : FVec Ideal S8x1024 .f32 :=
  addf (addf (addf (extractStridedSlice S8x1024 ![0, 0] (stackDot (stackV w) (truncf .bf16 h bitsLt_bf16_f32)) slices_S16x1024_o0_0_S8x1024)
    (extractStridedSlice S8x1024 ![8, 0] (stackDot (stackV w) (truncf .bf16 h bitsLt_bf16_f32)) slices_S16x1024_o8_0_S8x1024))
    (restDot (truncf .bf16 (shapeCast S8x1024 w shapeCasts_S8x1024_S8x1024) bitsLt_bf16_f32)
      (truncf .bf16 (subf h (extf .f32 (truncf .bf16 h bitsLt_bf16_f32) bitsLt_bf16_f32)) bitsLt_bf16_f32)))
    (broadcastTo S8x1024 (shapeCast S8x1 b shapeCasts_S8x1_S8x1) broadcasts_S8x1_S8x1024)

theorem pay7_eq (v1 : FVec Ideal S6x1024 .f32) (x : FVec Ideal S1024x1024 .f32) (w : FVec Ideal S8x1024 .f32) (b : FVec Ideal S8x1 .f32) :
    k0_pay7 (F := Ideal) v1 x w b = logitV (k0_pay4 (F := Ideal) v1 x) w b := rfl

theorem logitV_at (h : FVec Ideal S1024x1024 .f32) (w : FVec Ideal S8x1024 .f32) (b : FVec Ideal S8x1 .f32) (e : Fin 8) (t : Fin 1024) :
    logitV h w b (ix2 e t) = (∑ l, w (ix2 e l) * h (ix2 t l)) + (∑ l, (w (ix2 e l) - w (ix2 e l)) * h (ix2 t l))
      + (∑ l, w (ix2 e l) * (h (ix2 t l) - h (ix2 t l))) + b (ix2 e 0) := by
  pointwise [logitV, stackDot_at, restDot_at]
  simp only [stackV_lo, stackV_hi]

/-! ## The greatest -/

/-- The greatest of each column. -/
def maxV (L : FVec Ideal S8x1024 .f32) : FVec Ideal S1x1024 .f32 :=
  shapeCast S1x1024 (multiReduction .maximumf [0] S1024 L 0xFF800000#32 reduces_S8x1024_S1024 (.inl rfl) rfl) shapeCasts_S1024_S1x1024

theorem maxV_at (L : FVec Ideal S8x1024 .f32) (t : Fin 1024) : maxV L (ix2 0 t) = Finset.univ.fold max ⊥ (fun e : Fin 8 => (L (ix2 e t) : EReal)) := by
  pointwise [maxV]
  rw [show Ideal.ofBits .f32 4286578688#32 = ⊥ by simp [Ideal.ofBits, Ideal.ieee]]

/-- The first expert of each column that reaches the greatest. -/
def firstV (L : FVec Ideal S8x1024 .f32) : IVec S1x1024 32 :=
  shapeCast S1x1024 (multiReductionI .minsi [0] S1024 (select (cmpf .oeq L (broadcastTo S8x1024 (maxV L) broadcasts_S1x1024_S8x1024)) iotaE
    (broadcast S8x1024 8#32)) 2147483647#32 reduces_S8x1024_S1024 rfl) shapeCasts_S1024_S1x1024

theorem firstV_at (L : FVec Ideal S8x1024 .f32) (t : Fin 1024) : firstV L (ix2 0 t)
    = Finset.univ.fold IntOp.minsi 2147483647#32 (fun e : Fin 8 => if BitVec.ofBool (decide ((L (ix2 e t) : EReal) = maxV L (ix2 0 t))) = 1#1 then BitVec.ofNat 32 e.val else 8#32) := by
  pointwise [firstV, iotaE]
  refine congrArg (fun f => Finset.univ.fold IntOp.minsi 2147483647#32 f) (funext fun e => ?_)
  by_cases c : (L (ix2 e t) : EReal) = maxV L (ix2 0 t) <;> simp [c]

/-- Which expert a column's number names. -/
def isV (q : IVec S1x1024 32) : IVec S8x1024 1 := cmpi .eq iotaE (broadcastTo S8x1024 q broadcasts_S1x1024_S8x1024)

theorem isV_at (q : IVec S1x1024 32) (e : Fin 8) (t : Fin 1024) (i : Fin 8) (hq : q (ix2 0 t) = BitVec.ofNat 32 i.val) :
    isV q (ix2 e t) = if e = i then 1#1 else 0#1 := by
  have : ∀ e i : Fin 8, IntOp.cmpi .eq (BitVec.ofNat 32 e.val) (BitVec.ofNat 32 i.val) = if e = i then 1#1 else 0#1 := by decide +kernel
  rw [← this, ← hq]
  pointwise [isV, iotaE]

/-- The logits with the greatest masked. -/
def maskedV (L : FVec Ideal S8x1024 .f32) : FVec Ideal S8x1024 .f32 := select (isV (firstV L)) (broadcast S8x1024 (maskC (F := Ideal))) L

/-- The marks of the chosen two. -/
def markV (L : FVec Ideal S8x1024 .f32) : FVec Ideal S8x1024 .f32 :=
  select (isV (firstV L)) (broadcast S8x1024 (Scalar.ofBits .f32 0x3F800000#32))
    (select (isV (firstV (maskedV L))) (broadcast S8x1024 (Scalar.ofBits .f32 0x3F800000#32)) (broadcast S8x1024 (Scalar.ofBits .f32 0x00000000#32)))

theorem members_eq (x0 : FVec Ideal S1024x1024 .f32) (x1 : FVec Ideal S1x6x1024 .f32) (w : FVec Ideal S8x1024 .f32) (b : FVec Ideal S8x1 .f32) (L : FVec Ideal S8x1024 .f32)
    (hL : L = k0_pay7 (F := Ideal) (k0_pay26 (F := Ideal) x1) x0 w b) :
    members (F := Ideal) x0 x1 w b = shapeCast S8x1024 (markV L) shapeCasts_S8x1024_S8x1024 := by subst hL; rfl

/-- The first weight of each column. -/
def shareV (a b : FVec Ideal S1x1024 .f32) : FVec Ideal S1x1024 .f32 :=
  divf (broadcast S1x1024 (Scalar.ofBits .f32 0x3F800000#32)) (addf (broadcast S1x1024 (Scalar.ofBits .f32 0x3F800000#32)) (exp (subf b a)))

/-- The gates of the chosen two. -/
def gateV (L : FVec Ideal S8x1024 .f32) : FVec Ideal S8x1024 .f32 :=
  select (isV (firstV L)) (broadcastTo S8x1024 (shapeCast S1x1024 (shareV (maxV L) (maxV (maskedV L))) shapeCasts_S1x1024_S1x1024) broadcasts_S1x1024_S8x1024)
    (select (isV (firstV (maskedV L))) (broadcastTo S8x1024 (shapeCast S1x1024 (mulf (exp (subf (maxV (maskedV L)) (maxV L))) (shareV (maxV L) (maxV (maskedV L)))) shapeCasts_S1x1024_S1x1024) broadcasts_S1x1024_S8x1024)
      (broadcast S8x1024 (Scalar.ofBits .f32 0x00000000#32)))

theorem gates_eq (x0 : FVec Ideal S1024x1024 .f32) (x1 : FVec Ideal S1x6x1024 .f32) (w : FVec Ideal S8x1024 .f32) (b : FVec Ideal S8x1 .f32) (L : FVec Ideal S8x1024 .f32)
    (hL : L = k0_pay7 (F := Ideal) (k0_pay26 (F := Ideal) x1) x0 w b) :
    gates (F := Ideal) x0 x1 w b = shapeCast S8x1024 (gateV L) shapeCasts_S8x1024_S8x1024 := by subst hL; rfl

theorem ranks_eq (x0 : FVec Ideal S1024x1024 .f32) (x1 : FVec Ideal S1x6x1024 .f32) (w : FVec Ideal S8x1024 .f32) (b : FVec Ideal S8x1 .f32) (L : FVec Ideal S8x1024 .f32)
    (hL : L = k0_pay7 (F := Ideal) (k0_pay26 (F := Ideal) x1) x0 w b) (q : FVec Ideal S1024x1024 .bf16) :
    ranks (F := Ideal) x0 x1 w b q = k0_pay28 (F := Ideal) (truncf .bf16 (markV L) bitsLt_bf16_f32) q := by subst hL; rfl

/-- Who precedes whom. -/
theorem earlier_at (u t : Fin 1024) : k0_pay27 (F := Ideal) (ix2 u t) = if u < t then (1 : EReal) else 0 := by
  have a : ∀ n : Fin 1024, (BitVec.ofNat 32 n.val).toInt = (n.val : ℤ) := by decide +kernel
  have b : (BitVec.ofNat 32 u.val).slt (BitVec.ofNat 32 t.val) = decide (u < t) := by
    rw [BitVec.slt, a, a]
    exact decide_eq_decide.mpr Int.ofNat_lt
  pointwise [k0_pay27]
  rw [show IntOp.cmpi CmpIPredicate.slt (BitVec.ofNat 32 u.val) (BitVec.ofNat 32 t.val)
    = BitVec.ofBool ((BitVec.ofNat 32 u.val).slt (BitVec.ofNat 32 t.val)) from rfl, b]
  by_cases c : u < t <;> simp [Scalar.select, c]

theorem ranks_at (m : FVec Ideal S8x1024 .bf16) (q : FVec Ideal S1024x1024 .bf16) (e : Fin 8) (t : Fin 1024) :
    k0_pay28 (F := Ideal) m q (ix2 e t) = ∑ u : Fin 1024, m (ix2 e u) * q (ix2 u t) := by
  pointwise [k0_pay28]

/-! ## What is chosen, and by what weight -/

section Chosen

variable (L : FVec Ideal S8x1024 .f32) (t : Fin 1024)

theorem mask_value : maskC (F := Ideal) = (⊥ : EReal) := rfl

theorem greatest (L : FVec Ideal S8x1024 .f32) (t : Fin 1024) : IsTop (fun e => (L (ix2 e t) : EReal)) (topOf fun e => L (ix2 e t))
    ∧ maxV L (ix2 0 t) = L (ix2 (topOf fun e => L (ix2 e t)) t) ∧ firstV L (ix2 0 t) = BitVec.ofNat 32 (topOf fun e => L (ix2 e t)).val := by
  obtain ⟨i, hi, hm, hf⟩ := max_first (fun e => (L (ix2 e t) : EReal)) (fun e => BitVec.ofBool (decide ((L (ix2 e t) : EReal) = maxV L (ix2 0 t))))
    fun e => by
      rw [← maxV_at]
      by_cases c : (L (ix2 e t) : EReal) = maxV L (ix2 0 t) <;> simp [c]
  rw [hi.eq, maxV_at, firstV_at]
  exact ⟨hi, hm, hf⟩

theorem maskedV_at (e : Fin 8) : maskedV L (ix2 e t) = if e = topOf (fun e => (L (ix2 e t) : EReal)) then (⊥ : EReal) else L (ix2 e t) := by
  have h := isV_at (firstV L) e t _ (greatest L t).2.2
  rw [maskedV, show select (isV (firstV L)) (broadcast S8x1024 (maskC (F := Ideal))) L (ix2 e t)
    = if isV (firstV L) (ix2 e t) = 1#1 then maskC (F := Ideal) else L (ix2 e t) from rfl, h]
  by_cases c : e = topOf (fun e => (L (ix2 e t) : EReal))
  · rw [if_pos c, if_pos rfl, if_pos c, mask_value]
  · rw [if_neg c, if_neg (by decide), if_neg c]

variable (hL : ∀ e, (L (ix2 e t) : EReal) ≠ ⊥)

include hL

theorem second : nextOf (fun e => (L (ix2 e t) : EReal)) ≠ topOf (fun e => (L (ix2 e t) : EReal))
    ∧ maxV (maskedV L) (ix2 0 t) = L (ix2 (nextOf fun e => L (ix2 e t)) t)
    ∧ firstV (maskedV L) (ix2 0 t) = BitVec.ofNat 32 (nextOf fun e => L (ix2 e t)).val := by
  obtain ⟨h1, h2, h3⟩ := greatest (maskedV L) t
  have hn : IsNext (fun e => (L (ix2 e t) : EReal)) (topOf fun e => L (ix2 e t)) (topOf fun e => maskedV L (ix2 e t)) := by
    refine next_of_masked hL ?_
    simpa only [maskedV_at] using h1
  have en := IsNext.eq (greatest L t).1 (by rw [] ; exact hn)
  rw [en]
  refine ⟨hn.1, h2.trans ?_, h3⟩
  rw [maskedV_at, if_neg hn.1]

theorem markV_at (e : Fin 8) : markV L (ix2 e t)
    = if e = topOf (fun e => (L (ix2 e t) : EReal)) ∨ e = nextOf (fun e => (L (ix2 e t) : EReal)) then (1 : EReal) else 0 := by
  obtain ⟨hne, _, hs⟩ := second L t hL
  have h := isV_at (firstV L) e t _ (greatest L t).2.2
  have h' := isV_at (firstV (maskedV L)) e t _ hs
  have o1 : Ideal.ofBits .f32 0x3F800000#32 = 1 := Ideal.ofBits_one_f32
  have o0 : Ideal.ofBits .f32 0x00000000#32 = 0 := by simp [Ideal.ofBits, Ideal.ieee]
  rw [show markV L (ix2 e t) = if isV (firstV L) (ix2 e t) = 1#1 then Ideal.ofBits .f32 0x3F800000#32 else
    if isV (firstV (maskedV L)) (ix2 e t) = 1#1 then Ideal.ofBits .f32 0x3F800000#32 else Ideal.ofBits .f32 0x00000000#32 from rfl, h, h', o1, o0]
  by_cases c : e = topOf (fun e => (L (ix2 e t) : EReal)) <;> by_cases d : e = nextOf (fun e => (L (ix2 e t) : EReal)) <;> simp [c, d, hne]

theorem gateV_at (e : Fin 8) : gateV L (ix2 e t) = weight (fun e => (L (ix2 e t) : EReal)) e := by
  obtain ⟨hne, hm, hs⟩ := second L t hL
  have h := isV_at (firstV L) e t _ (greatest L t).2.2
  have h' := isV_at (firstV (maskedV L)) e t _ hs
  have hM := (greatest L t).2.1
  pointwise [gateV, shareV]
  rw [h, h', hM, hm, weight, share]
  by_cases c : e = topOf (fun e => (L (ix2 e t) : EReal)) <;> by_cases d : e = nextOf (fun e => (L (ix2 e t) : EReal)) <;>
    simp [Scalar.select, c, d, hne]

end Chosen

/-! ## A tile -/

section Tile

variable (x0 : FVec Ideal S1024x1024 .f32) (x1 : FVec Ideal S1x6x1024 .f32) (x2 : FVec Ideal S8x1024 .f32) (x3 : FVec Ideal S8x1 .f32)

/-- A row of the tile, moved. -/
def rowH (t l : Fin 1024) : EReal := moved (x0 (ix2 t l)) (x1 (ix3 0 4 l)) (x1 (ix3 0 3 l))

/-- A row's logits. -/
def rowL (t : Fin 1024) : Fin 8 → EReal := logits (rowH x0 x1 t) (fun l e => x2 (ix2 e l)) (fun e => x3 (ix2 e 0))

/-- Whether a row is one of an expert's. -/
def Mine (e : Fin 8) (t : Fin 1024) : Prop := e = topOf (rowL x0 x1 x2 x3 t) ∨ e = nextOf (rowL x0 x1 x2 x3 t)

noncomputable instance (e : Fin 8) : DecidablePred (Mine x0 x1 x2 x3 e) := fun t => by unfold Mine; infer_instance

/-- What the router reads is finite. -/
structure Real3 : Prop where
  h : ∀ t l, ∃ r : ℝ, rowH x0 x1 t l = r
  w : ∀ e l, ∃ r : ℝ, (x2 (ix2 e l) : EReal) = r
  b : ∀ e, ∃ r : ℝ, (x3 (ix2 e 0) : EReal) = r

theorem real_less {x : EReal} (h : ∃ r : ℝ, x = r) : x - x = 0 := by
  obtain ⟨r, rfl⟩ := h
  rw [← EReal.coe_sub, sub_self, EReal.coe_zero]

theorem real_sum {f : Fin 1024 → EReal} (h : ∀ l, ∃ r : ℝ, f l = r) : ∃ r : ℝ, ∑ l, f l = r := by
  choose g hg using h
  refine ⟨∑ l, g l, ?_⟩
  simp only [hg]
  induction (Finset.univ : Finset (Fin 1024)) using Finset.induction_on with
  | empty => rw [Finset.sum_empty, Finset.sum_empty, EReal.coe_zero]
  | insert a q ha ih => rw [Finset.sum_insert ha, Finset.sum_insert ha, ih, EReal.coe_add]

variable {x0 x1 x2 x3} (R : Real3 x0 x1 x2 x3)

include R

theorem pay7_at (e : Fin 8) (t : Fin 1024) : k0_pay7 (F := Ideal) (k0_pay26 (F := Ideal) x1) x0 x2 x3 (ix2 e t) = rowL x0 x1 x2 x3 t e := by
  have h4 : ∀ l, k0_pay4 (F := Ideal) (k0_pay26 (F := Ideal) x1) x0 (ix2 t l) = rowH x0 x1 t l := fun l => by
    pointwise [k0_pay4, k0_pay26, rowH, moved]
  rw [pay7_eq, logitV_at]
  simp only [h4, real_less (R.w _ _), real_less (R.h _ _), zero_mul, mul_zero, Finset.sum_const_zero, add_zero]
  rw [rowL, logits, logit]
  exact congrArg (· + _) (Finset.sum_congr rfl fun l _ => mul_comm _ _)

theorem rowL_real (t : Fin 1024) (e : Fin 8) : ∃ r : ℝ, rowL x0 x1 x2 x3 t e = r := by
  obtain ⟨s, hs⟩ := real_sum (f := fun l => rowH x0 x1 t l * x2 (ix2 e l)) fun l => by
    obtain ⟨a, ha⟩ := R.h t l
    obtain ⟨b, hb⟩ := R.w e l
    exact ⟨a * b, by rw [ha, hb, EReal.coe_mul]⟩
  obtain ⟨b, hb⟩ := R.b e
  exact ⟨s + b, by rw [rowL, logits, logit, hs, hb, EReal.coe_add]⟩

theorem rowL_bot (t : Fin 1024) (e : Fin 8) : rowL x0 x1 x2 x3 t e ≠ ⊥ := by
  obtain ⟨r, hr⟩ := rowL_real R t e
  rw [hr]; exact EReal.coe_ne_bot r

theorem members_at (e : Fin 8) (t : Fin 1024) : members (F := Ideal) x0 x1 x2 x3 (ix2 e t) = if Mine x0 x1 x2 x3 e t then (1 : EReal) else 0 := by
  have hp : (fun e => (k0_pay7 (F := Ideal) (k0_pay26 (F := Ideal) x1) x0 x2 x3 (ix2 e t) : EReal)) = rowL x0 x1 x2 x3 t := funext fun e => pay7_at R e t
  have hm := markV_at (k0_pay7 (F := Ideal) (k0_pay26 (F := Ideal) x1) x0 x2 x3) t (fun e => by rw [pay7_at R]; exact rowL_bot R t e) e
  rw [hp] at hm
  rw [members_eq x0 x1 x2 x3 _ rfl]
  refine Eq.trans ?_ hm
  generalize markV (k0_pay7 (F := Ideal) (k0_pay26 (F := Ideal) x1) x0 x2 x3) = q
  pointwise []

theorem gates_at (e : Fin 8) (t : Fin 1024) : gates (F := Ideal) x0 x1 x2 x3 (ix2 e t) = weight (rowL x0 x1 x2 x3 t) e := by
  have hp : (fun e => (k0_pay7 (F := Ideal) (k0_pay26 (F := Ideal) x1) x0 x2 x3 (ix2 e t) : EReal)) = rowL x0 x1 x2 x3 t := funext fun e => pay7_at R e t
  have hm := gateV_at (k0_pay7 (F := Ideal) (k0_pay26 (F := Ideal) x1) x0 x2 x3) t (fun e => by rw [pay7_at R]; exact rowL_bot R t e) e
  rw [hp] at hm
  rw [gates_eq x0 x1 x2 x3 _ rfl]
  refine Eq.trans ?_ hm
  generalize gateV (k0_pay7 (F := Ideal) (k0_pay26 (F := Ideal) x1) x0 x2 x3) = q
  pointwise []

theorem rank_at (e : Fin 8) (t : Fin 1024) : ranks (F := Ideal) x0 x1 x2 x3 (k0_pay27 (F := Ideal)) (ix2 e t)
    = (((rankOf (Mine x0 x1 x2 x3 e) t : ℤ) : ℝ) : EReal) := by
  have hp : ∀ t, (fun e => (k0_pay7 (F := Ideal) (k0_pay26 (F := Ideal) x1) x0 x2 x3 (ix2 e t) : EReal)) = rowL x0 x1 x2 x3 t := fun t => funext fun e => pay7_at R e t
  have hm := fun u => markV_at (k0_pay7 (F := Ideal) (k0_pay26 (F := Ideal) x1) x0 x2 x3) u (fun e => by rw [pay7_at R]; exact rowL_bot R u e) e
  simp only [hp] at hm
  rw [ranks_eq x0 x1 x2 x3 _ rfl, ranks_at]
  have e1 : ∀ u, truncf .bf16 (markV (k0_pay7 (F := Ideal) (k0_pay26 (F := Ideal) x1) x0 x2 x3)) bitsLt_bf16_f32 (ix2 e u) * k0_pay27 (F := Ideal) (ix2 u t)
      = if Mine x0 x1 x2 x3 e u ∧ u < t then (1 : EReal) else 0 := fun u => by
    rw [show truncf .bf16 (markV (k0_pay7 (F := Ideal) (k0_pay26 (F := Ideal) x1) x0 x2 x3)) bitsLt_bf16_f32 (ix2 e u)
      = markV (k0_pay7 (F := Ideal) (k0_pay26 (F := Ideal) x1) x0 x2 x3) (ix2 e u) from rfl, hm u, earlier_at]
    have : (e = topOf (rowL x0 x1 x2 x3 u) ∨ e = nextOf (rowL x0 x1 x2 x3 u)) ↔ Mine x0 x1 x2 x3 e u := Iff.rfl
    simp only [this]
    by_cases c : Mine x0 x1 x2 x3 e u <;> by_cases d : u < t <;> simp [c, d]
  simp only [e1]
  rw [rankOf, Finset.sum_boole]
  rfl

end Tile

/-! ## A tile's experts -/

open Cert.Kernel3Ideal.Moe (Scr row expert step yout)

theorem row_at (i : grid0.Coords) (X : FVec Ideal S8x1024 .f32) (t : Fin 1024) (e : Fin 8) (he : (i 1).val = e.val) :
    row (F := Ideal) i X (ix2 0 t) = X (ix2 e t) := by
  rw [row, View.ld_apply]
  refine congrArg X (funext fun a => Fin.ext ?_)
  have : ∀ e : Fin 8, BitVec.toNat (Scalar.indexCast (BitVec.ofNat 32 e.val)) = e.val := by decide +kernel
  fin_cases a <;> simp [ix2, k0_off1, he, this]

section Experts

variable (x0 : FVec Ideal S1024x1024 .f32) (x1 : FVec Ideal S1x6x1024 .f32) (x2 : FVec Ideal S8x1024 .f32) (x3 : FVec Ideal S8x1 .f32)
  (w1 w3 w2 : Fin 8 → Fin 1024 → Fin 1024 → EReal)

/-- What expert `e` adds to an entry. -/
def part (t j : Fin 1024) (e : Fin 8) : EReal := weight (rowL x0 x1 x2 x3 t) e * expertOf (rowH x0 x1 t) (w1 e) (w3 e) (w2 e) j

/-- The scratch once the first `n` experts of the tile are done. -/
structure Routed (n : ℕ) (s : Scr Ideal) : Prop where
  h : s.h = rows (F := Ideal) x0 x1
  mem : s.mem = members (F := Ideal) x0 x1 x2 x3
  gate : s.gate = gates (F := Ideal) x0 x1 x2 x3
  rank : s.rank = ranks (F := Ideal) x0 x1 x2 x3 (k0_pay27 (F := Ideal))
  earl : s.earl = k0_pay27 (F := Ideal)
  acc : ∀ t j, s.acc (ix2 t j) = ∑ e : Fin 8, if e.val < n then part x0 x1 x2 x3 w1 w3 w2 t j e else 0

variable {x0 x1 x2 x3 w1 w3 w2} (R : Real3 x0 x1 x2 x3)

theorem weight_not (e : Fin 8) (t : Fin 1024) (h : ¬ Mine x0 x1 x2 x3 e t) : weight (rowL x0 x1 x2 x3 t) e = 0 := by
  rw [weight, if_neg fun c => h (.inl c), if_neg fun c => h (.inr c)]

include R

theorem expert_adds (i : grid0.Coords) (e : Fin 8) (he : (i 1).val = e.val) (s : Scr Ideal) (hh : s.h = rows (F := Ideal) x0 x1)
    (hm : s.mem = members (F := Ideal) x0 x1 x2 x3) (hg : s.gate = gates (F := Ideal) x0 x1 x2 x3)
    (hr : s.rank = ranks (F := Ideal) x0 x1 x2 x3 (k0_pay27 (F := Ideal)))
    (x4 x5 x6 : FVec Ideal S1x1024x1024 .bf16) (h4 : ∀ l f, x4 (ix3 0 l f) = w1 e l f) (h5 : ∀ l f, x5 (ix3 0 l f) = w3 e l f)
    (h6 : ∀ f l, x6 (ix3 0 f l) = w2 e f l) (t j : Fin 1024) :
    expert (F := Ideal) i x4 x5 x6 s (ix2 t j) = s.acc (ix2 t j) + part x0 x1 x2 x3 w1 w3 w2 t j e := by
  have a11 : ∀ t, row (F := Ideal) i s.mem (ix2 0 t) = if Mine x0 x1 x2 x3 e t then (1 : EReal) else 0 := fun t => by
    rw [row_at i _ t e he, hm, members_at R]
  have a13 : row (F := Ideal) i s.gate (ix2 0 t) = weight (rowL x0 x1 x2 x3 t) e := by
    rw [row_at i _ t e he, hg, gates_at R]
  have a15 : ∀ t, row (F := Ideal) i s.rank (ix2 0 t) = (((rankOf (Mine x0 x1 x2 x3 e) t : ℤ) : ℝ) : EReal) := fun t => by
    rw [row_at i _ t e he, hr, rank_at R]
  rw [expert, Cert.Kernel3Ideal.MoeTrip.total_at (Mine x0 x1 x2 x3 e) _ _ _ a11 a15, a13]
  congr 1
  simp only [h4, h5, h6]
  have ha : (fun l => s.h (ix2 t l)) = rowH x0 x1 t := funext fun l => by rw [hh, rows_at, rowH]
  rw [ha, part, mul_comm]
  split_ifs with c
  · rfl
  · rw [weight_not e t c, zero_mul]

omit R in
theorem sum_next (f : Fin 8 → EReal) (n : Fin 8) :
    (∑ e : Fin 8, if e.val < n.val + 1 then f e else 0) = (∑ e : Fin 8, if e.val < n.val then f e else 0) + f n := by
  have h : f n = ∑ e : Fin 8, if e = n then f e else 0 := by rw [Finset.sum_ite_eq' Finset.univ n f, if_pos (Finset.mem_univ n)]
  rw [h, ← Finset.sum_add_distrib]
  refine Finset.sum_congr rfl fun e _ => ?_
  rcases lt_trichotomy e n with c | c | c
  · have := Fin.lt_def.mp c
    rw [if_pos (by omega), if_pos this, if_neg c.ne, add_zero]
  · subst c; rw [if_pos (by omega), if_neg (by omega), if_pos rfl, zero_add]
  · have := Fin.lt_def.mp c
    rw [if_neg (by omega), if_neg (by omega), if_neg c.ne', add_zero]

/-- A tile's first expert. -/
theorem routed_first (i : grid0.Coords) (he : (i 1).val = 0) (h2 : Cert.Kernel3Ideal.Moe.cond2 i = 1#1) (s : Scr Ideal)
    (hs : (Cert.Kernel3Ideal.Moe.setup (F := Ideal) i s).earl = k0_pay27 (F := Ideal))
    (x4 x5 x6 : FVec Ideal S1x1024x1024 .bf16) (h4 : ∀ l f, x4 (ix3 0 l f) = w1 0 l f) (h5 : ∀ l f, x5 (ix3 0 l f) = w3 0 l f)
    (h6 : ∀ f l, x6 (ix3 0 f l) = w2 0 f l) : Routed x0 x1 x2 x3 w1 w3 w2 1 (step (F := Ideal) i x0 x1 x2 x3 x4 x5 x6 s) := by
  rw [Cert.Kernel3Ideal.Moe.step_first i x0 x1 x2 x3 x4 x5 x6 s h2 hs]
  refine ⟨rfl, rfl, rfl, rfl, rfl, fun t j => ?_⟩
  dsimp only
  rw [expert_adds R i 0 he _ rfl rfl rfl rfl x4 x5 x6 h4 h5 h6 t j]
  refine Eq.trans ?_ (sum_next (part x0 x1 x2 x3 w1 w3 w2 t j) 0).symm
  congr 1
  have e0 : k0_pay29 (F := Ideal) (ix2 t j) = (0 : EReal) := by pointwise [k0_pay29]
  dsimp only
  rw [e0]
  exact (Finset.sum_eq_zero fun e _ => if_neg (by simp)).symm

/-- The later ones. -/
theorem routed_next (i : grid0.Coords) (e : Fin 8) (he : (i 1).val = e.val) (h1 : ¬ Cert.Kernel3Ideal.Moe.cond1 i = 1#1) (h2 : ¬ Cert.Kernel3Ideal.Moe.cond2 i = 1#1)
    (s : Scr Ideal) (hs : Routed x0 x1 x2 x3 w1 w3 w2 e.val s)
    (x4 x5 x6 : FVec Ideal S1x1024x1024 .bf16) (h4 : ∀ l f, x4 (ix3 0 l f) = w1 e l f) (h5 : ∀ l f, x5 (ix3 0 l f) = w3 e l f)
    (h6 : ∀ f l, x6 (ix3 0 f l) = w2 e f l) : Routed x0 x1 x2 x3 w1 w3 w2 (e.val + 1) (step (F := Ideal) i x0 x1 x2 x3 x4 x5 x6 s) := by
  rw [Cert.Kernel3Ideal.Moe.step_inner i x0 x1 x2 x3 x4 x5 x6 s h1 h2]
  refine ⟨hs.h, hs.mem, hs.gate, hs.rank, hs.earl, fun t j => ?_⟩
  dsimp only
  rw [expert_adds R i e he s hs.h hs.mem hs.gate hs.rank x4 x5 x6 h4 h5 h6 t j, hs.acc, sum_next]

end Experts

/-! ## The layer norm -/

/-- The residual: the rows, scaled, and their gated mixture. -/
def mixV (x : FVec Ideal S1024x1024 .f32) (md : FVec Ideal S6x1024 .f32) (y : FVec Ideal S1024x1024 .f32) : FVec Ideal S1024x1024 .f32 :=
  addf (mulf (broadcast S1024x1024 (Scalar.ofBits .f32 0x3FB504F3#32)) x)
    (mulf (broadcastTo S1024x1024 (extractStridedSlice S1x1024 ![5, 0] md slices_S6x1024_o5_0_S1x1024) broadcasts_S1x1024_S1024x1024) y)

/-- The rows' means. -/
def meanV (u : FVec Ideal S1024x1024 .f32) : FVec Ideal S1024x1 .f32 :=
  divf (shapeCast S1024x1 (multiReduction .add [1] S1024 u 0x00000000#32 reduces_S1024x1024_S1024 (.inl rfl) rfl) shapeCasts_S1024_S1024x1)
    (broadcast S1024x1 (Scalar.ofBits .f32 0x44800000#32))

/-- The rows less their means. -/
def centV (u : FVec Ideal S1024x1024 .f32) : FVec Ideal S1024x1024 .f32 :=
  subf u (broadcastTo S1024x1024 (meanV u) broadcasts_S1024x1_S1024x1024)

/-- The rows' layer norms. -/
def normV (u : FVec Ideal S1024x1024 .f32) (g b : FVec Ideal S1x1024 .f32) : FVec Ideal S1024x1024 .f32 :=
  addf (mulf (mulf (centV u) (broadcastTo S1024x1024 (rsqrt (addf (meanV (mulf (centV u) (centV u)))
      (broadcast S1024x1 (Scalar.ofBits .f32 0x3727C5AC#32)))) broadcasts_S1024x1_S1024x1024))
    (broadcastTo S1024x1024 (shapeCast S1x1024 g shapeCasts_S1x1024_S1x1024) broadcasts_S1x1024_S1024x1024))
    (broadcastTo S1024x1024 (shapeCast S1x1024 b shapeCasts_S1x1024_S1x1024) broadcasts_S1x1024_S1024x1024)

theorem mixV_at (x : FVec Ideal S1024x1024 .f32) (md : FVec Ideal S1x6x1024 .f32) (y : FVec Ideal S1024x1024 .f32) (r j : Fin 1024) :
    mixV x (k0_pay26 (F := Ideal) md) y (ix2 r j) = mixed (x (ix2 r j)) (md (ix3 0 5 j)) (y (ix2 r j)) := by
  pointwise [mixV, k0_pay26]
  rfl

theorem meanV_at (u : FVec Ideal S1024x1024 .f32) (r : Fin 1024) (n : Fin 1) : meanV u (ix2 r n) = mean (fun l => u (ix2 r l)) := by
  pointwise [meanV]
  rfl

theorem centV_at (u : FVec Ideal S1024x1024 .f32) (r j : Fin 1024) : centV u (ix2 r j) = u (ix2 r j) - mean (fun l => u (ix2 r l)) := by
  pointwise [centV, meanV_at]

theorem normV_at (u : FVec Ideal S1024x1024 .f32) (g b : FVec Ideal S1x1024 .f32) (r j : Fin 1024) :
    normV u g b (ix2 r j) = norm (fun l => u (ix2 r l)) (g (ix2 0 j)) (b (ix2 0 j)) j := by
  pointwise [normV, meanV_at, centV_at]
  rfl

theorem yout_eq (x : FVec Ideal S1024x1024 .f32) (md : FVec Ideal S1x6x1024 .f32) (a : FVec Ideal S1024x1024 .f32) (g b : FVec Ideal S1x1024 .f32) :
    yout (F := Ideal) x md a g b = normV (mixV x (k0_pay26 (F := Ideal) md) a) g b := rfl

/-- A tile's result, once its eight experts are done. -/
theorem yout_at (x : FVec Ideal S1024x1024 .f32) (md : FVec Ideal S1x6x1024 .f32) (x2 : FVec Ideal S8x1024 .f32) (x3 : FVec Ideal S8x1 .f32)
    (w1 w3 w2 : Fin 8 → Fin 1024 → Fin 1024 → EReal) (s : Scr Ideal) (hs : Routed x md x2 x3 w1 w3 w2 8 s) (g b : FVec Ideal S1x1024 .f32) (r j : Fin 1024) :
    yout (F := Ideal) x md s.acc g b (ix2 r j) = Cert.Moe.rowOut (fun l => x (ix2 r l)) (fun q l => md (ix3 0 q l))
      (fun l e => x2 (ix2 e l)) (fun e => x3 (ix2 e 0)) w1 w3 w2 (fun l => g (ix2 0 l)) (fun l => b (ix2 0 l)) j := by
  have ha : ∀ k, s.acc (ix2 r k) = mixture (rowH x md r) (rowL x md x2 x3 r) w1 w3 w2 k := fun k => by
    rw [hs.acc, mixture]
    exact Finset.sum_congr rfl fun e _ => if_pos e.isLt
  rw [yout_eq, normV_at, Cert.Moe.rowOut]
  simp only [mixV_at, ha]
  rfl

end Cert.Kernel3Ideal.MoeRoute
-- ==== Proof.MoeRef.lean ====
/- The reference's mixture of experts, entry by entry, for each of its two groups of rows. -/
module

public import proofs.«01_k».proof.Proof.Gen.Reference3Ideal.Run
public import Idealize.ShloMosaic.Lib.Pipeline.ValueKit
public import Idealize.ShloMosaic.Lib.Pointwise
public import proofs.«01_k».proof.Proof.MoeMath

@[expose] public section

set_option maxRecDepth 16384

noncomputable section

namespace Cert.Reference3Ideal.Moe

open Cert.Ffn Cert.Moe
open Idealize.ShloMosaic Idealize.SL.Sem
open Cert.Reference3Ideal Cert.Reference3Ideal.Gen

/-- The six modulation rows of each group. -/
def mods (md : FVec Ideal S3x6x1024 .f32) : FVec Ideal S3x6x1x1024 .f32 :=
  broadcastInDim S3x6x1x1024 ![0, 1, 3] bcast_S3x6x1024_S3x6x1x1024_0_1_3 md

/-- The context's six. -/
def sixC (md : FVec Ideal S3x6x1024 .f32) : FVec Ideal S6x1x1024 .f32 :=
  shapeCast S6x1x1024 (extractStridedSlice S1x6x1x1024 ![0, 0, 0, 0] (mods md) slices_S3x6x1x1024_S1x6x1x1024_0_0_0_0) shapeCasts_S1x6x1x1024_S6x1x1024

/-- The latent sequences' six each. -/
def sixL (md : FVec Ideal S3x6x1024 .f32) : FVec Ideal S2x6x1x1024 .f32 :=
  extractStridedSlice S2x6x1x1024 ![1, 0, 0, 0] (mods md) slices_S3x6x1x1024_S2x6x1x1024_1_0_0_0

def onC (u : FVec Ideal S1x1024 .f32) : FVec Ideal S32x256x1024 .f32 :=
  broadcastInDim S32x256x1024 ![0, 1, 2] bcast_S1x1x1024_S32x256x1024_0_1_2 (broadcastInDim S1x1x1024 ![1, 2] bcast_S1x1024_S1x1x1024_1_2 u)

def onL (u : FVec Ideal S2x1x1024 .f32) : FVec Ideal S2x4096x1024 .f32 :=
  broadcastInDim S2x4096x1024 ![0, 1, 2] bcast_S2x1x1024_S2x4096x1024_0_1_2 u

def oneC : FVec Ideal S1x1024 .f32 := broadcastInDim S1x1024 ![] bcast_S_S1x1024 (constant S_ .f32 0x3F800000#32)

def oneL : FVec Ideal S2x1x1024 .f32 := broadcastInDim S2x1x1024 ![] bcast_S_S2x1x1024 (constant S_ .f32 0x3F800000#32)

def shC (md : FVec Ideal S3x6x1024 .f32) : FVec Ideal S1x1024 .f32 :=
  shapeCast S1x1024 (extractStridedSlice S1x1x1024 ![3, 0, 0] (sixC md) slices_S6x1x1024_S1x1x1024_3_0_0) shapeCasts_S1x1x1024_S1x1024

def shL (md : FVec Ideal S3x6x1024 .f32) : FVec Ideal S2x1x1024 .f32 :=
  shapeCast S2x1x1024 (extractStridedSlice S2x1x1x1024 ![0, 3, 0, 0] (sixL md) slices_S2x6x1x1024_S2x1x1x1024_0_3_0_0) shapeCasts_S2x1x1x1024_S2x1x1024

def scC (md : FVec Ideal S3x6x1024 .f32) : FVec Ideal S1x1024 .f32 :=
  shapeCast S1x1024 (extractStridedSlice S1x1x1024 ![4, 0, 0] (sixC md) slices_S6x1x1024_S1x1x1024_4_0_0) shapeCasts_S1x1x1024_S1x1024

def scL (md : FVec Ideal S3x6x1024 .f32) : FVec Ideal S2x1x1024 .f32 :=
  shapeCast S2x1x1024 (extractStridedSlice S2x1x1x1024 ![0, 4, 0, 0] (sixL md) slices_S2x6x1x1024_S2x1x1x1024_0_4_0_0) shapeCasts_S2x1x1x1024_S2x1x1024

def gaC (md : FVec Ideal S3x6x1024 .f32) : FVec Ideal S1x1024 .f32 :=
  shapeCast S1x1024 (extractStridedSlice S1x1x1024 ![5, 0, 0] (sixC md) slices_S6x1x1024_S1x1x1024_5_0_0) shapeCasts_S1x1x1024_S1x1024

def gaL (md : FVec Ideal S3x6x1024 .f32) : FVec Ideal S2x1x1024 .f32 :=
  shapeCast S2x1x1024 (extractStridedSlice S2x1x1x1024 ![0, 5, 0, 0] (sixL md) slices_S2x6x1x1024_S2x1x1x1024_0_5_0_0) shapeCasts_S2x1x1x1024_S2x1x1024

/-! ## The experts' weights -/

def pick0 (w : FVec Ideal S8x1024x1024 .f32) : FVec Ideal S1024x1024 .f32 :=
  shapeCast S1024x1024 (extractStridedSlice S1x1024x1024 ![0, 0, 0] w slices_S8x1024x1024_S1x1024x1024_0_0_0) shapeCasts_S1x1024x1024_S1024x1024

theorem pick0_at (w : FVec Ideal S8x1024x1024 .f32) (l f : Fin 1024) : pick0 w (ix2 l f) = w (ix3 0 l f) := by
  pointwise [pick0]

def pick1 (w : FVec Ideal S8x1024x1024 .f32) : FVec Ideal S1024x1024 .f32 :=
  shapeCast S1024x1024 (extractStridedSlice S1x1024x1024 ![1, 0, 0] w slices_S8x1024x1024_S1x1024x1024_1_0_0) shapeCasts_S1x1024x1024_S1024x1024

theorem pick1_at (w : FVec Ideal S8x1024x1024 .f32) (l f : Fin 1024) : pick1 w (ix2 l f) = w (ix3 1 l f) := by
  pointwise [pick1]

def pick2 (w : FVec Ideal S8x1024x1024 .f32) : FVec Ideal S1024x1024 .f32 :=
  shapeCast S1024x1024 (extractStridedSlice S1x1024x1024 ![2, 0, 0] w slices_S8x1024x1024_S1x1024x1024_2_0_0) shapeCasts_S1x1024x1024_S1024x1024

theorem pick2_at (w : FVec Ideal S8x1024x1024 .f32) (l f : Fin 1024) : pick2 w (ix2 l f) = w (ix3 2 l f) := by
  pointwise [pick2]

def pick3 (w : FVec Ideal S8x1024x1024 .f32) : FVec Ideal S1024x1024 .f32 :=
  shapeCast S1024x1024 (extractStridedSlice S1x1024x1024 ![3, 0, 0] w slices_S8x1024x1024_S1x1024x1024_3_0_0) shapeCasts_S1x1024x1024_S1024x1024

theorem pick3_at (w : FVec Ideal S8x1024x1024 .f32) (l f : Fin 1024) : pick3 w (ix2 l f) = w (ix3 3 l f) := by
  pointwise [pick3]

def pick4 (w : FVec Ideal S8x1024x1024 .f32) : FVec Ideal S1024x1024 .f32 :=
  shapeCast S1024x1024 (extractStridedSlice S1x1024x1024 ![4, 0, 0] w slices_S8x1024x1024_S1x1024x1024_4_0_0) shapeCasts_S1x1024x1024_S1024x1024

theorem pick4_at (w : FVec Ideal S8x1024x1024 .f32) (l f : Fin 1024) : pick4 w (ix2 l f) = w (ix3 4 l f) := by
  pointwise [pick4]

def pick5 (w : FVec Ideal S8x1024x1024 .f32) : FVec Ideal S1024x1024 .f32 :=
  shapeCast S1024x1024 (extractStridedSlice S1x1024x1024 ![5, 0, 0] w slices_S8x1024x1024_S1x1024x1024_5_0_0) shapeCasts_S1x1024x1024_S1024x1024

theorem pick5_at (w : FVec Ideal S8x1024x1024 .f32) (l f : Fin 1024) : pick5 w (ix2 l f) = w (ix3 5 l f) := by
  pointwise [pick5]

def pick6 (w : FVec Ideal S8x1024x1024 .f32) : FVec Ideal S1024x1024 .f32 :=
  shapeCast S1024x1024 (extractStridedSlice S1x1024x1024 ![6, 0, 0] w slices_S8x1024x1024_S1x1024x1024_6_0_0) shapeCasts_S1x1024x1024_S1024x1024

theorem pick6_at (w : FVec Ideal S8x1024x1024 .f32) (l f : Fin 1024) : pick6 w (ix2 l f) = w (ix3 6 l f) := by
  pointwise [pick6]

def pick7 (w : FVec Ideal S8x1024x1024 .f32) : FVec Ideal S1024x1024 .f32 :=
  shapeCast S1024x1024 (extractStridedSlice S1x1024x1024 ![7, 0, 0] w slices_S8x1024x1024_S1x1024x1024_7_0_0) shapeCasts_S1x1024x1024_S1024x1024

theorem pick7_at (w : FVec Ideal S8x1024x1024 .f32) (l f : Fin 1024) : pick7 w (ix2 l f) = w (ix3 7 l f) := by
  pointwise [pick7]

/-- The group's rows. -/
def inC (x : FVec Ideal S16384x1024 .f32) : FVec Ideal S32x256x1024 .f32 :=
  shapeCast S32x256x1024 (extractStridedSlice S8192x1024 ![0, 0] x slices_S16384x1024_S8192x1024_0_0) shapeCasts_S8192x1024_S32x256x1024

/-- The rows modulated. -/
def mvC (x : FVec Ideal S16384x1024 .f32) (md : FVec Ideal S3x6x1024 .f32) : FVec Ideal S32x256x1024 .f32 :=
  addf (mulf (inC x) (onC (addf oneC (scC md)))) (onC (shC md))

/-- The logits. -/
def lgC (h : FVec Ideal S32x256x1024 .f32) (w : FVec Ideal S1024x8 .f32) (b : FVec Ideal S8 .f32) : FVec Ideal S32x256x8 .f32 :=
  addf (Host.dotGeneral dot_S32x256x1024_S1024x8_S32x256x8_2_0_01_1_n_n none h w)
    (broadcastInDim S32x256x8 ![0, 1, 2] bcast_S1x1x8_S32x256x8_0_1_2 (broadcastInDim S1x1x8 ![2] bcast_S8_S1x1x8_2 b))

/-- The two greatest logits. -/
def vlC (L : FVec Ideal S32x256x8 .f32) : FVec Ideal S32x256x2 .f32 :=
  (Host.topK S32x256x2 2 (FloatOps.cmpfTotal (F := Ideal) (φ := .f32) .gt) L sliceFits_S32x256x8_S32x256x2).1

/-- Whose they are. -/
def idC (L : FVec Ideal S32x256x8 .f32) : IVec S32x256x2 32 :=
  (Host.topK S32x256x2 2 (FloatOps.cmpfTotal (F := Ideal) (φ := .f32) .gt) L sliceFits_S32x256x8_S32x256x2).2

/-- Their greatest. -/
def tpC (v : FVec Ideal S32x256x2 .f32) : FVec Ideal S32x256 .f32 :=
  maximumf (broadcastInDim S32x256 ![] bcast_S_S32x256 (constant S_ .f32 0xFF800000#32))
    (Host.reduce FloatOps.maximumf v (constant S_ .f32 0xFF800000#32) reducesTo_S32x256x2_S32x256_d2 h_S_)

def exC (v : FVec Ideal S32x256x2 .f32) : FVec Ideal S32x256x2 .f32 :=
  Host.exp (subf v (broadcastInDim S32x256x2 ![0, 1, 2] bcast_S32x256x1_S32x256x2_0_1_2 (broadcastInDim S32x256x1 ![0, 1] bcast_S32x256_S32x256x1_0_1 (tpC v))))

/-- Their shares. -/
def wtC (u : FVec Ideal S32x256x2 .f32) : FVec Ideal S32x256x2 .f32 :=
  Host.divf u (broadcastInDim S32x256x2 ![0, 1, 2] bcast_S32x256x1_S32x256x2_0_1_2 (broadcastInDim S32x256x1 ![0, 1] bcast_S32x256_S32x256x1_0_1
    (Host.reduceAdd u (constant S_ .f32 0x00000000#32) reducesTo_S32x256x2_S32x256_d2 h_S_)))

/-- Which expert each of two numbers names. -/
def hotC (q : IVec S32x256x2 32) : FVec Ideal S32x256x2x8 .f32 :=
  uitofp .f32 (cmpi .eq (broadcastInDim S32x256x2x8 ![0, 1, 2, 3] bcast_S32x256x2x1_S32x256x2x8_0_1_2_3 (broadcastInDim S32x256x2x1 ![0, 1, 2] bcast_S32x256x2_S32x256x2x1_0_1_2 q))
    (broadcastInDim S32x256x2x8 ![0, 1, 2, 3] bcast_S1x1x1x8_S32x256x2x8_0_1_2_3 (iotaInDim S1x1x1x8 32 3)))

/-- Shares given to the experts named. -/
def putC (h : FVec Ideal S32x256x2x8 .f32) (p : FVec Ideal S32x256x2 .f32) : FVec Ideal S32x256x8 .f32 :=
  Host.reduceAdd (mulf h (broadcastInDim S32x256x2x8 ![0, 1, 2, 3] bcast_S32x256x2x1_S32x256x2x8_0_1_2_3 (broadcastInDim S32x256x2x1 ![0, 1, 2] bcast_S32x256x2_S32x256x2x1_0_1_2 p)))
    (constant S_ .f32 0x00000000#32) reducesTo_S32x256x2x8_S32x256x8_d2 h_S_

/-- Each expert's share. -/
def cbC (L : FVec Ideal S32x256x8 .f32) : FVec Ideal S32x256x8 .f32 := putC (hotC (idC L)) (wtC (exC (vlC L)))

def upC (h : FVec Ideal S32x256x1024 .f32) (w : FVec Ideal S1024x1024 .f32) : FVec Ideal S32x256x1024 .f32 :=
  Host.dotGeneral dot_S32x256x1024_S1024x1024_S32x256x1024_2_0_01_1_n_n none h w

def siC (u : FVec Ideal S32x256x1024 .f32) : FVec Ideal S32x256x1024 .f32 :=
  mulf u (Host.divf (broadcastInDim S32x256x1024 ![] bcast_S_S32x256x1024 (constant S_ .f32 0x3F800000#32))
    (addf (broadcastInDim S32x256x1024 ![] bcast_S_S32x256x1024 (constant S_ .f32 0x3F800000#32)) (Host.exp (Host.negf u))))

/-- An expert's feed-forward. -/
def ffC (h : FVec Ideal S32x256x1024 .f32) (w1 w3 w2 : FVec Ideal S1024x1024 .f32) : FVec Ideal S32x256x1024 .f32 :=
  upC (mulf (siC (upC h w1)) (upC h w3)) w2

def byC (q : FVec Ideal S32x256x1 .f32) (y : FVec Ideal S32x256x1024 .f32) : FVec Ideal S32x256x1024 .f32 :=
  mulf (broadcastInDim S32x256x1024 ![0, 1, 2] bcast_S32x256x1_S32x256x1024_0_1_2 q) y

def adC0 (p : FVec Ideal S32x256x8 .f32) (h : FVec Ideal S32x256x1024 .f32) (w1 w3 w2 : FVec Ideal S8x1024x1024 .f32) : FVec Ideal S32x256x1024 .f32 :=
  byC (extractStridedSlice S32x256x1 ![0, 0, 0] p slices_S32x256x8_S32x256x1_0_0_0) (ffC h (pick0 w1) (pick0 w3) (pick0 w2))

def adC1 (p : FVec Ideal S32x256x8 .f32) (h : FVec Ideal S32x256x1024 .f32) (w1 w3 w2 : FVec Ideal S8x1024x1024 .f32) : FVec Ideal S32x256x1024 .f32 :=
  byC (extractStridedSlice S32x256x1 ![0, 0, 1] p slices_S32x256x8_S32x256x1_0_0_1) (ffC h (pick1 w1) (pick1 w3) (pick1 w2))

def adC2 (p : FVec Ideal S32x256x8 .f32) (h : FVec Ideal S32x256x1024 .f32) (w1 w3 w2 : FVec Ideal S8x1024x1024 .f32) : FVec Ideal S32x256x1024 .f32 :=
  byC (extractStridedSlice S32x256x1 ![0, 0, 2] p slices_S32x256x8_S32x256x1_0_0_2) (ffC h (pick2 w1) (pick2 w3) (pick2 w2))

def adC3 (p : FVec Ideal S32x256x8 .f32) (h : FVec Ideal S32x256x1024 .f32) (w1 w3 w2 : FVec Ideal S8x1024x1024 .f32) : FVec Ideal S32x256x1024 .f32 :=
  byC (extractStridedSlice S32x256x1 ![0, 0, 3] p slices_S32x256x8_S32x256x1_0_0_3) (ffC h (pick3 w1) (pick3 w3) (pick3 w2))

def adC4 (p : FVec Ideal S32x256x8 .f32) (h : FVec Ideal S32x256x1024 .f32) (w1 w3 w2 : FVec Ideal S8x1024x1024 .f32) : FVec Ideal S32x256x1024 .f32 :=
  byC (extractStridedSlice S32x256x1 ![0, 0, 4] p slices_S32x256x8_S32x256x1_0_0_4) (ffC h (pick4 w1) (pick4 w3) (pick4 w2))

def adC5 (p : FVec Ideal S32x256x8 .f32) (h : FVec Ideal S32x256x1024 .f32) (w1 w3 w2 : FVec Ideal S8x1024x1024 .f32) : FVec Ideal S32x256x1024 .f32 :=
  byC (extractStridedSlice S32x256x1 ![0, 0, 5] p slices_S32x256x8_S32x256x1_0_0_5) (ffC h (pick5 w1) (pick5 w3) (pick5 w2))

def adC6 (p : FVec Ideal S32x256x8 .f32) (h : FVec Ideal S32x256x1024 .f32) (w1 w3 w2 : FVec Ideal S8x1024x1024 .f32) : FVec Ideal S32x256x1024 .f32 :=
  byC (extractStridedSlice S32x256x1 ![0, 0, 6] p slices_S32x256x8_S32x256x1_0_0_6) (ffC h (pick6 w1) (pick6 w3) (pick6 w2))

def adC7 (p : FVec Ideal S32x256x8 .f32) (h : FVec Ideal S32x256x1024 .f32) (w1 w3 w2 : FVec Ideal S8x1024x1024 .f32) : FVec Ideal S32x256x1024 .f32 :=
  byC (extractStridedSlice S32x256x1 ![0, 0, 7] p slices_S32x256x8_S32x256x1_0_0_7) (ffC h (pick7 w1) (pick7 w3) (pick7 w2))

/-- The first five experts. -/
def fiveC (p : FVec Ideal S32x256x8 .f32) (h : FVec Ideal S32x256x1024 .f32) (w1 w3 w2 : FVec Ideal S8x1024x1024 .f32) : FVec Ideal S32x256x1024 .f32 :=
  addf (addf (addf (addf (addf (broadcastInDim S32x256x1024 ![] bcast_S_S32x256x1024 (constant S_ .f32 0x00000000#32)) (adC0 p h w1 w3 w2))
    (adC1 p h w1 w3 w2)) (adC2 p h w1 w3 w2)) (adC3 p h w1 w3 w2)) (adC4 p h w1 w3 w2)

/-- All eight. -/
def mixC (p : FVec Ideal S32x256x8 .f32) (h : FVec Ideal S32x256x1024 .f32) (w1 w3 w2 : FVec Ideal S8x1024x1024 .f32) : FVec Ideal S32x256x1024 .f32 :=
  addf (addf (addf (fiveC p h w1 w3 w2) (adC5 p h w1 w3 w2)) (adC6 p h w1 w3 w2)) (adC7 p h w1 w3 w2)

/-- The residual. -/
def mxC (x : FVec Ideal S16384x1024 .f32) (md : FVec Ideal S3x6x1024 .f32) (y : FVec Ideal S32x256x1024 .f32) : FVec Ideal S32x256x1024 .f32 :=
  addf (mulf (broadcastInDim S32x256x1024 ![] bcast_S_S32x256x1024 (constant S_ .f32 0x3FB504F3#32)) (inC x)) (mulf (onC (gaC md)) y)

def smC (u : FVec Ideal S32x256x1024 .f32) : FVec Ideal S32x256 .f32 :=
  Host.reduceAdd u (constant S_ .f32 0x00000000#32) reducesTo_S32x256x1024_S32x256_d2 h_S_

def mnC (u : FVec Ideal S32x256x1024 .f32) : FVec Ideal S32x256x1 .f32 :=
  Host.divf (broadcastInDim S32x256x1 ![0, 1] bcast_S32x256_S32x256x1_0_1 (smC u)) (broadcastInDim S32x256x1 ![] bcast_S_S32x256x1 (constant S_ .f32 0x44800000#32))

def spC (u : FVec Ideal S32x256x1 .f32) : FVec Ideal S32x256x1024 .f32 :=
  broadcastInDim S32x256x1024 ![0, 1, 2] bcast_S32x256x1_S32x256x1024_0_1_2 u

def rowC (v : FVec Ideal S1024 .f32) : FVec Ideal S32x256x1024 .f32 :=
  broadcastInDim S32x256x1024 ![0, 1, 2] bcast_S1x1x1024_S32x256x1024_0_1_2 (broadcastInDim S1x1x1024 ![2] bcast_S1024_S1x1x1024_2 v)

def epsC : FVec Ideal S32x256x1 .f32 := broadcastInDim S32x256x1 ![] bcast_S_S32x256x1 (constant S_ .f32 0x3727C5AC#32)

/-- The layer norm. -/
def nmC (u : FVec Ideal S32x256x1024 .f32) (w b : FVec Ideal S1024 .f32) : FVec Ideal S32x256x1024 .f32 :=
  addf (mulf (mulf (subf u (spC (mnC u))) (spC (Host.rsqrt (addf (mnC (mulf (subf u (spC (mnC u))) (subf u (spC (mnC u))))) epsC))))
    (rowC w)) (rowC b)

def flC (u : FVec Ideal S32x256x1024 .f32) : FVec Ideal S8192x1024 .f32 := shapeCast S8192x1024 u shapeCasts_S32x256x1024_S8192x1024

/-- The group's residual with its mixture. -/
def resC (x : FVec Ideal S16384x1024 .f32) (md : FVec Ideal S3x6x1024 .f32) (wr : FVec Ideal S1024x8 .f32) (br : FVec Ideal S8 .f32) (w1 w3 w2 : FVec Ideal S8x1024x1024 .f32) : FVec Ideal S32x256x1024 .f32 :=
  mxC x md (mixC (cbC (lgC (mvC x md) wr br)) (mvC x md) w1 w3 w2)

/-- The group's result. -/
def allC (x : FVec Ideal S16384x1024 .f32) (md : FVec Ideal S3x6x1024 .f32) (wr : FVec Ideal S1024x8 .f32) (br : FVec Ideal S8 .f32) (w1 w3 w2 : FVec Ideal S8x1024x1024 .f32)
    (w b : FVec Ideal S1024 .f32) : FVec Ideal S8192x1024 .f32 :=
  flC (nmC (resC x md wr br w1 w3 w2) w b)

/-- The group's rows. -/
def inL (x : FVec Ideal S16384x1024 .f32) : FVec Ideal S2x4096x1024 .f32 :=
  shapeCast S2x4096x1024 (extractStridedSlice S8192x1024 ![8192, 0] x slices_S16384x1024_S8192x1024_8192_0) shapeCasts_S8192x1024_S2x4096x1024

/-- The rows modulated. -/
def mvL (x : FVec Ideal S16384x1024 .f32) (md : FVec Ideal S3x6x1024 .f32) : FVec Ideal S2x4096x1024 .f32 :=
  addf (mulf (inL x) (onL (addf oneL (scL md)))) (onL (shL md))

/-- The logits. -/
def lgL (h : FVec Ideal S2x4096x1024 .f32) (w : FVec Ideal S1024x8 .f32) (b : FVec Ideal S8 .f32) : FVec Ideal S2x4096x8 .f32 :=
  addf (Host.dotGeneral dot_S2x4096x1024_S1024x8_S2x4096x8_2_0_01_1_n_n none h w)
    (broadcastInDim S2x4096x8 ![0, 1, 2] bcast_S1x1x8_S2x4096x8_0_1_2 (broadcastInDim S1x1x8 ![2] bcast_S8_S1x1x8_2 b))

/-- The two greatest logits. -/
def vlL (L : FVec Ideal S2x4096x8 .f32) : FVec Ideal S2x4096x2 .f32 :=
  (Host.topK S2x4096x2 2 (FloatOps.cmpfTotal (F := Ideal) (φ := .f32) .gt) L sliceFits_S2x4096x8_S2x4096x2).1

/-- Whose they are. -/
def idL (L : FVec Ideal S2x4096x8 .f32) : IVec S2x4096x2 32 :=
  (Host.topK S2x4096x2 2 (FloatOps.cmpfTotal (F := Ideal) (φ := .f32) .gt) L sliceFits_S2x4096x8_S2x4096x2).2

/-- Their greatest. -/
def tpL (v : FVec Ideal S2x4096x2 .f32) : FVec Ideal S2x4096 .f32 :=
  maximumf (broadcastInDim S2x4096 ![] bcast_S_S2x4096 (constant S_ .f32 0xFF800000#32))
    (Host.reduce FloatOps.maximumf v (constant S_ .f32 0xFF800000#32) reducesTo_S2x4096x2_S2x4096_d2 h_S_)

def exL (v : FVec Ideal S2x4096x2 .f32) : FVec Ideal S2x4096x2 .f32 :=
  Host.exp (subf v (broadcastInDim S2x4096x2 ![0, 1, 2] bcast_S2x4096x1_S2x4096x2_0_1_2 (broadcastInDim S2x4096x1 ![0, 1] bcast_S2x4096_S2x4096x1_0_1 (tpL v))))

/-- Their shares. -/
def wtL (u : FVec Ideal S2x4096x2 .f32) : FVec Ideal S2x4096x2 .f32 :=
  Host.divf u (broadcastInDim S2x4096x2 ![0, 1, 2] bcast_S2x4096x1_S2x4096x2_0_1_2 (broadcastInDim S2x4096x1 ![0, 1] bcast_S2x4096_S2x4096x1_0_1
    (Host.reduceAdd u (constant S_ .f32 0x00000000#32) reducesTo_S2x4096x2_S2x4096_d2 h_S_)))

/-- Which expert each of two numbers names. -/
def hotL (q : IVec S2x4096x2 32) : FVec Ideal S2x4096x2x8 .f32 :=
  uitofp .f32 (cmpi .eq (broadcastInDim S2x4096x2x8 ![0, 1, 2, 3] bcast_S2x4096x2x1_S2x4096x2x8_0_1_2_3 (broadcastInDim S2x4096x2x1 ![0, 1, 2] bcast_S2x4096x2_S2x4096x2x1_0_1_2 q))
    (broadcastInDim S2x4096x2x8 ![0, 1, 2, 3] bcast_S1x1x1x8_S2x4096x2x8_0_1_2_3 (iotaInDim S1x1x1x8 32 3)))

/-- Shares given to the experts named. -/
def putL (h : FVec Ideal S2x4096x2x8 .f32) (p : FVec Ideal S2x4096x2 .f32) : FVec Ideal S2x4096x8 .f32 :=
  Host.reduceAdd (mulf h (broadcastInDim S2x4096x2x8 ![0, 1, 2, 3] bcast_S2x4096x2x1_S2x4096x2x8_0_1_2_3 (broadcastInDim S2x4096x2x1 ![0, 1, 2] bcast_S2x4096x2_S2x4096x2x1_0_1_2 p)))
    (constant S_ .f32 0x00000000#32) reducesTo_S2x4096x2x8_S2x4096x8_d2 h_S_

/-- Each expert's share. -/
def cbL (L : FVec Ideal S2x4096x8 .f32) : FVec Ideal S2x4096x8 .f32 := putL (hotL (idL L)) (wtL (exL (vlL L)))

def upL (h : FVec Ideal S2x4096x1024 .f32) (w : FVec Ideal S1024x1024 .f32) : FVec Ideal S2x4096x1024 .f32 :=
  Host.dotGeneral dot_S2x4096x1024_S1024x1024_S2x4096x1024_2_0_01_1_n_n none h w

def siL (u : FVec Ideal S2x4096x1024 .f32) : FVec Ideal S2x4096x1024 .f32 :=
  mulf u (Host.divf (broadcastInDim S2x4096x1024 ![] bcast_S_S2x4096x1024 (constant S_ .f32 0x3F800000#32))
    (addf (broadcastInDim S2x4096x1024 ![] bcast_S_S2x4096x1024 (constant S_ .f32 0x3F800000#32)) (Host.exp (Host.negf u))))

/-- An expert's feed-forward. -/
def ffL (h : FVec Ideal S2x4096x1024 .f32) (w1 w3 w2 : FVec Ideal S1024x1024 .f32) : FVec Ideal S2x4096x1024 .f32 :=
  upL (mulf (siL (upL h w1)) (upL h w3)) w2

def byL (q : FVec Ideal S2x4096x1 .f32) (y : FVec Ideal S2x4096x1024 .f32) : FVec Ideal S2x4096x1024 .f32 :=
  mulf (broadcastInDim S2x4096x1024 ![0, 1, 2] bcast_S2x4096x1_S2x4096x1024_0_1_2 q) y

def adL0 (p : FVec Ideal S2x4096x8 .f32) (h : FVec Ideal S2x4096x1024 .f32) (w1 w3 w2 : FVec Ideal S8x1024x1024 .f32) : FVec Ideal S2x4096x1024 .f32 :=
  byL (extractStridedSlice S2x4096x1 ![0, 0, 0] p slices_S2x4096x8_S2x4096x1_0_0_0) (ffL h (pick0 w1) (pick0 w3) (pick0 w2))

def adL1 (p : FVec Ideal S2x4096x8 .f32) (h : FVec Ideal S2x4096x1024 .f32) (w1 w3 w2 : FVec Ideal S8x1024x1024 .f32) : FVec Ideal S2x4096x1024 .f32 :=
  byL (extractStridedSlice S2x4096x1 ![0, 0, 1] p slices_S2x4096x8_S2x4096x1_0_0_1) (ffL h (pick1 w1) (pick1 w3) (pick1 w2))

def adL2 (p : FVec Ideal S2x4096x8 .f32) (h : FVec Ideal S2x4096x1024 .f32) (w1 w3 w2 : FVec Ideal S8x1024x1024 .f32) : FVec Ideal S2x4096x1024 .f32 :=
  byL (extractStridedSlice S2x4096x1 ![0, 0, 2] p slices_S2x4096x8_S2x4096x1_0_0_2) (ffL h (pick2 w1) (pick2 w3) (pick2 w2))

def adL3 (p : FVec Ideal S2x4096x8 .f32) (h : FVec Ideal S2x4096x1024 .f32) (w1 w3 w2 : FVec Ideal S8x1024x1024 .f32) : FVec Ideal S2x4096x1024 .f32 :=
  byL (extractStridedSlice S2x4096x1 ![0, 0, 3] p slices_S2x4096x8_S2x4096x1_0_0_3) (ffL h (pick3 w1) (pick3 w3) (pick3 w2))

def adL4 (p : FVec Ideal S2x4096x8 .f32) (h : FVec Ideal S2x4096x1024 .f32) (w1 w3 w2 : FVec Ideal S8x1024x1024 .f32) : FVec Ideal S2x4096x1024 .f32 :=
  byL (extractStridedSlice S2x4096x1 ![0, 0, 4] p slices_S2x4096x8_S2x4096x1_0_0_4) (ffL h (pick4 w1) (pick4 w3) (pick4 w2))

def adL5 (p : FVec Ideal S2x4096x8 .f32) (h : FVec Ideal S2x4096x1024 .f32) (w1 w3 w2 : FVec Ideal S8x1024x1024 .f32) : FVec Ideal S2x4096x1024 .f32 :=
  byL (extractStridedSlice S2x4096x1 ![0, 0, 5] p slices_S2x4096x8_S2x4096x1_0_0_5) (ffL h (pick5 w1) (pick5 w3) (pick5 w2))

def adL6 (p : FVec Ideal S2x4096x8 .f32) (h : FVec Ideal S2x4096x1024 .f32) (w1 w3 w2 : FVec Ideal S8x1024x1024 .f32) : FVec Ideal S2x4096x1024 .f32 :=
  byL (extractStridedSlice S2x4096x1 ![0, 0, 6] p slices_S2x4096x8_S2x4096x1_0_0_6) (ffL h (pick6 w1) (pick6 w3) (pick6 w2))

def adL7 (p : FVec Ideal S2x4096x8 .f32) (h : FVec Ideal S2x4096x1024 .f32) (w1 w3 w2 : FVec Ideal S8x1024x1024 .f32) : FVec Ideal S2x4096x1024 .f32 :=
  byL (extractStridedSlice S2x4096x1 ![0, 0, 7] p slices_S2x4096x8_S2x4096x1_0_0_7) (ffL h (pick7 w1) (pick7 w3) (pick7 w2))

/-- The first five experts. -/
def fiveL (p : FVec Ideal S2x4096x8 .f32) (h : FVec Ideal S2x4096x1024 .f32) (w1 w3 w2 : FVec Ideal S8x1024x1024 .f32) : FVec Ideal S2x4096x1024 .f32 :=
  addf (addf (addf (addf (addf (broadcastInDim S2x4096x1024 ![] bcast_S_S2x4096x1024 (constant S_ .f32 0x00000000#32)) (adL0 p h w1 w3 w2))
    (adL1 p h w1 w3 w2)) (adL2 p h w1 w3 w2)) (adL3 p h w1 w3 w2)) (adL4 p h w1 w3 w2)

/-- All eight. -/
def mixL (p : FVec Ideal S2x4096x8 .f32) (h : FVec Ideal S2x4096x1024 .f32) (w1 w3 w2 : FVec Ideal S8x1024x1024 .f32) : FVec Ideal S2x4096x1024 .f32 :=
  addf (addf (addf (fiveL p h w1 w3 w2) (adL5 p h w1 w3 w2)) (adL6 p h w1 w3 w2)) (adL7 p h w1 w3 w2)

/-- The residual. -/
def mxL (x : FVec Ideal S16384x1024 .f32) (md : FVec Ideal S3x6x1024 .f32) (y : FVec Ideal S2x4096x1024 .f32) : FVec Ideal S2x4096x1024 .f32 :=
  addf (mulf (broadcastInDim S2x4096x1024 ![] bcast_S_S2x4096x1024 (constant S_ .f32 0x3FB504F3#32)) (inL x)) (mulf (onL (gaL md)) y)

def smL (u : FVec Ideal S2x4096x1024 .f32) : FVec Ideal S2x4096 .f32 :=
  Host.reduceAdd u (constant S_ .f32 0x00000000#32) reducesTo_S2x4096x1024_S2x4096_d2 h_S_

def mnL (u : FVec Ideal S2x4096x1024 .f32) : FVec Ideal S2x4096x1 .f32 :=
  Host.divf (broadcastInDim S2x4096x1 ![0, 1] bcast_S2x4096_S2x4096x1_0_1 (smL u)) (broadcastInDim S2x4096x1 ![] bcast_S_S2x4096x1 (constant S_ .f32 0x44800000#32))

def spL (u : FVec Ideal S2x4096x1 .f32) : FVec Ideal S2x4096x1024 .f32 :=
  broadcastInDim S2x4096x1024 ![0, 1, 2] bcast_S2x4096x1_S2x4096x1024_0_1_2 u

def rowL (v : FVec Ideal S1024 .f32) : FVec Ideal S2x4096x1024 .f32 :=
  broadcastInDim S2x4096x1024 ![0, 1, 2] bcast_S1x1x1024_S2x4096x1024_0_1_2 (broadcastInDim S1x1x1024 ![2] bcast_S1024_S1x1x1024_2 v)

def epsL : FVec Ideal S2x4096x1 .f32 := broadcastInDim S2x4096x1 ![] bcast_S_S2x4096x1 (constant S_ .f32 0x3727C5AC#32)

/-- The layer norm. -/
def nmL (u : FVec Ideal S2x4096x1024 .f32) (w b : FVec Ideal S1024 .f32) : FVec Ideal S2x4096x1024 .f32 :=
  addf (mulf (mulf (subf u (spL (mnL u))) (spL (Host.rsqrt (addf (mnL (mulf (subf u (spL (mnL u))) (subf u (spL (mnL u))))) epsL))))
    (rowL w)) (rowL b)

def flL (u : FVec Ideal S2x4096x1024 .f32) : FVec Ideal S8192x1024 .f32 := shapeCast S8192x1024 u shapeCasts_S2x4096x1024_S8192x1024

/-- The group's residual with its mixture. -/
def resL (x : FVec Ideal S16384x1024 .f32) (md : FVec Ideal S3x6x1024 .f32) (wr : FVec Ideal S1024x8 .f32) (br : FVec Ideal S8 .f32) (w1 w3 w2 : FVec Ideal S8x1024x1024 .f32) : FVec Ideal S2x4096x1024 .f32 :=
  mxL x md (mixL (cbL (lgL (mvL x md) wr br)) (mvL x md) w1 w3 w2)

/-- The group's result. -/
def allL (x : FVec Ideal S16384x1024 .f32) (md : FVec Ideal S3x6x1024 .f32) (wr : FVec Ideal S1024x8 .f32) (br : FVec Ideal S8 .f32) (w1 w3 w2 : FVec Ideal S8x1024x1024 .f32)
    (w b : FVec Ideal S1024 .f32) : FVec Ideal S8192x1024 .f32 :=
  flL (nmL (resL x md wr br w1 w3 w2) w b)

/-! ## Entries -/

theorem mul_at {S : Shape} (a b : FVec Ideal S .f32) (i : S.Idx) : mulf a b i = (a i : EReal) * b i := rfl

theorem add_at {S : Shape} (a b : FVec Ideal S .f32) (i : S.Idx) : addf a b i = (a i : EReal) + b i := rfl

theorem sub_at {S : Shape} (a b : FVec Ideal S .f32) (i : S.Idx) : subf a b i = (a i : EReal) - b i := rfl

theorem div_at {S : Shape} (a b : FVec Ideal S .f32) (i : S.Idx) : Host.divf a b i = Ideal.div (a i) (b i) := rfl

theorem rsqrt_at {S : Shape} (a : FVec Ideal S .f32) (i : S.Idx) : Host.rsqrt a i = Ideal.rsqrt (a i) := rfl

theorem exp_at {S : Shape} (a : FVec Ideal S .f32) (i : S.Idx) : Host.exp a i = Ideal.exp (a i) := rfl

theorem max_at {S : Shape} (a b : FVec Ideal S .f32) (i : S.Idx) : maximumf a b i = max (a i : EReal) (b i) := rfl

theorem hot_bit (i e : Fin 8) : (FloatOps.uitofp (F := Ideal) .f32 (IntOp.cmpi .eq (BitVec.ofNat 32 i.val) (BitVec.ofNat 32 e.val)) : EReal) = if i = e then (1 : EReal) else 0 := by
  have h : ∀ i e : Fin 8, IntOp.cmpi .eq (BitVec.ofNat 32 i.val) (BitVec.ofNat 32 e.val) = if i = e then 1#1 else 0#1 := by decide
  rw [h]
  split
  · show (((1#1 : BitVec 1).toNat : ℝ) : EReal) = 1
    simp
  · show (((0#1 : BitVec 1).toNat : ℝ) : EReal) = 0
    simp

/-- A row's logits in their order. -/
def order (L : Fin 8 → EReal) : Fin 8 → Fin 8 := sortedFrom fun a b => FloatOps.cmpfTotal (F := Ideal) (φ := .f32) .gt (L a) (L b) == 1#1

theorem order_rel (L : Fin 8 → EReal) (a b : Fin 8) : (FloatOps.cmpfTotal (F := Ideal) (φ := .f32) .gt (L a) (L b) == 1#1) = true ↔ L b < L a := by
  rw [show FloatOps.cmpfTotal (F := Ideal) (φ := .f32) .gt (L a) (L b) = BitVec.ofBool (decide (L b < L a)) from rfl]
  by_cases c : L b < L a <;> simp [c]

theorem order_top (L : Fin 8 → EReal) : order L 0 = topOf L := (IsTop.eq (sorted_top L _ (order_rel L))).symm

theorem order_next (L : Fin 8 → EReal) : order L 1 = nextOf L := (IsNext.eq (sorted_top L _ (order_rel L)) (sorted_next L _ (order_rel L))).symm

theorem next_ne (L : Fin 8 → EReal) : nextOf L ≠ topOf L := by
  have h := sorted_next L _ (order_rel L)
  have t := sorted_top L _ (order_rel L)
  rw [IsNext.eq t h, t.eq]; exact h.1

theorem next_le (L : Fin 8 → EReal) : L (nextOf L) ≤ L (topOf L) := by
  have t := sorted_top L _ (order_rel L)
  rw [t.eq]
  rcases t (nextOf L) with a | a
  · exact a.le
  · exact a.1.le

theorem shC_at (md : FVec Ideal S3x6x1024 .f32) (k : Fin 1) (j : Fin 1024) : shC md (ix2 k j) = md (ix3 0 3 j) := by
  pointwise [shC, sixC, mods]
  blk_ext

theorem scC_at (md : FVec Ideal S3x6x1024 .f32) (k : Fin 1) (j : Fin 1024) : scC md (ix2 k j) = md (ix3 0 4 j) := by
  pointwise [scC, sixC, mods]
  blk_ext

theorem gaC_at (md : FVec Ideal S3x6x1024 .f32) (k : Fin 1) (j : Fin 1024) : gaC md (ix2 k j) = md (ix3 0 5 j) := by
  pointwise [gaC, sixC, mods]
  blk_ext

theorem onC_at (u : FVec Ideal S1x1024 .f32) (k : Fin 32) (r : Fin 256) (j : Fin 1024) : onC u (ix3 k r j) = u (ix2 0 j) := by
  pointwise [onC]

theorem inC_at (x : FVec Ideal S16384x1024 .f32) (k : Fin 32) (r : Fin 256) (j : Fin 1024) : inC x (ix3 k r j) = x (ix2 ⟨(256 * k + r), by omega⟩ j) := by
  pointwise [inC]
  blk_ext

theorem mvC_at (x : FVec Ideal S16384x1024 .f32) (md : FVec Ideal S3x6x1024 .f32) (k : Fin 32) (r : Fin 256) (j : Fin 1024) :
    mvC x md (ix3 k r j) = moved (x (ix2 ⟨(256 * k + r), by omega⟩ j)) (md (ix3 0 4 j)) (md (ix3 0 3 j)) := by
  rw [mvC, add_at, mul_at, onC_at, onC_at, inC_at, add_at, scC_at, shC_at]
  rfl

theorem lgC_at (h : FVec Ideal S32x256x1024 .f32) (w : FVec Ideal S1024x8 .f32) (b : FVec Ideal S8 .f32) (k : Fin 32) (r : Fin 256) (e : Fin 8) :
    lgC h w b (ix3 k r e) = logits (fun l => h (ix3 k r l)) (fun l e => w (ix2 l e)) (fun e => b (ix1 e)) e := by
  pointwise [lgC, logits, logit]

theorem alongC (k : Fin 32) (r : Fin 256) (e q : Fin 8) : (ix3 k r e : S32x256x8.Idx).along 2 q = ix3 k r q := by
  funext a
  fin_cases a <;> rfl

theorem vlC_at (L : FVec Ideal S32x256x8 .f32) (k : Fin 32) (r : Fin 256) (n : Fin 2) :
    vlC L (ix3 k r n) = L (ix3 k r (order (fun e => L (ix3 k r e)) ⟨n, by omega⟩)) := by
  pointwise [vlC, Host.topK, Host.sort2]
  simp only [alongC]
  rfl

theorem idC_at (L : FVec Ideal S32x256x8 .f32) (k : Fin 32) (r : Fin 256) (n : Fin 2) :
    idC L (ix3 k r n) = BitVec.ofNat 32 (order (fun e => L (ix3 k r e)) ⟨n, by omega⟩).val := by
  pointwise [idC, Host.topK, Host.sort2]
  simp only [alongC]
  rfl

theorem tpC_at (v : FVec Ideal S32x256x2 .f32) (k : Fin 32) (r : Fin 256) : tpC v (ix2 k r) = max (v (ix3 k r 0) : EReal) (v (ix3 k r 1)) := by
  pointwise [tpC]
  rw [show (Ideal.ofBits .f32 4286578688#32 : EReal) = ⊥ by simp [Ideal.ofBits, Ideal.ieee], show (Finset.univ : Finset (Fin 2)) = {0, 1} from rfl]
  simp

theorem exC_at (v : FVec Ideal S32x256x2 .f32) (k : Fin 32) (r : Fin 256) (n : Fin 2) :
    exC v (ix3 k r n) = Ideal.exp (v (ix3 k r n) - max (v (ix3 k r 0) : EReal) (v (ix3 k r 1))) := by
  rw [← tpC_at]
  pointwise [exC]

theorem wtC_at (u : FVec Ideal S32x256x2 .f32) (k : Fin 32) (r : Fin 256) (n : Fin 2) :
    wtC u (ix3 k r n) = Ideal.div (u (ix3 k r n)) (u (ix3 k r 0) + u (ix3 k r 1)) := by
  pointwise [wtC]
  rw [Fin.sum_univ_two]

theorem hotC_at (q : IVec S32x256x2 32) (k : Fin 32) (r : Fin 256) (n : Fin 2) (e i : Fin 8) (hq : q (ix3 k r n) = BitVec.ofNat 32 i.val) :
    hotC q (ix4 k r n e) = if i = e then (1 : EReal) else 0 := by
  pointwise [hotC]
  rw [hq]
  exact hot_bit i e

theorem putC_at (h : FVec Ideal S32x256x2x8 .f32) (p : FVec Ideal S32x256x2 .f32) (k : Fin 32) (r : Fin 256) (e : Fin 8) :
    putC h p (ix3 k r e) = h (ix4 k r 0 e) * p (ix3 k r 0) + h (ix4 k r 1 e) * p (ix3 k r 1) := by
  pointwise [putC]
  exact Fin.sum_univ_two _

theorem cbC_at (L : FVec Ideal S32x256x8 .f32) (k : Fin 32) (r : Fin 256) (hL : ∀ e, ∃ a : ℝ, (L (ix3 k r e) : EReal) = a) (e : Fin 8) :
    cbC L (ix3 k r e) = weight (fun e => L (ix3 k r e)) e := by
  have i0 := idC_at L k r 0
  have i1 := idC_at L k r 1
  have v0 := vlC_at L k r 0
  have v1 := vlC_at L k r 1
  rw [show (⟨((0 : Fin 2) : ℕ), by omega⟩ : Fin 8) = 0 from rfl, order_top] at i0 v0
  rw [show (⟨((1 : Fin 2) : ℕ), by omega⟩ : Fin 8) = 1 from rfl, order_next] at i1 v1
  rw [cbC, putC_at, hotC_at _ k r 0 e _ i0, hotC_at _ k r 1 e _ i1, wtC_at, wtC_at, exC_at, exC_at, v0, v1]
  exact two_shares _ hL (next_le fun e => L (ix3 k r e)) (next_ne fun e => L (ix3 k r e)) e

theorem upC_at (h : FVec Ideal S32x256x1024 .f32) (w : FVec Ideal S1024x1024 .f32) (k : Fin 32) (r : Fin 256) (f : Fin 1024) :
    upC h w (ix3 k r f) = ∑ l : Fin 1024, h (ix3 k r l) * w (ix2 l f) := by
  pointwise [upC]

theorem siC_at (u : FVec Ideal S32x256x1024 .f32) (k : Fin 32) (r : Fin 256) (f : Fin 1024) : siC u (ix3 k r f) = silu (u (ix3 k r f)) := by
  rw [siC, mul_at, div_at, add_at]
  rfl

theorem ffC_at (h : FVec Ideal S32x256x1024 .f32) (w1 w3 w2 : FVec Ideal S1024x1024 .f32) (k : Fin 32) (r : Fin 256) (j : Fin 1024) :
    ffC h w1 w3 w2 (ix3 k r j) = expertOf (fun l => h (ix3 k r l)) (fun l f => w1 (ix2 l f)) (fun l f => w3 (ix2 l f)) (fun f l => w2 (ix2 f l)) j := by
  rw [ffC, upC_at, expertOf]
  simp only [mul_at, siC_at, upC_at, Cert.Ffn.hidden]

theorem adC0_at (p : FVec Ideal S32x256x8 .f32) (h : FVec Ideal S32x256x1024 .f32) (w1 w3 w2 : FVec Ideal S8x1024x1024 .f32) (k : Fin 32) (r : Fin 256) (j : Fin 1024) :
    adC0 p h w1 w3 w2 (ix3 k r j) = p (ix3 k r 0) * expertOf (fun l => h (ix3 k r l)) (fun l f => w1 (ix3 0 l f)) (fun l f => w3 (ix3 0 l f)) (fun f l => w2 (ix3 0 f l)) j := by
  have q : (broadcastInDim S32x256x1024 ![0, 1, 2] bcast_S32x256x1_S32x256x1024_0_1_2 (extractStridedSlice S32x256x1 ![0, 0, 0] p slices_S32x256x8_S32x256x1_0_0_0) : FVec Ideal S32x256x1024 .f32) (ix3 k r j)
      = p (ix3 k r 0) := by
    pointwise []
  rw [adC0, byC, mul_at, q, ffC_at]
  simp only [pick0_at]

theorem adC1_at (p : FVec Ideal S32x256x8 .f32) (h : FVec Ideal S32x256x1024 .f32) (w1 w3 w2 : FVec Ideal S8x1024x1024 .f32) (k : Fin 32) (r : Fin 256) (j : Fin 1024) :
    adC1 p h w1 w3 w2 (ix3 k r j) = p (ix3 k r 1) * expertOf (fun l => h (ix3 k r l)) (fun l f => w1 (ix3 1 l f)) (fun l f => w3 (ix3 1 l f)) (fun f l => w2 (ix3 1 f l)) j := by
  have q : (broadcastInDim S32x256x1024 ![0, 1, 2] bcast_S32x256x1_S32x256x1024_0_1_2 (extractStridedSlice S32x256x1 ![0, 0, 1] p slices_S32x256x8_S32x256x1_0_0_1) : FVec Ideal S32x256x1024 .f32) (ix3 k r j)
      = p (ix3 k r 1) := by
    pointwise []
  rw [adC1, byC, mul_at, q, ffC_at]
  simp only [pick1_at]

theorem adC2_at (p : FVec Ideal S32x256x8 .f32) (h : FVec Ideal S32x256x1024 .f32) (w1 w3 w2 : FVec Ideal S8x1024x1024 .f32) (k : Fin 32) (r : Fin 256) (j : Fin 1024) :
    adC2 p h w1 w3 w2 (ix3 k r j) = p (ix3 k r 2) * expertOf (fun l => h (ix3 k r l)) (fun l f => w1 (ix3 2 l f)) (fun l f => w3 (ix3 2 l f)) (fun f l => w2 (ix3 2 f l)) j := by
  have q : (broadcastInDim S32x256x1024 ![0, 1, 2] bcast_S32x256x1_S32x256x1024_0_1_2 (extractStridedSlice S32x256x1 ![0, 0, 2] p slices_S32x256x8_S32x256x1_0_0_2) : FVec Ideal S32x256x1024 .f32) (ix3 k r j)
      = p (ix3 k r 2) := by
    pointwise []
  rw [adC2, byC, mul_at, q, ffC_at]
  simp only [pick2_at]

theorem adC3_at (p : FVec Ideal S32x256x8 .f32) (h : FVec Ideal S32x256x1024 .f32) (w1 w3 w2 : FVec Ideal S8x1024x1024 .f32) (k : Fin 32) (r : Fin 256) (j : Fin 1024) :
    adC3 p h w1 w3 w2 (ix3 k r j) = p (ix3 k r 3) * expertOf (fun l => h (ix3 k r l)) (fun l f => w1 (ix3 3 l f)) (fun l f => w3 (ix3 3 l f)) (fun f l => w2 (ix3 3 f l)) j := by
  have q : (broadcastInDim S32x256x1024 ![0, 1, 2] bcast_S32x256x1_S32x256x1024_0_1_2 (extractStridedSlice S32x256x1 ![0, 0, 3] p slices_S32x256x8_S32x256x1_0_0_3) : FVec Ideal S32x256x1024 .f32) (ix3 k r j)
      = p (ix3 k r 3) := by
    pointwise []
  rw [adC3, byC, mul_at, q, ffC_at]
  simp only [pick3_at]

theorem adC4_at (p : FVec Ideal S32x256x8 .f32) (h : FVec Ideal S32x256x1024 .f32) (w1 w3 w2 : FVec Ideal S8x1024x1024 .f32) (k : Fin 32) (r : Fin 256) (j : Fin 1024) :
    adC4 p h w1 w3 w2 (ix3 k r j) = p (ix3 k r 4) * expertOf (fun l => h (ix3 k r l)) (fun l f => w1 (ix3 4 l f)) (fun l f => w3 (ix3 4 l f)) (fun f l => w2 (ix3 4 f l)) j := by
  have q : (broadcastInDim S32x256x1024 ![0, 1, 2] bcast_S32x256x1_S32x256x1024_0_1_2 (extractStridedSlice S32x256x1 ![0, 0, 4] p slices_S32x256x8_S32x256x1_0_0_4) : FVec Ideal S32x256x1024 .f32) (ix3 k r j)
      = p (ix3 k r 4) := by
    pointwise []
  rw [adC4, byC, mul_at, q, ffC_at]
  simp only [pick4_at]

theorem adC5_at (p : FVec Ideal S32x256x8 .f32) (h : FVec Ideal S32x256x1024 .f32) (w1 w3 w2 : FVec Ideal S8x1024x1024 .f32) (k : Fin 32) (r : Fin 256) (j : Fin 1024) :
    adC5 p h w1 w3 w2 (ix3 k r j) = p (ix3 k r 5) * expertOf (fun l => h (ix3 k r l)) (fun l f => w1 (ix3 5 l f)) (fun l f => w3 (ix3 5 l f)) (fun f l => w2 (ix3 5 f l)) j := by
  have q : (broadcastInDim S32x256x1024 ![0, 1, 2] bcast_S32x256x1_S32x256x1024_0_1_2 (extractStridedSlice S32x256x1 ![0, 0, 5] p slices_S32x256x8_S32x256x1_0_0_5) : FVec Ideal S32x256x1024 .f32) (ix3 k r j)
      = p (ix3 k r 5) := by
    pointwise []
  rw [adC5, byC, mul_at, q, ffC_at]
  simp only [pick5_at]

theorem adC6_at (p : FVec Ideal S32x256x8 .f32) (h : FVec Ideal S32x256x1024 .f32) (w1 w3 w2 : FVec Ideal S8x1024x1024 .f32) (k : Fin 32) (r : Fin 256) (j : Fin 1024) :
    adC6 p h w1 w3 w2 (ix3 k r j) = p (ix3 k r 6) * expertOf (fun l => h (ix3 k r l)) (fun l f => w1 (ix3 6 l f)) (fun l f => w3 (ix3 6 l f)) (fun f l => w2 (ix3 6 f l)) j := by
  have q : (broadcastInDim S32x256x1024 ![0, 1, 2] bcast_S32x256x1_S32x256x1024_0_1_2 (extractStridedSlice S32x256x1 ![0, 0, 6] p slices_S32x256x8_S32x256x1_0_0_6) : FVec Ideal S32x256x1024 .f32) (ix3 k r j)
      = p (ix3 k r 6) := by
    pointwise []
  rw [adC6, byC, mul_at, q, ffC_at]
  simp only [pick6_at]

theorem adC7_at (p : FVec Ideal S32x256x8 .f32) (h : FVec Ideal S32x256x1024 .f32) (w1 w3 w2 : FVec Ideal S8x1024x1024 .f32) (k : Fin 32) (r : Fin 256) (j : Fin 1024) :
    adC7 p h w1 w3 w2 (ix3 k r j) = p (ix3 k r 7) * expertOf (fun l => h (ix3 k r l)) (fun l f => w1 (ix3 7 l f)) (fun l f => w3 (ix3 7 l f)) (fun f l => w2 (ix3 7 f l)) j := by
  have q : (broadcastInDim S32x256x1024 ![0, 1, 2] bcast_S32x256x1_S32x256x1024_0_1_2 (extractStridedSlice S32x256x1 ![0, 0, 7] p slices_S32x256x8_S32x256x1_0_0_7) : FVec Ideal S32x256x1024 .f32) (ix3 k r j)
      = p (ix3 k r 7) := by
    pointwise []
  rw [adC7, byC, mul_at, q, ffC_at]
  simp only [pick7_at]

theorem mixC_at (p : FVec Ideal S32x256x8 .f32) (h : FVec Ideal S32x256x1024 .f32) (w1 w3 w2 : FVec Ideal S8x1024x1024 .f32) (k : Fin 32) (r : Fin 256) (j : Fin 1024) :
    mixC p h w1 w3 w2 (ix3 k r j) = ∑ e : Fin 8, p (ix3 k r e) * expertOf (fun l => h (ix3 k r l)) (fun l f => w1 (ix3 e l f)) (fun l f => w3 (ix3 e l f)) (fun f l => w2 (ix3 e f l)) j := by
  have z : (broadcastInDim S32x256x1024 ![] bcast_S_S32x256x1024 (constant S_ .f32 0x00000000#32) : FVec Ideal S32x256x1024 .f32) (ix3 k r j) = (0 : EReal) :=
    show Ideal.ofBits .f32 0x00000000#32 = 0 by simp [Ideal.ofBits, Ideal.ieee]
  rw [Fin.sum_univ_eight, mixC, add_at, add_at, add_at, adC5_at, adC6_at, adC7_at, fiveC, add_at, add_at, add_at, add_at, add_at, z, zero_add,
    adC0_at, adC1_at, adC2_at, adC3_at, adC4_at]

theorem mxC_at (x : FVec Ideal S16384x1024 .f32) (md : FVec Ideal S3x6x1024 .f32) (y : FVec Ideal S32x256x1024 .f32) (k : Fin 32) (r : Fin 256) (j : Fin 1024) :
    mxC x md y (ix3 k r j) = mixed (x (ix2 ⟨(256 * k + r), by omega⟩ j)) (md (ix3 0 5 j)) (y (ix3 k r j)) := by
  rw [mxC, add_at, mul_at, mul_at, onC_at, inC_at, gaC_at]
  rfl

theorem smC_at (u : FVec Ideal S32x256x1024 .f32) (k : Fin 32) (r : Fin 256) : smC u (ix2 k r) = ∑ l : Fin 1024, u (ix3 k r l) := by
  pointwise [smC]

theorem mnC_at (u : FVec Ideal S32x256x1024 .f32) (k : Fin 32) (r : Fin 256) (n : Fin 1) : mnC u (ix3 k r n) = mean (fun l => u (ix3 k r l)) := by
  have e : (broadcastInDim S32x256x1 ![0, 1] bcast_S32x256_S32x256x1_0_1 (smC u) : FVec Ideal S32x256x1 .f32) (ix3 k r n) = smC u (ix2 k r) := by
    pointwise []
  rw [mnC, div_at, e, smC_at]
  rfl

theorem spC_at (u : FVec Ideal S32x256x1 .f32) (k : Fin 32) (r : Fin 256) (j : Fin 1024) : spC u (ix3 k r j) = u (ix3 k r 0) := by
  pointwise [spC]

theorem rowC_at (v : FVec Ideal S1024 .f32) (k : Fin 32) (r : Fin 256) (j : Fin 1024) : rowC v (ix3 k r j) = v (ix1 j) := by
  pointwise [rowC]

theorem nmC_at (u : FVec Ideal S32x256x1024 .f32) (w b : FVec Ideal S1024 .f32) (k : Fin 32) (r : Fin 256) (j : Fin 1024) :
    nmC u w b (ix3 k r j) = norm (fun l => u (ix3 k r l)) (w (ix1 j)) (b (ix1 j)) j := by
  rw [nmC, add_at, mul_at, mul_at, rowC_at, rowC_at, sub_at, spC_at, spC_at, rsqrt_at, add_at, mnC_at, mnC_at]
  simp only [mul_at, sub_at, spC_at, mnC_at]
  rfl

theorem flC_at (u : FVec Ideal S32x256x1024 .f32) (i : Fin 8192) (j : Fin 1024) :
    flC u (ix2 i j) = u (ix3 ⟨i / 256, by omega⟩ ⟨i % 256, by omega⟩ j) := by
  pointwise [flC]
  blk_ext

/-- The entries of a group's result, where its logits are real. -/
theorem allC_at (x : FVec Ideal S16384x1024 .f32) (md : FVec Ideal S3x6x1024 .f32) (wr : FVec Ideal S1024x8 .f32) (br : FVec Ideal S8 .f32) (w1 w3 w2 : FVec Ideal S8x1024x1024 .f32)
    (w b : FVec Ideal S1024 .f32) (i : Fin 8192) (j : Fin 1024)
    (hL : ∀ e, ∃ a : ℝ, logits (fun l => moved (x (ix2 ⟨i, by omega⟩ l)) (md (ix3 0 4 l)) (md (ix3 0 3 l))) (fun l e => wr (ix2 l e)) (fun e => br (ix1 e)) e = a) :
    allC x md wr br w1 w3 w2 w b (ix2 i j) = Cert.Moe.rowOut (fun l => x (ix2 ⟨i, by omega⟩ l)) (fun q l => md (ix3 0 q l))
      (fun l e => wr (ix2 l e)) (fun e => br (ix1 e)) (fun e l f => w1 (ix3 e l f)) (fun e l f => w3 (ix3 e l f)) (fun e f l => w2 (ix3 e f l))
      (fun l => w (ix1 l)) (fun l => b (ix1 l)) j := by
  have e : ((256 * ((i : ℕ) / 256) + (i : ℕ) % 256)) = (i : ℕ) := by omega
  have hm : ∀ l, mvC x md (ix3 ⟨i / 256, by omega⟩ ⟨i % 256, by omega⟩ l) = moved (x (ix2 ⟨i, by omega⟩ l)) (md (ix3 0 4 l)) (md (ix3 0 3 l)) := fun l => by
    rw [mvC_at]
    simp only [e]
  have hl : ∀ q, lgC (mvC x md) wr br (ix3 ⟨i / 256, by omega⟩ ⟨i % 256, by omega⟩ q)
      = logits (fun l => moved (x (ix2 ⟨i, by omega⟩ l)) (md (ix3 0 4 l)) (md (ix3 0 3 l))) (fun l e => wr (ix2 l e)) (fun e => br (ix1 e)) q := fun q => by
    rw [lgC_at]
    simp only [hm]
  have hc := cbC_at (lgC (mvC x md) wr br) ⟨i / 256, by omega⟩ ⟨i % 256, by omega⟩ fun q => by rw [hl]; exact hL q
  rw [allC, flC_at, nmC_at, Cert.Moe.rowOut, resC]
  simp only [mxC_at, mixC_at, hc, hl, hm, e, mixture]

theorem shL_at (md : FVec Ideal S3x6x1024 .f32) (k : Fin 2) (n : Fin 1) (j : Fin 1024) : shL md (ix3 k n j) = md (ix3 ⟨1 + k, by omega⟩ 3 j) := by
  pointwise [shL, sixL, mods]
  blk_ext

theorem scL_at (md : FVec Ideal S3x6x1024 .f32) (k : Fin 2) (n : Fin 1) (j : Fin 1024) : scL md (ix3 k n j) = md (ix3 ⟨1 + k, by omega⟩ 4 j) := by
  pointwise [scL, sixL, mods]
  blk_ext

theorem gaL_at (md : FVec Ideal S3x6x1024 .f32) (k : Fin 2) (n : Fin 1) (j : Fin 1024) : gaL md (ix3 k n j) = md (ix3 ⟨1 + k, by omega⟩ 5 j) := by
  pointwise [gaL, sixL, mods]
  blk_ext

theorem onL_at (u : FVec Ideal S2x1x1024 .f32) (k : Fin 2) (r : Fin 4096) (j : Fin 1024) : onL u (ix3 k r j) = u (ix3 k 0 j) := by
  pointwise [onL]

theorem inL_at (x : FVec Ideal S16384x1024 .f32) (k : Fin 2) (r : Fin 4096) (j : Fin 1024) : inL x (ix3 k r j) = x (ix2 ⟨8192 + (4096 * k + r), by omega⟩ j) := by
  pointwise [inL]
  blk_ext

theorem mvL_at (x : FVec Ideal S16384x1024 .f32) (md : FVec Ideal S3x6x1024 .f32) (k : Fin 2) (r : Fin 4096) (j : Fin 1024) :
    mvL x md (ix3 k r j) = moved (x (ix2 ⟨8192 + (4096 * k + r), by omega⟩ j)) (md (ix3 ⟨1 + k, by omega⟩ 4 j)) (md (ix3 ⟨1 + k, by omega⟩ 3 j)) := by
  rw [mvL, add_at, mul_at, onL_at, onL_at, inL_at, add_at, scL_at, shL_at]
  rfl

theorem lgL_at (h : FVec Ideal S2x4096x1024 .f32) (w : FVec Ideal S1024x8 .f32) (b : FVec Ideal S8 .f32) (k : Fin 2) (r : Fin 4096) (e : Fin 8) :
    lgL h w b (ix3 k r e) = logits (fun l => h (ix3 k r l)) (fun l e => w (ix2 l e)) (fun e => b (ix1 e)) e := by
  pointwise [lgL, logits, logit]

theorem alongL (k : Fin 2) (r : Fin 4096) (e q : Fin 8) : (ix3 k r e : S2x4096x8.Idx).along 2 q = ix3 k r q := by
  funext a
  fin_cases a <;> rfl

theorem vlL_at (L : FVec Ideal S2x4096x8 .f32) (k : Fin 2) (r : Fin 4096) (n : Fin 2) :
    vlL L (ix3 k r n) = L (ix3 k r (order (fun e => L (ix3 k r e)) ⟨n, by omega⟩)) := by
  pointwise [vlL, Host.topK, Host.sort2]
  simp only [alongL]
  rfl

theorem idL_at (L : FVec Ideal S2x4096x8 .f32) (k : Fin 2) (r : Fin 4096) (n : Fin 2) :
    idL L (ix3 k r n) = BitVec.ofNat 32 (order (fun e => L (ix3 k r e)) ⟨n, by omega⟩).val := by
  pointwise [idL, Host.topK, Host.sort2]
  simp only [alongL]
  rfl

theorem tpL_at (v : FVec Ideal S2x4096x2 .f32) (k : Fin 2) (r : Fin 4096) : tpL v (ix2 k r) = max (v (ix3 k r 0) : EReal) (v (ix3 k r 1)) := by
  pointwise [tpL]
  rw [show (Ideal.ofBits .f32 4286578688#32 : EReal) = ⊥ by simp [Ideal.ofBits, Ideal.ieee], show (Finset.univ : Finset (Fin 2)) = {0, 1} from rfl]
  simp

theorem exL_at (v : FVec Ideal S2x4096x2 .f32) (k : Fin 2) (r : Fin 4096) (n : Fin 2) :
    exL v (ix3 k r n) = Ideal.exp (v (ix3 k r n) - max (v (ix3 k r 0) : EReal) (v (ix3 k r 1))) := by
  rw [← tpL_at]
  pointwise [exL]

theorem wtL_at (u : FVec Ideal S2x4096x2 .f32) (k : Fin 2) (r : Fin 4096) (n : Fin 2) :
    wtL u (ix3 k r n) = Ideal.div (u (ix3 k r n)) (u (ix3 k r 0) + u (ix3 k r 1)) := by
  pointwise [wtL]
  rw [Fin.sum_univ_two]

theorem hotL_at (q : IVec S2x4096x2 32) (k : Fin 2) (r : Fin 4096) (n : Fin 2) (e i : Fin 8) (hq : q (ix3 k r n) = BitVec.ofNat 32 i.val) :
    hotL q (ix4 k r n e) = if i = e then (1 : EReal) else 0 := by
  pointwise [hotL]
  rw [hq]
  exact hot_bit i e

theorem putL_at (h : FVec Ideal S2x4096x2x8 .f32) (p : FVec Ideal S2x4096x2 .f32) (k : Fin 2) (r : Fin 4096) (e : Fin 8) :
    putL h p (ix3 k r e) = h (ix4 k r 0 e) * p (ix3 k r 0) + h (ix4 k r 1 e) * p (ix3 k r 1) := by
  pointwise [putL]
  exact Fin.sum_univ_two _

theorem cbL_at (L : FVec Ideal S2x4096x8 .f32) (k : Fin 2) (r : Fin 4096) (hL : ∀ e, ∃ a : ℝ, (L (ix3 k r e) : EReal) = a) (e : Fin 8) :
    cbL L (ix3 k r e) = weight (fun e => L (ix3 k r e)) e := by
  have i0 := idL_at L k r 0
  have i1 := idL_at L k r 1
  have v0 := vlL_at L k r 0
  have v1 := vlL_at L k r 1
  rw [show (⟨((0 : Fin 2) : ℕ), by omega⟩ : Fin 8) = 0 from rfl, order_top] at i0 v0
  rw [show (⟨((1 : Fin 2) : ℕ), by omega⟩ : Fin 8) = 1 from rfl, order_next] at i1 v1
  rw [cbL, putL_at, hotL_at _ k r 0 e _ i0, hotL_at _ k r 1 e _ i1, wtL_at, wtL_at, exL_at, exL_at, v0, v1]
  exact two_shares _ hL (next_le fun e => L (ix3 k r e)) (next_ne fun e => L (ix3 k r e)) e

theorem upL_at (h : FVec Ideal S2x4096x1024 .f32) (w : FVec Ideal S1024x1024 .f32) (k : Fin 2) (r : Fin 4096) (f : Fin 1024) :
    upL h w (ix3 k r f) = ∑ l : Fin 1024, h (ix3 k r l) * w (ix2 l f) := by
  pointwise [upL]

theorem siL_at (u : FVec Ideal S2x4096x1024 .f32) (k : Fin 2) (r : Fin 4096) (f : Fin 1024) : siL u (ix3 k r f) = silu (u (ix3 k r f)) := by
  rw [siL, mul_at, div_at, add_at]
  rfl

theorem ffL_at (h : FVec Ideal S2x4096x1024 .f32) (w1 w3 w2 : FVec Ideal S1024x1024 .f32) (k : Fin 2) (r : Fin 4096) (j : Fin 1024) :
    ffL h w1 w3 w2 (ix3 k r j) = expertOf (fun l => h (ix3 k r l)) (fun l f => w1 (ix2 l f)) (fun l f => w3 (ix2 l f)) (fun f l => w2 (ix2 f l)) j := by
  rw [ffL, upL_at, expertOf]
  simp only [mul_at, siL_at, upL_at, Cert.Ffn.hidden]

theorem adL0_at (p : FVec Ideal S2x4096x8 .f32) (h : FVec Ideal S2x4096x1024 .f32) (w1 w3 w2 : FVec Ideal S8x1024x1024 .f32) (k : Fin 2) (r : Fin 4096) (j : Fin 1024) :
    adL0 p h w1 w3 w2 (ix3 k r j) = p (ix3 k r 0) * expertOf (fun l => h (ix3 k r l)) (fun l f => w1 (ix3 0 l f)) (fun l f => w3 (ix3 0 l f)) (fun f l => w2 (ix3 0 f l)) j := by
  have q : (broadcastInDim S2x4096x1024 ![0, 1, 2] bcast_S2x4096x1_S2x4096x1024_0_1_2 (extractStridedSlice S2x4096x1 ![0, 0, 0] p slices_S2x4096x8_S2x4096x1_0_0_0) : FVec Ideal S2x4096x1024 .f32) (ix3 k r j)
      = p (ix3 k r 0) := by
    pointwise []
  rw [adL0, byL, mul_at, q, ffL_at]
  simp only [pick0_at]

theorem adL1_at (p : FVec Ideal S2x4096x8 .f32) (h : FVec Ideal S2x4096x1024 .f32) (w1 w3 w2 : FVec Ideal S8x1024x1024 .f32) (k : Fin 2) (r : Fin 4096) (j : Fin 1024) :
    adL1 p h w1 w3 w2 (ix3 k r j) = p (ix3 k r 1) * expertOf (fun l => h (ix3 k r l)) (fun l f => w1 (ix3 1 l f)) (fun l f => w3 (ix3 1 l f)) (fun f l => w2 (ix3 1 f l)) j := by
  have q : (broadcastInDim S2x4096x1024 ![0, 1, 2] bcast_S2x4096x1_S2x4096x1024_0_1_2 (extractStridedSlice S2x4096x1 ![0, 0, 1] p slices_S2x4096x8_S2x4096x1_0_0_1) : FVec Ideal S2x4096x1024 .f32) (ix3 k r j)
      = p (ix3 k r 1) := by
    pointwise []
  rw [adL1, byL, mul_at, q, ffL_at]
  simp only [pick1_at]

theorem adL2_at (p : FVec Ideal S2x4096x8 .f32) (h : FVec Ideal S2x4096x1024 .f32) (w1 w3 w2 : FVec Ideal S8x1024x1024 .f32) (k : Fin 2) (r : Fin 4096) (j : Fin 1024) :
    adL2 p h w1 w3 w2 (ix3 k r j) = p (ix3 k r 2) * expertOf (fun l => h (ix3 k r l)) (fun l f => w1 (ix3 2 l f)) (fun l f => w3 (ix3 2 l f)) (fun f l => w2 (ix3 2 f l)) j := by
  have q : (broadcastInDim S2x4096x1024 ![0, 1, 2] bcast_S2x4096x1_S2x4096x1024_0_1_2 (extractStridedSlice S2x4096x1 ![0, 0, 2] p slices_S2x4096x8_S2x4096x1_0_0_2) : FVec Ideal S2x4096x1024 .f32) (ix3 k r j)
      = p (ix3 k r 2) := by
    pointwise []
  rw [adL2, byL, mul_at, q, ffL_at]
  simp only [pick2_at]

theorem adL3_at (p : FVec Ideal S2x4096x8 .f32) (h : FVec Ideal S2x4096x1024 .f32) (w1 w3 w2 : FVec Ideal S8x1024x1024 .f32) (k : Fin 2) (r : Fin 4096) (j : Fin 1024) :
    adL3 p h w1 w3 w2 (ix3 k r j) = p (ix3 k r 3) * expertOf (fun l => h (ix3 k r l)) (fun l f => w1 (ix3 3 l f)) (fun l f => w3 (ix3 3 l f)) (fun f l => w2 (ix3 3 f l)) j := by
  have q : (broadcastInDim S2x4096x1024 ![0, 1, 2] bcast_S2x4096x1_S2x4096x1024_0_1_2 (extractStridedSlice S2x4096x1 ![0, 0, 3] p slices_S2x4096x8_S2x4096x1_0_0_3) : FVec Ideal S2x4096x1024 .f32) (ix3 k r j)
      = p (ix3 k r 3) := by
    pointwise []
  rw [adL3, byL, mul_at, q, ffL_at]
  simp only [pick3_at]

theorem adL4_at (p : FVec Ideal S2x4096x8 .f32) (h : FVec Ideal S2x4096x1024 .f32) (w1 w3 w2 : FVec Ideal S8x1024x1024 .f32) (k : Fin 2) (r : Fin 4096) (j : Fin 1024) :
    adL4 p h w1 w3 w2 (ix3 k r j) = p (ix3 k r 4) * expertOf (fun l => h (ix3 k r l)) (fun l f => w1 (ix3 4 l f)) (fun l f => w3 (ix3 4 l f)) (fun f l => w2 (ix3 4 f l)) j := by
  have q : (broadcastInDim S2x4096x1024 ![0, 1, 2] bcast_S2x4096x1_S2x4096x1024_0_1_2 (extractStridedSlice S2x4096x1 ![0, 0, 4] p slices_S2x4096x8_S2x4096x1_0_0_4) : FVec Ideal S2x4096x1024 .f32) (ix3 k r j)
      = p (ix3 k r 4) := by
    pointwise []
  rw [adL4, byL, mul_at, q, ffL_at]
  simp only [pick4_at]

theorem adL5_at (p : FVec Ideal S2x4096x8 .f32) (h : FVec Ideal S2x4096x1024 .f32) (w1 w3 w2 : FVec Ideal S8x1024x1024 .f32) (k : Fin 2) (r : Fin 4096) (j : Fin 1024) :
    adL5 p h w1 w3 w2 (ix3 k r j) = p (ix3 k r 5) * expertOf (fun l => h (ix3 k r l)) (fun l f => w1 (ix3 5 l f)) (fun l f => w3 (ix3 5 l f)) (fun f l => w2 (ix3 5 f l)) j := by
  have q : (broadcastInDim S2x4096x1024 ![0, 1, 2] bcast_S2x4096x1_S2x4096x1024_0_1_2 (extractStridedSlice S2x4096x1 ![0, 0, 5] p slices_S2x4096x8_S2x4096x1_0_0_5) : FVec Ideal S2x4096x1024 .f32) (ix3 k r j)
      = p (ix3 k r 5) := by
    pointwise []
  rw [adL5, byL, mul_at, q, ffL_at]
  simp only [pick5_at]

theorem adL6_at (p : FVec Ideal S2x4096x8 .f32) (h : FVec Ideal S2x4096x1024 .f32) (w1 w3 w2 : FVec Ideal S8x1024x1024 .f32) (k : Fin 2) (r : Fin 4096) (j : Fin 1024) :
    adL6 p h w1 w3 w2 (ix3 k r j) = p (ix3 k r 6) * expertOf (fun l => h (ix3 k r l)) (fun l f => w1 (ix3 6 l f)) (fun l f => w3 (ix3 6 l f)) (fun f l => w2 (ix3 6 f l)) j := by
  have q : (broadcastInDim S2x4096x1024 ![0, 1, 2] bcast_S2x4096x1_S2x4096x1024_0_1_2 (extractStridedSlice S2x4096x1 ![0, 0, 6] p slices_S2x4096x8_S2x4096x1_0_0_6) : FVec Ideal S2x4096x1024 .f32) (ix3 k r j)
      = p (ix3 k r 6) := by
    pointwise []
  rw [adL6, byL, mul_at, q, ffL_at]
  simp only [pick6_at]

theorem adL7_at (p : FVec Ideal S2x4096x8 .f32) (h : FVec Ideal S2x4096x1024 .f32) (w1 w3 w2 : FVec Ideal S8x1024x1024 .f32) (k : Fin 2) (r : Fin 4096) (j : Fin 1024) :
    adL7 p h w1 w3 w2 (ix3 k r j) = p (ix3 k r 7) * expertOf (fun l => h (ix3 k r l)) (fun l f => w1 (ix3 7 l f)) (fun l f => w3 (ix3 7 l f)) (fun f l => w2 (ix3 7 f l)) j := by
  have q : (broadcastInDim S2x4096x1024 ![0, 1, 2] bcast_S2x4096x1_S2x4096x1024_0_1_2 (extractStridedSlice S2x4096x1 ![0, 0, 7] p slices_S2x4096x8_S2x4096x1_0_0_7) : FVec Ideal S2x4096x1024 .f32) (ix3 k r j)
      = p (ix3 k r 7) := by
    pointwise []
  rw [adL7, byL, mul_at, q, ffL_at]
  simp only [pick7_at]

theorem mixL_at (p : FVec Ideal S2x4096x8 .f32) (h : FVec Ideal S2x4096x1024 .f32) (w1 w3 w2 : FVec Ideal S8x1024x1024 .f32) (k : Fin 2) (r : Fin 4096) (j : Fin 1024) :
    mixL p h w1 w3 w2 (ix3 k r j) = ∑ e : Fin 8, p (ix3 k r e) * expertOf (fun l => h (ix3 k r l)) (fun l f => w1 (ix3 e l f)) (fun l f => w3 (ix3 e l f)) (fun f l => w2 (ix3 e f l)) j := by
  have z : (broadcastInDim S2x4096x1024 ![] bcast_S_S2x4096x1024 (constant S_ .f32 0x00000000#32) : FVec Ideal S2x4096x1024 .f32) (ix3 k r j) = (0 : EReal) :=
    show Ideal.ofBits .f32 0x00000000#32 = 0 by simp [Ideal.ofBits, Ideal.ieee]
  rw [Fin.sum_univ_eight, mixL, add_at, add_at, add_at, adL5_at, adL6_at, adL7_at, fiveL, add_at, add_at, add_at, add_at, add_at, z, zero_add,
    adL0_at, adL1_at, adL2_at, adL3_at, adL4_at]

theorem mxL_at (x : FVec Ideal S16384x1024 .f32) (md : FVec Ideal S3x6x1024 .f32) (y : FVec Ideal S2x4096x1024 .f32) (k : Fin 2) (r : Fin 4096) (j : Fin 1024) :
    mxL x md y (ix3 k r j) = mixed (x (ix2 ⟨8192 + (4096 * k + r), by omega⟩ j)) (md (ix3 ⟨1 + k, by omega⟩ 5 j)) (y (ix3 k r j)) := by
  rw [mxL, add_at, mul_at, mul_at, onL_at, inL_at, gaL_at]
  rfl

theorem smL_at (u : FVec Ideal S2x4096x1024 .f32) (k : Fin 2) (r : Fin 4096) : smL u (ix2 k r) = ∑ l : Fin 1024, u (ix3 k r l) := by
  pointwise [smL]

theorem mnL_at (u : FVec Ideal S2x4096x1024 .f32) (k : Fin 2) (r : Fin 4096) (n : Fin 1) : mnL u (ix3 k r n) = mean (fun l => u (ix3 k r l)) := by
  have e : (broadcastInDim S2x4096x1 ![0, 1] bcast_S2x4096_S2x4096x1_0_1 (smL u) : FVec Ideal S2x4096x1 .f32) (ix3 k r n) = smL u (ix2 k r) := by
    pointwise []
  rw [mnL, div_at, e, smL_at]
  rfl

theorem spL_at (u : FVec Ideal S2x4096x1 .f32) (k : Fin 2) (r : Fin 4096) (j : Fin 1024) : spL u (ix3 k r j) = u (ix3 k r 0) := by
  pointwise [spL]

theorem rowL_at (v : FVec Ideal S1024 .f32) (k : Fin 2) (r : Fin 4096) (j : Fin 1024) : rowL v (ix3 k r j) = v (ix1 j) := by
  pointwise [rowL]

theorem nmL_at (u : FVec Ideal S2x4096x1024 .f32) (w b : FVec Ideal S1024 .f32) (k : Fin 2) (r : Fin 4096) (j : Fin 1024) :
    nmL u w b (ix3 k r j) = norm (fun l => u (ix3 k r l)) (w (ix1 j)) (b (ix1 j)) j := by
  rw [nmL, add_at, mul_at, mul_at, rowL_at, rowL_at, sub_at, spL_at, spL_at, rsqrt_at, add_at, mnL_at, mnL_at]
  simp only [mul_at, sub_at, spL_at, mnL_at]
  rfl

theorem flL_at (u : FVec Ideal S2x4096x1024 .f32) (i : Fin 8192) (j : Fin 1024) :
    flL u (ix2 i j) = u (ix3 ⟨i / 4096, by omega⟩ ⟨i % 4096, by omega⟩ j) := by
  pointwise [flL]
  blk_ext

/-- The entries of a group's result, where its logits are real. -/
theorem allL_at (x : FVec Ideal S16384x1024 .f32) (md : FVec Ideal S3x6x1024 .f32) (wr : FVec Ideal S1024x8 .f32) (br : FVec Ideal S8 .f32) (w1 w3 w2 : FVec Ideal S8x1024x1024 .f32)
    (w b : FVec Ideal S1024 .f32) (i : Fin 8192) (j : Fin 1024)
    (hL : ∀ e, ∃ a : ℝ, logits (fun l => moved (x (ix2 ⟨8192 + i, by omega⟩ l)) (md (ix3 ⟨1 + i / 4096, by omega⟩ 4 l)) (md (ix3 ⟨1 + i / 4096, by omega⟩ 3 l))) (fun l e => wr (ix2 l e)) (fun e => br (ix1 e)) e = a) :
    allL x md wr br w1 w3 w2 w b (ix2 i j) = Cert.Moe.rowOut (fun l => x (ix2 ⟨8192 + i, by omega⟩ l)) (fun q l => md (ix3 ⟨1 + i / 4096, by omega⟩ q l))
      (fun l e => wr (ix2 l e)) (fun e => br (ix1 e)) (fun e l f => w1 (ix3 e l f)) (fun e l f => w3 (ix3 e l f)) (fun e f l => w2 (ix3 e f l))
      (fun l => w (ix1 l)) (fun l => b (ix1 l)) j := by
  have e : (8192 + (4096 * ((i : ℕ) / 4096) + (i : ℕ) % 4096)) = 8192 + (i : ℕ) := by omega
  have hm : ∀ l, mvL x md (ix3 ⟨i / 4096, by omega⟩ ⟨i % 4096, by omega⟩ l) = moved (x (ix2 ⟨8192 + i, by omega⟩ l)) (md (ix3 ⟨1 + i / 4096, by omega⟩ 4 l)) (md (ix3 ⟨1 + i / 4096, by omega⟩ 3 l)) := fun l => by
    rw [mvL_at]
    simp only [e]
  have hl : ∀ q, lgL (mvL x md) wr br (ix3 ⟨i / 4096, by omega⟩ ⟨i % 4096, by omega⟩ q)
      = logits (fun l => moved (x (ix2 ⟨8192 + i, by omega⟩ l)) (md (ix3 ⟨1 + i / 4096, by omega⟩ 4 l)) (md (ix3 ⟨1 + i / 4096, by omega⟩ 3 l))) (fun l e => wr (ix2 l e)) (fun e => br (ix1 e)) q := fun q => by
    rw [lgL_at]
    simp only [hm]
  have hc := cbL_at (lgL (mvL x md) wr br) ⟨i / 4096, by omega⟩ ⟨i % 4096, by omega⟩ fun q => by rw [hl]; exact hL q
  rw [allL, flL_at, nmL_at, Cert.Moe.rowOut, resL]
  simp only [mxL_at, mixL_at, hc, hl, hm, e, mixture]

/-! ## The reference's values -/

section Values

open Cert.Reference3Ideal.Value

variable (V0 : Valuation τ sig (Elt Ideal))

def bX : FVec Ideal S16384x1024 .f32 := V0 (Proc.devRef .tc main_arg0)
def bM : FVec Ideal S3x6x1024 .f32 := V0 (Proc.devRef .tc main_arg1)
def bR : FVec Ideal S1024x8 .f32 := V0 (Proc.devRef .tc main_arg2)
def bB : FVec Ideal S8 .f32 := V0 (Proc.devRef .tc main_arg3)
def b1 : FVec Ideal S8x1024x1024 .f32 := V0 (Proc.devRef .tc main_arg4)
def b3 : FVec Ideal S8x1024x1024 .f32 := V0 (Proc.devRef .tc main_arg5)
def b2 : FVec Ideal S8x1024x1024 .f32 := V0 (Proc.devRef .tc main_arg6)
def bG : FVec Ideal S1024 .f32 := V0 (Proc.devRef .tc main_arg7)
def bO : FVec Ideal S1024 .f32 := V0 (Proc.devRef .tc main_arg8)

theorem r0 : res_main_v0 V0 = mods (bM V0) := rfl

theorem r_v2 : res_main_v2 V0 = inC (bX V0) := by
  unfold res_main_v2
  rfl

theorem r_v4 : res_main_v4 V0 = sixC (bM V0) := by
  unfold res_main_v4
  rw [r0]
  rfl

theorem r_v20 : res_main_v20 V0 = mvC (bX V0) (bM V0) := by
  unfold res_main_v20
  rw [r_v2, r_v4]
  rfl

/-- The group's rows, modulated. -/
def hC : FVec Ideal S32x256x1024 .f32 := mvC (bX V0) (bM V0)

/-- Its logits. -/
def qC : FVec Ideal S32x256x8 .f32 := lgC (hC V0) (bR V0) (bB V0)

theorem r_v24 : res_main_v24 V0 = qC V0 := by
  unfold res_main_v24
  rw [r_v20]
  rfl

theorem r_values : res_main_values V0 = vlC (qC V0) := by
  unfold res_main_values
  rw [r_v24]
  rfl

theorem r_v31 : res_main_v31 V0 = exC (vlC (qC V0)) := by
  unfold res_main_v31
  rw [r_values]
  rfl

theorem r_v40 : res_main_v40 V0 = cbC (qC V0) := by
  unfold res_main_v40
  rw [r_v31, r_v24]
  rfl

theorem r_v49 : res_main_v49 V0 = upC (hC V0) (pick0 (b1 V0)) := by
  unfold res_main_v49
  rw [r_v20]
  rfl

theorem r_v64 : res_main_v64 V0 = upC (hC V0) (pick1 (b1 V0)) := by
  unfold res_main_v64
  rw [r_v20]
  rfl

theorem r_v79 : res_main_v79 V0 = upC (hC V0) (pick2 (b1 V0)) := by
  unfold res_main_v79
  rw [r_v20]
  rfl

theorem r_v94 : res_main_v94 V0 = upC (hC V0) (pick3 (b1 V0)) := by
  unfold res_main_v94
  rw [r_v20]
  rfl

theorem r_v109 : res_main_v109 V0 = upC (hC V0) (pick4 (b1 V0)) := by
  unfold res_main_v109
  rw [r_v20]
  rfl

theorem r_v124 : res_main_v124 V0 = upC (hC V0) (pick5 (b1 V0)) := by
  unfold res_main_v124
  rw [r_v20]
  rfl

theorem r_v139 : res_main_v139 V0 = upC (hC V0) (pick6 (b1 V0)) := by
  unfold res_main_v139
  rw [r_v20]
  rfl

theorem r_v154 : res_main_v154 V0 = upC (hC V0) (pick7 (b1 V0)) := by
  unfold res_main_v154
  rw [r_v20]
  rfl

theorem r_v116 : res_main_v116 V0 = fiveC (cbC (qC V0)) (hC V0) (b1 V0) (b3 V0) (b2 V0) := by
  unfold res_main_v116
  rw [r_v40, r_v49, r_v64, r_v79, r_v94, r_v109, r_v20]
  rfl

theorem r_v165 : res_main_v165 V0 = resC (bX V0) (bM V0) (bR V0) (bB V0) (b1 V0) (b3 V0) (b2 V0) := by
  unfold res_main_v165
  rw [r_v116, r_v40, r_v124, r_v139, r_v154, r_v20, r_v2, r_v4]
  rfl

theorem r_v169 : res_main_v169 V0 = mnC (resC (bX V0) (bM V0) (bR V0) (bB V0) (b1 V0) (b3 V0) (b2 V0)) := by
  unfold res_main_v169
  rw [r_v165]
  rfl

theorem r_v171 : res_main_v171 V0 = subf (resC (bX V0) (bM V0) (bR V0) (bB V0) (b1 V0) (b3 V0) (b2 V0)) (spC (mnC (resC (bX V0) (bM V0) (bR V0) (bB V0) (b1 V0) (b3 V0) (b2 V0)))) := by
  unfold res_main_v171
  rw [r_v169, r_v165]
  rfl

/-- The group's result. -/
theorem resultC :
    flC (addf (mulf (mulf (subf (res_main_v165 V0) (spC (res_main_v169 V0)))
      (spC (Host.rsqrt (addf (Host.divf (broadcastInDim S32x256x1 ![0, 1] bcast_S32x256_S32x256x1_0_1 (smC (mulf (res_main_v171 V0) (res_main_v171 V0))))
        (broadcastInDim S32x256x1 ![] bcast_S_S32x256x1 (constant S_ .f32 0x44800000#32))) epsC)))) (rowC (bG V0))) (rowC (bO V0)))
      = allC (bX V0) (bM V0) (bR V0) (bB V0) (b1 V0) (b3 V0) (b2 V0) (bG V0) (bO V0) := by
  rw [r_v171, r_v169, r_v165]
  rfl

theorem r_v191 : res_main_v191 V0 = inL (bX V0) := by
  unfold res_main_v191
  rfl

theorem r_v192 : res_main_v192 V0 = sixL (bM V0) := by
  unfold res_main_v192
  rw [r0]
  rfl

theorem r_v206 : res_main_v206 V0 = mvL (bX V0) (bM V0) := by
  unfold res_main_v206
  rw [r_v191, r_v192]
  rfl

/-- The group's rows, modulated. -/
def hL : FVec Ideal S2x4096x1024 .f32 := mvL (bX V0) (bM V0)

/-- Its logits. -/
def qL : FVec Ideal S2x4096x8 .f32 := lgL (hL V0) (bR V0) (bB V0)

theorem r_v210 : res_main_v210 V0 = qL V0 := by
  unfold res_main_v210
  rw [r_v206]
  rfl

theorem r_values_13 : res_main_values_13 V0 = vlL (qL V0) := by
  unfold res_main_values_13
  rw [r_v210]
  rfl

theorem r_v217 : res_main_v217 V0 = exL (vlL (qL V0)) := by
  unfold res_main_v217
  rw [r_values_13]
  rfl

theorem r_v226 : res_main_v226 V0 = cbL (qL V0) := by
  unfold res_main_v226
  rw [r_v217, r_v210]
  rfl

theorem r_v235 : res_main_v235 V0 = upL (hL V0) (pick0 (b1 V0)) := by
  unfold res_main_v235
  rw [r_v206]
  rfl

theorem r_v250 : res_main_v250 V0 = upL (hL V0) (pick1 (b1 V0)) := by
  unfold res_main_v250
  rw [r_v206]
  rfl

theorem r_v265 : res_main_v265 V0 = upL (hL V0) (pick2 (b1 V0)) := by
  unfold res_main_v265
  rw [r_v206]
  rfl

theorem r_v280 : res_main_v280 V0 = upL (hL V0) (pick3 (b1 V0)) := by
  unfold res_main_v280
  rw [r_v206]
  rfl

theorem r_v295 : res_main_v295 V0 = upL (hL V0) (pick4 (b1 V0)) := by
  unfold res_main_v295
  rw [r_v206]
  rfl

theorem r_v310 : res_main_v310 V0 = upL (hL V0) (pick5 (b1 V0)) := by
  unfold res_main_v310
  rw [r_v206]
  rfl

theorem r_v325 : res_main_v325 V0 = upL (hL V0) (pick6 (b1 V0)) := by
  unfold res_main_v325
  rw [r_v206]
  rfl

theorem r_v340 : res_main_v340 V0 = upL (hL V0) (pick7 (b1 V0)) := by
  unfold res_main_v340
  rw [r_v206]
  rfl

theorem r_v302 : res_main_v302 V0 = fiveL (cbL (qL V0)) (hL V0) (b1 V0) (b3 V0) (b2 V0) := by
  unfold res_main_v302
  rw [r_v226, r_v235, r_v250, r_v265, r_v280, r_v295, r_v206]
  rfl

theorem r_v350 : res_main_v350 V0 = resL (bX V0) (bM V0) (bR V0) (bB V0) (b1 V0) (b3 V0) (b2 V0) := by
  unfold res_main_v350
  rw [r_v302, r_v226, r_v310, r_v325, r_v340, r_v206, r_v191, r_v192]
  rfl

theorem r_v354 : res_main_v354 V0 = mnL (resL (bX V0) (bM V0) (bR V0) (bB V0) (b1 V0) (b3 V0) (b2 V0)) := by
  unfold res_main_v354
  rw [r_v350]
  rfl

theorem r_v356 : res_main_v356 V0 = subf (resL (bX V0) (bM V0) (bR V0) (bB V0) (b1 V0) (b3 V0) (b2 V0)) (spL (mnL (resL (bX V0) (bM V0) (bR V0) (bB V0) (b1 V0) (b3 V0) (b2 V0)))) := by
  unfold res_main_v356
  rw [r_v354, r_v350]
  rfl

/-- The group's result. -/
theorem resultL :
    flL (addf (mulf (mulf (subf (res_main_v350 V0) (spL (res_main_v354 V0)))
      (spL (Host.rsqrt (addf (Host.divf (broadcastInDim S2x4096x1 ![0, 1] bcast_S2x4096_S2x4096x1_0_1 (smL (mulf (res_main_v356 V0) (res_main_v356 V0))))
        (broadcastInDim S2x4096x1 ![] bcast_S_S2x4096x1 (constant S_ .f32 0x44800000#32))) epsL)))) (rowL (bG V0))) (rowL (bO V0)))
      = allL (bX V0) (bM V0) (bR V0) (bB V0) (b1 V0) (b3 V0) (b2 V0) (bG V0) (bO V0) := by
  rw [r_v356, r_v354, r_v350]
  rfl

end Values

/-- Equal arrays have equal results. -/
theorem allC_congr {x x' : FVec Ideal S16384x1024 .f32} {md md' : FVec Ideal S3x6x1024 .f32} {wr wr' : FVec Ideal S1024x8 .f32} {br br' : FVec Ideal S8 .f32}
    {w1 w1' w3 w3' w2 w2' : FVec Ideal S8x1024x1024 .f32} {w w' b b' : FVec Ideal S1024 .f32} (e0 : x = x') (e1 : md = md') (e2 : wr = wr') (e3 : br = br')
    (e4 : w1 = w1') (e5 : w3 = w3') (e6 : w2 = w2') (e7 : w = w') (e8 : b = b') :
    allC x md wr br w1 w3 w2 w b = allC x' md' wr' br' w1' w3' w2' w' b' := by
  rw [e0, e1, e2, e3, e4, e5, e6, e7, e8]

/-- Equal arrays have equal results. -/
theorem allL_congr {x x' : FVec Ideal S16384x1024 .f32} {md md' : FVec Ideal S3x6x1024 .f32} {wr wr' : FVec Ideal S1024x8 .f32} {br br' : FVec Ideal S8 .f32}
    {w1 w1' w3 w3' w2 w2' : FVec Ideal S8x1024x1024 .f32} {w w' b b' : FVec Ideal S1024 .f32} (e0 : x = x') (e1 : md = md') (e2 : wr = wr') (e3 : br = br')
    (e4 : w1 = w1') (e5 : w3 = w3') (e6 : w2 = w2') (e7 : w = w') (e8 : b = b') :
    allL x md wr br w1 w3 w2 w b = allL x' md' wr' br' w1' w3' w2' w' b' := by
  rw [e0, e1, e2, e3, e4, e5, e6, e7, e8]

end Cert.Reference3Ideal.Moe
-- ==== Proof.MoeFinal.lean ====
/- The experts' kernel against its reference: its blocks in the reference's terms, the scratch along a tile's points, and
   the two arrays it leaves. -/
module

public import proofs.«01_k».proof.Proof.AttnFinal
public import proofs.«01_k».proof.Proof.MoeTrack
public import proofs.«01_k».proof.Proof.MoeRoute
public import proofs.«01_k».proof.Proof.MoeRef
public import proofs.«01_k».proof.Pre_finite_router

@[expose] public section

set_option maxRecDepth 16384

noncomputable section

namespace Cert.Kernel3Ideal.MoeFinal

open Cert.Ffn Cert.Moe Cert.Kernel3Ideal.MoeRoute Cert.Kernel3Ideal.MoeTrack
open Idealize.ShloMosaic Idealize.ShloMosaic.TcCoe Idealize.SL.Sem
open Cert.Kernel3Ideal Cert.Kernel3Ideal.Gen

theorem N_eq : cfg0.N = 128 := by decide +kernel

/-- Which block each window holds, at every point. -/
theorem idx_all : ∀ t : Fin cfg0.N, win0_0.index t = ![t.val / 8, 0]
    ∧ win0_1.index t = ![if t.val / 8 < 8 then 0 else 1 + (t.val / 8 - 8) / 4, 0, 0]
    ∧ win0_2.index t = ![0, 0] ∧ win0_3.index t = ![0, 0]
    ∧ win0_4.index t = ![t.val % 8, 0, 0] ∧ win0_5.index t = ![t.val % 8, 0, 0] ∧ win0_6.index t = ![t.val % 8, 0, 0]
    ∧ win0_7.index t = ![0, 0] ∧ win0_8.index t = ![0, 0]
    ∧ win0_9.index t = ![min (t.val / 8) 7, 0] ∧ win0_10.index t = ![t.val / 8 - 8, 0] :=
  (by decide +kernel : ∀ t : Fin grid0.N, _)

/-- A point's expert, and the two conditions on it. -/
theorem point_all : ∀ t : Fin cfg0.N, (grid0.coords t 1).val = t.val % 8
    ∧ (Cert.Kernel3Ideal.Moe.cond1 (grid0.coords t) = 1#1 ↔ t.val = 0)
    ∧ (Cert.Kernel3Ideal.Moe.cond2 (grid0.coords t) = 1#1 ↔ t.val % 8 = 0) :=
  (by decide +kernel : ∀ t : Fin grid0.N, _)

/-- Where the results are written back. -/
theorem flush_all : ∀ t : Fin cfg0.N, (win0_9.flush t = true → (t.val ≤ 63 ∧ t.val % 8 = 7) ∨ t.val = 127)
    ∧ (win0_10.flush t = true → 64 ≤ t.val ∧ t.val % 8 = 7) :=
  (by decide +kernel : ∀ t : Fin grid0.N, _)

variable (m : (ℓ : Loc nD τ sig) → Buf (Elt Ideal) ℓ)

/-- The rows. -/
def aX (c : Dev nD) : FVec Ideal S16384x1024 .f32 := m ((c.tc : Thread nD τ).loc main_arg0)
/-- The modulation rows. -/
def aM (c : Dev nD) : FVec Ideal S3x6x1024 .f32 := m ((c.tc : Thread nD τ).loc main_arg1)
/-- The router's weights. -/
def aR (c : Dev nD) : FVec Ideal S1024x8 .f32 := m ((c.tc : Thread nD τ).loc main_arg2)
/-- The router's offsets. -/
def aB (c : Dev nD) : FVec Ideal S8 .f32 := m ((c.tc : Thread nD τ).loc main_arg3)
/-- The experts' weights. -/
def a1 (c : Dev nD) : FVec Ideal S8x1024x1024 .f32 := m ((c.tc : Thread nD τ).loc main_arg4)
def a3 (c : Dev nD) : FVec Ideal S8x1024x1024 .f32 := m ((c.tc : Thread nD τ).loc main_arg5)
def a2 (c : Dev nD) : FVec Ideal S8x1024x1024 .f32 := m ((c.tc : Thread nD τ).loc main_arg6)
/-- The layer norm's factors. -/
def aG (c : Dev nD) : FVec Ideal S1024 .f32 := m ((c.tc : Thread nD τ).loc main_arg7)
/-- The layer norm's offsets. -/
def aO (c : Dev nD) : FVec Ideal S1024 .f32 := m ((c.tc : Thread nD τ).loc main_arg8)

/-- A point's block of a window, at its literal shape. -/
def wX (c : Dev nD) (t : Fin cfg0.N) : FVec Ideal S1024x1024 .f32 := iblk m c 0 t
def wM (c : Dev nD) (t : Fin cfg0.N) : FVec Ideal S1x6x1024 .f32 := iblk m c 1 t
def wR (c : Dev nD) (t : Fin cfg0.N) : FVec Ideal S8x1024 .f32 := iblk m c 2 t
def wB (c : Dev nD) (t : Fin cfg0.N) : FVec Ideal S8x1 .f32 := iblk m c 3 t
def w1 (c : Dev nD) (t : Fin cfg0.N) : FVec Ideal S1x1024x1024 .bf16 := iblk m c 4 t
def w3 (c : Dev nD) (t : Fin cfg0.N) : FVec Ideal S1x1024x1024 .bf16 := iblk m c 5 t
def w2 (c : Dev nD) (t : Fin cfg0.N) : FVec Ideal S1x1024x1024 .bf16 := iblk m c 6 t
def wG (c : Dev nD) (t : Fin cfg0.N) : FVec Ideal S1x1024 .f32 := iblk m c 7 t
def wO (c : Dev nD) (t : Fin cfg0.N) : FVec Ideal S1x1024 .f32 := iblk m c 8 t

theorem x_at (c : Dev nD) (t : Fin cfg0.N) (r j : Fin 1024) (hb) : wX m c t (ix2 r j) = aX m c (ix2 ⟨1024 * (t.val / 8) + r, hb⟩ j) := by
  unfold wX aX
  blk_ext [iblk, V, (idx_all t).1]

theorem m_at (c : Dev nD) (t : Fin cfg0.N) (u : Fin 1) (q : Fin 6) (j : Fin 1024) (hb) :
    wM m c t (ix3 u q j) = aM m c (ix3 ⟨if t.val / 8 < 8 then 0 else 1 + (t.val / 8 - 8) / 4, hb⟩ q j) := by
  unfold wM aM
  blk_ext [iblk, V, (idx_all t).2.1]

theorem r_at (c : Dev nD) (t : Fin cfg0.N) (e : Fin 8) (l : Fin 1024) : wR m c t (ix2 e l) = aR m c (ix2 l e) := by
  unfold wR aR
  blk_point [iblk, V, (idx_all t).2.2.1]

theorem b_at (c : Dev nD) (t : Fin cfg0.N) (e : Fin 8) (u : Fin 1) : wB m c t (ix2 e u) = aB m c (ix1 e) := by
  unfold wB aB
  blk_point [iblk, V, (idx_all t).2.2.2.1]

theorem w1_at (c : Dev nD) (t : Fin cfg0.N) (u : Fin 1) (l f : Fin 1024) (e : Fin 8) (he : e.val = t.val % 8) : w1 m c t (ix3 u l f) = a1 m c (ix3 e l f) := by
  unfold w1 a1
  blk_ext [iblk, V, (idx_all t).2.2.2.2.1]

theorem w3_at (c : Dev nD) (t : Fin cfg0.N) (u : Fin 1) (l f : Fin 1024) (e : Fin 8) (he : e.val = t.val % 8) : w3 m c t (ix3 u l f) = a3 m c (ix3 e l f) := by
  unfold w3 a3
  blk_ext [iblk, V, (idx_all t).2.2.2.2.2.1]

theorem w2_at (c : Dev nD) (t : Fin cfg0.N) (u : Fin 1) (l f : Fin 1024) (e : Fin 8) (he : e.val = t.val % 8) : w2 m c t (ix3 u l f) = a2 m c (ix3 e l f) := by
  unfold w2 a2
  blk_ext [iblk, V, (idx_all t).2.2.2.2.2.2.1]

theorem g_at (c : Dev nD) (t : Fin cfg0.N) (u : Fin 1) (j : Fin 1024) : wG m c t (ix2 u j) = aG m c (ix1 j) := by
  unfold wG aG
  blk_point [iblk, V, (idx_all t).2.2.2.2.2.2.2.1]

theorem o_at (c : Dev nD) (t : Fin cfg0.N) (u : Fin 1) (j : Fin 1024) : wO m c t (ix2 u j) = aO m c (ix1 j) := by
  unfold wO aO
  blk_point [iblk, V, (idx_all t).2.2.2.2.2.2.2.2.1]

/-! ## The points of a tile -/

/-- The points of a tile hold the same rows, -/
theorem x_tile (c : Dev nD) (t t' : Fin cfg0.N) (h : t.val / 8 = t'.val / 8) : wX m c t = wX m c t' := by
  have ht : t.val < 128 := N_eq ▸ t.isLt
  funext i
  obtain ⟨r, j, rfl⟩ : ∃ (r j : Fin 1024), i = ix2 r j := ⟨i 0, i 1, eq_ix2 i⟩
  rw [x_at m c t r j (by omega), x_at m c t' r j (by omega)]
  simp only [h]

/-- the same modulation, -/
theorem m_tile (c : Dev nD) (t t' : Fin cfg0.N) (h : t.val / 8 = t'.val / 8) : wM m c t = wM m c t' := by
  have ht : t.val < 128 := N_eq ▸ t.isLt
  funext i
  obtain ⟨u, q, j, rfl⟩ : ∃ (u : Fin 1) (q : Fin 6) (j : Fin 1024), i = ix3 u q j := ⟨i 0, i 1, i 2, eq_ix3 i⟩
  rw [m_at m c t u q j (by split_ifs <;> omega), m_at m c t' u q j (by split_ifs <;> omega)]
  simp only [h]

/-- and the router's weights never change. -/
theorem r_tile (c : Dev nD) (t t' : Fin cfg0.N) : wR m c t = wR m c t' := by
  funext i
  obtain ⟨r, j, rfl⟩ : ∃ (r : Fin 8) (j : Fin 1024), i = ix2 r j := ⟨i 0, i 1, eq_ix2 i⟩
  rw [r_at, r_at]

theorem b_tile (c : Dev nD) (t t' : Fin cfg0.N) : wB m c t = wB m c t' := by
  funext i
  obtain ⟨r, j, rfl⟩ : ∃ (r : Fin 8) (j : Fin 1), i = ix2 r j := ⟨i 0, i 1, eq_ix2 i⟩
  rw [b_at, b_at]

/-- What the router reads is finite. -/
structure Finite (c : Dev nD) : Prop where
  x : ∀ i, ∃ r : ℝ, (aX m c i : EReal) = r
  md : ∀ i, ∃ r : ℝ, (aM m c i : EReal) = r
  w : ∀ i, ∃ r : ℝ, (aR m c i : EReal) = r
  b : ∀ i, ∃ r : ℝ, (aB m c i : EReal) = r

theorem moved_real {x s a : EReal} (hx : ∃ r : ℝ, x = r) (hs : ∃ r : ℝ, s = r) (ha : ∃ r : ℝ, a = r) : ∃ r : ℝ, moved x s a = r := by
  obtain ⟨x, rfl⟩ := hx
  obtain ⟨s, rfl⟩ := hs
  obtain ⟨a, rfl⟩ := ha
  refine ⟨x * (1 + s) + a, ?_⟩
  rw [moved, Ideal.ofBits_one_f32]
  push_cast
  rfl

variable {m}

theorem Finite.blocks {c : Dev nD} (H : Finite m c) (t : Fin cfg0.N) : Real3 (wX m c t) (wM m c t) (wR m c t) (wB m c t) where
  h r l := by
    have ht : t.val < 128 := N_eq ▸ t.isLt
    rw [rowH, x_at m c t r l (by omega), m_at m c t 0 4 l (by split_ifs <;> omega), m_at m c t 0 3 l (by split_ifs <;> omega)]
    exact moved_real (H.x _) (H.md _) (H.md _)
  w e l := by rw [r_at]; exact H.w _
  b e := by rw [b_at]; exact H.b _

/-- The scratch after a point. -/
theorem routed {c : Dev nD} (H : Finite m c) : ∀ (n : ℕ) (h : n < cfg0.N),
    Routed (wX m c ⟨n, h⟩) (wM m c ⟨n, h⟩) (wR m c ⟨n, h⟩) (wB m c ⟨n, h⟩) (fun e l f => a1 m c (ix3 e l f)) (fun e l f => a3 m c (ix3 e l f))
      (fun e f l => a2 m c (ix3 e f l)) (n % 8 + 1) (scr m c (n + 1))
  | 0, h => by
    have P := point_all ⟨0, h⟩
    have E := scr_succ m c ⟨0, h⟩
    dsimp only at E
    rw [E]
    exact routed_first (H.blocks ⟨0, h⟩) (grid0.coords ⟨0, h⟩) P.1 (P.2.2.mpr rfl) _ (Cert.Kernel3Ideal.Moe.setup_first _ _ (P.2.1.mpr rfl)) (w1 m c ⟨0, h⟩) (w3 m c ⟨0, h⟩) (w2 m c ⟨0, h⟩)
      (fun l f => w1_at m c _ 0 l f 0 rfl) (fun l f => w3_at m c _ 0 l f 0 rfl) (fun f l => w2_at m c _ 0 f l 0 rfl)
  | n + 1, h => by
    have I := routed H n (Nat.lt_of_succ_lt h)
    have P := point_all ⟨n + 1, h⟩
    have E := scr_succ m c ⟨n + 1, h⟩
    have c1 : ¬ Cert.Kernel3Ideal.Moe.cond1 (grid0.coords ⟨n + 1, h⟩) = 1#1 := fun a => Nat.succ_ne_zero n (P.2.1.mp a)
    dsimp only at E P
    rw [E]
    by_cases z : (n + 1) % 8 = 0
    · rw [z]
      exact routed_first (H.blocks ⟨n + 1, h⟩) (grid0.coords ⟨n + 1, h⟩) (P.1.trans z) (P.2.2.mpr z) _
        ((Cert.Kernel3Ideal.Moe.setup_later _ _ c1).trans I.earl) (w1 m c ⟨n + 1, h⟩) (w3 m c ⟨n + 1, h⟩) (w2 m c ⟨n + 1, h⟩)
        (fun l f => w1_at m c _ 0 l f 0 z.symm) (fun l f => w3_at m c _ 0 l f 0 z.symm) (fun f l => w2_at m c _ 0 f l 0 z.symm)
    · have d : n / 8 = (n + 1) / 8 := by omega
      have q : n % 8 + 1 = (n + 1) % 8 := by omega
      rw [x_tile m c ⟨n, Nat.lt_of_succ_lt h⟩ ⟨n + 1, h⟩ d, m_tile m c ⟨n, Nat.lt_of_succ_lt h⟩ ⟨n + 1, h⟩ d,
        r_tile m c ⟨n, Nat.lt_of_succ_lt h⟩ ⟨n + 1, h⟩, b_tile m c ⟨n, Nat.lt_of_succ_lt h⟩ ⟨n + 1, h⟩, q] at I
      have b : (n + 1) % 8 < 8 := Nat.mod_lt _ (by decide)
      exact routed_next (H.blocks ⟨n + 1, h⟩) (grid0.coords ⟨n + 1, h⟩) ⟨(n + 1) % 8, b⟩ P.1 c1 (fun a => z (P.2.2.mp a)) _ I
        (w1 m c ⟨n + 1, h⟩) (w3 m c ⟨n + 1, h⟩) (w2 m c ⟨n + 1, h⟩)
        (fun l f => w1_at m c _ 0 l f _ rfl) (fun l f => w3_at m c _ 0 l f _ rfl) (fun f l => w2_at m c _ 0 f l _ rfl)

/-- What a tile's last point writes, entry by entry. -/
theorem out_at {c : Dev nD} (H : Finite m c) (t : Fin cfg0.N) (h7 : t.val % 8 = 7) (r j : Fin 1024) (hb hg) :
    outAt m c t (ix2 r j) = Cert.Moe.rowOut (fun l => aX m c (ix2 ⟨1024 * (t.val / 8) + r, hb⟩ l))
      (fun q l => aM m c (ix3 ⟨if t.val / 8 < 8 then 0 else 1 + (t.val / 8 - 8) / 4, hg⟩ q l))
      (fun l e => aR m c (ix2 l e)) (fun e => aB m c (ix1 e)) (fun e l f => a1 m c (ix3 e l f)) (fun e l f => a3 m c (ix3 e l f))
      (fun e f l => a2 m c (ix3 e f l)) (fun l => aG m c (ix1 l)) (fun l => aO m c (ix1 l)) j := by
  have I := routed H t.val t.isLt
  rw [h7] at I
  refine (yout_at (wX m c t) (wM m c t) (wR m c t) (wB m c t) _ _ _ (scr m c (t.val + 1)) I (wG m c t) (wO m c t) r j).trans ?_
  have hx : ∀ l, wX m c t (ix2 r l) = aX m c (ix2 ⟨1024 * (t.val / 8) + r, hb⟩ l) := fun l => x_at m c t r l hb
  have hm : ∀ q l, wM m c t (ix3 0 q l) = aM m c (ix3 ⟨if t.val / 8 < 8 then 0 else 1 + (t.val / 8 - 8) / 4, hg⟩ q l) := fun q l => m_at m c t 0 q l hg
  simp only [hx, hm, r_at, b_at, g_at, o_at]

/-- A row's logits are real. -/
theorem logits_real {c : Dev nD} (H : Finite m c) (i : Fin 16384) (k : Fin 3) (e : Fin 8) :
    ∃ a : ℝ, logits (fun l => moved (aX m c (ix2 i l)) (aM m c (ix3 k 4 l)) (aM m c (ix3 k 3 l))) (fun l e => aR m c (ix2 l e)) (fun e => aB m c (ix1 e)) e = a := by
  have hp : ∀ l, ∃ a : ℝ, (aR m c (ix2 l e) : EReal) * moved (aX m c (ix2 i l)) (aM m c (ix3 k 4 l)) (aM m c (ix3 k 3 l)) = a := fun l => by
    obtain ⟨u, hu⟩ := H.w (ix2 l e)
    obtain ⟨v, hv⟩ := moved_real (H.x (ix2 i l)) (H.md (ix3 k 4 l)) (H.md (ix3 k 3 l))
    exact ⟨u * v, by rw [hu, hv, EReal.coe_mul]⟩
  obtain ⟨s, hs⟩ := real_sum hp
  obtain ⟨b, hb⟩ := H.b (ix1 e)
  refine ⟨s + b, ?_⟩
  rw [EReal.coe_add, ← hs, ← hb]
  rw [logits, logit]
  simp only [mul_comm]

variable (m)

/-- The reference's context rows of the kernel's arrays, -/
def wantC (c : Dev nD) : FVec Ideal S8192x1024 .f32 :=
  Cert.Reference3Ideal.Moe.allC (aX m c) (aM m c) (aR m c) (aB m c) (a1 m c) (a3 m c) (a2 m c) (aG m c) (aO m c)
/-- and its latent rows. -/
def wantL (c : Dev nD) : FVec Ideal S8192x1024 .f32 :=
  Cert.Reference3Ideal.Moe.allL (aX m c) (aM m c) (aR m c) (aB m c) (a1 m c) (a3 m c) (a2 m c) (aG m c) (aO m c)

variable {m}

theorem pointC {c : Dev nD} (H : Finite m c) (t : Fin cfg0.N) (h7 : t.val % 8 = 7) (h63 : t.val ≤ 63) (r j : Fin 1024) (hb) :
    outAt m c t (ix2 r j) = wantC m c (ix2 ⟨1024 * (t.val / 8) + r, hb⟩ j) := by
  rw [out_at H t h7 r j (by omega) (by split_ifs <;> omega), wantC, Cert.Reference3Ideal.Moe.allC_at]
  · have e : (if t.val / 8 < 8 then 0 else 1 + (t.val / 8 - 8) / 4) = 0 := if_pos (by omega)
    simp only [e]
    rfl
  · exact fun e => logits_real H _ _ e

theorem pointL {c : Dev nD} (H : Finite m c) (t : Fin cfg0.N) (h7 : t.val % 8 = 7) (h64 : 64 ≤ t.val) (r j : Fin 1024) (hb) :
    outAt m c t (ix2 r j) = wantL m c (ix2 ⟨1024 * (t.val / 8 - 8) + r, hb⟩ j) := by
  have ht : t.val < 128 := N_eq ▸ t.isLt
  rw [out_at H t h7 r j (by omega) (by split_ifs <;> omega), wantL, Cert.Reference3Ideal.Moe.allL_at]
  · have e : (if t.val / 8 < 8 then 0 else 1 + (t.val / 8 - 8) / 4) = 1 + (1024 * (t.val / 8 - 8) + (r : ℕ)) / 4096 := by
      rw [if_neg (by omega)]; omega
    have e' : 1024 * (t.val / 8) + (r : ℕ) = 8192 + (1024 * (t.val / 8 - 8) + (r : ℕ)) := by omega
    simp only [e, e']
  · exact fun e => logits_real H _ _ e

/-- Where a block of a result lies. -/
theorem placeC (t : Fin cfg0.N) (r j : Fin 1024) (hb) (G : FVec Ideal S8192x1024 .f32) :
    G ((win0_9.blk t).view.emb (show S1024x1024.Idx from ix2 r j)) = G (ix2 ⟨1024 * min (t.val / 8) 7 + r, hb⟩ j) := by
  blk_ext [(idx_all t).2.2.2.2.2.2.2.2.2.1]

theorem placeL (t : Fin cfg0.N) (r j : Fin 1024) (hb) (G : FVec Ideal S8192x1024 .f32) :
    G ((win0_10.blk t).view.emb (show S1024x1024.Idx from ix2 r j)) = G (ix2 ⟨1024 * (t.val / 8 - 8) + r, hb⟩ j) := by
  blk_ext [(idx_all t).2.2.2.2.2.2.2.2.2.2]

/-- The first array that the kernel leaves is the reference's, -/
theorem finalC {c : Dev nD} (H : Finite m c) : (dats m 0 c).arrAt 9 cfg0.N = wantC m c := by
  refine (dats m 0 c).arrAt_eq_of_covers 9 _ (by decide +kernel) fun t hfl y => ?_
  have hf := (flush_all t).1 hfl
  blk_simp
  rw [after0_9]
  have ht : t.val < 128 := N_eq ▸ t.isLt
  obtain ⟨r, j, rfl⟩ : ∃ (r j : Fin 1024), y = (show S1024x1024.Idx from ix2 r j) :=
    ⟨(show S1024x1024.Idx from y) 0, (show S1024x1024.Idx from y) 1, eq_ix2 (show S1024x1024.Idx from y)⟩
  refine Eq.trans ?_ (placeC t r j (by omega) _).symm
  rcases hf with ⟨a, b⟩ | a
  · rw [if_pos a]
    refine (pointC H t b a r j (by omega)).trans ?_
    have e : min (t.val / 8) 7 = t.val / 8 := by omega
    simp only [e]
  · rw [if_neg (by omega)]
    refine (pointC H last9 (by decide) (by decide) r j (by show 1024 * (63 / 8) + (r : ℕ) < 8192; omega)).trans ?_
    have e : min (t.val / 8) 7 = last9.val / 8 := by show min (t.val / 8) 7 = 63 / 8; omega
    simp only [e]

/-- and the second. -/
theorem finalL {c : Dev nD} (H : Finite m c) : (dats m 0 c).arrAt 10 cfg0.N = wantL m c := by
  refine (dats m 0 c).arrAt_eq_of_covers 10 _ (by decide +kernel) fun t hfl y => ?_
  have hf := (flush_all t).2 hfl
  blk_simp
  rw [after0_10]
  have ht : t.val < 128 := N_eq ▸ t.isLt
  obtain ⟨r, j, rfl⟩ : ∃ (r j : Fin 1024), y = (show S1024x1024.Idx from ix2 r j) :=
    ⟨(show S1024x1024.Idx from y) 0, (show S1024x1024.Idx from y) 1, eq_ix2 (show S1024x1024.Idx from y)⟩
  exact (pointL H t hf.2 hf.1 r j (by omega)).trans (placeL t r j (by omega) _).symm

/-- The precondition says so much. -/
theorem finite_of_pre [hP : Cert.Pre_finite_router.Facts] (h : Cert.Pre_Kernel3Ideal_finite_router m) (c : Dev nD) : Finite m c := by
  obtain ⟨h0, h1, h2, h3⟩ := h c
  exact ⟨fun i => Cert.KernelIdeal.Attn.isReal_of_abs (congrFun h0 i), fun i => Cert.KernelIdeal.Attn.isReal_of_abs (congrFun h1 i), fun i => Cert.KernelIdeal.Attn.isReal_of_abs (congrFun h2 i),
    fun i => Cert.KernelIdeal.Attn.isReal_of_abs (congrFun h3 i)⟩

variable (m)

/-- The kernel ends with its two arrays so, its arguments unchanged. -/
theorem run_blocks (ρ : Dev nD → PrngReg) : θ_run defs (onTc (τ := τ) (main (F := Ideal))) ⟨m, fun _ => 0, ρ⟩ fun r => ∀ c : Dev nD,
      r.2.mem ((c.tc : Thread nD τ).loc main_v7_0) = (dats m 0 c).arrAt 9 cfg0.N
      ∧ r.2.mem ((c.tc : Thread nD τ).loc main_v7_1) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ ⟨h, _⟩ c => ⟨(h c).1 9, (h c).1 10,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c)⟩) (run_main m ρ)

end Cert.Kernel3Ideal.MoeFinal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Kernel2Ideal.Frame
public import proofs.«01_k».proof.Proof.Gen.Kernel2.Frame
public import proofs.«01_k».proof.Proof.Gen.Reference2Ideal.Run
public import proofs.«01_k».proof.Proof.Gen.Kernel3Ideal.Frame
public import proofs.«01_k».proof.Proof.Gen.Kernel3Ideal.Loops
public import proofs.«01_k».proof.Proof.Gen.Kernel3.Frame
public import proofs.«01_k».proof.Proof.Gen.Reference3Ideal.Run
public import proofs.«01_k».proof.Proof.AttnFinal
public import proofs.«01_k».proof.Proof.FfnFinal
public import proofs.«01_k».proof.Proof.MoeRun
public import proofs.«01_k».proof.Proof.MoeFinal
public import Idealize.ShloMosaic.Adequacy
public import Idealize.ShloMosaic.Init

@[expose] public section

noncomputable section

namespace Cert.Proof

open Idealize.ShloMosaic Idealize.SL.Sem Cert.Kernel

/-- The precondition's shape facts. -/
theorem facts_finite_logits : Cert.Pre_finite_logits.Facts :=
  ⟨by decide +kernel, by decide +kernel, by decide +kernel, by decide +kernel⟩

/-- The reference runs, its arguments unchanged, every counter at zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference leave equal arrays. -/
theorem same : Cert.algebraic_KernelIdeal_ReferenceIdeal_pre_finite_logits (hKernelIdeal := Cert.KernelIdeal.Gen.facts)
    (hReferenceIdeal := Cert.ReferenceIdeal.Gen.facts) (hPre_finite_logits := facts_finite_logits) := by
  intro m g m' g' hpre hag
  haveI := facts_finite_logits
  refine ⟨fun c => (Cert.KernelIdeal.Gen.dats m 0 c).arrAt 12 Cert.KernelIdeal.cfg0.N, Cert.KernelIdeal.Value.run_blocks m g,
    (θ_run Cert.ReferenceIdeal.defs _ _).mono (fun r h c => ?_) (Cert.ReferenceIdeal.Value.run (F := Ideal) m' g')⟩
  obtain ⟨hv, hk⟩ := h c
  refine ⟨hv.trans ?_, hk⟩
  obtain ⟨e0, e1, e2, e3, e4, e5⟩ := hag c
  rw [Cert.ReferenceIdeal.Attn.result_eq, e0, e1, e2, e3, e4, e5]
  exact (Cert.KernelIdeal.Attn.final m c (Cert.KernelIdeal.Attn.finite_of_pre m hpre c)).symm

/-- The second reference runs, its arguments unchanged, every counter at zero. -/
theorem frame_reference2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The feed-forward kernel and its reference leave equal arrays. -/
theorem same2 : Cert.algebraic_Kernel2Ideal_Reference2Ideal (hKernel2Ideal := Cert.Kernel2Ideal.Gen.facts)
    (hReference2Ideal := Cert.Reference2Ideal.Gen.facts) := by
  intro m g m' g' hpre hag
  refine ⟨fun c => (Cert.Kernel2Ideal.Gen.dats m 0 c).arrAt 7 Cert.Kernel2Ideal.cfg0.N, Cert.Kernel2Ideal.Value.run_blocks m g,
    (θ_run Cert.Reference2Ideal.defs _ _).mono (fun r h c => ?_) (Cert.Reference2Ideal.Value.run (F := Ideal) m' g')⟩
  obtain ⟨hv, hk⟩ := h c
  refine ⟨hv.trans ?_, hk⟩
  obtain ⟨e0, e1, e2, e3, e4, e5, e6⟩ := hag c
  rw [Cert.Reference2Ideal.Ffn.result_eq, e0, e1, e2, e3, e4, e5, e6]
  exact (Cert.Kernel2Ideal.Ffn.final m c).symm

/-- The router's precondition's shape facts. -/
theorem facts_finite_router : Cert.Pre_finite_router.Facts :=
  ⟨by decide +kernel, by decide +kernel, by decide +kernel, by decide +kernel⟩

/-- The experts' kernel and its reference leave equal arrays. -/
theorem same3 : Cert.algebraic_Kernel3Ideal_Reference3Ideal_pre_finite_router (hKernel3Ideal := Cert.Kernel3Ideal.Gen.facts)
    (hReference3Ideal := Cert.Reference3Ideal.Gen.facts) (hPre_finite_router := facts_finite_router) := by
  intro m g m' g' hpre hag
  haveI := facts_finite_router
  refine ⟨fun c => (Cert.Kernel3Ideal.MoeTrack.dats m 0 c).arrAt 9 Cert.Kernel3Ideal.cfg0.N,
    fun c => (Cert.Kernel3Ideal.MoeTrack.dats m 0 c).arrAt 10 Cert.Kernel3Ideal.cfg0.N, Cert.Kernel3Ideal.MoeFinal.run_blocks m g,
    (θ_run Cert.Reference3Ideal.defs _ _).mono (fun r h c => ?_) (Cert.Reference3Ideal.Value.run (F := Ideal) m' g')⟩
  obtain ⟨hv, hw, hk⟩ := h c
  have H := Cert.Kernel3Ideal.MoeFinal.finite_of_pre (m := m) hpre c
  obtain ⟨e0, e1, e2, e3, e4, e5, e6, e7, e8⟩ := hag c
  refine ⟨(hv.trans (Cert.Reference3Ideal.Moe.resultC (StableHlo.launchContents m' c))).trans ?_,
    (hw.trans (Cert.Reference3Ideal.Moe.resultL (StableHlo.launchContents m' c))).trans ?_, hk⟩
  · refine Eq.trans ?_ (Cert.Kernel3Ideal.MoeFinal.finalC H).symm
    exact Cert.Reference3Ideal.Moe.allC_congr e0 e1 e2 e3 e4 e5 e6 e7 e8
  · refine Eq.trans ?_ (Cert.Kernel3Ideal.MoeFinal.finalL H).symm
    exact Cert.Reference3Ideal.Moe.allL_congr e0 e1 e2 e3 e4 e5 e6 e7 e8

/-- At machine words a named constant is its word: so read, the experts' idealized program is the program itself. -/
@[reducible] def words : Named Bits := ⟨fun _ _ {φ} b => FloatOps.ofBits φ b⟩

/-- The body tables are one. -/
theorem table : @Cert.Kernel3Ideal.defs₀ Bits _ words Cert.Kernel3Ideal.Gen.facts = @Cert.Kernel3.defs₀ Bits _ Cert.Kernel3.Gen.facts := by
  unfold Cert.Kernel3Ideal.defs₀ Cert.Kernel3.defs₀
  refine congrArg Defs.onTc ?_
  funext l x
  match l, x with
  | 0, (t, s) => rfl

theorem tables : @Cert.Kernel3Ideal.defs Bits _ words Cert.Kernel3Ideal.Gen.facts = @Cert.Kernel3.defs Bits _ Cert.Kernel3.Gen.facts :=
  congrArg (Pipeline.defs (@Cert.Kernel3.pcfgs Bits Cert.Kernel3.Gen.facts)) table

/-- The experts' kernel runs, its arguments unchanged, every counter at zero: the one run at machine words. -/
theorem frame_kernel3 : Cert.quiescent_Kernel3 (hKernel3 := Cert.Kernel3.Gen.facts) := fun m ρ _ => by
  rw [← tables]
  exact (θ_run (@Cert.Kernel3Ideal.defs Bits _ words _) _ _).mono (fun _ h => h) (@Cert.Kernel3Ideal.Moe.frame Bits _ words m ρ)

/-- The third reference runs, its arguments unchanged, every counter at zero. -/
theorem frame_reference3 : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, facts_finite_logits, facts_finite_router,
  fun m ρ _ => Cert.Kernel.Gen.frame m ρ,
  fun m ρ _ => Cert.KernelIdeal.Gen.frame m ρ,
  fun m ρ _ => Cert.KernelIdeal.Gen.frame m ρ,
  fun m ρ _ => frame_reference m ρ trivial,
  fun m ρ _ => frame_reference m ρ trivial,
  fun m ρ _ => Cert.Kernel2.Gen.frame m ρ,
  fun m ρ _ => Cert.Kernel2Ideal.Gen.frame m ρ,
  frame_reference2,
  frame_kernel3,
  fun m ρ _ => Cert.Kernel3Ideal.Moe.frame m ρ,
  fun m ρ _ => Cert.Kernel3Ideal.Moe.frame m ρ,
  fun m ρ _ => frame_reference3 m ρ trivial,
  fun m ρ _ => frame_reference3 m ρ trivial,
  IdealRules.named_const.statement Cert.KernelIdeal.κ "mask" .f32 0xF149F2CA#32 ⊥ rfl,
  same,
  trivial,
  same2,
  IdealRules.named_const.statement Cert.Kernel3Ideal.κ "mask" .f32 0xF149F2CA#32 ⊥ rfl,
  same3⟩

end Cert.Proof

end
